-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v761) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x16x32x32 : Shape := ⟨4, ![64, 16, 32, 32]⟩
abbrev S64x512x32x32 : Shape := ⟨4, ![64, 512, 32, 32]⟩
abbrev S64x1024x16x16 : Shape := ⟨4, ![64, 1024, 16, 16]⟩
abbrev S64x2048x8x8 : Shape := ⟨4, ![64, 2048, 8, 8]⟩
abbrev S64x2048x4x4 : Shape := ⟨4, ![64, 2048, 4, 4]⟩
abbrev S4 : Shape := ⟨1, ![4]⟩
abbrev S16x128x16 : Shape := ⟨3, ![16, 128, 16]⟩
abbrev S16x128 : Shape := ⟨2, ![16, 128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S128x512 : Shape := ⟨2, ![128, 512]⟩
abbrev S128x1024 : Shape := ⟨2, ![128, 1024]⟩
abbrev S128x2048 : Shape := ⟨2, ![128, 2048]⟩
abbrev S4x128 : Shape := ⟨2, ![4, 128]⟩
abbrev S4x16 : Shape := ⟨2, ![4, 16]⟩
abbrev S64x512x8x128 : Shape := ⟨4, ![64, 512, 8, 128]⟩
abbrev S64x512 : Shape := ⟨2, ![64, 512]⟩
abbrev S64x8x128 : Shape := ⟨3, ![64, 8, 128]⟩
abbrev S8x512x8x128 : Shape := ⟨4, ![8, 512, 8, 128]⟩
abbrev S8x512 : Shape := ⟨2, ![8, 512]⟩
abbrev S8x8x128 : Shape := ⟨3, ![8, 8, 128]⟩
abbrev S8x512x8 : Shape := ⟨3, ![8, 512, 8]⟩
abbrev S64x256x8x128 : Shape := ⟨4, ![64, 256, 8, 128]⟩
abbrev S64x256x4 : Shape := ⟨3, ![64, 256, 4]⟩
abbrev S64x2x128 : Shape := ⟨3, ![64, 2, 128]⟩
abbrev S8x256x8x128 : Shape := ⟨4, ![8, 256, 8, 128]⟩
abbrev S8x256x4 : Shape := ⟨3, ![8, 256, 4]⟩
abbrev S8x2x128 : Shape := ⟨3, ![8, 2, 128]⟩
abbrev S8x256x8 : Shape := ⟨3, ![8, 256, 8]⟩
abbrev S8x256x4x2 : Shape := ⟨4, ![8, 256, 4, 2]⟩
abbrev S8x4x2x128 : Shape := ⟨4, ![8, 4, 2, 128]⟩
abbrev S64x128x8x128 : Shape := ⟨4, ![64, 128, 8, 128]⟩
abbrev S64x128x8 : Shape := ⟨3, ![64, 128, 8]⟩
abbrev S64x64 : Shape := ⟨2, ![64, 64]⟩
abbrev S8x128x8x128 : Shape := ⟨4, ![8, 128, 8, 128]⟩
abbrev S8x128x8 : Shape := ⟨3, ![8, 128, 8]⟩
abbrev S8x64 : Shape := ⟨2, ![8, 64]⟩
abbrev S8x128x8x64 : Shape := ⟨4, ![8, 128, 8, 64]⟩
abbrev S8x128 : Shape := ⟨2, ![8, 128]⟩
abbrev S64x2048x16 : Shape := ⟨3, ![64, 2048, 16]⟩
abbrev S64x2048 : Shape := ⟨2, ![64, 2048]⟩
abbrev S64x16 : Shape := ⟨2, ![64, 16]⟩
abbrev S8x2048x16 : Shape := ⟨3, ![8, 2048, 16]⟩
abbrev S8x2048 : Shape := ⟨2, ![8, 2048]⟩
abbrev S8x16 : Shape := ⟨2, ![8, 16]⟩
abbrev S64x16x8x128 : Shape := ⟨4, ![64, 16, 8, 128]⟩
abbrev S64x16x16 : Shape := ⟨3, ![64, 16, 16]⟩
abbrev S8x16x8x128 : Shape := ⟨4, ![8, 16, 8, 128]⟩
abbrev S8x16x16 : Shape := ⟨3, ![8, 16, 16]⟩
abbrev S8x16x8 : Shape := ⟨3, ![8, 16, 8]⟩
abbrev S8x1x16 : Shape := ⟨3, ![8, 1, 16]⟩
abbrev S8x1x8x128 : Shape := ⟨4, ![8, 1, 8, 128]⟩
abbrev S64x16x1024 : Shape := ⟨3, ![64, 16, 1024]⟩
abbrev S64x16x16x2x16x2 : Shape := ⟨6, ![64, 16, 16, 2, 16, 2]⟩
abbrev S2x2x64x16x16x16 : Shape := ⟨6, ![2, 2, 64, 16, 16, 16]⟩
abbrev S4x1024x256 : Shape := ⟨3, ![4, 1024, 256]⟩
abbrev S64x16x8x4x8x4 : Shape := ⟨6, ![64, 16, 8, 4, 8, 4]⟩
abbrev S4x4x64x16x8x8 : Shape := ⟨6, ![4, 4, 64, 16, 8, 8]⟩
abbrev S16x1024x64 : Shape := ⟨3, ![16, 1024, 64]⟩
abbrev S64x16x4x8x4x8 : Shape := ⟨6, ![64, 16, 4, 8, 4, 8]⟩
abbrev S64x16x4x4x8x8 : Shape := ⟨6, ![64, 16, 4, 4, 8, 8]⟩
abbrev S1024x16x64 : Shape := ⟨3, ![1024, 16, 64]⟩
abbrev S64x1024 : Shape := ⟨2, ![64, 1024]⟩
abbrev S64x256 : Shape := ⟨2, ![64, 256]⟩
abbrev S1x4 : Shape := ⟨2, ![1, 4]⟩
abbrev S1x256 : Shape := ⟨2, ![1, 256]⟩
abbrev S1x512 : Shape := ⟨2, ![1, 512]⟩
abbrev S1x16 : Shape := ⟨2, ![1, 16]⟩
abbrev S16 : Shape := ⟨1, ![16]⟩
abbrev S16x1 : Shape := ⟨2, ![16, 1]⟩
abbrev S16x1024 : Shape := ⟨2, ![16, 1024]⟩
abbrev S16x256 : Shape := ⟨2, ![16, 256]⟩
abbrev S16x64 : Shape := ⟨2, ![16, 64]⟩
abbrev S16x16 : Shape := ⟨2, ![16, 16]⟩
abbrev S1x1 : Shape := ⟨2, ![1, 1]⟩
abbrev S64x1x16 : Shape := ⟨3, ![64, 1, 16]⟩
abbrev S1x128x16 : Shape := ⟨3, ![1, 128, 16]⟩
abbrev S128x16 : Shape := ⟨2, ![128, 16]⟩
abbrev S64x128 : Shape := ⟨2, ![64, 128]⟩
abbrev S1x128 : Shape := ⟨2, ![1, 128]⟩
abbrev S128 : Shape := ⟨1, ![128]⟩
abbrev S64x1x128 : Shape := ⟨3, ![64, 1, 128]⟩
abbrev S64x16x128 : Shape := ⟨3, ![64, 16, 128]⟩
abbrev S1024x128 : Shape := ⟨2, ![1024, 128]⟩
abbrev S1024x256 : Shape := ⟨2, ![1024, 256]⟩
abbrev S1024x512 : Shape := ⟨2, ![1024, 512]⟩
abbrev S64 : Shape := ⟨1, ![64]⟩
abbrev S64x1 : Shape := ⟨2, ![64, 1]⟩
abbrev S1024 : Shape := ⟨1, ![1024]⟩
abbrev S1024x1 : Shape := ⟨2, ![1024, 1]⟩
abbrev S1x64x16 : Shape := ⟨3, ![1, 64, 16]⟩
abbrev S1 : Shape := ⟨1, ![1]⟩
abbrev S1x1x1 : Shape := ⟨3, ![1, 1, 1]⟩
abbrev S64x16x1 : Shape := ⟨3, ![64, 16, 1]⟩
abbrev S1x1024x256 : Shape := ⟨3, ![1, 1024, 256]⟩
abbrev S1x1024x64 : Shape := ⟨3, ![1, 1024, 64]⟩
abbrev S1024x64 : Shape := ⟨2, ![1024, 64]⟩
abbrev S1024x16 : Shape := ⟨2, ![1024, 16]⟩
abbrev S64x16x256 : Shape := ⟨3, ![64, 16, 256]⟩
abbrev S64x16x64 : Shape := ⟨3, ![64, 16, 64]⟩
abbrev S64x1x1024 : Shape := ⟨3, ![64, 1, 1024]⟩
abbrev S1x16x1024 : Shape := ⟨3, ![1, 16, 1024]⟩
abbrev S64x1x256 : Shape := ⟨3, ![64, 1, 256]⟩
abbrev S1x16x256 : Shape := ⟨3, ![1, 16, 256]⟩
abbrev S64x1x64 : Shape := ⟨3, ![64, 1, 64]⟩
abbrev S1x16x64 : Shape := ⟨3, ![1, 16, 64]⟩
abbrev S1x16x16 : Shape := ⟨3, ![1, 16, 16]⟩
abbrev S_ : Shape := ⟨0, ![]⟩

abbrev nBuf : Space → Nat
  | .hbm => 137
  | .vmem => 108
  | .smem => 2
  | _ => 0

abbrev hbmTy0_0 (i : Nat) : BufTy := match i % 128 with
  | 0 => ⟨S64x16x32x32, .f32⟩
  | 1 => ⟨S64x16x32x32, .f32⟩
  | 2 => ⟨S64x16x32x32, .f32⟩
  | 3 => ⟨S64x16x32x32, .f32⟩
  | 4 => ⟨S64x16x32x32, .f32⟩
  | 5 => ⟨S64x16x32x32, .f32⟩
  | 6 => ⟨S64x16x32x32, .f32⟩
  | 7 => ⟨S64x16x32x32, .f32⟩
  | 8 => ⟨S64x16x32x32, .f32⟩
  | 9 => ⟨S64x16x32x32, .f32⟩
  | 10 => ⟨S64x16x32x32, .f32⟩
  | 11 => ⟨S64x16x32x32, .f32⟩
  | 12 => ⟨S64x16x32x32, .f32⟩
  | 13 => ⟨S64x16x32x32, .f32⟩
  | 14 => ⟨S64x16x32x32, .f32⟩
  | 15 => ⟨S64x16x32x32, .f32⟩
  | 16 => ⟨S64x512x32x32, .f32⟩
  | 17 => ⟨S64x1024x16x16, .f32⟩
  | 18 => ⟨S64x2048x8x8, .f32⟩
  | 19 => ⟨S64x2048x4x4, .f32⟩
  | 20 => ⟨S4, .f32⟩
  | 21 => ⟨S4, .f32⟩
  | 22 => ⟨S16x128x16, .f32⟩
  | 23 => ⟨S16x128, .f32⟩
  | 24 => ⟨S16x128, .f32⟩
  | 25 => ⟨S16x128, .f32⟩
  | 26 => ⟨S256x128, .f32⟩
  | 27 => ⟨S256, .f32⟩
  | 28 => ⟨S256, .f32⟩
  | 29 => ⟨S256, .f32⟩
  | 30 => ⟨S512x256, .f32⟩
  | 31 => ⟨S512, .f32⟩
  | 32 => ⟨S512, .f32⟩
  | 33 => ⟨S512, .f32⟩
  | 34 => ⟨S128x512, .f32⟩
  | 35 => ⟨S128x1024, .f32⟩
  | 36 => ⟨S128x2048, .f32⟩
  | 37 => ⟨S128x2048, .f32⟩
  | 38 => ⟨S4x128, .f32⟩
  | 39 => ⟨S4x128, .f32⟩
  | 40 => ⟨S4x128, .f32⟩
  | 41 => ⟨S4x128, .f32⟩
  | 42 => ⟨S16x128, .f32⟩
  | 43 => ⟨S4, .f32⟩
  | 44 => ⟨S4x16, .f32⟩
  | 45 => ⟨S4x16, .f32⟩
  | 46 => ⟨S64x512x8x128, .f32⟩
  | 47 => ⟨S64x512, .f32⟩
  | 48 => ⟨S64x8x128, .f32⟩
  | 49 => ⟨S64x256x8x128, .f32⟩
  | 50 => ⟨S64x256x4, .f32⟩
  | 51 => ⟨S64x2x128, .f32⟩
  | 52 => ⟨S64x128x8x128, .f32⟩
  | 53 => ⟨S64x128x8, .f32⟩
  | 54 => ⟨S64x128x8, .f32⟩
  | 55 => ⟨S64x64, .f32⟩
  | 56 => ⟨S64x2048x16, .f32⟩
  | 57 => ⟨S64x2048, .f32⟩
  | 58 => ⟨S64x16, .f32⟩
  | 59 => ⟨S64x16x8x128, .f32⟩
  | 60 => ⟨S64x16x8x128, .f32⟩
  | 61 => ⟨S64x16x8x128, .f32⟩
  | 62 => ⟨S64x16x8x128, .f32⟩
  | 63 => ⟨S64x16x8x128, .f32⟩
  | 64 => ⟨S64x16x8x128, .f32⟩
  | 65 => ⟨S64x16x8x128, .f32⟩
  | 66 => ⟨S64x16x8x128, .f32⟩
  | 67 => ⟨S64x16x8x128, .f32⟩
  | 68 => ⟨S64x16x8x128, .f32⟩
  | 69 => ⟨S64x16x8x128, .f32⟩
  | 70 => ⟨S64x16x8x128, .f32⟩
  | 71 => ⟨S64x16x8x128, .f32⟩
  | 72 => ⟨S64x16x8x128, .f32⟩
  | 73 => ⟨S64x16x8x128, .f32⟩
  | 74 => ⟨S64x16x8x128, .f32⟩
  | 75 => ⟨S64x16x16, .f32⟩
  | 76 => ⟨S64x16x8x128, .f32⟩
  | 77 => ⟨S64x16x1024, .f32⟩
  | 78 => ⟨S64x16x16x2x16x2, .f32⟩
  | 79 => ⟨S2x2x64x16x16x16, .f32⟩
  | 80 => ⟨S4x1024x256, .f32⟩
  | 81 => ⟨S64x16x8x4x8x4, .f32⟩
  | 82 => ⟨S4x4x64x16x8x8, .f32⟩
  | 83 => ⟨S16x1024x64, .f32⟩
  | 84 => ⟨S64x16x4x8x4x8, .f32⟩
  | 85 => ⟨S64x16x4x4x8x8, .f32⟩
  | 86 => ⟨S1024x16x64, .f32⟩
  | 87 => ⟨S64x1024, .f32⟩
  | 88 => ⟨S64x1024, .f32⟩
  | 89 => ⟨S64x1024, .f32⟩
  | 90 => ⟨S64x1024, .f32⟩
  | 91 => ⟨S64x256, .f32⟩
  | 92 => ⟨S1x4, .f32⟩
  | 93 => ⟨S1x4, .f32⟩
  | 94 => ⟨S1x256, .f32⟩
  | 95 => ⟨S1x256, .f32⟩
  | 96 => ⟨S1x256, .f32⟩
  | 97 => ⟨S1x512, .f32⟩
  | 98 => ⟨S1x512, .f32⟩
  | 99 => ⟨S1x512, .f32⟩
  | 100 => ⟨S128x1024, .f32⟩
  | 101 => ⟨S128x1024, .f32⟩
  | 102 => ⟨S1x4, .f32⟩
  | 103 => ⟨S1x16, .f32⟩
  | 104 => ⟨S16, .f32⟩
  | 105 => ⟨S16x1, .f32⟩
  | 106 => ⟨S16x1024, .f32⟩
  | 107 => ⟨S1x16, .f32⟩
  | 108 => ⟨S16, .f32⟩
  | 109 => ⟨S16x1, .f32⟩
  | 110 => ⟨S16x256, .f32⟩
  | 111 => ⟨S1x16, .f32⟩
  | 112 => ⟨S16, .f32⟩
  | 113 => ⟨S16x1, .f32⟩
  | 114 => ⟨S16x64, .f32⟩
  | 115 => ⟨S1x16, .f32⟩
  | 116 => ⟨S16, .f32⟩
  | 117 => ⟨S16x1, .f32⟩
  | 118 => ⟨S16x16, .f32⟩
  | 119 => ⟨S1x16, .f32⟩
  | 120 => ⟨S16, .f32⟩
  | 121 => ⟨S16x1, .f32⟩
  | 122 => ⟨S16x1024, .f32⟩
  | 123 => ⟨S1x16, .f32⟩
  | 124 => ⟨S16, .f32⟩
  | 125 => ⟨S16x1, .f32⟩
  | 126 => ⟨S16x256, .f32⟩
  | 127 => ⟨S1x16, .f32⟩
  | _ => ⟨S64x16x32x32, .f32⟩

abbrev hbmTy0_1 (i : Nat) : BufTy := match i % 128 with
  | 0 => ⟨S16, .f32⟩
  | 1 => ⟨S16x1, .f32⟩
  | 2 => ⟨S16x64, .f32⟩
  | 3 => ⟨S1x16, .f32⟩
  | 4 => ⟨S16, .f32⟩
  | 5 => ⟨S16x1, .f32⟩
  | 6 => ⟨S16x16, .f32⟩
  | 7 => ⟨S1x1, .f32⟩
  | 8 => ⟨S_, .f32⟩
  | _ => ⟨S64x16x32x32, .f32⟩

abbrev hbmTy (i : Nat) : BufTy := match i / 128 with
  | 0 => hbmTy0_0 i
  | 1 => hbmTy0_1 i
  | _ => ⟨S64x16x32x32, .f32⟩

abbrev bufTy : (tb : Table) → Fin (tcTables nBuf tb) → BufTy
  | .hbm, ⟨i, _⟩ => hbmTy i
  | .local _ .vmem, ⟨0, _⟩ => ⟨S8x512x8x128, .f32⟩
  | .local _ .vmem, ⟨1, _⟩ => ⟨S8x512x8x128, .f32⟩
  | .local _ .vmem, ⟨2, _⟩ => ⟨S8x512, .f32⟩
  | .local _ .vmem, ⟨3, _⟩ => ⟨S8x512, .f32⟩
  | .local _ .vmem, ⟨4, _⟩ => ⟨S8x8x128, .f32⟩
  | .local _ .vmem, ⟨5, _⟩ => ⟨S8x8x128, .f32⟩
  | .local _ .vmem, ⟨6, _⟩ => ⟨S8x256x8x128, .f32⟩
  | .local _ .vmem, ⟨7, _⟩ => ⟨S8x256x8x128, .f32⟩
  | .local _ .vmem, ⟨8, _⟩ => ⟨S8x256x4, .f32⟩
  | .local _ .vmem, ⟨9, _⟩ => ⟨S8x256x4, .f32⟩
  | .local _ .vmem, ⟨10, _⟩ => ⟨S8x2x128, .f32⟩
  | .local _ .vmem, ⟨11, _⟩ => ⟨S8x2x128, .f32⟩
  | .local _ .vmem, ⟨12, _⟩ => ⟨S8x128x8x128, .f32⟩
  | .local _ .vmem, ⟨13, _⟩ => ⟨S8x128x8x128, .f32⟩
  | .local _ .vmem, ⟨14, _⟩ => ⟨S8x128x8, .f32⟩
  | .local _ .vmem, ⟨15, _⟩ => ⟨S8x128x8, .f32⟩
  | .local _ .vmem, ⟨16, _⟩ => ⟨S8x128x8, .f32⟩
  | .local _ .vmem, ⟨17, _⟩ => ⟨S8x128x8, .f32⟩
  | .local _ .vmem, ⟨18, _⟩ => ⟨S8x64, .f32⟩
  | .local _ .vmem, ⟨19, _⟩ => ⟨S8x64, .f32⟩
  | .local _ .vmem, ⟨20, _⟩ => ⟨S8x2048x16, .f32⟩
  | .local _ .vmem, ⟨21, _⟩ => ⟨S8x2048x16, .f32⟩
  | .local _ .vmem, ⟨22, _⟩ => ⟨S8x2048, .f32⟩
  | .local _ .vmem, ⟨23, _⟩ => ⟨S8x2048, .f32⟩
  | .local _ .vmem, ⟨24, _⟩ => ⟨S8x16, .f32⟩
  | .local _ .vmem, ⟨25, _⟩ => ⟨S8x16, .f32⟩
  | .local _ .vmem, ⟨26, _⟩ => ⟨S8x16x8x128, .f32⟩
  | .local _ .vmem, ⟨27, _⟩ => ⟨S8x16x8x128, .f32⟩
  | .local _ .vmem, ⟨28, _⟩ => ⟨S8x16x8x128, .f32⟩
  | .local _ .vmem, ⟨29, _⟩ => ⟨S8x16x8x128, .f32⟩
  | .local _ .vmem, ⟨30, _⟩ => ⟨S8x16x8x128, .f32⟩
  | .local _ .vmem, ⟨31, _⟩ => ⟨S8x16x8x128, .f32⟩
  | .local _ .vmem, ⟨32, _⟩ => ⟨S8x16x8x128, .f32⟩
  | .local _ .vmem, ⟨33, _⟩ => ⟨S8x16x8x128, .f32⟩
  | .local _ .vmem, ⟨34, _⟩ => ⟨S8x16x8x128, .f32⟩
  | .local _ .vmem, ⟨35, _⟩ => ⟨S8x16x8x128, .f32⟩
  | .local _ .vmem, ⟨36, _⟩ => ⟨S8x16x8x128, .f32⟩
  | .local _ .vmem, ⟨37, _⟩ => ⟨S8x16x8x128, .f32⟩
  | .local _ .vmem, ⟨38, _⟩ => ⟨S8x16x8x128, .f32⟩
  | .local _ .vmem, ⟨39, _⟩ => ⟨S8x16x8x128, .f32⟩
  | .local _ .vmem, ⟨40, _⟩ => ⟨S8x16x8x128, .f32⟩
  | .local _ .vmem, ⟨41, _⟩ => ⟨S8x16x8x128, .f32⟩
  | .local _ .vmem, ⟨42, _⟩ => ⟨S8x16x8x128, .f32⟩
  | .local _ .vmem, ⟨43, _⟩ => ⟨S8x16x8x128, .f32⟩
  | .local _ .vmem, ⟨44, _⟩ => ⟨S8x16x8x128, .f32⟩
  | .local _ .vmem, ⟨45, _⟩ => ⟨S8x16x8x128, .f32⟩
  | .local _ .vmem, ⟨46, _⟩ => ⟨S8x16x8x128, .f32⟩
  | .local _ .vmem, ⟨47, _⟩ => ⟨S8x16x8x128, .f32⟩
  | .local _ .vmem, ⟨48, _⟩ => ⟨S8x16x8x128, .f32⟩
  | .local _ .vmem, ⟨49, _⟩ => ⟨S8x16x8x128, .f32⟩
  | .local _ .vmem, ⟨50, _⟩ => ⟨S8x16x8x128, .f32⟩
  | .local _ .vmem, ⟨51, _⟩ => ⟨S8x16x8x128, .f32⟩
  | .local _ .vmem, ⟨52, _⟩ => ⟨S8x16x8x128, .f32⟩
  | .local _ .vmem, ⟨53, _⟩ => ⟨S8x16x8x128, .f32⟩
  | .local _ .vmem, ⟨54, _⟩ => ⟨S8x16x8x128, .f32⟩
  | .local _ .vmem, ⟨55, _⟩ => ⟨S8x16x8x128, .f32⟩
  | .local _ .vmem, ⟨56, _⟩ => ⟨S8x16x8x128, .f32⟩
  | .local _ .vmem, ⟨57, _⟩ => ⟨S8x16x8x128, .f32⟩
  | .local _ .vmem, ⟨58, _⟩ => ⟨S8x16x16, .f32⟩
  | .local _ .vmem, ⟨59, _⟩ => ⟨S8x16x16, .f32⟩
  | .local _ .vmem, ⟨60, _⟩ => ⟨S8x16x8x128, .f32⟩
  | .local _ .vmem, ⟨61, _⟩ => ⟨S8x16x8x128, .f32⟩
  | .local _ .vmem, ⟨62, _⟩ => ⟨S64x16x16, .f32⟩
  | .local _ .vmem, ⟨63, _⟩ => ⟨S64x16x1024, .f32⟩
  | .local _ .vmem, ⟨64, _⟩ => ⟨S4x1024x256, .f32⟩
  | .local _ .vmem, ⟨65, _⟩ => ⟨S16x1024x64, .f32⟩
  | .local _ .vmem, ⟨66, _⟩ => ⟨S1024x16x64, .f32⟩
  | .local _ .vmem, ⟨67, _⟩ => ⟨S64x512, .f32⟩
  | .local _ .vmem, ⟨68, _⟩ => ⟨S64x1024, .f32⟩
  | .local _ .vmem, ⟨69, _⟩ => ⟨S64x1024, .f32⟩
  | .local _ .vmem, ⟨70, _⟩ => ⟨S64x1024, .f32⟩
  | .local _ .vmem, ⟨71, _⟩ => ⟨S64x2048, .f32⟩
  | .local _ .vmem, ⟨72, _⟩ => ⟨S64x1024, .f32⟩
  | .local _ .vmem, ⟨73, _⟩ => ⟨S64x256, .f32⟩
  | .local _ .vmem, ⟨74, _⟩ => ⟨S64x64, .f32⟩
  | .local _ .vmem, ⟨75, _⟩ => ⟨S64x16, .f32⟩
  | .local _ .vmem, ⟨76, _⟩ => ⟨S16x128x16, .f32⟩
  | .local _ .vmem, ⟨77, _⟩ => ⟨S16x128, .f32⟩
  | .local _ .vmem, ⟨78, _⟩ => ⟨S16x128, .f32⟩
  | .local _ .vmem, ⟨79, _⟩ => ⟨S16x128, .f32⟩
  | .local _ .vmem, ⟨80, _⟩ => ⟨S256x128, .f32⟩
  | .local _ .vmem, ⟨81, _⟩ => ⟨S1x256, .f32⟩
  | .local _ .vmem, ⟨82, _⟩ => ⟨S1x256, .f32⟩
  | .local _ .vmem, ⟨83, _⟩ => ⟨S1x256, .f32⟩
  | .local _ .vmem, ⟨84, _⟩ => ⟨S512x256, .f32⟩
  | .local _ .vmem, ⟨85, _⟩ => ⟨S1x512, .f32⟩
  | .local _ .vmem, ⟨86, _⟩ => ⟨S1x512, .f32⟩
  | .local _ .vmem, ⟨87, _⟩ => ⟨S1x512, .f32⟩
  | .local _ .vmem, ⟨88, _⟩ => ⟨S128x512, .f32⟩
  | .local _ .vmem, ⟨89, _⟩ => ⟨S128x1024, .f32⟩
  | .local _ .vmem, ⟨90, _⟩ => ⟨S128x1024, .f32⟩
  | .local _ .vmem, ⟨91, _⟩ => ⟨S128x1024, .f32⟩
  | .local _ .vmem, ⟨92, _⟩ => ⟨S128x2048, .f32⟩
  | .local _ .vmem, ⟨93, _⟩ => ⟨S4x128, .f32⟩
  | .local _ .vmem, ⟨94, _⟩ => ⟨S4x128, .f32⟩
  | .local _ .vmem, ⟨95, _⟩ => ⟨S4x128, .f32⟩
  | .local _ .vmem, ⟨96, _⟩ => ⟨S4x128, .f32⟩
  | .local _ .vmem, ⟨97, _⟩ => ⟨S16x128, .f32⟩
  | .local _ .vmem, ⟨98, _⟩ => ⟨S1x4, .f32⟩
  | .local _ .vmem, ⟨99, _⟩ => ⟨S16x1024, .f32⟩
  | .local _ .vmem, ⟨100, _⟩ => ⟨S16x256, .f32⟩
  | .local _ .vmem, ⟨101, _⟩ => ⟨S16x64, .f32⟩
  | .local _ .vmem, ⟨102, _⟩ => ⟨S16x16, .f32⟩
  | .local _ .vmem, ⟨103, _⟩ => ⟨S16x1024, .f32⟩
  | .local _ .vmem, ⟨104, _⟩ => ⟨S16x256, .f32⟩
  | .local _ .vmem, ⟨105, _⟩ => ⟨S16x64, .f32⟩
  | .local _ .vmem, ⟨106, _⟩ => ⟨S16x16, .f32⟩
  | .local _ .vmem, ⟨107, _⟩ => ⟨S1x1, .f32⟩
  | .local _ .smem, ⟨0, _⟩ => ⟨S1x4, .f32⟩
  | .local _ .smem, ⟨1, _⟩ => ⟨S1x4, .f32⟩
  | _, _ => ⟨S64x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  ofTc nBuf bufTy 0 110 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_v0 : Ref sig .tc := ⟨.hbm, 46, rfl⟩
abbrev main_v1_0 : Ref sig .tc := ⟨.hbm, 47, rfl⟩
abbrev main_v1_1 : Ref sig .tc := ⟨.hbm, 48, rfl⟩
abbrev main_v2 : Ref sig .tc := ⟨.hbm, 49, rfl⟩
abbrev main_v3_0 : Ref sig .tc := ⟨.hbm, 50, rfl⟩
abbrev main_v3_1 : Ref sig .tc := ⟨.hbm, 51, rfl⟩
abbrev main_v4 : Ref sig .tc := ⟨.hbm, 52, rfl⟩
abbrev main_v5_0 : Ref sig .tc := ⟨.hbm, 53, rfl⟩
abbrev main_v5_1 : Ref sig .tc := ⟨.hbm, 54, rfl⟩
abbrev main_v5_2 : Ref sig .tc := ⟨.hbm, 55, rfl⟩
abbrev main_v6 : Ref sig .tc := ⟨.hbm, 56, rfl⟩
abbrev main_v7_0 : Ref sig .tc := ⟨.hbm, 57, rfl⟩
abbrev main_v7_1 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24_0 : Ref sig .tc := ⟨.hbm, 75, rfl⟩
abbrev main_v24_1 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg5_1 : Ref sig .tc := ⟨.vmem, 37, rfl⟩
abbrev cc4_stg6_0 : Ref sig .tc := ⟨.vmem, 38, rfl⟩
abbrev cc4_stg6_1 : Ref sig .tc := ⟨.vmem, 39, rfl⟩
abbrev cc4_stg7_0 : Ref sig .tc := ⟨.vmem, 40, rfl⟩
abbrev cc4_stg7_1 : Ref sig .tc := ⟨.vmem, 41, rfl⟩
abbrev cc4_stg8_0 : Ref sig .tc := ⟨.vmem, 42, rfl⟩
abbrev cc4_stg8_1 : Ref sig .tc := ⟨.vmem, 43, rfl⟩
abbrev cc4_stg9_0 : Ref sig .tc := ⟨.vmem, 44, rfl⟩
abbrev cc4_stg9_1 : Ref sig .tc := ⟨.vmem, 45, rfl⟩
abbrev cc4_stg10_0 : Ref sig .tc := ⟨.vmem, 46, rfl⟩
abbrev cc4_stg10_1 : Ref sig .tc := ⟨.vmem, 47, rfl⟩
abbrev cc4_stg11_0 : Ref sig .tc := ⟨.vmem, 48, rfl⟩
abbrev cc4_stg11_1 : Ref sig .tc := ⟨.vmem, 49, rfl⟩
abbrev cc4_stg12_0 : Ref sig .tc := ⟨.vmem, 50, rfl⟩
abbrev cc4_stg12_1 : Ref sig .tc := ⟨.vmem, 51, rfl⟩
abbrev cc4_stg13_0 : Ref sig .tc := ⟨.vmem, 52, rfl⟩
abbrev cc4_stg13_1 : Ref sig .tc := ⟨.vmem, 53, rfl⟩
abbrev cc4_stg14_0 : Ref sig .tc := ⟨.vmem, 54, rfl⟩
abbrev cc4_stg14_1 : Ref sig .tc := ⟨.vmem, 55, rfl⟩
abbrev cc4_stg15_0 : Ref sig .tc := ⟨.vmem, 56, rfl⟩
abbrev cc4_stg15_1 : Ref sig .tc := ⟨.vmem, 57, rfl⟩
abbrev cc4_stg16_0 : Ref sig .tc := ⟨.vmem, 58, rfl⟩
abbrev cc4_stg16_1 : Ref sig .tc := ⟨.vmem, 59, rfl⟩
abbrev cc4_stg17_0 : Ref sig .tc := ⟨.vmem, 60, rfl⟩
abbrev cc4_stg17_1 : Ref sig .tc := ⟨.vmem, 61, rfl⟩
abbrev cc5_stg0_0 : Ref sig .tc := ⟨.vmem, 62, rfl⟩
abbrev cc5_stg1_0 : Ref sig .tc := ⟨.vmem, 63, rfl⟩
abbrev cc5_stg2_0 : Ref sig .tc := ⟨.vmem, 64, rfl⟩
abbrev cc5_stg3_0 : Ref sig .tc := ⟨.vmem, 65, rfl⟩
abbrev cc5_stg4_0 : Ref sig .tc := ⟨.vmem, 66, rfl⟩
abbrev cc5_stg5_0 : Ref sig .tc := ⟨.vmem, 67, rfl⟩
abbrev cc5_stg6_0 : Ref sig .tc := ⟨.vmem, 68, rfl⟩
abbrev cc5_stg7_0 : Ref sig .tc := ⟨.vmem, 69, rfl⟩
abbrev cc5_stg8_0 : Ref sig .tc := ⟨.vmem, 70, rfl⟩
abbrev cc5_stg9_0 : Ref sig .tc := ⟨.vmem, 71, rfl⟩
abbrev cc5_stg10_0 : Ref sig .tc := ⟨.vmem, 72, rfl⟩
abbrev cc5_stg11_0 : Ref sig .tc := ⟨.vmem, 73, rfl⟩
abbrev cc5_stg12_0 : Ref sig .tc := ⟨.vmem, 74, rfl⟩
abbrev cc5_stg13_0 : Ref sig .tc := ⟨.vmem, 75, rfl⟩
abbrev cc5_stg16_0 : Ref sig .tc := ⟨.vmem, 76, rfl⟩
abbrev cc5_stg17_0 : Ref sig .tc := ⟨.vmem, 77, rfl⟩
abbrev cc5_stg18_0 : Ref sig .tc := ⟨.vmem, 78, rfl⟩
abbrev cc5_stg19_0 : Ref sig .tc := ⟨.vmem, 79, rfl⟩
abbrev cc5_stg20_0 : Ref sig .tc := ⟨.vmem, 80, rfl⟩
abbrev cc5_stg21_0 : Ref sig .tc := ⟨.vmem, 81, rfl⟩
abbrev cc5_stg22_0 : Ref sig .tc := ⟨.vmem, 82, rfl⟩
abbrev cc5_stg23_0 : Ref sig .tc := ⟨.vmem, 83, rfl⟩
abbrev cc5_stg24_0 : Ref sig .tc := ⟨.vmem, 84, rfl⟩
abbrev cc5_stg25_0 : Ref sig .tc := ⟨.vmem, 85, rfl⟩
abbrev cc5_stg26_0 : Ref sig .tc := ⟨.vmem, 86, rfl⟩
abbrev cc5_stg27_0 : Ref sig .tc := ⟨.vmem, 87, rfl⟩
abbrev cc5_stg28_0 : Ref sig .tc := ⟨.vmem, 88, rfl⟩
abbrev cc5_stg29_0 : Ref sig .tc := ⟨.vmem, 89, rfl⟩
abbrev cc5_stg30_0 : Ref sig .tc := ⟨.vmem, 90, rfl⟩
abbrev cc5_stg31_0 : Ref sig .tc := ⟨.vmem, 91, rfl⟩
abbrev cc5_stg32_0 : Ref sig .tc := ⟨.vmem, 92, rfl⟩
abbrev cc5_stg33_0 : Ref sig .tc := ⟨.vmem, 93, rfl⟩
abbrev cc5_stg34_0 : Ref sig .tc := ⟨.vmem, 94, rfl⟩
abbrev cc5_stg35_0 : Ref sig .tc := ⟨.vmem, 95, rfl⟩
abbrev cc5_stg36_0 : Ref sig .tc := ⟨.vmem, 96, rfl⟩
abbrev cc5_stg37_0 : Ref sig .tc := ⟨.vmem, 97, rfl⟩
abbrev cc5_stg38_0 : Ref sig .tc := ⟨.vmem, 98, rfl⟩
abbrev cc5_stg39_0 : Ref sig .tc := ⟨.vmem, 99, rfl⟩
abbrev cc5_stg40_0 : Ref sig .tc := ⟨.vmem, 100, rfl⟩
abbrev cc5_stg41_0 : Ref sig .tc := ⟨.vmem, 101, rfl⟩
abbrev cc5_stg42_0 : Ref sig .tc := ⟨.vmem, 102, rfl⟩
abbrev cc5_stg43_0 : Ref sig .tc := ⟨.vmem, 103, rfl⟩
abbrev cc5_stg44_0 : Ref sig .tc := ⟨.vmem, 104, rfl⟩
abbrev cc5_stg45_0 : Ref sig .tc := ⟨.vmem, 105, rfl⟩
abbrev cc5_stg46_0 : Ref sig .tc := ⟨.vmem, 106, rfl⟩
abbrev cc5_stg47_0 : Ref sig .tc := ⟨.vmem, 107, rfl⟩
abbrev cc5_stg14_0 : Ref sig .tc := ⟨.smem, 0, rfl⟩
abbrev cc5_stg15_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35
abbrev cc4_sem5_0 : DmaSem sig := 36
abbrev cc4_sem5_1 : DmaSem sig := 37
abbrev cc4_sem6_0 : DmaSem sig := 38
abbrev cc4_sem6_1 : DmaSem sig := 39
abbrev cc4_sem7_0 : DmaSem sig := 40
abbrev cc4_sem7_1 : DmaSem sig := 41
abbrev cc4_sem8_0 : DmaSem sig := 42
abbrev cc4_sem8_1 : DmaSem sig := 43
abbrev cc4_sem9_0 : DmaSem sig := 44
abbrev cc4_sem9_1 : DmaSem sig := 45
abbrev cc4_sem10_0 : DmaSem sig := 46
abbrev cc4_sem10_1 : DmaSem sig := 47
abbrev cc4_sem11_0 : DmaSem sig := 48
abbrev cc4_sem11_1 : DmaSem sig := 49
abbrev cc4_sem12_0 : DmaSem sig := 50
abbrev cc4_sem12_1 : DmaSem sig := 51
abbrev cc4_sem13_0 : DmaSem sig := 52
abbrev cc4_sem13_1 : DmaSem sig := 53
abbrev cc4_sem14_0 : DmaSem sig := 54
abbrev cc4_sem14_1 : DmaSem sig := 55
abbrev cc4_sem15_0 : DmaSem sig := 56
abbrev cc4_sem15_1 : DmaSem sig := 57
abbrev cc4_sem16_0 : DmaSem sig := 58
abbrev cc4_sem16_1 : DmaSem sig := 59
abbrev cc4_sem17_0 : DmaSem sig := 60
abbrev cc4_sem17_1 : DmaSem sig := 61
abbrev cc5_sem0_0 : DmaSem sig := 62
abbrev cc5_sem1_0 : DmaSem sig := 63
abbrev cc5_sem2_0 : DmaSem sig := 64
abbrev cc5_sem3_0 : DmaSem sig := 65
abbrev cc5_sem4_0 : DmaSem sig := 66
abbrev cc5_sem5_0 : DmaSem sig := 67
abbrev cc5_sem6_0 : DmaSem sig := 68
abbrev cc5_sem7_0 : DmaSem sig := 69
abbrev cc5_sem8_0 : DmaSem sig := 70
abbrev cc5_sem9_0 : DmaSem sig := 71
abbrev cc5_sem10_0 : DmaSem sig := 72
abbrev cc5_sem11_0 : DmaSem sig := 73
abbrev cc5_sem12_0 : DmaSem sig := 74
abbrev cc5_sem13_0 : DmaSem sig := 75
abbrev cc5_sem14_0 : DmaSem sig := 76
abbrev cc5_sem15_0 : DmaSem sig := 77
abbrev cc5_sem16_0 : DmaSem sig := 78
abbrev cc5_sem17_0 : DmaSem sig := 79
abbrev cc5_sem18_0 : DmaSem sig := 80
abbrev cc5_sem19_0 : DmaSem sig := 81
abbrev cc5_sem20_0 : DmaSem sig := 82
abbrev cc5_sem21_0 : DmaSem sig := 83
abbrev cc5_sem22_0 : DmaSem sig := 84
abbrev cc5_sem23_0 : DmaSem sig := 85
abbrev cc5_sem24_0 : DmaSem sig := 86
abbrev cc5_sem25_0 : DmaSem sig := 87
abbrev cc5_sem26_0 : DmaSem sig := 88
abbrev cc5_sem27_0 : DmaSem sig := 89
abbrev cc5_sem28_0 : DmaSem sig := 90
abbrev cc5_sem29_0 : DmaSem sig := 91
abbrev cc5_sem30_0 : DmaSem sig := 92
abbrev cc5_sem31_0 : DmaSem sig := 93
abbrev cc5_sem32_0 : DmaSem sig := 94
abbrev cc5_sem33_0 : DmaSem sig := 95
abbrev cc5_sem34_0 : DmaSem sig := 96
abbrev cc5_sem35_0 : DmaSem sig := 97
abbrev cc5_sem36_0 : DmaSem sig := 98
abbrev cc5_sem37_0 : DmaSem sig := 99
abbrev cc5_sem38_0 : DmaSem sig := 100
abbrev cc5_sem39_0 : DmaSem sig := 101
abbrev cc5_sem40_0 : DmaSem sig := 102
abbrev cc5_sem41_0 : DmaSem sig := 103
abbrev cc5_sem42_0 : DmaSem sig := 104
abbrev cc5_sem43_0 : DmaSem sig := 105
abbrev cc5_sem44_0 : DmaSem sig := 106
abbrev cc5_sem45_0 : DmaSem sig := 107
abbrev cc5_sem46_0 : DmaSem sig := 108
abbrev cc5_sem47_0 : DmaSem sig := 109

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x2x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x128x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x128x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x2048x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_2 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_4 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_5 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_6 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_7 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_8 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_9 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_10 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_11 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_12 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_13 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_14 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_15 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_16 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_17 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S8x16x8x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x16x8x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8x16x8x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8x16x8x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8x16x8x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S8x16x8x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8x16x8x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x16x8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S8x16x8x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S8x16x8x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S8x16x8x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S8x16x8x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S8x16x8x128 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S8x16x8x128 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev stage4_14 : Fin 2 → Memref sig .tc .vmem S8x16x8x128 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev stage4_15 : Fin 2 → Memref sig .tc .vmem S8x16x8x128 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true]

abbrev stage4_16 : Fin 2 → Memref sig .tc .vmem S8x16x16 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev stage4_17 : Fin 2 → Memref sig .tc .vmem S8x16x8x128 .f32 := fun | 0 => Memref.whole cc4_stg17_0 | 1 => Memref.whole cc4_stg17_1 | ⟨_ + 2, h⟩ => absurd h (Nat.not_lt.2 (Nat.le_add_left _ _))
abbrev sem4_17 : Fin 2 → DmaSem sig := fun | 0 => cc4_sem17_0 | 1 => cc4_sem17_1 | ⟨_ + 2, h⟩ => absurd h (Nat.not_lt.2 (Nat.le_add_left _ _))
abbrev reads4_17 : Fin grid4.rank → Bool := ![true]

abbrev grid5 : Pipeline.Grid := .none

abbrev stage5_0 : Fin 1 → Memref sig .tc .vmem S64x16x16 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S64x16x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S4x1024x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S16x1024x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1024x16x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S64x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S64x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S64x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))

abbrev stage5_8 : Fin 1 → Memref sig .tc .vmem S64x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))

abbrev stage5_9 : Fin 1 → Memref sig .tc .vmem S64x2048 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))

abbrev stage5_10 : Fin 1 → Memref sig .tc .vmem S64x1024 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))

abbrev stage5_11 : Fin 1 → Memref sig .tc .vmem S64x256 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))

abbrev stage5_12 : Fin 1 → Memref sig .tc .vmem S64x64 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))

abbrev stage5_13 : Fin 1 → Memref sig .tc .vmem S64x16 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))

abbrev stage5_14 : Fin 1 → Memref sig .tc .smem S1x4 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))

abbrev stage5_15 : Fin 1 → Memref sig .tc .smem S1x4 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))

abbrev stage5_16 : Fin 1 → Memref sig .tc .vmem S16x128x16 .f32 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))

abbrev stage5_17 : Fin 1 → Memref sig .tc .vmem S16x128 .f32 := fun | 0 => Memref.whole cc5_stg17_0 | ⟨_ + 1, h⟩ => absurd h (Nat.not_lt.2 (Nat.le_add_left _ _))
abbrev sem5_17 : Fin 1 → DmaSem sig := fun | 0 => cc5_sem17_0 | ⟨_ + 1, h⟩ => absurd h (Nat.not_lt.2 (Nat.le_add_left _ _))

abbrev stage5_18 : Fin 1 → Memref sig .tc .vmem S16x128 .f32 := fun | 0 => Memref.whole cc5_stg18_0 | ⟨_ + 1, h⟩ => absurd h (Nat.not_lt.2 (Nat.le_add_left _ _))
abbrev sem5_18 : Fin 1 → DmaSem sig := fun | 0 => cc5_sem18_0 | ⟨_ + 1, h⟩ => absurd h (Nat.not_lt.2 (Nat.le_add_left _ _))

abbrev stage5_19 : Fin 1 → Memref sig .tc .vmem S16x128 .f32 := fun | 0 => Memref.whole cc5_stg19_0 | ⟨_ + 1, h⟩ => absurd h (Nat.not_lt.2 (Nat.le_add_left _ _))
abbrev sem5_19 : Fin 1 → DmaSem sig := fun | 0 => cc5_sem19_0 | ⟨_ + 1, h⟩ => absurd h (Nat.not_lt.2 (Nat.le_add_left _ _))

abbrev stage5_20 : Fin 1 → Memref sig .tc .vmem S256x128 .f32 := fun | 0 => Memref.whole cc5_stg20_0 | ⟨_ + 1, h⟩ => absurd h (Nat.not_lt.2 (Nat.le_add_left _ _))
abbrev sem5_20 : Fin 1 → DmaSem sig := fun | 0 => cc5_sem20_0 | ⟨_ + 1, h⟩ => absurd h (Nat.not_lt.2 (Nat.le_add_left _ _))

abbrev stage5_21 : Fin 1 → Memref sig .tc .vmem S1x256 .f32 := fun | 0 => Memref.whole cc5_stg21_0 | ⟨_ + 1, h⟩ => absurd h (Nat.not_lt.2 (Nat.le_add_left _ _))
abbrev sem5_21 : Fin 1 → DmaSem sig := fun | 0 => cc5_sem21_0 | ⟨_ + 1, h⟩ => absurd h (Nat.not_lt.2 (Nat.le_add_left _ _))

abbrev stage5_22 : Fin 1 → Memref sig .tc .vmem S1x256 .f32 := fun | 0 => Memref.whole cc5_stg22_0 | ⟨_ + 1, h⟩ => absurd h (Nat.not_lt.2 (Nat.le_add_left _ _))
abbrev sem5_22 : Fin 1 → DmaSem sig := fun | 0 => cc5_sem22_0 | ⟨_ + 1, h⟩ => absurd h (Nat.not_lt.2 (Nat.le_add_left _ _))

abbrev stage5_23 : Fin 1 → Memref sig .tc .vmem S1x256 .f32 := fun | 0 => Memref.whole cc5_stg23_0 | ⟨_ + 1, h⟩ => absurd h (Nat.not_lt.2 (Nat.le_add_left _ _))
abbrev sem5_23 : Fin 1 → DmaSem sig := fun | 0 => cc5_sem23_0 | ⟨_ + 1, h⟩ => absurd h (Nat.not_lt.2 (Nat.le_add_left _ _))

abbrev stage5_24 : Fin 1 → Memref sig .tc .vmem S512x256 .f32 := fun | 0 => Memref.whole cc5_stg24_0 | ⟨_ + 1, h⟩ => absurd h (Nat.not_lt.2 (Nat.le_add_left _ _))
abbrev sem5_24 : Fin 1 → DmaSem sig := fun | 0 => cc5_sem24_0 | ⟨_ + 1, h⟩ => absurd h (Nat.not_lt.2 (Nat.le_add_left _ _))

abbrev stage5_25 : Fin 1 → Memref sig .tc .vmem S1x512 .f32 := fun | 0 => Memref.whole cc5_stg25_0 | ⟨_ + 1, h⟩ => absurd h (Nat.not_lt.2 (Nat.le_add_left _ _))
abbrev sem5_25 : Fin 1 → DmaSem sig := fun | 0 => cc5_sem25_0 | ⟨_ + 1, h⟩ => absurd h (Nat.not_lt.2 (Nat.le_add_left _ _))

abbrev stage5_26 : Fin 1 → Memref sig .tc .vmem S1x512 .f32 := fun | 0 => Memref.whole cc5_stg26_0 | ⟨_ + 1, h⟩ => absurd h (Nat.not_lt.2 (Nat.le_add_left _ _))
abbrev sem5_26 : Fin 1 → DmaSem sig := fun | 0 => cc5_sem26_0 | ⟨_ + 1, h⟩ => absurd h (Nat.not_lt.2 (Nat.le_add_left _ _))

abbrev stage5_27 : Fin 1 → Memref sig .tc .vmem S1x512 .f32 := fun | 0 => Memref.whole cc5_stg27_0 | ⟨_ + 1, h⟩ => absurd h (Nat.not_lt.2 (Nat.le_add_left _ _))
abbrev sem5_27 : Fin 1 → DmaSem sig := fun | 0 => cc5_sem27_0 | ⟨_ + 1, h⟩ => absurd h (Nat.not_lt.2 (Nat.le_add_left _ _))

abbrev stage5_28 : Fin 1 → Memref sig .tc .vmem S128x512 .f32 := fun | 0 => Memref.whole cc5_stg28_0 | ⟨_ + 1, h⟩ => absurd h (Nat.not_lt.2 (Nat.le_add_left _ _))
abbrev sem5_28 : Fin 1 → DmaSem sig := fun | 0 => cc5_sem28_0 | ⟨_ + 1, h⟩ => absurd h (Nat.not_lt.2 (Nat.le_add_left _ _))

abbrev stage5_29 : Fin 1 → Memref sig .tc .vmem S128x1024 .f32 := fun | 0 => Memref.whole cc5_stg29_0 | ⟨_ + 1, h⟩ => absurd h (Nat.not_lt.2 (Nat.le_add_left _ _))
abbrev sem5_29 : Fin 1 → DmaSem sig := fun | 0 => cc5_sem29_0 | ⟨_ + 1, h⟩ => absurd h (Nat.not_lt.2 (Nat.le_add_left _ _))

abbrev stage5_30 : Fin 1 → Memref sig .tc .vmem S128x1024 .f32 := fun | 0 => Memref.whole cc5_stg30_0 | ⟨_ + 1, h⟩ => absurd h (Nat.not_lt.2 (Nat.le_add_left _ _))
abbrev sem5_30 : Fin 1 → DmaSem sig := fun | 0 => cc5_sem30_0 | ⟨_ + 1, h⟩ => absurd h (Nat.not_lt.2 (Nat.le_add_left _ _))

abbrev stage5_31 : Fin 1 → Memref sig .tc .vmem S128x1024 .f32 := fun | 0 => Memref.whole cc5_stg31_0 | ⟨_ + 1, h⟩ => absurd h (Nat.not_lt.2 (Nat.le_add_left _ _))
abbrev sem5_31 : Fin 1 → DmaSem sig := fun | 0 => cc5_sem31_0 | ⟨_ + 1, h⟩ => absurd h (Nat.not_lt.2 (Nat.le_add_left _ _))

abbrev stage5_32 : Fin 1 → Memref sig .tc .vmem S128x2048 .f32 := fun | 0 => Memref.whole cc5_stg32_0 | ⟨_ + 1, h⟩ => absurd h (Nat.not_lt.2 (Nat.le_add_left _ _))
abbrev sem5_32 : Fin 1 → DmaSem sig := fun | 0 => cc5_sem32_0 | ⟨_ + 1, h⟩ => absurd h (Nat.not_lt.2 (Nat.le_add_left _ _))

abbrev stage5_33 : Fin 1 → Memref sig .tc .vmem S4x128 .f32 := fun | 0 => Memref.whole cc5_stg33_0 | ⟨_ + 1, h⟩ => absurd h (Nat.not_lt.2 (Nat.le_add_left _ _))
abbrev sem5_33 : Fin 1 → DmaSem sig := fun | 0 => cc5_sem33_0 | ⟨_ + 1, h⟩ => absurd h (Nat.not_lt.2 (Nat.le_add_left _ _))

abbrev stage5_34 : Fin 1 → Memref sig .tc .vmem S4x128 .f32 := fun | 0 => Memref.whole cc5_stg34_0 | ⟨_ + 1, h⟩ => absurd h (Nat.not_lt.2 (Nat.le_add_left _ _))
abbrev sem5_34 : Fin 1 → DmaSem sig := fun | 0 => cc5_sem34_0 | ⟨_ + 1, h⟩ => absurd h (Nat.not_lt.2 (Nat.le_add_left _ _))

abbrev stage5_35 : Fin 1 → Memref sig .tc .vmem S4x128 .f32 := fun | 0 => Memref.whole cc5_stg35_0 | ⟨_ + 1, h⟩ => absurd h (Nat.not_lt.2 (Nat.le_add_left _ _))
abbrev sem5_35 : Fin 1 → DmaSem sig := fun | 0 => cc5_sem35_0 | ⟨_ + 1, h⟩ => absurd h (Nat.not_lt.2 (Nat.le_add_left _ _))

abbrev stage5_36 : Fin 1 → Memref sig .tc .vmem S4x128 .f32 := fun | 0 => Memref.whole cc5_stg36_0 | ⟨_ + 1, h⟩ => absurd h (Nat.not_lt.2 (Nat.le_add_left _ _))
abbrev sem5_36 : Fin 1 → DmaSem sig := fun | 0 => cc5_sem36_0 | ⟨_ + 1, h⟩ => absurd h (Nat.not_lt.2 (Nat.le_add_left _ _))

abbrev stage5_37 : Fin 1 → Memref sig .tc .vmem S16x128 .f32 := fun | 0 => Memref.whole cc5_stg37_0 | ⟨_ + 1, h⟩ => absurd h (Nat.not_lt.2 (Nat.le_add_left _ _))
abbrev sem5_37 : Fin 1 → DmaSem sig := fun | 0 => cc5_sem37_0 | ⟨_ + 1, h⟩ => absurd h (Nat.not_lt.2 (Nat.le_add_left _ _))

abbrev stage5_38 : Fin 1 → Memref sig .tc .vmem S1x4 .f32 := fun | 0 => Memref.whole cc5_stg38_0 | ⟨_ + 1, h⟩ => absurd h (Nat.not_lt.2 (Nat.le_add_left _ _))
abbrev sem5_38 : Fin 1 → DmaSem sig := fun | 0 => cc5_sem38_0 | ⟨_ + 1, h⟩ => absurd h (Nat.not_lt.2 (Nat.le_add_left _ _))

abbrev stage5_39 : Fin 1 → Memref sig .tc .vmem S16x1024 .f32 := fun | 0 => Memref.whole cc5_stg39_0 | ⟨_ + 1, h⟩ => absurd h (Nat.not_lt.2 (Nat.le_add_left _ _))
abbrev sem5_39 : Fin 1 → DmaSem sig := fun | 0 => cc5_sem39_0 | ⟨_ + 1, h⟩ => absurd h (Nat.not_lt.2 (Nat.le_add_left _ _))

abbrev stage5_40 : Fin 1 → Memref sig .tc .vmem S16x256 .f32 := fun | 0 => Memref.whole cc5_stg40_0 | ⟨_ + 1, h⟩ => absurd h (Nat.not_lt.2 (Nat.le_add_left _ _))
abbrev sem5_40 : Fin 1 → DmaSem sig := fun | 0 => cc5_sem40_0 | ⟨_ + 1, h⟩ => absurd h (Nat.not_lt.2 (Nat.le_add_left _ _))

abbrev stage5_41 : Fin 1 → Memref sig .tc .vmem S16x64 .f32 := fun | 0 => Memref.whole cc5_stg41_0 | ⟨_ + 1, h⟩ => absurd h (Nat.not_lt.2 (Nat.le_add_left _ _))
abbrev sem5_41 : Fin 1 → DmaSem sig := fun | 0 => cc5_sem41_0 | ⟨_ + 1, h⟩ => absurd h (Nat.not_lt.2 (Nat.le_add_left _ _))

abbrev stage5_42 : Fin 1 → Memref sig .tc .vmem S16x16 .f32 := fun | 0 => Memref.whole cc5_stg42_0 | ⟨_ + 1, h⟩ => absurd h (Nat.not_lt.2 (Nat.le_add_left _ _))
abbrev sem5_42 : Fin 1 → DmaSem sig := fun | 0 => cc5_sem42_0 | ⟨_ + 1, h⟩ => absurd h (Nat.not_lt.2 (Nat.le_add_left _ _))

abbrev stage5_43 : Fin 1 → Memref sig .tc .vmem S16x1024 .f32 := fun | 0 => Memref.whole cc5_stg43_0 | ⟨_ + 1, h⟩ => absurd h (Nat.not_lt.2 (Nat.le_add_left _ _))
abbrev sem5_43 : Fin 1 → DmaSem sig := fun | 0 => cc5_sem43_0 | ⟨_ + 1, h⟩ => absurd h (Nat.not_lt.2 (Nat.le_add_left _ _))

abbrev stage5_44 : Fin 1 → Memref sig .tc .vmem S16x256 .f32 := fun | 0 => Memref.whole cc5_stg44_0 | ⟨_ + 1, h⟩ => absurd h (Nat.not_lt.2 (Nat.le_add_left _ _))
abbrev sem5_44 : Fin 1 → DmaSem sig := fun | 0 => cc5_sem44_0 | ⟨_ + 1, h⟩ => absurd h (Nat.not_lt.2 (Nat.le_add_left _ _))

abbrev stage5_45 : Fin 1 → Memref sig .tc .vmem S16x64 .f32 := fun | 0 => Memref.whole cc5_stg45_0 | ⟨_ + 1, h⟩ => absurd h (Nat.not_lt.2 (Nat.le_add_left _ _))
abbrev sem5_45 : Fin 1 → DmaSem sig := fun | 0 => cc5_sem45_0 | ⟨_ + 1, h⟩ => absurd h (Nat.not_lt.2 (Nat.le_add_left _ _))

abbrev stage5_46 : Fin 1 → Memref sig .tc .vmem S16x16 .f32 := fun | 0 => Memref.whole cc5_stg46_0 | ⟨_ + 1, h⟩ => absurd h (Nat.not_lt.2 (Nat.le_add_left _ _))
abbrev sem5_46 : Fin 1 → DmaSem sig := fun | 0 => cc5_sem46_0 | ⟨_ + 1, h⟩ => absurd h (Nat.not_lt.2 (Nat.le_add_left _ _))

abbrev stage5_47 : Fin 1 → Memref sig .tc .vmem S1x1 .f32 := fun | 0 => Memref.whole cc5_stg47_0 | ⟨_ + 1, h⟩ => absurd h (Nat.not_lt.2 (Nat.le_add_left _ _))
abbrev sem5_47 : Fin 1 → DmaSem sig := fun | 0 => cc5_sem47_0 | ⟨_ + 1, h⟩ => absurd h (Nat.not_lt.2 (Nat.le_add_left _ _))
-- ==== ReferenceIdeal.lean ====
abbrev S64x16x32x32 : Shape := ⟨4, ![64, 16, 32, 32]⟩
abbrev S64x512x32x32 : Shape := ⟨4, ![64, 512, 32, 32]⟩
abbrev S64x1024x16x16 : Shape := ⟨4, ![64, 1024, 16, 16]⟩
abbrev S64x2048x8x8 : Shape := ⟨4, ![64, 2048, 8, 8]⟩
abbrev S64x2048x4x4 : Shape := ⟨4, ![64, 2048, 4, 4]⟩
abbrev S4 : Shape := ⟨1, ![4]⟩
abbrev S16x128x16 : Shape := ⟨3, ![16, 128, 16]⟩
abbrev S16x128 : Shape := ⟨2, ![16, 128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S128x512 : Shape := ⟨2, ![128, 512]⟩
abbrev S128x1024 : Shape := ⟨2, ![128, 1024]⟩
abbrev S128x2048 : Shape := ⟨2, ![128, 2048]⟩
abbrev S4x128 : Shape := ⟨2, ![4, 128]⟩
abbrev S4x16 : Shape := ⟨2, ![4, 16]⟩
abbrev S64x1x16x32x32 : Shape := ⟨5, ![64, 1, 16, 32, 32]⟩
abbrev S64x16x16x32x32 : Shape := ⟨5, ![64, 16, 16, 32, 32]⟩
abbrev S_ : Shape := ⟨0, ![]⟩
abbrev S64x16x16 : Shape := ⟨3, ![64, 16, 16]⟩
abbrev S16x128x64 : Shape := ⟨3, ![16, 128, 64]⟩
abbrev S64x16x128 : Shape := ⟨3, ![64, 16, 128]⟩
abbrev S1x16x128 : Shape := ⟨3, ![1, 16, 128]⟩
abbrev S1024x128 : Shape := ⟨2, ![1024, 128]⟩
abbrev S128x256 : Shape := ⟨2, ![128, 256]⟩
abbrev S1024x256 : Shape := ⟨2, ![1024, 256]⟩
abbrev S1x256 : Shape := ⟨2, ![1, 256]⟩
abbrev S256x512 : Shape := ⟨2, ![256, 512]⟩
abbrev S1024x512 : Shape := ⟨2, ![1024, 512]⟩
abbrev S1x512 : Shape := ⟨2, ![1, 512]⟩
abbrev S64x16x4x128 : Shape := ⟨4, ![64, 16, 4, 128]⟩
abbrev S64x16 : Shape := ⟨2, ![64, 16]⟩
abbrev S1 : Shape := ⟨1, ![1]⟩
abbrev S64x16x1x1 : Shape := ⟨4, ![64, 16, 1, 1]⟩
abbrev S64x16x32x1x32x1 : Shape := ⟨6, ![64, 16, 32, 1, 32, 1]⟩
abbrev S64x16x1024 : Shape := ⟨3, ![64, 16, 1024]⟩
abbrev S64x16x1 : Shape := ⟨3, ![64, 16, 1]⟩
abbrev S64x16x16x2x16x2 : Shape := ⟨6, ![64, 16, 16, 2, 16, 2]⟩
abbrev S64x16x16x16 : Shape := ⟨4, ![64, 16, 16, 16]⟩
abbrev S64x16x256 : Shape := ⟨3, ![64, 16, 256]⟩
abbrev S64x16x8x4x8x4 : Shape := ⟨6, ![64, 16, 8, 4, 8, 4]⟩
abbrev S64x16x8x8 : Shape := ⟨4, ![64, 16, 8, 8]⟩
abbrev S64x16x64 : Shape := ⟨3, ![64, 16, 64]⟩
abbrev S64x16x4x8x4x8 : Shape := ⟨6, ![64, 16, 4, 8, 4, 8]⟩
abbrev S64x16x4x4 : Shape := ⟨4, ![64, 16, 4, 4]⟩
abbrev S64x512 : Shape := ⟨2, ![64, 512]⟩
abbrev S512x128 : Shape := ⟨2, ![512, 128]⟩
abbrev S64x128 : Shape := ⟨2, ![64, 128]⟩
abbrev S1x128 : Shape := ⟨2, ![1, 128]⟩
abbrev S128 : Shape := ⟨1, ![128]⟩
abbrev S64x32x32 : Shape := ⟨3, ![64, 32, 32]⟩
abbrev S64x1024 : Shape := ⟨2, ![64, 1024]⟩
abbrev S64 : Shape := ⟨1, ![64]⟩
abbrev S64x1 : Shape := ⟨2, ![64, 1]⟩
abbrev S64x256 : Shape := ⟨2, ![64, 256]⟩
abbrev S64x2048 : Shape := ⟨2, ![64, 2048]⟩
abbrev S2048x128 : Shape := ⟨2, ![2048, 128]⟩
abbrev S64x8x8 : Shape := ⟨3, ![64, 8, 8]⟩
abbrev S64x64 : Shape := ⟨2, ![64, 64]⟩
abbrev S64x4x4 : Shape := ⟨3, ![64, 4, 4]⟩
abbrev S64x1x128 : Shape := ⟨3, ![64, 1, 128]⟩
abbrev S64x4x128 : Shape := ⟨3, ![64, 4, 128]⟩
abbrev S64x16x4 : Shape := ⟨3, ![64, 16, 4]⟩
abbrev S64x16x4x1 : Shape := ⟨4, ![64, 16, 4, 1]⟩
abbrev S64x4 : Shape := ⟨2, ![64, 4]⟩
abbrev S64x4x1 : Shape := ⟨3, ![64, 4, 1]⟩
abbrev S64x4x16 : Shape := ⟨3, ![64, 4, 16]⟩
abbrev S128x16 : Shape := ⟨2, ![128, 16]⟩
abbrev S1x4x16 : Shape := ⟨3, ![1, 4, 16]⟩
abbrev S64x1x1024 : Shape := ⟨3, ![64, 1, 1024]⟩
abbrev S1x16 : Shape := ⟨2, ![1, 16]⟩
abbrev S16 : Shape := ⟨1, ![16]⟩
abbrev S1x16x1 : Shape := ⟨3, ![1, 16, 1]⟩
abbrev S64x1x16 : Shape := ⟨3, ![64, 1, 16]⟩
abbrev S64x1x256 : Shape := ⟨3, ![64, 1, 256]⟩
abbrev S64x1x64 : Shape := ⟨3, ![64, 1, 64]⟩

abbrev nBuf : Space → Nat
  | .hbm => 1002
  | .vmem => 0
  | .smem => 0
  | _ => 0

abbrev hbmTy0_0 (i : Nat) : BufTy := match i % 128 with
  | 0 => ⟨S64x16x32x32, .f32⟩
  | 1 => ⟨S64x16x32x32, .f32⟩
  | 2 => ⟨S64x16x32x32, .f32⟩
  | 3 => ⟨S64x16x32x32, .f32⟩
  | 4 => ⟨S64x16x32x32, .f32⟩
  | 5 => ⟨S64x16x32x32, .f32⟩
  | 6 => ⟨S64x16x32x32, .f32⟩
  | 7 => ⟨S64x16x32x32, .f32⟩
  | 8 => ⟨S64x16x32x32, .f32⟩
  | 9 => ⟨S64x16x32x32, .f32⟩
  | 10 => ⟨S64x16x32x32, .f32⟩
  | 11 => ⟨S64x16x32x32, .f32⟩
  | 12 => ⟨S64x16x32x32, .f32⟩
  | 13 => ⟨S64x16x32x32, .f32⟩
  | 14 => ⟨S64x16x32x32, .f32⟩
  | 15 => ⟨S64x16x32x32, .f32⟩
  | 16 => ⟨S64x512x32x32, .f32⟩
  | 17 => ⟨S64x1024x16x16, .f32⟩
  | 18 => ⟨S64x2048x8x8, .f32⟩
  | 19 => ⟨S64x2048x4x4, .f32⟩
  | 20 => ⟨S4, .f32⟩
  | 21 => ⟨S4, .f32⟩
  | 22 => ⟨S16x128x16, .f32⟩
  | 23 => ⟨S16x128, .f32⟩
  | 24 => ⟨S16x128, .f32⟩
  | 25 => ⟨S16x128, .f32⟩
  | 26 => ⟨S256x128, .f32⟩
  | 27 => ⟨S256, .f32⟩
  | 28 => ⟨S256, .f32⟩
  | 29 => ⟨S256, .f32⟩
  | 30 => ⟨S512x256, .f32⟩
  | 31 => ⟨S512, .f32⟩
  | 32 => ⟨S512, .f32⟩
  | 33 => ⟨S512, .f32⟩
  | 34 => ⟨S128x512, .f32⟩
  | 35 => ⟨S128x1024, .f32⟩
  | 36 => ⟨S128x2048, .f32⟩
  | 37 => ⟨S128x2048, .f32⟩
  | 38 => ⟨S4x128, .f32⟩
  | 39 => ⟨S4x128, .f32⟩
  | 40 => ⟨S4x128, .f32⟩
  | 41 => ⟨S4x128, .f32⟩
  | 42 => ⟨S16x128, .f32⟩
  | 43 => ⟨S4, .f32⟩
  | 44 => ⟨S4x16, .f32⟩
  | 45 => ⟨S4x16, .f32⟩
  | 46 => ⟨S64x1x16x32x32, .f32⟩
  | 47 => ⟨S64x1x16x32x32, .f32⟩
  | 48 => ⟨S64x1x16x32x32, .f32⟩
  | 49 => ⟨S64x1x16x32x32, .f32⟩
  | 50 => ⟨S64x1x16x32x32, .f32⟩
  | 51 => ⟨S64x1x16x32x32, .f32⟩
  | 52 => ⟨S64x1x16x32x32, .f32⟩
  | 53 => ⟨S64x1x16x32x32, .f32⟩
  | 54 => ⟨S64x1x16x32x32, .f32⟩
  | 55 => ⟨S64x1x16x32x32, .f32⟩
  | 56 => ⟨S64x1x16x32x32, .f32⟩
  | 57 => ⟨S64x1x16x32x32, .f32⟩
  | 58 => ⟨S64x1x16x32x32, .f32⟩
  | 59 => ⟨S64x1x16x32x32, .f32⟩
  | 60 => ⟨S64x1x16x32x32, .f32⟩
  | 61 => ⟨S64x1x16x32x32, .f32⟩
  | 62 => ⟨S64x16x16x32x32, .f32⟩
  | 63 => ⟨S_, .f32⟩
  | 64 => ⟨S64x16x16, .f32⟩
  | 65 => ⟨S_, .f32⟩
  | 66 => ⟨S64x16x16, .f32⟩
  | 67 => ⟨S64x16x16, .f32⟩
  | 68 => ⟨S_, .f32⟩
  | 69 => ⟨S64x16x16, .f32⟩
  | 70 => ⟨S64x16x16, .f32⟩
  | 71 => ⟨S_, .f32⟩
  | 72 => ⟨S64x16x16, .f32⟩
  | 73 => ⟨S_, .f32⟩
  | 74 => ⟨S64x16x16, .f32⟩
  | 75 => ⟨S64x16x16, .f32⟩
  | 76 => ⟨S64x16x16, .f32⟩
  | 77 => ⟨S16x128x64, .f32⟩
  | 78 => ⟨S64x16x128, .f32⟩
  | 79 => ⟨S1x16x128, .f32⟩
  | 80 => ⟨S64x16x128, .f32⟩
  | 81 => ⟨S64x16x128, .f32⟩
  | 82 => ⟨S_, .f32⟩
  | 83 => ⟨S16x128, .f32⟩
  | 84 => ⟨S_, .f32⟩
  | 85 => ⟨S16x128, .f32⟩
  | 86 => ⟨S16x128, .f32⟩
  | 87 => ⟨S1x16x128, .f32⟩
  | 88 => ⟨S64x16x128, .f32⟩
  | 89 => ⟨S64x16x128, .f32⟩
  | 90 => ⟨S64x16x128, .f32⟩
  | 91 => ⟨S_, .f32⟩
  | 92 => ⟨S16x128, .f32⟩
  | 93 => ⟨S_, .f32⟩
  | 94 => ⟨S16x128, .f32⟩
  | 95 => ⟨S16x128, .f32⟩
  | 96 => ⟨S_, .f32⟩
  | 97 => ⟨S16x128, .f32⟩
  | 98 => ⟨S16x128, .f32⟩
  | 99 => ⟨S16x128, .f32⟩
  | 100 => ⟨S1x16x128, .f32⟩
  | 101 => ⟨S64x16x128, .f32⟩
  | 102 => ⟨S64x16x128, .f32⟩
  | 103 => ⟨S1x16x128, .f32⟩
  | 104 => ⟨S64x16x128, .f32⟩
  | 105 => ⟨S64x16x128, .f32⟩
  | 106 => ⟨S1x16x128, .f32⟩
  | 107 => ⟨S64x16x128, .f32⟩
  | 108 => ⟨S64x16x128, .f32⟩
  | 109 => ⟨S_, .f32⟩
  | 110 => ⟨S64x16x128, .f32⟩
  | 111 => ⟨S64x16x128, .f32⟩
  | 112 => ⟨S1024x128, .f32⟩
  | 113 => ⟨S128x256, .f32⟩
  | 114 => ⟨S1024x256, .f32⟩
  | 115 => ⟨S1x256, .f32⟩
  | 116 => ⟨S1024x256, .f32⟩
  | 117 => ⟨S1024x256, .f32⟩
  | 118 => ⟨S_, .f32⟩
  | 119 => ⟨S256, .f32⟩
  | 120 => ⟨S_, .f32⟩
  | 121 => ⟨S256, .f32⟩
  | 122 => ⟨S256, .f32⟩
  | 123 => ⟨S1x256, .f32⟩
  | 124 => ⟨S1024x256, .f32⟩
  | 125 => ⟨S1024x256, .f32⟩
  | 126 => ⟨S1024x256, .f32⟩
  | 127 => ⟨S_, .f32⟩
  | _ => ⟨S64x16x32x32, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S_, .f32⟩
  | 5 => ⟨S256, .f32⟩
  | 6 => ⟨S256, .f32⟩
  | 7 => ⟨S256, .f32⟩
  | 8 => ⟨S1x256, .f32⟩
  | 9 => ⟨S1024x256, .f32⟩
  | 10 => ⟨S1024x256, .f32⟩
  | 11 => ⟨S1x256, .f32⟩
  | 12 => ⟨S1024x256, .f32⟩
  | 13 => ⟨S1024x256, .f32⟩
  | 14 => ⟨S1x256, .f32⟩
  | 15 => ⟨S1024x256, .f32⟩
  | 16 => ⟨S1024x256, .f32⟩
  | 17 => ⟨S_, .f32⟩
  | 18 => ⟨S1024x256, .f32⟩
  | 19 => ⟨S1024x256, .f32⟩
  | 20 => ⟨S256x512, .f32⟩
  | 21 => ⟨S1024x512, .f32⟩
  | 22 => ⟨S1x512, .f32⟩
  | 23 => ⟨S1024x512, .f32⟩
  | 24 => ⟨S1024x512, .f32⟩
  | 25 => ⟨S_, .f32⟩
  | 26 => ⟨S512, .f32⟩
  | 27 => ⟨S_, .f32⟩
  | 28 => ⟨S512, .f32⟩
  | 29 => ⟨S512, .f32⟩
  | 30 => ⟨S1x512, .f32⟩
  | 31 => ⟨S1024x512, .f32⟩
  | 32 => ⟨S1024x512, .f32⟩
  | 33 => ⟨S1024x512, .f32⟩
  | 34 => ⟨S_, .f32⟩
  | 35 => ⟨S512, .f32⟩
  | 36 => ⟨S_, .f32⟩
  | 37 => ⟨S512, .f32⟩
  | 38 => ⟨S512, .f32⟩
  | 39 => ⟨S_, .f32⟩
  | 40 => ⟨S512, .f32⟩
  | 41 => ⟨S512, .f32⟩
  | 42 => ⟨S512, .f32⟩
  | 43 => ⟨S1x512, .f32⟩
  | 44 => ⟨S1024x512, .f32⟩
  | 45 => ⟨S1024x512, .f32⟩
  | 46 => ⟨S1x512, .f32⟩
  | 47 => ⟨S1024x512, .f32⟩
  | 48 => ⟨S1024x512, .f32⟩
  | 49 => ⟨S1x512, .f32⟩
  | 50 => ⟨S1024x512, .f32⟩
  | 51 => ⟨S1024x512, .f32⟩
  | 52 => ⟨S_, .f32⟩
  | 53 => ⟨S1024x512, .f32⟩
  | 54 => ⟨S1024x512, .f32⟩
  | 55 => ⟨S64x16x4x128, .f32⟩
  | 56 => ⟨S64x16x16x32x32, .f32⟩
  | 57 => ⟨S_, .f32⟩
  | 58 => ⟨S64x16x32x32, .f32⟩
  | 59 => ⟨S_, .f32⟩
  | 60 => ⟨S64x16x32x32, .f32⟩
  | 61 => ⟨S64x16x32x32, .f32⟩
  | 62 => ⟨S_, .f32⟩
  | 63 => ⟨S64x16, .f32⟩
  | 64 => ⟨S_, .f32⟩
  | 65 => ⟨S64x16, .f32⟩
  | 66 => ⟨S64x16, .f32⟩
  | 67 => ⟨S1, .f32⟩
  | 68 => ⟨S_, .f32⟩
  | 69 => ⟨S64x16, .f32⟩
  | 70 => ⟨S64x16, .f32⟩
  | 71 => ⟨S1, .f32⟩
  | 72 => ⟨S_, .f32⟩
  | 73 => ⟨S64x16, .f32⟩
  | 74 => ⟨S64x16, .f32⟩
  | 75 => ⟨S64x16, .f32⟩
  | 76 => ⟨S64x16, .f32⟩
  | 77 => ⟨S_, .f32⟩
  | 78 => ⟨S64x16, .f32⟩
  | 79 => ⟨S64x16, .f32⟩
  | 80 => ⟨S_, .f32⟩
  | 81 => ⟨S64x16, .f32⟩
  | 82 => ⟨S64x16, .f32⟩
  | 83 => ⟨S64x16x1x1, .f32⟩
  | 84 => ⟨S64x16x32x32, .f32⟩
  | 85 => ⟨S64x16x32x32, .f32⟩
  | 86 => ⟨S64x16x32x1x32x1, .f32⟩
  | 87 => ⟨S_, .f32⟩
  | 88 => ⟨S64x16x32x32, .f32⟩
  | 89 => ⟨S_, .f32⟩
  | 90 => ⟨S64x16x32x32, .f32⟩
  | 91 => ⟨S64x16x32x32, .f32⟩
  | 92 => ⟨S_, .f32⟩
  | 93 => ⟨S64x16x32x32, .f32⟩
  | 94 => ⟨S64x16x32x32, .f32⟩
  | 95 => ⟨S_, .f32⟩
  | 96 => ⟨S64x16x32x32, .f32⟩
  | 97 => ⟨S_, .f32⟩
  | 98 => ⟨S64x16x32x32, .f32⟩
  | 99 => ⟨S64x16x32x32, .f32⟩
  | 100 => ⟨S64x16x32x32, .f32⟩
  | 101 => ⟨S64x16x1024, .f32⟩
  | 102 => ⟨S64x16x1024, .f32⟩
  | 103 => ⟨S_, .f32⟩
  | 104 => ⟨S64x16, .f32⟩
  | 105 => ⟨S64x16x1, .f32⟩
  | 106 => ⟨S64x16x1, .f32⟩
  | 107 => ⟨S_, .f32⟩
  | 108 => ⟨S64x16x1, .f32⟩
  | 109 => ⟨S64x16x1, .f32⟩
  | 110 => ⟨S64x16x1024, .f32⟩
  | 111 => ⟨S64x16x1024, .f32⟩
  | 112 => ⟨S1, .f32⟩
  | 113 => ⟨S_, .f32⟩
  | 114 => ⟨S64x16, .f32⟩
  | 115 => ⟨S64x16, .f32⟩
  | 116 => ⟨S1, .f32⟩
  | 117 => ⟨S_, .f32⟩
  | 118 => ⟨S64x16, .f32⟩
  | 119 => ⟨S64x16, .f32⟩
  | 120 => ⟨S64x16, .f32⟩
  | 121 => ⟨S64x16, .f32⟩
  | 122 => ⟨S_, .f32⟩
  | 123 => ⟨S64x16, .f32⟩
  | 124 => ⟨S64x16, .f32⟩
  | 125 => ⟨S_, .f32⟩
  | 126 => ⟨S64x16, .f32⟩
  | 127 => ⟨S64x16, .f32⟩
  | _ => ⟨S64x16x32x32, .f32⟩

abbrev hbmTy0_2 (i : Nat) : BufTy := match i % 128 with
  | 0 => ⟨S64x16x1x1, .f32⟩
  | 1 => ⟨S64x16x32x32, .f32⟩
  | 2 => ⟨S64x16x32x32, .f32⟩
  | 3 => ⟨S64x16x16x2x16x2, .f32⟩
  | 4 => ⟨S_, .f32⟩
  | 5 => ⟨S64x16x16x16, .f32⟩
  | 6 => ⟨S_, .f32⟩
  | 7 => ⟨S64x16x16x16, .f32⟩
  | 8 => ⟨S64x16x16x16, .f32⟩
  | 9 => ⟨S_, .f32⟩
  | 10 => ⟨S64x16x16x16, .f32⟩
  | 11 => ⟨S64x16x16x16, .f32⟩
  | 12 => ⟨S_, .f32⟩
  | 13 => ⟨S64x16x16x16, .f32⟩
  | 14 => ⟨S_, .f32⟩
  | 15 => ⟨S64x16x16x16, .f32⟩
  | 16 => ⟨S64x16x16x16, .f32⟩
  | 17 => ⟨S64x16x16x16, .f32⟩
  | 18 => ⟨S64x16x256, .f32⟩
  | 19 => ⟨S64x16x256, .f32⟩
  | 20 => ⟨S_, .f32⟩
  | 21 => ⟨S64x16, .f32⟩
  | 22 => ⟨S64x16x1, .f32⟩
  | 23 => ⟨S64x16x1, .f32⟩
  | 24 => ⟨S_, .f32⟩
  | 25 => ⟨S64x16x1, .f32⟩
  | 26 => ⟨S64x16x1, .f32⟩
  | 27 => ⟨S64x16x256, .f32⟩
  | 28 => ⟨S64x16x256, .f32⟩
  | 29 => ⟨S1, .f32⟩
  | 30 => ⟨S_, .f32⟩
  | 31 => ⟨S64x16, .f32⟩
  | 32 => ⟨S64x16, .f32⟩
  | 33 => ⟨S1, .f32⟩
  | 34 => ⟨S_, .f32⟩
  | 35 => ⟨S64x16, .f32⟩
  | 36 => ⟨S64x16, .f32⟩
  | 37 => ⟨S64x16, .f32⟩
  | 38 => ⟨S64x16, .f32⟩
  | 39 => ⟨S_, .f32⟩
  | 40 => ⟨S64x16, .f32⟩
  | 41 => ⟨S64x16, .f32⟩
  | 42 => ⟨S_, .f32⟩
  | 43 => ⟨S64x16, .f32⟩
  | 44 => ⟨S64x16, .f32⟩
  | 45 => ⟨S64x16x1x1, .f32⟩
  | 46 => ⟨S64x16x32x32, .f32⟩
  | 47 => ⟨S64x16x32x32, .f32⟩
  | 48 => ⟨S64x16x8x4x8x4, .f32⟩
  | 49 => ⟨S_, .f32⟩
  | 50 => ⟨S64x16x8x8, .f32⟩
  | 51 => ⟨S_, .f32⟩
  | 52 => ⟨S64x16x8x8, .f32⟩
  | 53 => ⟨S64x16x8x8, .f32⟩
  | 54 => ⟨S_, .f32⟩
  | 55 => ⟨S64x16x8x8, .f32⟩
  | 56 => ⟨S64x16x8x8, .f32⟩
  | 57 => ⟨S_, .f32⟩
  | 58 => ⟨S64x16x8x8, .f32⟩
  | 59 => ⟨S_, .f32⟩
  | 60 => ⟨S64x16x8x8, .f32⟩
  | 61 => ⟨S64x16x8x8, .f32⟩
  | 62 => ⟨S64x16x8x8, .f32⟩
  | 63 => ⟨S64x16x64, .f32⟩
  | 64 => ⟨S64x16x64, .f32⟩
  | 65 => ⟨S_, .f32⟩
  | 66 => ⟨S64x16, .f32⟩
  | 67 => ⟨S64x16x1, .f32⟩
  | 68 => ⟨S64x16x1, .f32⟩
  | 69 => ⟨S_, .f32⟩
  | 70 => ⟨S64x16x1, .f32⟩
  | 71 => ⟨S64x16x1, .f32⟩
  | 72 => ⟨S64x16x64, .f32⟩
  | 73 => ⟨S64x16x64, .f32⟩
  | 74 => ⟨S1, .f32⟩
  | 75 => ⟨S_, .f32⟩
  | 76 => ⟨S64x16, .f32⟩
  | 77 => ⟨S64x16, .f32⟩
  | 78 => ⟨S1, .f32⟩
  | 79 => ⟨S_, .f32⟩
  | 80 => ⟨S64x16, .f32⟩
  | 81 => ⟨S64x16, .f32⟩
  | 82 => ⟨S64x16, .f32⟩
  | 83 => ⟨S64x16, .f32⟩
  | 84 => ⟨S_, .f32⟩
  | 85 => ⟨S64x16, .f32⟩
  | 86 => ⟨S64x16, .f32⟩
  | 87 => ⟨S_, .f32⟩
  | 88 => ⟨S64x16, .f32⟩
  | 89 => ⟨S64x16, .f32⟩
  | 90 => ⟨S64x16x1x1, .f32⟩
  | 91 => ⟨S64x16x32x32, .f32⟩
  | 92 => ⟨S64x16x32x32, .f32⟩
  | 93 => ⟨S64x16x4x8x4x8, .f32⟩
  | 94 => ⟨S_, .f32⟩
  | 95 => ⟨S64x16x4x4, .f32⟩
  | 96 => ⟨S_, .f32⟩
  | 97 => ⟨S64x16x4x4, .f32⟩
  | 98 => ⟨S64x16x4x4, .f32⟩
  | 99 => ⟨S_, .f32⟩
  | 100 => ⟨S64x16x4x4, .f32⟩
  | 101 => ⟨S64x16x4x4, .f32⟩
  | 102 => ⟨S_, .f32⟩
  | 103 => ⟨S64x16x4x4, .f32⟩
  | 104 => ⟨S_, .f32⟩
  | 105 => ⟨S64x16x4x4, .f32⟩
  | 106 => ⟨S64x16x4x4, .f32⟩
  | 107 => ⟨S64x16x4x4, .f32⟩
  | 108 => ⟨S64x16x16, .f32⟩
  | 109 => ⟨S64x16x16, .f32⟩
  | 110 => ⟨S_, .f32⟩
  | 111 => ⟨S64x16, .f32⟩
  | 112 => ⟨S64x16x1, .f32⟩
  | 113 => ⟨S64x16x1, .f32⟩
  | 114 => ⟨S_, .f32⟩
  | 115 => ⟨S64x16x1, .f32⟩
  | 116 => ⟨S64x16x1, .f32⟩
  | 117 => ⟨S64x16x16, .f32⟩
  | 118 => ⟨S64x16x16, .f32⟩
  | 119 => ⟨S_, .f32⟩
  | 120 => ⟨S64x512, .f32⟩
  | 121 => ⟨S_, .f32⟩
  | 122 => ⟨S64x512, .f32⟩
  | 123 => ⟨S64x512, .f32⟩
  | 124 => ⟨S512x128, .f32⟩
  | 125 => ⟨S64x128, .f32⟩
  | 126 => ⟨S1x128, .f32⟩
  | 127 => ⟨S128, .f32⟩
  | _ => ⟨S64x16x32x32, .f32⟩

abbrev hbmTy0_3 (i : Nat) : BufTy := match i % 128 with
  | 0 => ⟨S1x128, .f32⟩
  | 1 => ⟨S64x128, .f32⟩
  | 2 => ⟨S64x128, .f32⟩
  | 3 => ⟨S1x128, .f32⟩
  | 4 => ⟨S128, .f32⟩
  | 5 => ⟨S1x128, .f32⟩
  | 6 => ⟨S128, .f32⟩
  | 7 => ⟨S_, .f32⟩
  | 8 => ⟨S128, .f32⟩
  | 9 => ⟨S_, .f32⟩
  | 10 => ⟨S128, .f32⟩
  | 11 => ⟨S128, .f32⟩
  | 12 => ⟨S1x128, .f32⟩
  | 13 => ⟨S64x128, .f32⟩
  | 14 => ⟨S64x128, .f32⟩
  | 15 => ⟨S64x128, .f32⟩
  | 16 => ⟨S_, .f32⟩
  | 17 => ⟨S128, .f32⟩
  | 18 => ⟨S_, .f32⟩
  | 19 => ⟨S128, .f32⟩
  | 20 => ⟨S128, .f32⟩
  | 21 => ⟨S_, .f32⟩
  | 22 => ⟨S128, .f32⟩
  | 23 => ⟨S128, .f32⟩
  | 24 => ⟨S128, .f32⟩
  | 25 => ⟨S1x128, .f32⟩
  | 26 => ⟨S64x128, .f32⟩
  | 27 => ⟨S64x128, .f32⟩
  | 28 => ⟨S1x128, .f32⟩
  | 29 => ⟨S64x128, .f32⟩
  | 30 => ⟨S64x128, .f32⟩
  | 31 => ⟨S1x128, .f32⟩
  | 32 => ⟨S64x128, .f32⟩
  | 33 => ⟨S64x128, .f32⟩
  | 34 => ⟨S64x512x32x32, .f32⟩
  | 35 => ⟨S_, .f32⟩
  | 36 => ⟨S64x32x32, .f32⟩
  | 37 => ⟨S_, .f32⟩
  | 38 => ⟨S64x32x32, .f32⟩
  | 39 => ⟨S64x32x32, .f32⟩
  | 40 => ⟨S64x1024, .f32⟩
  | 41 => ⟨S64x1024, .f32⟩
  | 42 => ⟨S_, .f32⟩
  | 43 => ⟨S64, .f32⟩
  | 44 => ⟨S64x1, .f32⟩
  | 45 => ⟨S64x1, .f32⟩
  | 46 => ⟨S_, .f32⟩
  | 47 => ⟨S64x1, .f32⟩
  | 48 => ⟨S64x1, .f32⟩
  | 49 => ⟨S64x1024, .f32⟩
  | 50 => ⟨S64x1024, .f32⟩
  | 51 => ⟨S_, .f32⟩
  | 52 => ⟨S64x1024, .f32⟩
  | 53 => ⟨S_, .f32⟩
  | 54 => ⟨S64x1024, .f32⟩
  | 55 => ⟨S64x1024, .f32⟩
  | 56 => ⟨S1024x128, .f32⟩
  | 57 => ⟨S64x128, .f32⟩
  | 58 => ⟨S1x128, .f32⟩
  | 59 => ⟨S128, .f32⟩
  | 60 => ⟨S1x128, .f32⟩
  | 61 => ⟨S64x128, .f32⟩
  | 62 => ⟨S64x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S64x128, .f32⟩
  | 74 => ⟨S64x128, .f32⟩
  | 75 => ⟨S64x128, .f32⟩
  | 76 => ⟨S_, .f32⟩
  | 77 => ⟨S128, .f32⟩
  | 78 => ⟨S_, .f32⟩
  | 79 => ⟨S128, .f32⟩
  | 80 => ⟨S128, .f32⟩
  | 81 => ⟨S_, .f32⟩
  | 82 => ⟨S128, .f32⟩
  | 83 => ⟨S128, .f32⟩
  | 84 => ⟨S128, .f32⟩
  | 85 => ⟨S1x128, .f32⟩
  | 86 => ⟨S64x128, .f32⟩
  | 87 => ⟨S64x128, .f32⟩
  | 88 => ⟨S1x128, .f32⟩
  | 89 => ⟨S64x128, .f32⟩
  | 90 => ⟨S64x128, .f32⟩
  | 91 => ⟨S1x128, .f32⟩
  | 92 => ⟨S64x128, .f32⟩
  | 93 => ⟨S64x128, .f32⟩
  | 94 => ⟨S64x1024x16x16, .f32⟩
  | 95 => ⟨S_, .f32⟩
  | 96 => ⟨S64x16x16, .f32⟩
  | 97 => ⟨S_, .f32⟩
  | 98 => ⟨S64x16x16, .f32⟩
  | 99 => ⟨S64x16x16, .f32⟩
  | 100 => ⟨S64x256, .f32⟩
  | 101 => ⟨S64x256, .f32⟩
  | 102 => ⟨S_, .f32⟩
  | 103 => ⟨S64, .f32⟩
  | 104 => ⟨S64x1, .f32⟩
  | 105 => ⟨S64x1, .f32⟩
  | 106 => ⟨S_, .f32⟩
  | 107 => ⟨S64x1, .f32⟩
  | 108 => ⟨S64x1, .f32⟩
  | 109 => ⟨S64x256, .f32⟩
  | 110 => ⟨S64x256, .f32⟩
  | 111 => ⟨S_, .f32⟩
  | 112 => ⟨S64x2048, .f32⟩
  | 113 => ⟨S_, .f32⟩
  | 114 => ⟨S64x2048, .f32⟩
  | 115 => ⟨S64x2048, .f32⟩
  | 116 => ⟨S2048x128, .f32⟩
  | 117 => ⟨S64x128, .f32⟩
  | 118 => ⟨S1x128, .f32⟩
  | 119 => ⟨S128, .f32⟩
  | 120 => ⟨S1x128, .f32⟩
  | 121 => ⟨S64x128, .f32⟩
  | 122 => ⟨S64x128, .f32⟩
  | 123 => ⟨S1x128, .f32⟩
  | 124 => ⟨S128, .f32⟩
  | 125 => ⟨S1x128, .f32⟩
  | 126 => ⟨S128, .f32⟩
  | 127 => ⟨S_, .f32⟩
  | _ => ⟨S64x16x32x32, .f32⟩

abbrev hbmTy0_4 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S64x128, .f32⟩
  | 6 => ⟨S64x128, .f32⟩
  | 7 => ⟨S64x128, .f32⟩
  | 8 => ⟨S_, .f32⟩
  | 9 => ⟨S128, .f32⟩
  | 10 => ⟨S_, .f32⟩
  | 11 => ⟨S128, .f32⟩
  | 12 => ⟨S128, .f32⟩
  | 13 => ⟨S_, .f32⟩
  | 14 => ⟨S128, .f32⟩
  | 15 => ⟨S128, .f32⟩
  | 16 => ⟨S128, .f32⟩
  | 17 => ⟨S1x128, .f32⟩
  | 18 => ⟨S64x128, .f32⟩
  | 19 => ⟨S64x128, .f32⟩
  | 20 => ⟨S1x128, .f32⟩
  | 21 => ⟨S64x128, .f32⟩
  | 22 => ⟨S64x128, .f32⟩
  | 23 => ⟨S1x128, .f32⟩
  | 24 => ⟨S64x128, .f32⟩
  | 25 => ⟨S64x128, .f32⟩
  | 26 => ⟨S64x2048x8x8, .f32⟩
  | 27 => ⟨S_, .f32⟩
  | 28 => ⟨S64x8x8, .f32⟩
  | 29 => ⟨S_, .f32⟩
  | 30 => ⟨S64x8x8, .f32⟩
  | 31 => ⟨S64x8x8, .f32⟩
  | 32 => ⟨S64x64, .f32⟩
  | 33 => ⟨S64x64, .f32⟩
  | 34 => ⟨S_, .f32⟩
  | 35 => ⟨S64, .f32⟩
  | 36 => ⟨S64x1, .f32⟩
  | 37 => ⟨S64x1, .f32⟩
  | 38 => ⟨S_, .f32⟩
  | 39 => ⟨S64x1, .f32⟩
  | 40 => ⟨S64x1, .f32⟩
  | 41 => ⟨S64x64, .f32⟩
  | 42 => ⟨S64x64, .f32⟩
  | 43 => ⟨S_, .f32⟩
  | 44 => ⟨S64x2048, .f32⟩
  | 45 => ⟨S_, .f32⟩
  | 46 => ⟨S64x2048, .f32⟩
  | 47 => ⟨S64x2048, .f32⟩
  | 48 => ⟨S2048x128, .f32⟩
  | 49 => ⟨S64x128, .f32⟩
  | 50 => ⟨S1x128, .f32⟩
  | 51 => ⟨S128, .f32⟩
  | 52 => ⟨S1x128, .f32⟩
  | 53 => ⟨S64x128, .f32⟩
  | 54 => ⟨S64x128, .f32⟩
  | 55 => ⟨S1x128, .f32⟩
  | 56 => ⟨S128, .f32⟩
  | 57 => ⟨S1x128, .f32⟩
  | 58 => ⟨S128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S64x128, .f32⟩
  | 66 => ⟨S64x128, .f32⟩
  | 67 => ⟨S64x128, .f32⟩
  | 68 => ⟨S_, .f32⟩
  | 69 => ⟨S128, .f32⟩
  | 70 => ⟨S_, .f32⟩
  | 71 => ⟨S128, .f32⟩
  | 72 => ⟨S128, .f32⟩
  | 73 => ⟨S_, .f32⟩
  | 74 => ⟨S128, .f32⟩
  | 75 => ⟨S128, .f32⟩
  | 76 => ⟨S128, .f32⟩
  | 77 => ⟨S1x128, .f32⟩
  | 78 => ⟨S64x128, .f32⟩
  | 79 => ⟨S64x128, .f32⟩
  | 80 => ⟨S1x128, .f32⟩
  | 81 => ⟨S64x128, .f32⟩
  | 82 => ⟨S64x128, .f32⟩
  | 83 => ⟨S1x128, .f32⟩
  | 84 => ⟨S64x128, .f32⟩
  | 85 => ⟨S64x128, .f32⟩
  | 86 => ⟨S64x2048x4x4, .f32⟩
  | 87 => ⟨S_, .f32⟩
  | 88 => ⟨S64x4x4, .f32⟩
  | 89 => ⟨S_, .f32⟩
  | 90 => ⟨S64x4x4, .f32⟩
  | 91 => ⟨S64x4x4, .f32⟩
  | 92 => ⟨S64x16, .f32⟩
  | 93 => ⟨S64x16, .f32⟩
  | 94 => ⟨S_, .f32⟩
  | 95 => ⟨S64, .f32⟩
  | 96 => ⟨S64x1, .f32⟩
  | 97 => ⟨S64x1, .f32⟩
  | 98 => ⟨S_, .f32⟩
  | 99 => ⟨S64x1, .f32⟩
  | 100 => ⟨S64x1, .f32⟩
  | 101 => ⟨S64x16, .f32⟩
  | 102 => ⟨S64x16, .f32⟩
  | 103 => ⟨S64x1x128, .f32⟩
  | 104 => ⟨S64x1x128, .f32⟩
  | 105 => ⟨S64x1x128, .f32⟩
  | 106 => ⟨S64x1x128, .f32⟩
  | 107 => ⟨S64x4x128, .f32⟩
  | 108 => ⟨S64x16x4x128, .f32⟩
  | 109 => ⟨S_, .f32⟩
  | 110 => ⟨S64x16x4, .f32⟩
  | 111 => ⟨S64x16x4x1, .f32⟩
  | 112 => ⟨S64x16x4x1, .f32⟩
  | 113 => ⟨S_, .f32⟩
  | 114 => ⟨S64x16x4x1, .f32⟩
  | 115 => ⟨S64x16x4x1, .f32⟩
  | 116 => ⟨S64x16x4x128, .f32⟩
  | 117 => ⟨S64x16x4x128, .f32⟩
  | 118 => ⟨S64x4x128, .f32⟩
  | 119 => ⟨S_, .f32⟩
  | 120 => ⟨S64x4, .f32⟩
  | 121 => ⟨S64x4x1, .f32⟩
  | 122 => ⟨S64x4x1, .f32⟩
  | 123 => ⟨S_, .f32⟩
  | 124 => ⟨S64x4x1, .f32⟩
  | 125 => ⟨S64x4x1, .f32⟩
  | 126 => ⟨S64x4x128, .f32⟩
  | 127 => ⟨S64x4x128, .f32⟩
  | _ => ⟨S64x16x32x32, .f32⟩

abbrev hbmTy0_5 (i : Nat) : BufTy := match i % 128 with
  | 0 => ⟨S64x4x16, .f32⟩
  | 1 => ⟨S128x16, .f32⟩
  | 2 => ⟨S4x16, .f32⟩
  | 3 => ⟨S1x4x16, .f32⟩
  | 4 => ⟨S64x4x16, .f32⟩
  | 5 => ⟨S64x4x16, .f32⟩
  | 6 => ⟨S_, .f32⟩
  | 7 => ⟨S64x4x16, .f32⟩
  | 8 => ⟨S64x4x16, .f32⟩
  | 9 => ⟨S_, .f32⟩
  | 10 => ⟨S64x4, .f32⟩
  | 11 => ⟨S_, .f32⟩
  | 12 => ⟨S64x4, .f32⟩
  | 13 => ⟨S64x4, .f32⟩
  | 14 => ⟨S64x4x1, .f32⟩
  | 15 => ⟨S64x4x16, .f32⟩
  | 16 => ⟨S64x4x16, .f32⟩
  | 17 => ⟨S64x4x16, .f32⟩
  | 18 => ⟨S_, .f32⟩
  | 19 => ⟨S64x4, .f32⟩
  | 20 => ⟨S64x4x1, .f32⟩
  | 21 => ⟨S64x4x16, .f32⟩
  | 22 => ⟨S64x4x16, .f32⟩
  | 23 => ⟨S_, .f32⟩
  | 24 => ⟨S64x4x16, .f32⟩
  | 25 => ⟨S64x4x16, .f32⟩
  | 26 => ⟨S64x4x16, .f32⟩
  | 27 => ⟨S64x4x16, .f32⟩
  | 28 => ⟨S_, .f32⟩
  | 29 => ⟨S64x4, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S1, .f32⟩
  | 42 => ⟨S4, .f32⟩
  | 43 => ⟨S4, .f32⟩
  | 44 => ⟨S4, .f32⟩
  | 45 => ⟨S_, .f32⟩
  | 46 => ⟨S_, .f32⟩
  | 47 => ⟨S1, .f32⟩
  | 48 => ⟨S4, .f32⟩
  | 49 => ⟨S4, .f32⟩
  | 50 => ⟨S_, .f32⟩
  | 51 => ⟨S64x1024, .f32⟩
  | 52 => ⟨S64x1x1024, .f32⟩
  | 53 => ⟨S_, .f32⟩
  | 54 => ⟨S64x1x1024, .f32⟩
  | 55 => ⟨S64x1x1024, .f32⟩
  | 56 => ⟨S64x16x1024, .f32⟩
  | 57 => ⟨S64x16x1024, .f32⟩
  | 58 => ⟨S64x16x1024, .f32⟩
  | 59 => ⟨S_, .f32⟩
  | 60 => ⟨S64x1024, .f32⟩
  | 61 => ⟨S64x1x1024, .f32⟩
  | 62 => ⟨S_, .f32⟩
  | 63 => ⟨S64x1x1024, .f32⟩
  | 64 => ⟨S64x1x1024, .f32⟩
  | 65 => ⟨S_, .f32⟩
  | 66 => ⟨S64x1x1024, .f32⟩
  | 67 => ⟨S64x1x1024, .f32⟩
  | 68 => ⟨S64x1x1024, .f32⟩
  | 69 => ⟨S64x16x1024, .f32⟩
  | 70 => ⟨S64x16x1024, .f32⟩
  | 71 => ⟨S1x16, .f32⟩
  | 72 => ⟨S16, .f32⟩
  | 73 => ⟨S1x16x1, .f32⟩
  | 74 => ⟨S64x16x1024, .f32⟩
  | 75 => ⟨S64x16x1024, .f32⟩
  | 76 => ⟨S1x16, .f32⟩
  | 77 => ⟨S16, .f32⟩
  | 78 => ⟨S1x16x1, .f32⟩
  | 79 => ⟨S64x16x1024, .f32⟩
  | 80 => ⟨S64x16x1024, .f32⟩
  | 81 => ⟨S64x1x1024, .f32⟩
  | 82 => ⟨S64x16x1024, .f32⟩
  | 83 => ⟨S64x16x1024, .f32⟩
  | 84 => ⟨S64x16x1024, .f32⟩
  | 85 => ⟨S_, .f32⟩
  | 86 => ⟨S64x16x1024, .f32⟩
  | 87 => ⟨S64x16x1024, .i1⟩
  | 88 => ⟨S_, .f32⟩
  | 89 => ⟨S64x16x1024, .f32⟩
  | 90 => ⟨S64x16x1024, .f32⟩
  | 91 => ⟨S64x16x1024, .f32⟩
  | 92 => ⟨S_, .f32⟩
  | 93 => ⟨S64x16x1024, .f32⟩
  | 94 => ⟨S64x16x1024, .f32⟩
  | 95 => ⟨S64x16x1024, .f32⟩
  | 96 => ⟨S_, .f32⟩
  | 97 => ⟨S64x16, .f32⟩
  | 98 => ⟨S_, .f32⟩
  | 99 => ⟨S64x16, .f32⟩
  | 100 => ⟨S64x16, .f32⟩
  | 101 => ⟨S64x16x1024, .f32⟩
  | 102 => ⟨S_, .f32⟩
  | 103 => ⟨S64x16, .f32⟩
  | 104 => ⟨S_, .f32⟩
  | 105 => ⟨S64x16, .f32⟩
  | 106 => ⟨S64x16, .f32⟩
  | 107 => ⟨S_, .f32⟩
  | 108 => ⟨S64x16, .f32⟩
  | 109 => ⟨S64x16, .f32⟩
  | 110 => ⟨S_, .f32⟩
  | 111 => ⟨S64x16, .f32⟩
  | 112 => ⟨S64x16, .f32⟩
  | 113 => ⟨S64x16, .f32⟩
  | 114 => ⟨S64x16, .f32⟩
  | 115 => ⟨S64x1x16, .f32⟩
  | 116 => ⟨S64x16, .f32⟩
  | 117 => ⟨S64x16, .f32⟩
  | 118 => ⟨S_, .f32⟩
  | 119 => ⟨S64, .f32⟩
  | 120 => ⟨S_, .f32⟩
  | 121 => ⟨S_, .f32⟩
  | 122 => ⟨S_, .f32⟩
  | 123 => ⟨S_, .f32⟩
  | 124 => ⟨S1, .f32⟩
  | 125 => ⟨S_, .f32⟩
  | 126 => ⟨S_, .f32⟩
  | 127 => ⟨S_, .f32⟩
  | _ => ⟨S64x16x32x32, .f32⟩

abbrev hbmTy0_6 (i : Nat) : BufTy := match i % 128 with
  | 0 => ⟨S_, .f32⟩
  | 1 => ⟨S64x256, .f32⟩
  | 2 => ⟨S64x1x256, .f32⟩
  | 3 => ⟨S_, .f32⟩
  | 4 => ⟨S64x1x256, .f32⟩
  | 5 => ⟨S64x1x256, .f32⟩
  | 6 => ⟨S64x16x256, .f32⟩
  | 7 => ⟨S64x16x256, .f32⟩
  | 8 => ⟨S64x16x256, .f32⟩
  | 9 => ⟨S_, .f32⟩
  | 10 => ⟨S64x256, .f32⟩
  | 11 => ⟨S64x1x256, .f32⟩
  | 12 => ⟨S_, .f32⟩
  | 13 => ⟨S64x1x256, .f32⟩
  | 14 => ⟨S64x1x256, .f32⟩
  | 15 => ⟨S_, .f32⟩
  | 16 => ⟨S64x1x256, .f32⟩
  | 17 => ⟨S64x1x256, .f32⟩
  | 18 => ⟨S64x1x256, .f32⟩
  | 19 => ⟨S64x16x256, .f32⟩
  | 20 => ⟨S64x16x256, .f32⟩
  | 21 => ⟨S1x16, .f32⟩
  | 22 => ⟨S16, .f32⟩
  | 23 => ⟨S1x16x1, .f32⟩
  | 24 => ⟨S64x16x256, .f32⟩
  | 25 => ⟨S64x16x256, .f32⟩
  | 26 => ⟨S1x16, .f32⟩
  | 27 => ⟨S16, .f32⟩
  | 28 => ⟨S1x16x1, .f32⟩
  | 29 => ⟨S64x16x256, .f32⟩
  | 30 => ⟨S64x16x256, .f32⟩
  | 31 => ⟨S64x1x256, .f32⟩
  | 32 => ⟨S64x16x256, .f32⟩
  | 33 => ⟨S64x16x256, .f32⟩
  | 34 => ⟨S64x16x256, .f32⟩
  | 35 => ⟨S_, .f32⟩
  | 36 => ⟨S64x16x256, .f32⟩
  | 37 => ⟨S64x16x256, .i1⟩
  | 38 => ⟨S_, .f32⟩
  | 39 => ⟨S64x16x256, .f32⟩
  | 40 => ⟨S64x16x256, .f32⟩
  | 41 => ⟨S64x16x256, .f32⟩
  | 42 => ⟨S_, .f32⟩
  | 43 => ⟨S64x16x256, .f32⟩
  | 44 => ⟨S64x16x256, .f32⟩
  | 45 => ⟨S64x16x256, .f32⟩
  | 46 => ⟨S_, .f32⟩
  | 47 => ⟨S64x16, .f32⟩
  | 48 => ⟨S_, .f32⟩
  | 49 => ⟨S64x16, .f32⟩
  | 50 => ⟨S64x16, .f32⟩
  | 51 => ⟨S64x16x256, .f32⟩
  | 52 => ⟨S_, .f32⟩
  | 53 => ⟨S64x16, .f32⟩
  | 54 => ⟨S_, .f32⟩
  | 55 => ⟨S64x16, .f32⟩
  | 56 => ⟨S64x16, .f32⟩
  | 57 => ⟨S_, .f32⟩
  | 58 => ⟨S64x16, .f32⟩
  | 59 => ⟨S64x16, .f32⟩
  | 60 => ⟨S_, .f32⟩
  | 61 => ⟨S64x16, .f32⟩
  | 62 => ⟨S64x16, .f32⟩
  | 63 => ⟨S64x16, .f32⟩
  | 64 => ⟨S64x16, .f32⟩
  | 65 => ⟨S64x1x16, .f32⟩
  | 66 => ⟨S64x16, .f32⟩
  | 67 => ⟨S64x16, .f32⟩
  | 68 => ⟨S_, .f32⟩
  | 69 => ⟨S64, .f32⟩
  | 70 => ⟨S_, .f32⟩
  | 71 => ⟨S_, .f32⟩
  | 72 => ⟨S_, .f32⟩
  | 73 => ⟨S_, .f32⟩
  | 74 => ⟨S1, .f32⟩
  | 75 => ⟨S_, .f32⟩
  | 76 => ⟨S_, .f32⟩
  | 77 => ⟨S_, .f32⟩
  | 78 => ⟨S_, .f32⟩
  | 79 => ⟨S64x64, .f32⟩
  | 80 => ⟨S64x1x64, .f32⟩
  | 81 => ⟨S_, .f32⟩
  | 82 => ⟨S64x1x64, .f32⟩
  | 83 => ⟨S64x1x64, .f32⟩
  | 84 => ⟨S64x16x64, .f32⟩
  | 85 => ⟨S64x16x64, .f32⟩
  | 86 => ⟨S64x16x64, .f32⟩
  | 87 => ⟨S_, .f32⟩
  | 88 => ⟨S64x64, .f32⟩
  | 89 => ⟨S64x1x64, .f32⟩
  | 90 => ⟨S_, .f32⟩
  | 91 => ⟨S64x1x64, .f32⟩
  | 92 => ⟨S64x1x64, .f32⟩
  | 93 => ⟨S_, .f32⟩
  | 94 => ⟨S64x1x64, .f32⟩
  | 95 => ⟨S64x1x64, .f32⟩
  | 96 => ⟨S64x1x64, .f32⟩
  | 97 => ⟨S64x16x64, .f32⟩
  | 98 => ⟨S64x16x64, .f32⟩
  | 99 => ⟨S1x16, .f32⟩
  | 100 => ⟨S16, .f32⟩
  | 101 => ⟨S1x16x1, .f32⟩
  | 102 => ⟨S64x16x64, .f32⟩
  | 103 => ⟨S64x16x64, .f32⟩
  | 104 => ⟨S1x16, .f32⟩
  | 105 => ⟨S16, .f32⟩
  | 106 => ⟨S1x16x1, .f32⟩
  | 107 => ⟨S64x16x64, .f32⟩
  | 108 => ⟨S64x16x64, .f32⟩
  | 109 => ⟨S64x1x64, .f32⟩
  | 110 => ⟨S64x16x64, .f32⟩
  | 111 => ⟨S64x16x64, .f32⟩
  | 112 => ⟨S64x16x64, .f32⟩
  | 113 => ⟨S_, .f32⟩
  | 114 => ⟨S64x16x64, .f32⟩
  | 115 => ⟨S64x16x64, .i1⟩
  | 116 => ⟨S_, .f32⟩
  | 117 => ⟨S64x16x64, .f32⟩
  | 118 => ⟨S64x16x64, .f32⟩
  | 119 => ⟨S64x16x64, .f32⟩
  | 120 => ⟨S_, .f32⟩
  | 121 => ⟨S64x16x64, .f32⟩
  | 122 => ⟨S64x16x64, .f32⟩
  | 123 => ⟨S64x16x64, .f32⟩
  | 124 => ⟨S_, .f32⟩
  | 125 => ⟨S64x16, .f32⟩
  | 126 => ⟨S_, .f32⟩
  | 127 => ⟨S64x16, .f32⟩
  | _ => ⟨S64x16x32x32, .f32⟩

abbrev hbmTy0_7 (i : Nat) : BufTy := match i % 128 with
  | 0 => ⟨S64x16, .f32⟩
  | 1 => ⟨S64x16x64, .f32⟩
  | 2 => ⟨S_, .f32⟩
  | 3 => ⟨S64x16, .f32⟩
  | 4 => ⟨S_, .f32⟩
  | 5 => ⟨S64x16, .f32⟩
  | 6 => ⟨S64x16, .f32⟩
  | 7 => ⟨S_, .f32⟩
  | 8 => ⟨S64x16, .f32⟩
  | 9 => ⟨S64x16, .f32⟩
  | 10 => ⟨S_, .f32⟩
  | 11 => ⟨S64x16, .f32⟩
  | 12 => ⟨S64x16, .f32⟩
  | 13 => ⟨S64x16, .f32⟩
  | 14 => ⟨S64x16, .f32⟩
  | 15 => ⟨S64x1x16, .f32⟩
  | 16 => ⟨S64x16, .f32⟩
  | 17 => ⟨S64x16, .f32⟩
  | 18 => ⟨S_, .f32⟩
  | 19 => ⟨S64, .f32⟩
  | 20 => ⟨S_, .f32⟩
  | 21 => ⟨S_, .f32⟩
  | 22 => ⟨S_, .f32⟩
  | 23 => ⟨S_, .f32⟩
  | 24 => ⟨S1, .f32⟩
  | 25 => ⟨S_, .f32⟩
  | 26 => ⟨S_, .f32⟩
  | 27 => ⟨S_, .f32⟩
  | 28 => ⟨S_, .f32⟩
  | 29 => ⟨S64x16, .f32⟩
  | 30 => ⟨S64x1x16, .f32⟩
  | 31 => ⟨S_, .f32⟩
  | 32 => ⟨S64x1x16, .f32⟩
  | 33 => ⟨S64x1x16, .f32⟩
  | 34 => ⟨S64x16x16, .f32⟩
  | 35 => ⟨S64x16x16, .f32⟩
  | 36 => ⟨S64x16x16, .f32⟩
  | 37 => ⟨S_, .f32⟩
  | 38 => ⟨S64x16, .f32⟩
  | 39 => ⟨S64x1x16, .f32⟩
  | 40 => ⟨S_, .f32⟩
  | 41 => ⟨S64x1x16, .f32⟩
  | 42 => ⟨S64x1x16, .f32⟩
  | 43 => ⟨S_, .f32⟩
  | 44 => ⟨S64x1x16, .f32⟩
  | 45 => ⟨S64x1x16, .f32⟩
  | 46 => ⟨S64x1x16, .f32⟩
  | 47 => ⟨S64x16x16, .f32⟩
  | 48 => ⟨S64x16x16, .f32⟩
  | 49 => ⟨S1x16, .f32⟩
  | 50 => ⟨S16, .f32⟩
  | 51 => ⟨S1x16x1, .f32⟩
  | 52 => ⟨S64x16x16, .f32⟩
  | 53 => ⟨S64x16x16, .f32⟩
  | 54 => ⟨S1x16, .f32⟩
  | 55 => ⟨S16, .f32⟩
  | 56 => ⟨S1x16x1, .f32⟩
  | 57 => ⟨S64x16x16, .f32⟩
  | 58 => ⟨S64x16x16, .f32⟩
  | 59 => ⟨S64x1x16, .f32⟩
  | 60 => ⟨S64x16x16, .f32⟩
  | 61 => ⟨S64x16x16, .f32⟩
  | 62 => ⟨S64x16x16, .f32⟩
  | 63 => ⟨S_, .f32⟩
  | 64 => ⟨S64x16x16, .f32⟩
  | 65 => ⟨S64x16x16, .i1⟩
  | 66 => ⟨S_, .f32⟩
  | 67 => ⟨S64x16x16, .f32⟩
  | 68 => ⟨S64x16x16, .f32⟩
  | 69 => ⟨S64x16x16, .f32⟩
  | 70 => ⟨S_, .f32⟩
  | 71 => ⟨S64x16x16, .f32⟩
  | 72 => ⟨S64x16x16, .f32⟩
  | 73 => ⟨S64x16x16, .f32⟩
  | 74 => ⟨S_, .f32⟩
  | 75 => ⟨S64x16, .f32⟩
  | 76 => ⟨S_, .f32⟩
  | 77 => ⟨S64x16, .f32⟩
  | 78 => ⟨S64x16, .f32⟩
  | 79 => ⟨S64x16x16, .f32⟩
  | 80 => ⟨S_, .f32⟩
  | 81 => ⟨S64x16, .f32⟩
  | 82 => ⟨S_, .f32⟩
  | 83 => ⟨S64x16, .f32⟩
  | 84 => ⟨S64x16, .f32⟩
  | 85 => ⟨S_, .f32⟩
  | 86 => ⟨S64x16, .f32⟩
  | 87 => ⟨S64x16, .f32⟩
  | 88 => ⟨S_, .f32⟩
  | 89 => ⟨S64x16, .f32⟩
  | 90 => ⟨S64x16, .f32⟩
  | 91 => ⟨S64x16, .f32⟩
  | 92 => ⟨S64x16, .f32⟩
  | 93 => ⟨S64x1x16, .f32⟩
  | 94 => ⟨S64x16, .f32⟩
  | 95 => ⟨S64x16, .f32⟩
  | 96 => ⟨S_, .f32⟩
  | 97 => ⟨S64, .f32⟩
  | 98 => ⟨S_, .f32⟩
  | 99 => ⟨S_, .f32⟩
  | 100 => ⟨S_, .f32⟩
  | 101 => ⟨S_, .f32⟩
  | 102 => ⟨S1, .f32⟩
  | 103 => ⟨S_, .f32⟩
  | 104 => ⟨S_, .f32⟩
  | 105 => ⟨S_, .f32⟩
  | _ => ⟨S64x16x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S64x16x32x32, .f32⟩

abbrev bufTy : (tb : Table) → Fin (tcTables nBuf tb) → BufTy
  | .hbm, ⟨i, _⟩ => hbmTy i
  | _, _ => ⟨S64x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_v0 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst : Ref sig .tc := ⟨.hbm, 63, rfl⟩
abbrev main_v17 : Ref sig .tc := ⟨.hbm, 64, rfl⟩
abbrev main_cst_0 : Ref sig .tc := ⟨.hbm, 65, rfl⟩
abbrev main_v18 : Ref sig .tc := ⟨.hbm, 66, rfl⟩
abbrev main_v19 : Ref sig .tc := ⟨.hbm, 67, rfl⟩
abbrev main_cst_1 : Ref sig .tc := ⟨.hbm, 68, rfl⟩
abbrev main_v20 : Ref sig .tc := ⟨.hbm, 69, rfl⟩
abbrev main_v21 : Ref sig .tc := ⟨.hbm, 70, rfl⟩
abbrev main_cst_2 : Ref sig .tc := ⟨.hbm, 71, rfl⟩
abbrev main_v22 : Ref sig .tc := ⟨.hbm, 72, rfl⟩
abbrev main_cst_3 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_4 : Ref sig .tc := ⟨.hbm, 82, rfl⟩
abbrev main_v31 : Ref sig .tc := ⟨.hbm, 83, rfl⟩
abbrev main_cst_5 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_6 : Ref sig .tc := ⟨.hbm, 91, rfl⟩
abbrev main_v38 : Ref sig .tc := ⟨.hbm, 92, rfl⟩
abbrev main_cst_7 : Ref sig .tc := ⟨.hbm, 93, rfl⟩
abbrev main_v39 : Ref sig .tc := ⟨.hbm, 94, rfl⟩
abbrev main_v40 : Ref sig .tc := ⟨.hbm, 95, rfl⟩
abbrev main_cst_8 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_call0_cst : Ref sig .tc := ⟨.hbm, 109, rfl⟩
abbrev main_call0_v0 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_9 : Ref sig .tc := ⟨.hbm, 118, rfl⟩
abbrev main_v60 : Ref sig .tc := ⟨.hbm, 119, rfl⟩
abbrev main_cst_10 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_11 : Ref sig .tc := ⟨.hbm, 127, rfl⟩
abbrev main_v67 : Ref sig .tc := ⟨.hbm, 128, rfl⟩
abbrev main_cst_12 : Ref sig .tc := ⟨.hbm, 129, rfl⟩
abbrev main_v68 : Ref sig .tc := ⟨.hbm, 130, rfl⟩
abbrev main_v69 : Ref sig .tc := ⟨.hbm, 131, rfl⟩
abbrev main_cst_13 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_call1_cst : Ref sig .tc := ⟨.hbm, 145, rfl⟩
abbrev main_call1_v0 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_14 : Ref sig .tc := ⟨.hbm, 153, rfl⟩
abbrev main_v88 : Ref sig .tc := ⟨.hbm, 154, rfl⟩
abbrev main_cst_15 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_cst_16 : Ref sig .tc := ⟨.hbm, 162, rfl⟩
abbrev main_v95 : Ref sig .tc := ⟨.hbm, 163, rfl⟩
abbrev main_cst_17 : Ref sig .tc := ⟨.hbm, 164, rfl⟩
abbrev main_v96 : Ref sig .tc := ⟨.hbm, 165, rfl⟩
abbrev main_v97 : Ref sig .tc := ⟨.hbm, 166, rfl⟩
abbrev main_cst_18 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_call2_cst : Ref sig .tc := ⟨.hbm, 180, rfl⟩
abbrev main_call2_v0 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_cst_19 : Ref sig .tc := ⟨.hbm, 185, rfl⟩
abbrev main_v113 : Ref sig .tc := ⟨.hbm, 186, rfl⟩
abbrev main_cst_20 : Ref sig .tc := ⟨.hbm, 187, rfl⟩
abbrev main_v114 : Ref sig .tc := ⟨.hbm, 188, rfl⟩
abbrev main_v115 : Ref sig .tc := ⟨.hbm, 189, rfl⟩
abbrev main_cst_21 : Ref sig .tc := ⟨.hbm, 190, rfl⟩
abbrev main_v116 : Ref sig .tc := ⟨.hbm, 191, rfl⟩
abbrev main_cst_22 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_cst_23 : Ref sig .tc := ⟨.hbm, 205, rfl⟩
abbrev main_v129 : Ref sig .tc := ⟨.hbm, 206, rfl⟩
abbrev main_v130 : Ref sig .tc := ⟨.hbm, 207, rfl⟩
abbrev main_cst_24 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_cst_25 : Ref sig .tc := ⟨.hbm, 215, rfl⟩
abbrev main_v137 : Ref sig .tc := ⟨.hbm, 216, rfl⟩
abbrev main_cst_26 : Ref sig .tc := ⟨.hbm, 217, rfl⟩
abbrev main_v138 : Ref sig .tc := ⟨.hbm, 218, rfl⟩
abbrev main_v139 : Ref sig .tc := ⟨.hbm, 219, rfl⟩
abbrev main_cst_27 : Ref sig .tc := ⟨.hbm, 220, rfl⟩
abbrev main_v140 : Ref sig .tc := ⟨.hbm, 221, rfl⟩
abbrev main_v141 : Ref sig .tc := ⟨.hbm, 222, rfl⟩
abbrev main_cst_28 : Ref sig .tc := ⟨.hbm, 223, rfl⟩
abbrev main_v142 : Ref sig .tc := ⟨.hbm, 224, rfl⟩
abbrev main_cst_29 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_cst_30 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_cst_31 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_cst_32 : Ref sig .tc := ⟨.hbm, 250, rfl⟩
abbrev main_v165 : Ref sig .tc := ⟨.hbm, 251, rfl⟩
abbrev main_v166 : Ref sig .tc := ⟨.hbm, 252, rfl⟩
abbrev main_cst_33 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_cst_34 : Ref sig .tc := ⟨.hbm, 260, rfl⟩
abbrev main_v173 : Ref sig .tc := ⟨.hbm, 261, rfl⟩
abbrev main_cst_35 : Ref sig .tc := ⟨.hbm, 262, rfl⟩
abbrev main_v174 : Ref sig .tc := ⟨.hbm, 263, rfl⟩
abbrev main_v175 : Ref sig .tc := ⟨.hbm, 264, rfl⟩
abbrev main_cst_36 : Ref sig .tc := ⟨.hbm, 265, rfl⟩
abbrev main_v176 : Ref sig .tc := ⟨.hbm, 266, rfl⟩
abbrev main_v177 : Ref sig .tc := ⟨.hbm, 267, rfl⟩
abbrev main_cst_37 : Ref sig .tc := ⟨.hbm, 268, rfl⟩
abbrev main_v178 : Ref sig .tc := ⟨.hbm, 269, rfl⟩
abbrev main_cst_38 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_cst_39 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_cst_40 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_cst_41 : Ref sig .tc := ⟨.hbm, 295, rfl⟩
abbrev main_v201 : Ref sig .tc := ⟨.hbm, 296, rfl⟩
abbrev main_v202 : Ref sig .tc := ⟨.hbm, 297, rfl⟩
abbrev main_cst_42 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_cst_43 : Ref sig .tc := ⟨.hbm, 305, rfl⟩
abbrev main_v209 : Ref sig .tc := ⟨.hbm, 306, rfl⟩
abbrev main_cst_44 : Ref sig .tc := ⟨.hbm, 307, rfl⟩
abbrev main_v210 : Ref sig .tc := ⟨.hbm, 308, rfl⟩
abbrev main_v211 : Ref sig .tc := ⟨.hbm, 309, rfl⟩
abbrev main_cst_45 : Ref sig .tc := ⟨.hbm, 310, rfl⟩
abbrev main_v212 : Ref sig .tc := ⟨.hbm, 311, rfl⟩
abbrev main_v213 : Ref sig .tc := ⟨.hbm, 312, rfl⟩
abbrev main_cst_46 : Ref sig .tc := ⟨.hbm, 313, rfl⟩
abbrev main_v214 : Ref sig .tc := ⟨.hbm, 314, rfl⟩
abbrev main_cst_47 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_cst_48 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_cst_49 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_cst_50 : Ref sig .tc := ⟨.hbm, 340, rfl⟩
abbrev main_v237 : Ref sig .tc := ⟨.hbm, 341, rfl⟩
abbrev main_v238 : Ref sig .tc := ⟨.hbm, 342, rfl⟩
abbrev main_cst_51 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_cst_52 : Ref sig .tc := ⟨.hbm, 350, rfl⟩
abbrev main_v245 : Ref sig .tc := ⟨.hbm, 351, rfl⟩
abbrev main_cst_53 : Ref sig .tc := ⟨.hbm, 352, rfl⟩
abbrev main_v246 : Ref sig .tc := ⟨.hbm, 353, rfl⟩
abbrev main_v247 : Ref sig .tc := ⟨.hbm, 354, rfl⟩
abbrev main_cst_54 : Ref sig .tc := ⟨.hbm, 355, rfl⟩
abbrev main_v248 : Ref sig .tc := ⟨.hbm, 356, rfl⟩
abbrev main_v249 : Ref sig .tc := ⟨.hbm, 357, rfl⟩
abbrev main_cst_55 : Ref sig .tc := ⟨.hbm, 358, rfl⟩
abbrev main_v250 : Ref sig .tc := ⟨.hbm, 359, rfl⟩
abbrev main_cst_56 : Ref sig .tc := ⟨.hbm, 360, rfl⟩
abbrev main_v251 : Ref sig .tc := ⟨.hbm, 361, rfl⟩
abbrev main_v252 : Ref sig .tc := ⟨.hbm, 362, rfl⟩
abbrev main_v253 : Ref sig .tc := ⟨.hbm, 363, rfl⟩
abbrev main_v254 : Ref sig .tc := ⟨.hbm, 364, rfl⟩
abbrev main_v255 : Ref sig .tc := ⟨.hbm, 365, rfl⟩
abbrev main_cst_57 : Ref sig .tc := ⟨.hbm, 366, rfl⟩
abbrev main_v256 : Ref sig .tc := ⟨.hbm, 367, rfl⟩
abbrev main_v257 : Ref sig .tc := ⟨.hbm, 368, rfl⟩
abbrev main_v258 : Ref sig .tc := ⟨.hbm, 369, rfl⟩
abbrev main_cst_58 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_cst_59 : Ref sig .tc := ⟨.hbm, 375, rfl⟩
abbrev main_v263 : Ref sig .tc := ⟨.hbm, 376, rfl⟩
abbrev main_cst_60 : Ref sig .tc := ⟨.hbm, 377, rfl⟩
abbrev main_v264 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_cst_61 : Ref sig .tc := ⟨.hbm, 391, rfl⟩
abbrev main_v277 : Ref sig .tc := ⟨.hbm, 392, rfl⟩
abbrev main_cst_62 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_cst_63 : Ref sig .tc := ⟨.hbm, 400, rfl⟩
abbrev main_v284 : Ref sig .tc := ⟨.hbm, 401, rfl⟩
abbrev main_cst_64 : Ref sig .tc := ⟨.hbm, 402, rfl⟩
abbrev main_v285 : Ref sig .tc := ⟨.hbm, 403, rfl⟩
abbrev main_v286 : Ref sig .tc := ⟨.hbm, 404, rfl⟩
abbrev main_cst_65 : Ref sig .tc := ⟨.hbm, 405, rfl⟩
abbrev main_v287 : Ref sig .tc := ⟨.hbm, 406, rfl⟩
abbrev main_v288 : Ref sig .tc := ⟨.hbm, 407, rfl⟩
abbrev main_v289 : Ref sig .tc := ⟨.hbm, 408, rfl⟩
abbrev main_v290 : Ref sig .tc := ⟨.hbm, 409, rfl⟩
abbrev main_v291 : Ref sig .tc := ⟨.hbm, 410, rfl⟩
abbrev main_v292 : Ref sig .tc := ⟨.hbm, 411, rfl⟩
abbrev main_v293 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_v298 : Ref sig .tc := ⟨.hbm, 417, rfl⟩
abbrev main_v299 : Ref sig .tc := ⟨.hbm, 418, rfl⟩
abbrev main_cst_66 : Ref sig .tc := ⟨.hbm, 419, rfl⟩
abbrev main_v300 : Ref sig .tc := ⟨.hbm, 420, rfl⟩
abbrev main_cst_67 : Ref sig .tc := ⟨.hbm, 421, rfl⟩
abbrev main_v301 : Ref sig .tc := ⟨.hbm, 422, rfl⟩
abbrev main_v302 : Ref sig .tc := ⟨.hbm, 423, rfl⟩
abbrev main_v303 : Ref sig .tc := ⟨.hbm, 424, rfl⟩
abbrev main_v304 : Ref sig .tc := ⟨.hbm, 425, rfl⟩
abbrev main_cst_68 : Ref sig .tc := ⟨.hbm, 426, rfl⟩
abbrev main_v305 : Ref sig .tc := ⟨.hbm, 427, rfl⟩
abbrev main_v306 : Ref sig .tc := ⟨.hbm, 428, rfl⟩
abbrev main_v307 : Ref sig .tc := ⟨.hbm, 429, rfl⟩
abbrev main_cst_69 : Ref sig .tc := ⟨.hbm, 430, rfl⟩
abbrev main_v308 : Ref sig .tc := ⟨.hbm, 431, rfl⟩
abbrev main_v309 : Ref sig .tc := ⟨.hbm, 432, rfl⟩
abbrev main_v310 : Ref sig .tc := ⟨.hbm, 433, rfl⟩
abbrev main_v311 : Ref sig .tc := ⟨.hbm, 434, rfl⟩
abbrev main_cst_70 : Ref sig .tc := ⟨.hbm, 435, rfl⟩
abbrev main_v312 : Ref sig .tc := ⟨.hbm, 436, rfl⟩
abbrev main_cst_71 : Ref sig .tc := ⟨.hbm, 437, rfl⟩
abbrev main_v313 : Ref sig .tc := ⟨.hbm, 438, rfl⟩
abbrev main_v314 : Ref sig .tc := ⟨.hbm, 439, rfl⟩
abbrev main_v315 : Ref sig .tc := ⟨.hbm, 440, rfl⟩
abbrev main_v316 : Ref sig .tc := ⟨.hbm, 441, rfl⟩
abbrev main_v317 : Ref sig .tc := ⟨.hbm, 442, rfl⟩
abbrev main_v318 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_v323 : Ref sig .tc := ⟨.hbm, 448, rfl⟩
abbrev main_v324 : Ref sig .tc := ⟨.hbm, 449, rfl⟩
abbrev main_v325 : Ref sig .tc := ⟨.hbm, 450, rfl⟩
abbrev main_cst_72 : Ref sig .tc := ⟨.hbm, 451, rfl⟩
abbrev main_v326 : Ref sig .tc := ⟨.hbm, 452, rfl⟩
abbrev main_cst_73 : Ref sig .tc := ⟨.hbm, 453, rfl⟩
abbrev main_v327 : Ref sig .tc := ⟨.hbm, 454, rfl⟩
abbrev main_v328 : Ref sig .tc := ⟨.hbm, 455, rfl⟩
abbrev main_v329 : Ref sig .tc := ⟨.hbm, 456, rfl⟩
abbrev main_v330 : Ref sig .tc := ⟨.hbm, 457, rfl⟩
abbrev main_v331 : Ref sig .tc := ⟨.hbm, 458, rfl⟩
abbrev main_v332 : Ref sig .tc := ⟨.hbm, 459, rfl⟩
abbrev main_cst_74 : Ref sig .tc := ⟨.hbm, 460, rfl⟩
abbrev main_v333 : Ref sig .tc := ⟨.hbm, 461, rfl⟩
abbrev main_cst_75 : Ref sig .tc := ⟨.hbm, 462, rfl⟩
abbrev main_v334 : Ref sig .tc := ⟨.hbm, 463, rfl⟩
abbrev main_v335 : Ref sig .tc := ⟨.hbm, 464, rfl⟩
abbrev main_cst_76 : Ref sig .tc := ⟨.hbm, 465, rfl⟩
abbrev main_v336 : Ref sig .tc := ⟨.hbm, 466, rfl⟩
abbrev main_v337 : Ref sig .tc := ⟨.hbm, 467, rfl⟩
abbrev main_v338 : Ref sig .tc := ⟨.hbm, 468, rfl⟩
abbrev main_v339 : Ref sig .tc := ⟨.hbm, 469, rfl⟩
abbrev main_v340 : Ref sig .tc := ⟨.hbm, 470, rfl⟩
abbrev main_v341 : Ref sig .tc := ⟨.hbm, 471, rfl⟩
abbrev main_v342 : Ref sig .tc := ⟨.hbm, 472, rfl⟩
abbrev main_v343 : Ref sig .tc := ⟨.hbm, 473, rfl⟩
abbrev main_v344 : Ref sig .tc := ⟨.hbm, 474, rfl⟩
abbrev main_v345 : Ref sig .tc := ⟨.hbm, 475, rfl⟩
abbrev main_v346 : Ref sig .tc := ⟨.hbm, 476, rfl⟩
abbrev main_v347 : Ref sig .tc := ⟨.hbm, 477, rfl⟩
abbrev main_v348 : Ref sig .tc := ⟨.hbm, 478, rfl⟩
abbrev main_cst_77 : Ref sig .tc := ⟨.hbm, 479, rfl⟩
abbrev main_v349 : Ref sig .tc := ⟨.hbm, 480, rfl⟩
abbrev main_cst_78 : Ref sig .tc := ⟨.hbm, 481, rfl⟩
abbrev main_v350 : Ref sig .tc := ⟨.hbm, 482, rfl⟩
abbrev main_v351 : Ref sig .tc := ⟨.hbm, 483, rfl⟩
abbrev main_v352 : Ref sig .tc := ⟨.hbm, 484, rfl⟩
abbrev main_v353 : Ref sig .tc := ⟨.hbm, 485, rfl⟩
abbrev main_cst_79 : Ref sig .tc := ⟨.hbm, 486, rfl⟩
abbrev main_v354 : Ref sig .tc := ⟨.hbm, 487, rfl⟩
abbrev main_v355 : Ref sig .tc := ⟨.hbm, 488, rfl⟩
abbrev main_v356 : Ref sig .tc := ⟨.hbm, 489, rfl⟩
abbrev main_cst_80 : Ref sig .tc := ⟨.hbm, 490, rfl⟩
abbrev main_v357 : Ref sig .tc := ⟨.hbm, 491, rfl⟩
abbrev main_v358 : Ref sig .tc := ⟨.hbm, 492, rfl⟩
abbrev main_v359 : Ref sig .tc := ⟨.hbm, 493, rfl⟩
abbrev main_v360 : Ref sig .tc := ⟨.hbm, 494, rfl⟩
abbrev main_cst_81 : Ref sig .tc := ⟨.hbm, 495, rfl⟩
abbrev main_v361 : Ref sig .tc := ⟨.hbm, 496, rfl⟩
abbrev main_cst_82 : Ref sig .tc := ⟨.hbm, 497, rfl⟩
abbrev main_v362 : Ref sig .tc := ⟨.hbm, 498, rfl⟩
abbrev main_v363 : Ref sig .tc := ⟨.hbm, 499, rfl⟩
abbrev main_v364 : Ref sig .tc := ⟨.hbm, 500, rfl⟩
abbrev main_v365 : Ref sig .tc := ⟨.hbm, 501, rfl⟩
abbrev main_v366 : Ref sig .tc := ⟨.hbm, 502, rfl⟩
abbrev main_v367 : Ref sig .tc := ⟨.hbm, 503, rfl⟩
abbrev main_v368 : Ref sig .tc := ⟨.hbm, 504, rfl⟩
abbrev main_v369 : Ref sig .tc := ⟨.hbm, 505, rfl⟩
abbrev main_v370 : Ref sig .tc := ⟨.hbm, 506, rfl⟩
abbrev main_v371 : Ref sig .tc := ⟨.hbm, 507, rfl⟩
abbrev main_v372 : Ref sig .tc := ⟨.hbm, 508, rfl⟩
abbrev main_v373 : Ref sig .tc := ⟨.hbm, 509, rfl⟩
abbrev main_v374 : Ref sig .tc := ⟨.hbm, 510, rfl⟩
abbrev main_cst_83 : Ref sig .tc := ⟨.hbm, 511, rfl⟩
abbrev main_v375 : Ref sig .tc := ⟨.hbm, 512, rfl⟩
abbrev main_cst_84 : Ref sig .tc := ⟨.hbm, 513, rfl⟩
abbrev main_v376 : Ref sig .tc := ⟨.hbm, 514, rfl⟩
abbrev main_v377 : Ref sig .tc := ⟨.hbm, 515, rfl⟩
abbrev main_v378 : Ref sig .tc := ⟨.hbm, 516, rfl⟩
abbrev main_v379 : Ref sig .tc := ⟨.hbm, 517, rfl⟩
abbrev main_v380 : Ref sig .tc := ⟨.hbm, 518, rfl⟩
abbrev main_v381 : Ref sig .tc := ⟨.hbm, 519, rfl⟩
abbrev main_cst_85 : Ref sig .tc := ⟨.hbm, 520, rfl⟩
abbrev main_v382 : Ref sig .tc := ⟨.hbm, 521, rfl⟩
abbrev main_cst_86 : Ref sig .tc := ⟨.hbm, 522, rfl⟩
abbrev main_v383 : Ref sig .tc := ⟨.hbm, 523, rfl⟩
abbrev main_v384 : Ref sig .tc := ⟨.hbm, 524, rfl⟩
abbrev main_cst_87 : Ref sig .tc := ⟨.hbm, 525, rfl⟩
abbrev main_v385 : Ref sig .tc := ⟨.hbm, 526, rfl⟩
abbrev main_v386 : Ref sig .tc := ⟨.hbm, 527, rfl⟩
abbrev main_v387 : Ref sig .tc := ⟨.hbm, 528, rfl⟩
abbrev main_v388 : Ref sig .tc := ⟨.hbm, 529, rfl⟩
abbrev main_v389 : Ref sig .tc := ⟨.hbm, 530, rfl⟩
abbrev main_v390 : Ref sig .tc := ⟨.hbm, 531, rfl⟩
abbrev main_v391 : Ref sig .tc := ⟨.hbm, 532, rfl⟩
abbrev main_v392 : Ref sig .tc := ⟨.hbm, 533, rfl⟩
abbrev main_v393 : Ref sig .tc := ⟨.hbm, 534, rfl⟩
abbrev main_v394 : Ref sig .tc := ⟨.hbm, 535, rfl⟩
abbrev main_v395 : Ref sig .tc := ⟨.hbm, 536, rfl⟩
abbrev main_v396 : Ref sig .tc := ⟨.hbm, 537, rfl⟩
abbrev main_v397 : Ref sig .tc := ⟨.hbm, 538, rfl⟩
abbrev main_cst_88 : Ref sig .tc := ⟨.hbm, 539, rfl⟩
abbrev main_v398 : Ref sig .tc := ⟨.hbm, 540, rfl⟩
abbrev main_cst_89 : Ref sig .tc := ⟨.hbm, 541, rfl⟩
abbrev main_v399 : Ref sig .tc := ⟨.hbm, 542, rfl⟩
abbrev main_v400 : Ref sig .tc := ⟨.hbm, 543, rfl⟩
abbrev main_v401 : Ref sig .tc := ⟨.hbm, 544, rfl⟩
abbrev main_v402 : Ref sig .tc := ⟨.hbm, 545, rfl⟩
abbrev main_cst_90 : Ref sig .tc := ⟨.hbm, 546, rfl⟩
abbrev main_v403 : Ref sig .tc := ⟨.hbm, 547, rfl⟩
abbrev main_v404 : Ref sig .tc := ⟨.hbm, 548, rfl⟩
abbrev main_v405 : Ref sig .tc := ⟨.hbm, 549, rfl⟩
abbrev main_cst_91 : Ref sig .tc := ⟨.hbm, 550, rfl⟩
abbrev main_v406 : Ref sig .tc := ⟨.hbm, 551, rfl⟩
abbrev main_v407 : Ref sig .tc := ⟨.hbm, 552, rfl⟩
abbrev main_v408 : Ref sig .tc := ⟨.hbm, 553, rfl⟩
abbrev main_v409 : Ref sig .tc := ⟨.hbm, 554, rfl⟩
abbrev main_cst_92 : Ref sig .tc := ⟨.hbm, 555, rfl⟩
abbrev main_v410 : Ref sig .tc := ⟨.hbm, 556, rfl⟩
abbrev main_cst_93 : Ref sig .tc := ⟨.hbm, 557, rfl⟩
abbrev main_v411 : Ref sig .tc := ⟨.hbm, 558, rfl⟩
abbrev main_v412 : Ref sig .tc := ⟨.hbm, 559, rfl⟩
abbrev main_v413 : Ref sig .tc := ⟨.hbm, 560, rfl⟩
abbrev main_v414 : Ref sig .tc := ⟨.hbm, 561, rfl⟩
abbrev main_v415 : Ref sig .tc := ⟨.hbm, 562, rfl⟩
abbrev main_v416 : Ref sig .tc := ⟨.hbm, 563, rfl⟩
abbrev main_v417 : Ref sig .tc := ⟨.hbm, 564, rfl⟩
abbrev main_v418 : Ref sig .tc := ⟨.hbm, 565, rfl⟩
abbrev main_v419 : Ref sig .tc := ⟨.hbm, 566, rfl⟩
abbrev main_v420 : Ref sig .tc := ⟨.hbm, 567, rfl⟩
abbrev main_v421 : Ref sig .tc := ⟨.hbm, 568, rfl⟩
abbrev main_v422 : Ref sig .tc := ⟨.hbm, 569, rfl⟩
abbrev main_v423 : Ref sig .tc := ⟨.hbm, 570, rfl⟩
abbrev main_cst_94 : Ref sig .tc := ⟨.hbm, 571, rfl⟩
abbrev main_v424 : Ref sig .tc := ⟨.hbm, 572, rfl⟩
abbrev main_cst_95 : Ref sig .tc := ⟨.hbm, 573, rfl⟩
abbrev main_v425 : Ref sig .tc := ⟨.hbm, 574, rfl⟩
abbrev main_v426 : Ref sig .tc := ⟨.hbm, 575, rfl⟩
abbrev main_v427 : Ref sig .tc := ⟨.hbm, 576, rfl⟩
abbrev main_v428 : Ref sig .tc := ⟨.hbm, 577, rfl⟩
abbrev main_v429 : Ref sig .tc := ⟨.hbm, 578, rfl⟩
abbrev main_v430 : Ref sig .tc := ⟨.hbm, 579, rfl⟩
abbrev main_cst_96 : Ref sig .tc := ⟨.hbm, 580, rfl⟩
abbrev main_v431 : Ref sig .tc := ⟨.hbm, 581, rfl⟩
abbrev main_cst_97 : Ref sig .tc := ⟨.hbm, 582, rfl⟩
abbrev main_v432 : Ref sig .tc := ⟨.hbm, 583, rfl⟩
abbrev main_v433 : Ref sig .tc := ⟨.hbm, 584, rfl⟩
abbrev main_cst_98 : Ref sig .tc := ⟨.hbm, 585, rfl⟩
abbrev main_v434 : Ref sig .tc := ⟨.hbm, 586, rfl⟩
abbrev main_v435 : Ref sig .tc := ⟨.hbm, 587, rfl⟩
abbrev main_v436 : Ref sig .tc := ⟨.hbm, 588, rfl⟩
abbrev main_v437 : Ref sig .tc := ⟨.hbm, 589, rfl⟩
abbrev main_v438 : Ref sig .tc := ⟨.hbm, 590, rfl⟩
abbrev main_v439 : Ref sig .tc := ⟨.hbm, 591, rfl⟩
abbrev main_v440 : Ref sig .tc := ⟨.hbm, 592, rfl⟩
abbrev main_v441 : Ref sig .tc := ⟨.hbm, 593, rfl⟩
abbrev main_v442 : Ref sig .tc := ⟨.hbm, 594, rfl⟩
abbrev main_v443 : Ref sig .tc := ⟨.hbm, 595, rfl⟩
abbrev main_v444 : Ref sig .tc := ⟨.hbm, 596, rfl⟩
abbrev main_v445 : Ref sig .tc := ⟨.hbm, 597, rfl⟩
abbrev main_v446 : Ref sig .tc := ⟨.hbm, 598, rfl⟩
abbrev main_cst_99 : Ref sig .tc := ⟨.hbm, 599, rfl⟩
abbrev main_v447 : Ref sig .tc := ⟨.hbm, 600, rfl⟩
abbrev main_cst_100 : Ref sig .tc := ⟨.hbm, 601, rfl⟩
abbrev main_v448 : Ref sig .tc := ⟨.hbm, 602, rfl⟩
abbrev main_v449 : Ref sig .tc := ⟨.hbm, 603, rfl⟩
abbrev main_v450 : Ref sig .tc := ⟨.hbm, 604, rfl⟩
abbrev main_v451 : Ref sig .tc := ⟨.hbm, 605, rfl⟩
abbrev main_cst_101 : Ref sig .tc := ⟨.hbm, 606, rfl⟩
abbrev main_v452 : Ref sig .tc := ⟨.hbm, 607, rfl⟩
abbrev main_v453 : Ref sig .tc := ⟨.hbm, 608, rfl⟩
abbrev main_v454 : Ref sig .tc := ⟨.hbm, 609, rfl⟩
abbrev main_cst_102 : Ref sig .tc := ⟨.hbm, 610, rfl⟩
abbrev main_v455 : Ref sig .tc := ⟨.hbm, 611, rfl⟩
abbrev main_v456 : Ref sig .tc := ⟨.hbm, 612, rfl⟩
abbrev main_v457 : Ref sig .tc := ⟨.hbm, 613, rfl⟩
abbrev main_v458 : Ref sig .tc := ⟨.hbm, 614, rfl⟩
abbrev main_v459 : Ref sig .tc := ⟨.hbm, 615, rfl⟩
abbrev main_v460 : Ref sig .tc := ⟨.hbm, 616, rfl⟩
abbrev main_v461 : Ref sig .tc := ⟨.hbm, 617, rfl⟩
abbrev main_v462 : Ref sig .tc := ⟨.hbm, 618, rfl⟩
abbrev main_v463 : Ref sig .tc := ⟨.hbm, 619, rfl⟩
abbrev main_v464 : Ref sig .tc := ⟨.hbm, 620, rfl⟩
abbrev main_cst_103 : Ref sig .tc := ⟨.hbm, 621, rfl⟩
abbrev main_v465 : Ref sig .tc := ⟨.hbm, 622, rfl⟩
abbrev main_v466 : Ref sig .tc := ⟨.hbm, 623, rfl⟩
abbrev main_v467 : Ref sig .tc := ⟨.hbm, 624, rfl⟩
abbrev main_cst_104 : Ref sig .tc := ⟨.hbm, 625, rfl⟩
abbrev main_v468 : Ref sig .tc := ⟨.hbm, 626, rfl⟩
abbrev main_v469 : Ref sig .tc := ⟨.hbm, 627, rfl⟩
abbrev main_v470 : Ref sig .tc := ⟨.hbm, 628, rfl⟩
abbrev main_v471 : Ref sig .tc := ⟨.hbm, 629, rfl⟩
abbrev main_v472 : Ref sig .tc := ⟨.hbm, 630, rfl⟩
abbrev main_cst_105 : Ref sig .tc := ⟨.hbm, 631, rfl⟩
abbrev main_v473 : Ref sig .tc := ⟨.hbm, 632, rfl⟩
abbrev main_v474 : Ref sig .tc := ⟨.hbm, 633, rfl⟩
abbrev main_v475 : Ref sig .tc := ⟨.hbm, 634, rfl⟩
abbrev main_cst_106 : Ref sig .tc := ⟨.hbm, 635, rfl⟩
abbrev main_v476 : Ref sig .tc := ⟨.hbm, 636, rfl⟩
abbrev main_v477 : Ref sig .tc := ⟨.hbm, 637, rfl⟩
abbrev main_v478 : Ref sig .tc := ⟨.hbm, 638, rfl⟩
abbrev main_v479 : Ref sig .tc := ⟨.hbm, 639, rfl⟩
abbrev main_v480 : Ref sig .tc := ⟨.hbm, 640, rfl⟩
abbrev main_v481 : Ref sig .tc := ⟨.hbm, 641, rfl⟩
abbrev main_v482 : Ref sig .tc := ⟨.hbm, 642, rfl⟩
abbrev main_v483 : Ref sig .tc := ⟨.hbm, 643, rfl⟩
abbrev main_v484 : Ref sig .tc := ⟨.hbm, 644, rfl⟩
abbrev main_v485 : Ref sig .tc := ⟨.hbm, 645, rfl⟩
abbrev main_cst_107 : Ref sig .tc := ⟨.hbm, 646, rfl⟩
abbrev main_v486 : Ref sig .tc := ⟨.hbm, 647, rfl⟩
abbrev main_v487 : Ref sig .tc := ⟨.hbm, 648, rfl⟩
abbrev main_cst_108 : Ref sig .tc := ⟨.hbm, 649, rfl⟩
abbrev main_v488 : Ref sig .tc := ⟨.hbm, 650, rfl⟩
abbrev main_cst_109 : Ref sig .tc := ⟨.hbm, 651, rfl⟩
abbrev main_v489 : Ref sig .tc := ⟨.hbm, 652, rfl⟩
abbrev main_v490 : Ref sig .tc := ⟨.hbm, 653, rfl⟩
abbrev main_v491 : Ref sig .tc := ⟨.hbm, 654, rfl⟩
abbrev main_v492 : Ref sig .tc := ⟨.hbm, 655, rfl⟩
abbrev main_v493 : Ref sig .tc := ⟨.hbm, 656, rfl⟩
abbrev main_v494 : Ref sig .tc := ⟨.hbm, 657, rfl⟩
abbrev main_cst_110 : Ref sig .tc := ⟨.hbm, 658, rfl⟩
abbrev main_v495 : Ref sig .tc := ⟨.hbm, 659, rfl⟩
abbrev main_v496 : Ref sig .tc := ⟨.hbm, 660, rfl⟩
abbrev main_v497 : Ref sig .tc := ⟨.hbm, 661, rfl⟩
abbrev main_v498 : Ref sig .tc := ⟨.hbm, 662, rfl⟩
abbrev main_cst_111 : Ref sig .tc := ⟨.hbm, 663, rfl⟩
abbrev main_v499 : Ref sig .tc := ⟨.hbm, 664, rfl⟩
abbrev main_v500 : Ref sig .tc := ⟨.hbm, 665, rfl⟩
abbrev main_v501 : Ref sig .tc := ⟨.hbm, 666, rfl⟩
abbrev main_v502 : Ref sig .tc := ⟨.hbm, 667, rfl⟩
abbrev main_cst_112 : Ref sig .tc := ⟨.hbm, 668, rfl⟩
abbrev main_v503 : Ref sig .tc := ⟨.hbm, 669, rfl⟩
abbrev main_cst_113 : Ref sig .tc := ⟨.hbm, 670, rfl⟩
abbrev main_v504 : Ref sig .tc := ⟨.hbm, 671, rfl⟩
abbrev main_cst_114 : Ref sig .tc := ⟨.hbm, 672, rfl⟩
abbrev main_v505 : Ref sig .tc := ⟨.hbm, 673, rfl⟩
abbrev main_v506 : Ref sig .tc := ⟨.hbm, 674, rfl⟩
abbrev main_cst_115 : Ref sig .tc := ⟨.hbm, 675, rfl⟩
abbrev main_v507 : Ref sig .tc := ⟨.hbm, 676, rfl⟩
abbrev main_cst_116 : Ref sig .tc := ⟨.hbm, 677, rfl⟩
abbrev main_v508 : Ref sig .tc := ⟨.hbm, 678, rfl⟩
abbrev main_cst_117 : Ref sig .tc := ⟨.hbm, 679, rfl⟩
abbrev main_v509 : Ref sig .tc := ⟨.hbm, 680, rfl⟩
abbrev main_v510 : Ref sig .tc := ⟨.hbm, 681, rfl⟩
abbrev main_v511 : Ref sig .tc := ⟨.hbm, 682, rfl⟩
abbrev main_v512 : Ref sig .tc := ⟨.hbm, 683, rfl⟩
abbrev main_v513 : Ref sig .tc := ⟨.hbm, 684, rfl⟩
abbrev main_cst_118 : Ref sig .tc := ⟨.hbm, 685, rfl⟩
abbrev main_v514 : Ref sig .tc := ⟨.hbm, 686, rfl⟩
abbrev main_v515 : Ref sig .tc := ⟨.hbm, 687, rfl⟩
abbrev main_v516 : Ref sig .tc := ⟨.hbm, 688, rfl⟩
abbrev main_v517 : Ref sig .tc := ⟨.hbm, 689, rfl⟩
abbrev main_cst_119 : Ref sig .tc := ⟨.hbm, 690, rfl⟩
abbrev main_v518 : Ref sig .tc := ⟨.hbm, 691, rfl⟩
abbrev main_v519 : Ref sig .tc := ⟨.hbm, 692, rfl⟩
abbrev main_cst_120 : Ref sig .tc := ⟨.hbm, 693, rfl⟩
abbrev main_v520 : Ref sig .tc := ⟨.hbm, 694, rfl⟩
abbrev main_v521 : Ref sig .tc := ⟨.hbm, 695, rfl⟩
abbrev main_v522 : Ref sig .tc := ⟨.hbm, 696, rfl⟩
abbrev main_v523 : Ref sig .tc := ⟨.hbm, 697, rfl⟩
abbrev main_v524 : Ref sig .tc := ⟨.hbm, 698, rfl⟩
abbrev main_cst_121 : Ref sig .tc := ⟨.hbm, 699, rfl⟩
abbrev main_v525 : Ref sig .tc := ⟨.hbm, 700, rfl⟩
abbrev main_v526 : Ref sig .tc := ⟨.hbm, 701, rfl⟩
abbrev main_cst_122 : Ref sig .tc := ⟨.hbm, 702, rfl⟩
abbrev main_v527 : Ref sig .tc := ⟨.hbm, 703, rfl⟩
abbrev main_v528 : Ref sig .tc := ⟨.hbm, 704, rfl⟩
abbrev main_cst_123 : Ref sig .tc := ⟨.hbm, 705, rfl⟩
abbrev main_v529 : Ref sig .tc := ⟨.hbm, 706, rfl⟩
abbrev main_v530 : Ref sig .tc := ⟨.hbm, 707, rfl⟩
abbrev main_v531 : Ref sig .tc := ⟨.hbm, 708, rfl⟩
abbrev main_v532 : Ref sig .tc := ⟨.hbm, 709, rfl⟩
abbrev main_v533 : Ref sig .tc := ⟨.hbm, 710, rfl⟩
abbrev main_v534 : Ref sig .tc := ⟨.hbm, 711, rfl⟩
abbrev main_v535 : Ref sig .tc := ⟨.hbm, 712, rfl⟩
abbrev main_v536 : Ref sig .tc := ⟨.hbm, 713, rfl⟩
abbrev main_v537 : Ref sig .tc := ⟨.hbm, 714, rfl⟩
abbrev main_v538 : Ref sig .tc := ⟨.hbm, 715, rfl⟩
abbrev main_v539 : Ref sig .tc := ⟨.hbm, 716, rfl⟩
abbrev main_v540 : Ref sig .tc := ⟨.hbm, 717, rfl⟩
abbrev main_v541 : Ref sig .tc := ⟨.hbm, 718, rfl⟩
abbrev main_v542 : Ref sig .tc := ⟨.hbm, 719, rfl⟩
abbrev main_v543 : Ref sig .tc := ⟨.hbm, 720, rfl⟩
abbrev main_v544 : Ref sig .tc := ⟨.hbm, 721, rfl⟩
abbrev main_v545 : Ref sig .tc := ⟨.hbm, 722, rfl⟩
abbrev main_v546 : Ref sig .tc := ⟨.hbm, 723, rfl⟩
abbrev main_v547 : Ref sig .tc := ⟨.hbm, 724, rfl⟩
abbrev main_cst_124 : Ref sig .tc := ⟨.hbm, 725, rfl⟩
abbrev main_v548 : Ref sig .tc := ⟨.hbm, 726, rfl⟩
abbrev main_v549 : Ref sig .tc := ⟨.hbm, 727, rfl⟩
abbrev main_cst_125 : Ref sig .tc := ⟨.hbm, 728, rfl⟩
abbrev main_v550 : Ref sig .tc := ⟨.hbm, 729, rfl⟩
abbrev main_v551 : Ref sig .tc := ⟨.hbm, 730, rfl⟩
abbrev main_v552 : Ref sig .tc := ⟨.hbm, 731, rfl⟩
abbrev main_cst_126 : Ref sig .tc := ⟨.hbm, 732, rfl⟩
abbrev main_v553 : Ref sig .tc := ⟨.hbm, 733, rfl⟩
abbrev main_v554 : Ref sig .tc := ⟨.hbm, 734, rfl⟩
abbrev main_v555 : Ref sig .tc := ⟨.hbm, 735, rfl⟩
abbrev main_cst_127 : Ref sig .tc := ⟨.hbm, 736, rfl⟩
abbrev main_v556 : Ref sig .tc := ⟨.hbm, 737, rfl⟩
abbrev main_cst_128 : Ref sig .tc := ⟨.hbm, 738, rfl⟩
abbrev main_v557 : Ref sig .tc := ⟨.hbm, 739, rfl⟩
abbrev main_v558 : Ref sig .tc := ⟨.hbm, 740, rfl⟩
abbrev main_v559 : Ref sig .tc := ⟨.hbm, 741, rfl⟩
abbrev main_cst_129 : Ref sig .tc := ⟨.hbm, 742, rfl⟩
abbrev main_v560 : Ref sig .tc := ⟨.hbm, 743, rfl⟩
abbrev main_cst_130 : Ref sig .tc := ⟨.hbm, 744, rfl⟩
abbrev main_v561 : Ref sig .tc := ⟨.hbm, 745, rfl⟩
abbrev main_v562 : Ref sig .tc := ⟨.hbm, 746, rfl⟩
abbrev main_cst_131 : Ref sig .tc := ⟨.hbm, 747, rfl⟩
abbrev main_v563 : Ref sig .tc := ⟨.hbm, 748, rfl⟩
abbrev main_v564 : Ref sig .tc := ⟨.hbm, 749, rfl⟩
abbrev main_cst_132 : Ref sig .tc := ⟨.hbm, 750, rfl⟩
abbrev main_v565 : Ref sig .tc := ⟨.hbm, 751, rfl⟩
abbrev main_v566 : Ref sig .tc := ⟨.hbm, 752, rfl⟩
abbrev main_v567 : Ref sig .tc := ⟨.hbm, 753, rfl⟩
abbrev main_v568 : Ref sig .tc := ⟨.hbm, 754, rfl⟩
abbrev main_v569 : Ref sig .tc := ⟨.hbm, 755, rfl⟩
abbrev main_v570 : Ref sig .tc := ⟨.hbm, 756, rfl⟩
abbrev main_v571 : Ref sig .tc := ⟨.hbm, 757, rfl⟩
abbrev main_cst_133 : Ref sig .tc := ⟨.hbm, 758, rfl⟩
abbrev main_v572 : Ref sig .tc := ⟨.hbm, 759, rfl⟩
abbrev main_cst_134 : Ref sig .tc := ⟨.hbm, 760, rfl⟩
abbrev main_v573 : Ref sig .tc := ⟨.hbm, 761, rfl⟩
abbrev main_cst_135 : Ref sig .tc := ⟨.hbm, 762, rfl⟩
abbrev main_v574 : Ref sig .tc := ⟨.hbm, 763, rfl⟩
abbrev main_v575 : Ref sig .tc := ⟨.hbm, 764, rfl⟩
abbrev main_v576 : Ref sig .tc := ⟨.hbm, 765, rfl⟩
abbrev main_v577 : Ref sig .tc := ⟨.hbm, 766, rfl⟩
abbrev main_v578 : Ref sig .tc := ⟨.hbm, 767, rfl⟩
abbrev main_cst_136 : Ref sig .tc := ⟨.hbm, 768, rfl⟩
abbrev main_v579 : Ref sig .tc := ⟨.hbm, 769, rfl⟩
abbrev main_v580 : Ref sig .tc := ⟨.hbm, 770, rfl⟩
abbrev main_cst_137 : Ref sig .tc := ⟨.hbm, 771, rfl⟩
abbrev main_v581 : Ref sig .tc := ⟨.hbm, 772, rfl⟩
abbrev main_v582 : Ref sig .tc := ⟨.hbm, 773, rfl⟩
abbrev main_v583 : Ref sig .tc := ⟨.hbm, 774, rfl⟩
abbrev main_v584 : Ref sig .tc := ⟨.hbm, 775, rfl⟩
abbrev main_v585 : Ref sig .tc := ⟨.hbm, 776, rfl⟩
abbrev main_cst_138 : Ref sig .tc := ⟨.hbm, 777, rfl⟩
abbrev main_v586 : Ref sig .tc := ⟨.hbm, 778, rfl⟩
abbrev main_v587 : Ref sig .tc := ⟨.hbm, 779, rfl⟩
abbrev main_cst_139 : Ref sig .tc := ⟨.hbm, 780, rfl⟩
abbrev main_v588 : Ref sig .tc := ⟨.hbm, 781, rfl⟩
abbrev main_v589 : Ref sig .tc := ⟨.hbm, 782, rfl⟩
abbrev main_cst_140 : Ref sig .tc := ⟨.hbm, 783, rfl⟩
abbrev main_v590 : Ref sig .tc := ⟨.hbm, 784, rfl⟩
abbrev main_v591 : Ref sig .tc := ⟨.hbm, 785, rfl⟩
abbrev main_v592 : Ref sig .tc := ⟨.hbm, 786, rfl⟩
abbrev main_v593 : Ref sig .tc := ⟨.hbm, 787, rfl⟩
abbrev main_v594 : Ref sig .tc := ⟨.hbm, 788, rfl⟩
abbrev main_v595 : Ref sig .tc := ⟨.hbm, 789, rfl⟩
abbrev main_v596 : Ref sig .tc := ⟨.hbm, 790, rfl⟩
abbrev main_v597 : Ref sig .tc := ⟨.hbm, 791, rfl⟩
abbrev main_v598 : Ref sig .tc := ⟨.hbm, 792, rfl⟩
abbrev main_v599 : Ref sig .tc := ⟨.hbm, 793, rfl⟩
abbrev main_v600 : Ref sig .tc := ⟨.hbm, 794, rfl⟩
abbrev main_v601 : Ref sig .tc := ⟨.hbm, 795, rfl⟩
abbrev main_v602 : Ref sig .tc := ⟨.hbm, 796, rfl⟩
abbrev main_v603 : Ref sig .tc := ⟨.hbm, 797, rfl⟩
abbrev main_v604 : Ref sig .tc := ⟨.hbm, 798, rfl⟩
abbrev main_v605 : Ref sig .tc := ⟨.hbm, 799, rfl⟩
abbrev main_v606 : Ref sig .tc := ⟨.hbm, 800, rfl⟩
abbrev main_v607 : Ref sig .tc := ⟨.hbm, 801, rfl⟩
abbrev main_v608 : Ref sig .tc := ⟨.hbm, 802, rfl⟩
abbrev main_cst_141 : Ref sig .tc := ⟨.hbm, 803, rfl⟩
abbrev main_v609 : Ref sig .tc := ⟨.hbm, 804, rfl⟩
abbrev main_v610 : Ref sig .tc := ⟨.hbm, 805, rfl⟩
abbrev main_cst_142 : Ref sig .tc := ⟨.hbm, 806, rfl⟩
abbrev main_v611 : Ref sig .tc := ⟨.hbm, 807, rfl⟩
abbrev main_v612 : Ref sig .tc := ⟨.hbm, 808, rfl⟩
abbrev main_v613 : Ref sig .tc := ⟨.hbm, 809, rfl⟩
abbrev main_cst_143 : Ref sig .tc := ⟨.hbm, 810, rfl⟩
abbrev main_v614 : Ref sig .tc := ⟨.hbm, 811, rfl⟩
abbrev main_v615 : Ref sig .tc := ⟨.hbm, 812, rfl⟩
abbrev main_v616 : Ref sig .tc := ⟨.hbm, 813, rfl⟩
abbrev main_cst_144 : Ref sig .tc := ⟨.hbm, 814, rfl⟩
abbrev main_v617 : Ref sig .tc := ⟨.hbm, 815, rfl⟩
abbrev main_cst_145 : Ref sig .tc := ⟨.hbm, 816, rfl⟩
abbrev main_v618 : Ref sig .tc := ⟨.hbm, 817, rfl⟩
abbrev main_v619 : Ref sig .tc := ⟨.hbm, 818, rfl⟩
abbrev main_v620 : Ref sig .tc := ⟨.hbm, 819, rfl⟩
abbrev main_cst_146 : Ref sig .tc := ⟨.hbm, 820, rfl⟩
abbrev main_v621 : Ref sig .tc := ⟨.hbm, 821, rfl⟩
abbrev main_cst_147 : Ref sig .tc := ⟨.hbm, 822, rfl⟩
abbrev main_v622 : Ref sig .tc := ⟨.hbm, 823, rfl⟩
abbrev main_v623 : Ref sig .tc := ⟨.hbm, 824, rfl⟩
abbrev main_cst_148 : Ref sig .tc := ⟨.hbm, 825, rfl⟩
abbrev main_v624 : Ref sig .tc := ⟨.hbm, 826, rfl⟩
abbrev main_v625 : Ref sig .tc := ⟨.hbm, 827, rfl⟩
abbrev main_cst_149 : Ref sig .tc := ⟨.hbm, 828, rfl⟩
abbrev main_v626 : Ref sig .tc := ⟨.hbm, 829, rfl⟩
abbrev main_v627 : Ref sig .tc := ⟨.hbm, 830, rfl⟩
abbrev main_v628 : Ref sig .tc := ⟨.hbm, 831, rfl⟩
abbrev main_v629 : Ref sig .tc := ⟨.hbm, 832, rfl⟩
abbrev main_v630 : Ref sig .tc := ⟨.hbm, 833, rfl⟩
abbrev main_v631 : Ref sig .tc := ⟨.hbm, 834, rfl⟩
abbrev main_v632 : Ref sig .tc := ⟨.hbm, 835, rfl⟩
abbrev main_cst_150 : Ref sig .tc := ⟨.hbm, 836, rfl⟩
abbrev main_v633 : Ref sig .tc := ⟨.hbm, 837, rfl⟩
abbrev main_cst_151 : Ref sig .tc := ⟨.hbm, 838, rfl⟩
abbrev main_v634 : Ref sig .tc := ⟨.hbm, 839, rfl⟩
abbrev main_cst_152 : Ref sig .tc := ⟨.hbm, 840, rfl⟩
abbrev main_v635 : Ref sig .tc := ⟨.hbm, 841, rfl⟩
abbrev main_v636 : Ref sig .tc := ⟨.hbm, 842, rfl⟩
abbrev main_v637 : Ref sig .tc := ⟨.hbm, 843, rfl⟩
abbrev main_v638 : Ref sig .tc := ⟨.hbm, 844, rfl⟩
abbrev main_v639 : Ref sig .tc := ⟨.hbm, 845, rfl⟩
abbrev main_cst_153 : Ref sig .tc := ⟨.hbm, 846, rfl⟩
abbrev main_v640 : Ref sig .tc := ⟨.hbm, 847, rfl⟩
abbrev main_v641 : Ref sig .tc := ⟨.hbm, 848, rfl⟩
abbrev main_cst_154 : Ref sig .tc := ⟨.hbm, 849, rfl⟩
abbrev main_v642 : Ref sig .tc := ⟨.hbm, 850, rfl⟩
abbrev main_v643 : Ref sig .tc := ⟨.hbm, 851, rfl⟩
abbrev main_v644 : Ref sig .tc := ⟨.hbm, 852, rfl⟩
abbrev main_v645 : Ref sig .tc := ⟨.hbm, 853, rfl⟩
abbrev main_v646 : Ref sig .tc := ⟨.hbm, 854, rfl⟩
abbrev main_cst_155 : Ref sig .tc := ⟨.hbm, 855, rfl⟩
abbrev main_v647 : Ref sig .tc := ⟨.hbm, 856, rfl⟩
abbrev main_v648 : Ref sig .tc := ⟨.hbm, 857, rfl⟩
abbrev main_cst_156 : Ref sig .tc := ⟨.hbm, 858, rfl⟩
abbrev main_v649 : Ref sig .tc := ⟨.hbm, 859, rfl⟩
abbrev main_v650 : Ref sig .tc := ⟨.hbm, 860, rfl⟩
abbrev main_cst_157 : Ref sig .tc := ⟨.hbm, 861, rfl⟩
abbrev main_v651 : Ref sig .tc := ⟨.hbm, 862, rfl⟩
abbrev main_v652 : Ref sig .tc := ⟨.hbm, 863, rfl⟩
abbrev main_v653 : Ref sig .tc := ⟨.hbm, 864, rfl⟩
abbrev main_v654 : Ref sig .tc := ⟨.hbm, 865, rfl⟩
abbrev main_v655 : Ref sig .tc := ⟨.hbm, 866, rfl⟩
abbrev main_v656 : Ref sig .tc := ⟨.hbm, 867, rfl⟩
abbrev main_v657 : Ref sig .tc := ⟨.hbm, 868, rfl⟩
abbrev main_v658 : Ref sig .tc := ⟨.hbm, 869, rfl⟩
abbrev main_v659 : Ref sig .tc := ⟨.hbm, 870, rfl⟩
abbrev main_v660 : Ref sig .tc := ⟨.hbm, 871, rfl⟩
abbrev main_v661 : Ref sig .tc := ⟨.hbm, 872, rfl⟩
abbrev main_v662 : Ref sig .tc := ⟨.hbm, 873, rfl⟩
abbrev main_v663 : Ref sig .tc := ⟨.hbm, 874, rfl⟩
abbrev main_v664 : Ref sig .tc := ⟨.hbm, 875, rfl⟩
abbrev main_v665 : Ref sig .tc := ⟨.hbm, 876, rfl⟩
abbrev main_v666 : Ref sig .tc := ⟨.hbm, 877, rfl⟩
abbrev main_v667 : Ref sig .tc := ⟨.hbm, 878, rfl⟩
abbrev main_v668 : Ref sig .tc := ⟨.hbm, 879, rfl⟩
abbrev main_v669 : Ref sig .tc := ⟨.hbm, 880, rfl⟩
abbrev main_cst_158 : Ref sig .tc := ⟨.hbm, 881, rfl⟩
abbrev main_v670 : Ref sig .tc := ⟨.hbm, 882, rfl⟩
abbrev main_v671 : Ref sig .tc := ⟨.hbm, 883, rfl⟩
abbrev main_cst_159 : Ref sig .tc := ⟨.hbm, 884, rfl⟩
abbrev main_v672 : Ref sig .tc := ⟨.hbm, 885, rfl⟩
abbrev main_v673 : Ref sig .tc := ⟨.hbm, 886, rfl⟩
abbrev main_v674 : Ref sig .tc := ⟨.hbm, 887, rfl⟩
abbrev main_cst_160 : Ref sig .tc := ⟨.hbm, 888, rfl⟩
abbrev main_v675 : Ref sig .tc := ⟨.hbm, 889, rfl⟩
abbrev main_v676 : Ref sig .tc := ⟨.hbm, 890, rfl⟩
abbrev main_v677 : Ref sig .tc := ⟨.hbm, 891, rfl⟩
abbrev main_cst_161 : Ref sig .tc := ⟨.hbm, 892, rfl⟩
abbrev main_v678 : Ref sig .tc := ⟨.hbm, 893, rfl⟩
abbrev main_cst_162 : Ref sig .tc := ⟨.hbm, 894, rfl⟩
abbrev main_v679 : Ref sig .tc := ⟨.hbm, 895, rfl⟩
abbrev main_v680 : Ref sig .tc := ⟨.hbm, 896, rfl⟩
abbrev main_v681 : Ref sig .tc := ⟨.hbm, 897, rfl⟩
abbrev main_cst_163 : Ref sig .tc := ⟨.hbm, 898, rfl⟩
abbrev main_v682 : Ref sig .tc := ⟨.hbm, 899, rfl⟩
abbrev main_cst_164 : Ref sig .tc := ⟨.hbm, 900, rfl⟩
abbrev main_v683 : Ref sig .tc := ⟨.hbm, 901, rfl⟩
abbrev main_v684 : Ref sig .tc := ⟨.hbm, 902, rfl⟩
abbrev main_cst_165 : Ref sig .tc := ⟨.hbm, 903, rfl⟩
abbrev main_v685 : Ref sig .tc := ⟨.hbm, 904, rfl⟩
abbrev main_v686 : Ref sig .tc := ⟨.hbm, 905, rfl⟩
abbrev main_cst_166 : Ref sig .tc := ⟨.hbm, 906, rfl⟩
abbrev main_v687 : Ref sig .tc := ⟨.hbm, 907, rfl⟩
abbrev main_v688 : Ref sig .tc := ⟨.hbm, 908, rfl⟩
abbrev main_v689 : Ref sig .tc := ⟨.hbm, 909, rfl⟩
abbrev main_v690 : Ref sig .tc := ⟨.hbm, 910, rfl⟩
abbrev main_v691 : Ref sig .tc := ⟨.hbm, 911, rfl⟩
abbrev main_v692 : Ref sig .tc := ⟨.hbm, 912, rfl⟩
abbrev main_v693 : Ref sig .tc := ⟨.hbm, 913, rfl⟩
abbrev main_cst_167 : Ref sig .tc := ⟨.hbm, 914, rfl⟩
abbrev main_v694 : Ref sig .tc := ⟨.hbm, 915, rfl⟩
abbrev main_cst_168 : Ref sig .tc := ⟨.hbm, 916, rfl⟩
abbrev main_v695 : Ref sig .tc := ⟨.hbm, 917, rfl⟩
abbrev main_cst_169 : Ref sig .tc := ⟨.hbm, 918, rfl⟩
abbrev main_v696 : Ref sig .tc := ⟨.hbm, 919, rfl⟩
abbrev main_v697 : Ref sig .tc := ⟨.hbm, 920, rfl⟩
abbrev main_v698 : Ref sig .tc := ⟨.hbm, 921, rfl⟩
abbrev main_v699 : Ref sig .tc := ⟨.hbm, 922, rfl⟩
abbrev main_v700 : Ref sig .tc := ⟨.hbm, 923, rfl⟩
abbrev main_cst_170 : Ref sig .tc := ⟨.hbm, 924, rfl⟩
abbrev main_v701 : Ref sig .tc := ⟨.hbm, 925, rfl⟩
abbrev main_v702 : Ref sig .tc := ⟨.hbm, 926, rfl⟩
abbrev main_cst_171 : Ref sig .tc := ⟨.hbm, 927, rfl⟩
abbrev main_v703 : Ref sig .tc := ⟨.hbm, 928, rfl⟩
abbrev main_v704 : Ref sig .tc := ⟨.hbm, 929, rfl⟩
abbrev main_v705 : Ref sig .tc := ⟨.hbm, 930, rfl⟩
abbrev main_v706 : Ref sig .tc := ⟨.hbm, 931, rfl⟩
abbrev main_v707 : Ref sig .tc := ⟨.hbm, 932, rfl⟩
abbrev main_cst_172 : Ref sig .tc := ⟨.hbm, 933, rfl⟩
abbrev main_v708 : Ref sig .tc := ⟨.hbm, 934, rfl⟩
abbrev main_v709 : Ref sig .tc := ⟨.hbm, 935, rfl⟩
abbrev main_cst_173 : Ref sig .tc := ⟨.hbm, 936, rfl⟩
abbrev main_v710 : Ref sig .tc := ⟨.hbm, 937, rfl⟩
abbrev main_v711 : Ref sig .tc := ⟨.hbm, 938, rfl⟩
abbrev main_cst_174 : Ref sig .tc := ⟨.hbm, 939, rfl⟩
abbrev main_v712 : Ref sig .tc := ⟨.hbm, 940, rfl⟩
abbrev main_v713 : Ref sig .tc := ⟨.hbm, 941, rfl⟩
abbrev main_v714 : Ref sig .tc := ⟨.hbm, 942, rfl⟩
abbrev main_v715 : Ref sig .tc := ⟨.hbm, 943, rfl⟩
abbrev main_v716 : Ref sig .tc := ⟨.hbm, 944, rfl⟩
abbrev main_v717 : Ref sig .tc := ⟨.hbm, 945, rfl⟩
abbrev main_v718 : Ref sig .tc := ⟨.hbm, 946, rfl⟩
abbrev main_v719 : Ref sig .tc := ⟨.hbm, 947, rfl⟩
abbrev main_v720 : Ref sig .tc := ⟨.hbm, 948, rfl⟩
abbrev main_v721 : Ref sig .tc := ⟨.hbm, 949, rfl⟩
abbrev main_v722 : Ref sig .tc := ⟨.hbm, 950, rfl⟩
abbrev main_v723 : Ref sig .tc := ⟨.hbm, 951, rfl⟩
abbrev main_v724 : Ref sig .tc := ⟨.hbm, 952, rfl⟩
abbrev main_v725 : Ref sig .tc := ⟨.hbm, 953, rfl⟩
abbrev main_v726 : Ref sig .tc := ⟨.hbm, 954, rfl⟩
abbrev main_v727 : Ref sig .tc := ⟨.hbm, 955, rfl⟩
abbrev main_v728 : Ref sig .tc := ⟨.hbm, 956, rfl⟩
abbrev main_v729 : Ref sig .tc := ⟨.hbm, 957, rfl⟩
abbrev main_v730 : Ref sig .tc := ⟨.hbm, 958, rfl⟩
abbrev main_cst_175 : Ref sig .tc := ⟨.hbm, 959, rfl⟩
abbrev main_v731 : Ref sig .tc := ⟨.hbm, 960, rfl⟩
abbrev main_v732 : Ref sig .tc := ⟨.hbm, 961, rfl⟩
abbrev main_cst_176 : Ref sig .tc := ⟨.hbm, 962, rfl⟩
abbrev main_v733 : Ref sig .tc := ⟨.hbm, 963, rfl⟩
abbrev main_v734 : Ref sig .tc := ⟨.hbm, 964, rfl⟩
abbrev main_v735 : Ref sig .tc := ⟨.hbm, 965, rfl⟩
abbrev main_cst_177 : Ref sig .tc := ⟨.hbm, 966, rfl⟩
abbrev main_v736 : Ref sig .tc := ⟨.hbm, 967, rfl⟩
abbrev main_v737 : Ref sig .tc := ⟨.hbm, 968, rfl⟩
abbrev main_v738 : Ref sig .tc := ⟨.hbm, 969, rfl⟩
abbrev main_cst_178 : Ref sig .tc := ⟨.hbm, 970, rfl⟩
abbrev main_v739 : Ref sig .tc := ⟨.hbm, 971, rfl⟩
abbrev main_cst_179 : Ref sig .tc := ⟨.hbm, 972, rfl⟩
abbrev main_v740 : Ref sig .tc := ⟨.hbm, 973, rfl⟩
abbrev main_v741 : Ref sig .tc := ⟨.hbm, 974, rfl⟩
abbrev main_v742 : Ref sig .tc := ⟨.hbm, 975, rfl⟩
abbrev main_cst_180 : Ref sig .tc := ⟨.hbm, 976, rfl⟩
abbrev main_v743 : Ref sig .tc := ⟨.hbm, 977, rfl⟩
abbrev main_cst_181 : Ref sig .tc := ⟨.hbm, 978, rfl⟩
abbrev main_v744 : Ref sig .tc := ⟨.hbm, 979, rfl⟩
abbrev main_v745 : Ref sig .tc := ⟨.hbm, 980, rfl⟩
abbrev main_cst_182 : Ref sig .tc := ⟨.hbm, 981, rfl⟩
abbrev main_v746 : Ref sig .tc := ⟨.hbm, 982, rfl⟩
abbrev main_v747 : Ref sig .tc := ⟨.hbm, 983, rfl⟩
abbrev main_cst_183 : Ref sig .tc := ⟨.hbm, 984, rfl⟩
abbrev main_v748 : Ref sig .tc := ⟨.hbm, 985, rfl⟩
abbrev main_v749 : Ref sig .tc := ⟨.hbm, 986, rfl⟩
abbrev main_v750 : Ref sig .tc := ⟨.hbm, 987, rfl⟩
abbrev main_v751 : Ref sig .tc := ⟨.hbm, 988, rfl⟩
abbrev main_v752 : Ref sig .tc := ⟨.hbm, 989, rfl⟩
abbrev main_v753 : Ref sig .tc := ⟨.hbm, 990, rfl⟩
abbrev main_v754 : Ref sig .tc := ⟨.hbm, 991, rfl⟩
abbrev main_cst_184 : Ref sig .tc := ⟨.hbm, 992, rfl⟩
abbrev main_v755 : Ref sig .tc := ⟨.hbm, 993, rfl⟩
abbrev main_cst_185 : Ref sig .tc := ⟨.hbm, 994, rfl⟩
abbrev main_v756 : Ref sig .tc := ⟨.hbm, 995, rfl⟩
abbrev main_cst_186 : Ref sig .tc := ⟨.hbm, 996, rfl⟩
abbrev main_v757 : Ref sig .tc := ⟨.hbm, 997, rfl⟩
abbrev main_v758 : Ref sig .tc := ⟨.hbm, 998, rfl⟩
abbrev main_v759 : Ref sig .tc := ⟨.hbm, 999, rfl⟩
abbrev main_v760 : Ref sig .tc := ⟨.hbm, 1000, rfl⟩
abbrev main_v761 : Ref sig .tc := ⟨.hbm, 1001, rfl⟩

abbrev nD : Nat := 1
abbrev τ : Topo := Topo.v7x

variable {F : FTy → Type} [FloatOps F]
-- ==== Proof.Reads.lean ====
/-
  Running a program that only reads: what each load gives, and how the loads of a long straight program add up, with all
  that the core holds kept in one opaque assertion.
-/
module

public import Idealize.ShloMosaic.Lib.Pipeline.FrameBody
public import Idealize.ShloMosaic.Lib.Tactic

@[expose] public section

namespace Cert.Reads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

variable {defs : Defs nD τ sig Val Λ} {c : Thread nD τ} {E : Set ℕ} {J : sProp (MT nD τ sig Unit Val ℕ U ℕ)} {α β : Type}
variable {sp : Space} {s : Shape} {e : EltTy}

/-- Among what `I` holds is the buffer `m` at contents `X`, which can be taken out and put back. -/
def Holds (I : sProp 𝕄) (m : Memref sig c.2.kind sp s e) (X : s.Idx → Val e) : Prop :=
  I ⊢ iprop(owns c m fullShare X ∗ (owns c m fullShare X -∗ I))

/-- Holding `I`, the program `p` runs to its end, changes nothing and returns `r`. -/
def Returns (defs : Defs nD τ sig Val Λ) (c : Thread nD τ) (E : Set ℕ) (I : sProp 𝕄) (p : Prog (TpuEff nD τ sig Val Λ c.2) α) (r : α) : Prop :=
  ∀ Q : α → sProp 𝕄, (I ⊢ Q r) → (I ⊢ wp frame (wpE defs Variants.none c none) E p Q)

/-- A program that ends at once. -/
theorem Returns.ret (r : α) : Returns (U := U) defs c E J (Prog.ret r) r := by
  intro Q h
  exact BIBase.Entails.trans h (le_wp_ret _ _ _ r Q)

/-- The same, as the monad writes it. -/
theorem Returns.pure (r : α) : Returns (U := U) defs c E J (Pure.pure r : Prog (TpuEff nD τ sig Val Λ c.2) α) r :=
  Returns.ret r

/-- One program after another. -/
theorem Returns.bind {p : Prog (TpuEff nD τ sig Val Λ c.2) α} {k : α → Prog (TpuEff nD τ sig Val Λ c.2) β} {r : α} {t : β}
    (hp : Returns (U := U) defs c E J p r) (hk : Returns (U := U) defs c E J (k r) t) : Returns (U := U) defs c E J (p >>= k) t := by
  intro Q h
  rw [wp_bind]
  exact hp _ (hk Q h)

/-- A load of a rectangle of a held buffer returns the contents there. -/
theorem Returns.load {cs : CoreSpace} {m : Memref sig c.2.kind cs s e} {X : s.Idx → Val e} (h : Holds (U := U) (c := c) J m X) {r : Rect s}
    {hl : m.view.LoadsAt r.toLoadRect} : Returns (U := U) defs c E J (Prog.lift (.load m r.toLoadRect hl)) (View.ld X r) := by
  intro Q hQ
  refine BIBase.Entails.trans h ?_
  unfold owns
  iintro ⟨⟨%f, %hf, Hm⟩, Hw⟩
  iapply (wp_load Variants.none c none E (m.view.setOn_subset_set _)) $$ Hm
  iintro Hm
  iapply (le_wp_ret _ _ _ _ Q)
  subst hf
  have hQ' : J ⊢ Q (View.readAt Val m.view r.toLoadRect f) := hQ
  iapply hQ'
  iapply Hw
  iexists f
  isplitr
  · ipureintro; rfl
  iexact Hm

/-- A load of one word of a held scalar memory returns it. -/
theorem Returns.word {m : Memref sig c.2.kind .smem s e} {X : s.Idx → Val e} (h : Holds (U := U) (c := c) J m X) {r : Rect s}
    {h1 : r.shape.numel = 1} {hp : e.packing = 1} :
    Returns (U := U) defs c E J (smemLoad m r h1 hp) (View.ld X r (Shape.Idx.first (h1.symm ▸ Nat.one_pos))) := by
  intro Q hQ
  refine BIBase.Entails.trans h ?_
  unfold owns smemLoad
  iintro ⟨⟨%f, %hf, Hm⟩, Hw⟩
  iapply (wp_load Variants.none c none E (m.view.setOn_subset_set _)) $$ Hm
  iintro Hm
  iapply (le_wp_ret _ _ _ _ Q)
  subst hf
  have hQ' : J ⊢ Q (View.readAt Val m.view r.toLoadRect f (Shape.Idx.first (h1.symm ▸ Nat.one_pos))) := hQ
  iapply hQ'
  iapply Hw
  iexists f
  isplitr
  · ipureintro; rfl
  iexact Hm

/-- One of a family of held buffers is held. -/
theorem Holds.of_family {W : Type} [DecidableEq W] {R Z : sProp 𝕄} {G : W → sProp 𝕄} {S : Finset W} (w : W) (hw : w ∈ S)
    {m : Memref sig c.2.kind sp s e} {X : s.Idx → Val e}
    (h : G w ⊢ iprop(owns c m fullShare X ∗ (owns c m fullShare X -∗ G w))) :
    Holds (U := U) (c := c) iprop((R ∗ bigSep S G) ∗ Z) m X := by
  unfold Holds
  rw [bigSep_erase hw]
  show iprop((R ∗ G w ∗ bigSep (S.erase w) G) ∗ Z)
    ⊢ iprop(owns c m fullShare X ∗ (owns c m fullShare X -∗ (R ∗ G w ∗ bigSep (S.erase w) G) ∗ Z))
  iintro ⟨⟨HR, HG, Hrest⟩, HZ⟩
  ihave HG := h $$ HG
  icases HG with ⟨Ho, Hw⟩
  isplitl [Ho]
  · iexact Ho
  iintro Ho
  isplitr [HZ]
  · isplitl [HR]
    · iexact HR
    isplitl [Ho Hw]
    · iapply Hw; iexact Ho
    iexact Hrest
  iexact HZ

/-- A buffer at contents that do not depend on what is chosen for them. -/
theorem exists_holds {D : Type} {m : Memref sig c.2.kind sp s e} {B : D → s.Idx → Val e} {X : s.Idx → Val e} (h : ∀ d, B d = X) :
    (iprop(∃ d, owns c m fullShare (B d)) : sProp 𝕄)
      ⊢ iprop(owns c m fullShare X ∗ (owns c m fullShare X -∗ ∃ d, owns c m fullShare (B d))) := by
  iintro ⟨%d, Ho⟩
  rw [h d]
  isplitl [Ho]
  · iexact Ho
  iintro Ho
  iexists d
  rw [h d]
  iexact Ho

end Cert.Reads
-- ==== Proof.KernelIdealValues.lean ====
/-
  The last call: its memory, the arrays it finds there, and the values its straight program names, one after the other,
  each by the printed program's number.
-/
module

public import Idealize.ShloMosaic.Lib.Pipeline.FrameBody
public import proofs.«01_k».proof.Proof.Gen.KernelIdeal.Skeleton

@[expose] public section

set_option maxRecDepth 16384

noncomputable section

namespace Cert.KernelIdeal.Epi

open Idealize.ShloMosaic Idealize.ShloMosaic.TcCoe Cert.KernelIdeal.Gen

/-- The forty-eight buffers the body is called on. -/
structure Refs where
  m0 : Memref sig .tc .vmem S64x16x16 .f32
  w0 : m0.IsWhole
  m1 : Memref sig .tc .vmem S64x16x1024 .f32
  w1 : m1.IsWhole
  m2 : Memref sig .tc .vmem S4x1024x256 .f32
  w2 : m2.IsWhole
  m3 : Memref sig .tc .vmem S16x1024x64 .f32
  w3 : m3.IsWhole
  m4 : Memref sig .tc .vmem S1024x16x64 .f32
  w4 : m4.IsWhole
  m5 : Memref sig .tc .vmem S64x512 .f32
  w5 : m5.IsWhole
  m6 : Memref sig .tc .vmem S64x1024 .f32
  w6 : m6.IsWhole
  m7 : Memref sig .tc .vmem S64x1024 .f32
  w7 : m7.IsWhole
  m8 : Memref sig .tc .vmem S64x1024 .f32
  w8 : m8.IsWhole
  m9 : Memref sig .tc .vmem S64x2048 .f32
  w9 : m9.IsWhole
  m10 : Memref sig .tc .vmem S64x1024 .f32
  w10 : m10.IsWhole
  m11 : Memref sig .tc .vmem S64x256 .f32
  w11 : m11.IsWhole
  m12 : Memref sig .tc .vmem S64x64 .f32
  w12 : m12.IsWhole
  m13 : Memref sig .tc .vmem S64x16 .f32
  w13 : m13.IsWhole
  m14 : Memref sig .tc .smem S1x4 .f32
  w14 : m14.IsWhole
  m15 : Memref sig .tc .smem S1x4 .f32
  w15 : m15.IsWhole
  m16 : Memref sig .tc .vmem S16x128x16 .f32
  w16 : m16.IsWhole
  m17 : Memref sig .tc .vmem S16x128 .f32
  w17 : m17.IsWhole
  m18 : Memref sig .tc .vmem S16x128 .f32
  w18 : m18.IsWhole
  m19 : Memref sig .tc .vmem S16x128 .f32
  w19 : m19.IsWhole
  m20 : Memref sig .tc .vmem S256x128 .f32
  w20 : m20.IsWhole
  m21 : Memref sig .tc .vmem S1x256 .f32
  w21 : m21.IsWhole
  m22 : Memref sig .tc .vmem S1x256 .f32
  w22 : m22.IsWhole
  m23 : Memref sig .tc .vmem S1x256 .f32
  w23 : m23.IsWhole
  m24 : Memref sig .tc .vmem S512x256 .f32
  w24 : m24.IsWhole
  m25 : Memref sig .tc .vmem S1x512 .f32
  w25 : m25.IsWhole
  m26 : Memref sig .tc .vmem S1x512 .f32
  w26 : m26.IsWhole
  m27 : Memref sig .tc .vmem S1x512 .f32
  w27 : m27.IsWhole
  m28 : Memref sig .tc .vmem S128x512 .f32
  w28 : m28.IsWhole
  m29 : Memref sig .tc .vmem S128x1024 .f32
  w29 : m29.IsWhole
  m30 : Memref sig .tc .vmem S128x1024 .f32
  w30 : m30.IsWhole
  m31 : Memref sig .tc .vmem S128x1024 .f32
  w31 : m31.IsWhole
  m32 : Memref sig .tc .vmem S128x2048 .f32
  w32 : m32.IsWhole
  m33 : Memref sig .tc .vmem S4x128 .f32
  w33 : m33.IsWhole
  m34 : Memref sig .tc .vmem S4x128 .f32
  w34 : m34.IsWhole
  m35 : Memref sig .tc .vmem S4x128 .f32
  w35 : m35.IsWhole
  m36 : Memref sig .tc .vmem S4x128 .f32
  w36 : m36.IsWhole
  m37 : Memref sig .tc .vmem S16x128 .f32
  w37 : m37.IsWhole
  m38 : Memref sig .tc .vmem S1x4 .f32
  w38 : m38.IsWhole
  m39 : Memref sig .tc .vmem S16x1024 .f32
  w39 : m39.IsWhole
  m40 : Memref sig .tc .vmem S16x256 .f32
  w40 : m40.IsWhole
  m41 : Memref sig .tc .vmem S16x64 .f32
  w41 : m41.IsWhole
  m42 : Memref sig .tc .vmem S16x16 .f32
  w42 : m42.IsWhole
  m43 : Memref sig .tc .vmem S16x1024 .f32
  w43 : m43.IsWhole
  m44 : Memref sig .tc .vmem S16x256 .f32
  w44 : m44.IsWhole
  m45 : Memref sig .tc .vmem S16x64 .f32
  w45 : m45.IsWhole
  m46 : Memref sig .tc .vmem S16x16 .f32
  w46 : m46.IsWhole
  m47 : Memref sig .tc .vmem S1x1 .f32
  w47 : m47.IsWhole

/-- A printed function of the body, or of a part of it, at these buffers. -/
abbrev Refs.app {γ : Sort*} (R : Refs)
    (f : (m0 : Memref sig .tc .vmem S64x16x16 .f32) → m0.IsWhole →
      (m1 : Memref sig .tc .vmem S64x16x1024 .f32) → m1.IsWhole →
      (m2 : Memref sig .tc .vmem S4x1024x256 .f32) → m2.IsWhole →
      (m3 : Memref sig .tc .vmem S16x1024x64 .f32) → m3.IsWhole →
      (m4 : Memref sig .tc .vmem S1024x16x64 .f32) → m4.IsWhole →
      (m5 : Memref sig .tc .vmem S64x512 .f32) → m5.IsWhole →
      (m6 : Memref sig .tc .vmem S64x1024 .f32) → m6.IsWhole →
      (m7 : Memref sig .tc .vmem S64x1024 .f32) → m7.IsWhole →
      (m8 : Memref sig .tc .vmem S64x1024 .f32) → m8.IsWhole →
      (m9 : Memref sig .tc .vmem S64x2048 .f32) → m9.IsWhole →
      (m10 : Memref sig .tc .vmem S64x1024 .f32) → m10.IsWhole →
      (m11 : Memref sig .tc .vmem S64x256 .f32) → m11.IsWhole →
      (m12 : Memref sig .tc .vmem S64x64 .f32) → m12.IsWhole →
      (m13 : Memref sig .tc .vmem S64x16 .f32) → m13.IsWhole →
      (m14 : Memref sig .tc .smem S1x4 .f32) → m14.IsWhole →
      (m15 : Memref sig .tc .smem S1x4 .f32) → m15.IsWhole →
      (m16 : Memref sig .tc .vmem S16x128x16 .f32) → m16.IsWhole →
      (m17 : Memref sig .tc .vmem S16x128 .f32) → m17.IsWhole →
      (m18 : Memref sig .tc .vmem S16x128 .f32) → m18.IsWhole →
      (m19 : Memref sig .tc .vmem S16x128 .f32) → m19.IsWhole →
      (m20 : Memref sig .tc .vmem S256x128 .f32) → m20.IsWhole →
      (m21 : Memref sig .tc .vmem S1x256 .f32) → m21.IsWhole →
      (m22 : Memref sig .tc .vmem S1x256 .f32) → m22.IsWhole →
      (m23 : Memref sig .tc .vmem S1x256 .f32) → m23.IsWhole →
      (m24 : Memref sig .tc .vmem S512x256 .f32) → m24.IsWhole →
      (m25 : Memref sig .tc .vmem S1x512 .f32) → m25.IsWhole →
      (m26 : Memref sig .tc .vmem S1x512 .f32) → m26.IsWhole →
      (m27 : Memref sig .tc .vmem S1x512 .f32) → m27.IsWhole →
      (m28 : Memref sig .tc .vmem S128x512 .f32) → m28.IsWhole →
      (m29 : Memref sig .tc .vmem S128x1024 .f32) → m29.IsWhole →
      (m30 : Memref sig .tc .vmem S128x1024 .f32) → m30.IsWhole →
      (m31 : Memref sig .tc .vmem S128x1024 .f32) → m31.IsWhole →
      (m32 : Memref sig .tc .vmem S128x2048 .f32) → m32.IsWhole →
      (m33 : Memref sig .tc .vmem S4x128 .f32) → m33.IsWhole →
      (m34 : Memref sig .tc .vmem S4x128 .f32) → m34.IsWhole →
      (m35 : Memref sig .tc .vmem S4x128 .f32) → m35.IsWhole →
      (m36 : Memref sig .tc .vmem S4x128 .f32) → m36.IsWhole →
      (m37 : Memref sig .tc .vmem S16x128 .f32) → m37.IsWhole →
      (m38 : Memref sig .tc .vmem S1x4 .f32) → m38.IsWhole →
      (m39 : Memref sig .tc .vmem S16x1024 .f32) → m39.IsWhole →
      (m40 : Memref sig .tc .vmem S16x256 .f32) → m40.IsWhole →
      (m41 : Memref sig .tc .vmem S16x64 .f32) → m41.IsWhole →
      (m42 : Memref sig .tc .vmem S16x16 .f32) → m42.IsWhole →
      (m43 : Memref sig .tc .vmem S16x1024 .f32) → m43.IsWhole →
      (m44 : Memref sig .tc .vmem S16x256 .f32) → m44.IsWhole →
      (m45 : Memref sig .tc .vmem S16x64 .f32) → m45.IsWhole →
      (m46 : Memref sig .tc .vmem S16x16 .f32) → m46.IsWhole →
      (m47 : Memref sig .tc .vmem S1x1 .f32) → m47.IsWhole → γ) : γ :=
  f R.m0 R.w0 R.m1 R.w1 R.m2 R.w2 R.m3 R.w3 R.m4 R.w4 R.m5 R.w5 R.m6 R.w6 R.m7 R.w7 R.m8 R.w8 R.m9 R.w9 R.m10 R.w10 R.m11 R.w11 R.m12 R.w12 R.m13 R.w13 R.m14 R.w14 R.m15 R.w15 R.m16 R.w16 R.m17 R.w17 R.m18 R.w18 R.m19 R.w19 R.m20 R.w20 R.m21 R.w21 R.m22 R.w22 R.m23 R.w23 R.m24 R.w24 R.m25 R.w25 R.m26 R.w26 R.m27 R.w27 R.m28 R.w28 R.m29 R.w29 R.m30 R.w30 R.m31 R.w31 R.m32 R.w32 R.m33 R.w33 R.m34 R.w34 R.m35 R.w35 R.m36 R.w36 R.m37 R.w37 R.m38 R.w38 R.m39 R.w39 R.m40 R.w40 R.m41 R.w41 R.m42 R.w42 R.m43 R.w43 R.m44 R.w44 R.m45 R.w45 R.m46 R.w46 R.m47 R.w47

variable {F : FTy → Type} [FloatOps F]

/-- What the input buffers hold. -/
structure Blocks (F : FTy → Type) where
  x0 : Vec F S64x16x16 .f32
  x1 : Vec F S64x16x1024 .f32
  x2 : Vec F S4x1024x256 .f32
  x3 : Vec F S16x1024x64 .f32
  x4 : Vec F S1024x16x64 .f32
  x5 : Vec F S64x512 .f32
  x6 : Vec F S64x1024 .f32
  x7 : Vec F S64x1024 .f32
  x8 : Vec F S64x1024 .f32
  x9 : Vec F S64x2048 .f32
  x10 : Vec F S64x1024 .f32
  x11 : Vec F S64x256 .f32
  x12 : Vec F S64x64 .f32
  x13 : Vec F S64x16 .f32
  x14 : Vec F S1x4 .f32
  x15 : Vec F S1x4 .f32
  x16 : Vec F S16x128x16 .f32
  x17 : Vec F S16x128 .f32
  x18 : Vec F S16x128 .f32
  x19 : Vec F S16x128 .f32
  x20 : Vec F S256x128 .f32
  x21 : Vec F S1x256 .f32
  x22 : Vec F S1x256 .f32
  x23 : Vec F S1x256 .f32
  x24 : Vec F S512x256 .f32
  x25 : Vec F S1x512 .f32
  x26 : Vec F S1x512 .f32
  x27 : Vec F S1x512 .f32
  x28 : Vec F S128x512 .f32
  x29 : Vec F S128x1024 .f32
  x30 : Vec F S128x1024 .f32
  x31 : Vec F S128x1024 .f32
  x32 : Vec F S128x2048 .f32
  x33 : Vec F S4x128 .f32
  x34 : Vec F S4x128 .f32
  x35 : Vec F S4x128 .f32
  x36 : Vec F S4x128 .f32
  x37 : Vec F S16x128 .f32
  x38 : Vec F S1x4 .f32
  x39 : Vec F S16x1024 .f32
  x40 : Vec F S16x256 .f32
  x41 : Vec F S16x64 .f32
  x42 : Vec F S16x16 .f32
  x43 : Vec F S16x1024 .f32
  x44 : Vec F S16x256 .f32
  x45 : Vec F S16x64 .f32
  x46 : Vec F S16x16 .f32

/-- The word a scalar load reads. -/
abbrev Blocks.word (_X : Blocks F) {s : Shape} (x : Vec F s .f32) (r : Rect s) (h : r.shape.numel = 1 := by exact numel1_S1x1) : Elt F .f32 :=
  View.ld x r (Shape.Idx.first (h.symm ▸ Nat.one_pos))

variable (X : Blocks F)

/-! ## The values, in the program's order -/

def Blocks.v1 : FVec F S64x16x16 .f32 := k5_pay2 (View.ld X.x0 (Rect.unit (s := S64x16x16) ![0, 0, 0] S64x16x16.size inb_S64x16x16_S64x16x16_0_0_0))
def Blocks.v40 : FVec F S64x1x128 .f32 := k5_pay3 (View.ld X.x0 (Rect.unit (s := S64x16x16) ![0, 0, 0] S64x16x16.size inb_S64x16x16_S64x16x16_0_0_0)) (View.ld X.x16 (Rect.unit (s := S16x128x16) ![0, 0, 0] S1x128x16.size inb_S16x128x16_S1x128x16_0_0_0)) (View.ld X.x17 (Rect.unit (s := S16x128) ![0, 0] S1x128.size inb_S16x128_S1x128_0_0)) (View.ld X.x18 (Rect.unit (s := S16x128) ![0, 0] S1x128.size inb_S16x128_S1x128_0_0)) (View.ld X.x19 (Rect.unit (s := S16x128) ![0, 0] S1x128.size inb_S16x128_S1x128_0_0))
def Blocks.v79 : FVec F S64x1x128 .f32 := k5_pay4 X.v1 (View.ld X.x16 (Rect.unit (s := S16x128x16) ![1, 0, 0] S1x128x16.size inb_S16x128x16_S1x128x16_1_0_0)) (View.ld X.x17 (Rect.unit (s := S16x128) ![1, 0] S1x128.size inb_S16x128_S1x128_1_0)) (View.ld X.x18 (Rect.unit (s := S16x128) ![1, 0] S1x128.size inb_S16x128_S1x128_1_0)) (View.ld X.x19 (Rect.unit (s := S16x128) ![1, 0] S1x128.size inb_S16x128_S1x128_1_0))
def Blocks.v81 : FVec F S64x16 .f32 := k5_pay5 X.v1
def Blocks.v118 : FVec F S64x1x128 .f32 := k5_pay6 X.v81 (View.ld X.x16 (Rect.unit (s := S16x128x16) ![2, 0, 0] S1x128x16.size inb_S16x128x16_S1x128x16_2_0_0)) (View.ld X.x17 (Rect.unit (s := S16x128) ![2, 0] S1x128.size inb_S16x128_S1x128_2_0)) (View.ld X.x18 (Rect.unit (s := S16x128) ![2, 0] S1x128.size inb_S16x128_S1x128_2_0)) (View.ld X.x19 (Rect.unit (s := S16x128) ![2, 0] S1x128.size inb_S16x128_S1x128_2_0))
def Blocks.v123 : FVec F S64x128 .f32 := k5_pay7 X.v1 (View.ld X.x16 (Rect.unit (s := S16x128x16) ![3, 0, 0] S1x128x16.size inb_S16x128x16_S1x128x16_3_0_0))
def Blocks.v157 : FVec F S64x1x128 .f32 := k5_pay8 X.v123 (View.ld X.x17 (Rect.unit (s := S16x128) ![3, 0] S1x128.size inb_S16x128_S1x128_3_0)) (View.ld X.x18 (Rect.unit (s := S16x128) ![3, 0] S1x128.size inb_S16x128_S1x128_3_0)) (View.ld X.x19 (Rect.unit (s := S16x128) ![3, 0] S1x128.size inb_S16x128_S1x128_3_0))
def Blocks.v162 : FVec F S64x128 .f32 := k5_pay9 X.v1 (View.ld X.x16 (Rect.unit (s := S16x128x16) ![4, 0, 0] S1x128x16.size inb_S16x128x16_S1x128x16_4_0_0))
def Blocks.v166 : FVec F S64x128 .f32 := k5_pay10 (View.ld X.x17 (Rect.unit (s := S16x128) ![4, 0] S1x128.size inb_S16x128_S1x128_4_0))
def Blocks.v196 : FVec F S64x1x128 .f32 := k5_pay11 X.v162 X.v166 (View.ld X.x18 (Rect.unit (s := S16x128) ![4, 0] S1x128.size inb_S16x128_S1x128_4_0)) (View.ld X.x19 (Rect.unit (s := S16x128) ![4, 0] S1x128.size inb_S16x128_S1x128_4_0))
def Blocks.v206 : FVec F S64x128 .f32 := k5_pay12 X.v1 (View.ld X.x16 (Rect.unit (s := S16x128x16) ![5, 0, 0] S1x128x16.size inb_S16x128x16_S1x128x16_5_0_0)) (View.ld X.x17 (Rect.unit (s := S16x128) ![5, 0] S1x128.size inb_S16x128_S1x128_5_0))
def Blocks.v208 : FVec F S128 .f32 := k5_pay13 (View.ld X.x18 (Rect.unit (s := S16x128) ![5, 0] S1x128.size inb_S16x128_S1x128_5_0))
def Blocks.v235 : FVec F S64x1x128 .f32 := k5_pay14 X.v206 X.v208 (View.ld X.x19 (Rect.unit (s := S16x128) ![5, 0] S1x128.size inb_S16x128_S1x128_5_0))
def Blocks.v245 : FVec F S64x128 .f32 := k5_pay15 X.v1 (View.ld X.x16 (Rect.unit (s := S16x128x16) ![6, 0, 0] S1x128x16.size inb_S16x128x16_S1x128x16_6_0_0)) (View.ld X.x17 (Rect.unit (s := S16x128) ![6, 0] S1x128.size inb_S16x128_S1x128_6_0))
def Blocks.v247 : FVec F S128 .f32 := k5_pay16 (View.ld X.x18 (Rect.unit (s := S16x128) ![6, 0] S1x128.size inb_S16x128_S1x128_6_0))
def Blocks.v249 : FVec F S128 .f32 := k5_pay17 (View.ld X.x19 (Rect.unit (s := S16x128) ![6, 0] S1x128.size inb_S16x128_S1x128_6_0))
def Blocks.v274 : FVec F S64x1x128 .f32 := k5_pay18 X.v245 X.v247 X.v249
def Blocks.v284 : FVec F S64x128 .f32 := k5_pay19 X.v1 (View.ld X.x16 (Rect.unit (s := S16x128x16) ![7, 0, 0] S1x128x16.size inb_S16x128x16_S1x128x16_7_0_0)) (View.ld X.x17 (Rect.unit (s := S16x128) ![7, 0] S1x128.size inb_S16x128_S1x128_7_0))
def Blocks.v286 : FVec F S128 .f32 := k5_pay20 (View.ld X.x18 (Rect.unit (s := S16x128) ![7, 0] S1x128.size inb_S16x128_S1x128_7_0))
def Blocks.v288 : FVec F S128 .f32 := k5_pay21 (View.ld X.x19 (Rect.unit (s := S16x128) ![7, 0] S1x128.size inb_S16x128_S1x128_7_0))
def Blocks.v292 : FVec F S1x128 .f32 := k5_pay22 X.v1 (View.ld X.x16 (Rect.unit (s := S16x128x16) ![7, 0, 0] S1x128x16.size inb_S16x128x16_S1x128x16_7_0_0)) (View.ld X.x17 (Rect.unit (s := S16x128) ![7, 0] S1x128.size inb_S16x128_S1x128_7_0))
def Blocks.v313 : FVec F S64x1x128 .f32 := k5_pay23 X.v284 X.v286 X.v288 X.v292
def Blocks.v325 : FVec F S128 .f32 := k5_pay24 (View.ld X.x18 (Rect.unit (s := S16x128) ![8, 0] S1x128.size inb_S16x128_S1x128_8_0))
def Blocks.v327 : FVec F S128 .f32 := k5_pay25 (View.ld X.x19 (Rect.unit (s := S16x128) ![8, 0] S1x128.size inb_S16x128_S1x128_8_0))
def Blocks.v333 : FVec F S64x128 .f32 := k5_pay26 X.v1 (View.ld X.x16 (Rect.unit (s := S16x128x16) ![8, 0, 0] S1x128x16.size inb_S16x128x16_S1x128x16_8_0_0)) (View.ld X.x17 (Rect.unit (s := S16x128) ![8, 0] S1x128.size inb_S16x128_S1x128_8_0))
def Blocks.v335 : FVec F S128 .f32 := k5_pay27 X.v1 (View.ld X.x16 (Rect.unit (s := S16x128x16) ![8, 0, 0] S1x128x16.size inb_S16x128x16_S1x128x16_8_0_0)) (View.ld X.x17 (Rect.unit (s := S16x128) ![8, 0] S1x128.size inb_S16x128_S1x128_8_0))
def Blocks.v352 : FVec F S64x1x128 .f32 := k5_pay28 X.v325 X.v327 X.v333 X.v335
def Blocks.v364 : FVec F S128 .f32 := k5_pay29 (View.ld X.x18 (Rect.unit (s := S16x128) ![9, 0] S1x128.size inb_S16x128_S1x128_9_0))
def Blocks.v366 : FVec F S128 .f32 := k5_pay30 (View.ld X.x19 (Rect.unit (s := S16x128) ![9, 0] S1x128.size inb_S16x128_S1x128_9_0))
def Blocks.v372 : FVec F S64x128 .f32 := k5_pay31 X.v1 (View.ld X.x16 (Rect.unit (s := S16x128x16) ![9, 0, 0] S1x128x16.size inb_S16x128x16_S1x128x16_9_0_0)) (View.ld X.x17 (Rect.unit (s := S16x128) ![9, 0] S1x128.size inb_S16x128_S1x128_9_0))
def Blocks.v377 : FVec F S1x128 .f32 := k5_pay32 X.v1 (View.ld X.x16 (Rect.unit (s := S16x128x16) ![9, 0, 0] S1x128x16.size inb_S16x128x16_S1x128x16_9_0_0)) (View.ld X.x17 (Rect.unit (s := S16x128) ![9, 0] S1x128.size inb_S16x128_S1x128_9_0))
def Blocks.cst_150 (_X : Blocks F) : F .f32 := Scalar.ofBits .f32 0x3727C5AC#32
def Blocks.v391 : FVec F S64x1x128 .f32 := k5_pay33 X.v364 X.v366 X.v372 X.v377 X.cst_150
def Blocks.v403 : FVec F S128 .f32 := k5_pay34 (View.ld X.x18 (Rect.unit (s := S16x128) ![10, 0] S1x128.size inb_S16x128_S1x128_10_0))
def Blocks.v405 : FVec F S128 .f32 := k5_pay35 (View.ld X.x19 (Rect.unit (s := S16x128) ![10, 0] S1x128.size inb_S16x128_S1x128_10_0))
def Blocks.v421 : FVec F S64x128 .f32 := k5_pay36 X.v1 (View.ld X.x16 (Rect.unit (s := S16x128x16) ![10, 0, 0] S1x128x16.size inb_S16x128x16_S1x128x16_10_0_0)) (View.ld X.x17 (Rect.unit (s := S16x128) ![10, 0] S1x128.size inb_S16x128_S1x128_10_0))
def Blocks.v430 : FVec F S64x1x128 .f32 := k5_pay37 X.v403 X.v405 X.v421
def Blocks.v463 : FVec F S64x128 .f32 := k5_pay38 X.v1 (View.ld X.x16 (Rect.unit (s := S16x128x16) ![11, 0, 0] S1x128x16.size inb_S16x128x16_S1x128x16_11_0_0)) (View.ld X.x17 (Rect.unit (s := S16x128) ![11, 0] S1x128.size inb_S16x128_S1x128_11_0)) (View.ld X.x18 (Rect.unit (s := S16x128) ![11, 0] S1x128.size inb_S16x128_S1x128_11_0))
def Blocks.v465 : FVec F S64x128 .f32 := k5_pay39 (View.ld X.x19 (Rect.unit (s := S16x128) ![11, 0] S1x128.size inb_S16x128_S1x128_11_0))
def Blocks.v469 : FVec F S64x1x128 .f32 := k5_pay40 X.v463 X.v465
def Blocks.v508 : FVec F S64x1x128 .f32 := k5_pay41 X.v1 (View.ld X.x16 (Rect.unit (s := S16x128x16) ![12, 0, 0] S1x128x16.size inb_S16x128x16_S1x128x16_12_0_0)) (View.ld X.x17 (Rect.unit (s := S16x128) ![12, 0] S1x128.size inb_S16x128_S1x128_12_0)) (View.ld X.x18 (Rect.unit (s := S16x128) ![12, 0] S1x128.size inb_S16x128_S1x128_12_0)) (View.ld X.x19 (Rect.unit (s := S16x128) ![12, 0] S1x128.size inb_S16x128_S1x128_12_0))
def Blocks.v547 : FVec F S64x1x128 .f32 := k5_pay42 X.v1 (View.ld X.x16 (Rect.unit (s := S16x128x16) ![13, 0, 0] S1x128x16.size inb_S16x128x16_S1x128x16_13_0_0)) (View.ld X.x17 (Rect.unit (s := S16x128) ![13, 0] S1x128.size inb_S16x128_S1x128_13_0)) (View.ld X.x18 (Rect.unit (s := S16x128) ![13, 0] S1x128.size inb_S16x128_S1x128_13_0)) (View.ld X.x19 (Rect.unit (s := S16x128) ![13, 0] S1x128.size inb_S16x128_S1x128_13_0))
def Blocks.v549 : FVec F S64x16 .f32 := k5_pay43 X.v1
def Blocks.v586 : FVec F S64x1x128 .f32 := k5_pay44 X.v549 (View.ld X.x16 (Rect.unit (s := S16x128x16) ![14, 0, 0] S1x128x16.size inb_S16x128x16_S1x128x16_14_0_0)) (View.ld X.x17 (Rect.unit (s := S16x128) ![14, 0] S1x128.size inb_S16x128_S1x128_14_0)) (View.ld X.x18 (Rect.unit (s := S16x128) ![14, 0] S1x128.size inb_S16x128_S1x128_14_0)) (View.ld X.x19 (Rect.unit (s := S16x128) ![14, 0] S1x128.size inb_S16x128_S1x128_14_0))
def Blocks.v591 : FVec F S64x128 .f32 := k5_pay45 X.v1 (View.ld X.x16 (Rect.unit (s := S16x128x16) ![15, 0, 0] S1x128x16.size inb_S16x128x16_S1x128x16_15_0_0))
def Blocks.v633 : FVec F S1024x256 .f32 := k5_pay46 X.v40 X.v79 X.v118 X.v157 X.v196 X.v235 X.v274 X.v313 X.v352 X.v391 X.v430 X.v469 X.v508 X.v547 X.v586 X.v591 (View.ld X.x17 (Rect.unit (s := S16x128) ![15, 0] S1x128.size inb_S16x128_S1x128_15_0)) (View.ld X.x18 (Rect.unit (s := S16x128) ![15, 0] S1x128.size inb_S16x128_S1x128_15_0)) (View.ld X.x19 (Rect.unit (s := S16x128) ![15, 0] S1x128.size inb_S16x128_S1x128_15_0)) (View.ld X.x20 (Rect.unit (s := S256x128) ![0, 0] S256x128.size inb_S256x128_S256x128_0_0)) (View.ld X.x21 (Rect.unit (s := S1x256) ![0, 0] S1x256.size inb_S1x256_S1x256_0_0))
def Blocks.v665 : FVec F S1024x512 .f32 := k5_pay47 X.v633 (View.ld X.x22 (Rect.unit (s := S1x256) ![0, 0] S1x256.size inb_S1x256_S1x256_0_0)) (View.ld X.x23 (Rect.unit (s := S1x256) ![0, 0] S1x256.size inb_S1x256_S1x256_0_0)) (View.ld X.x24 (Rect.unit (s := S512x256) ![0, 0] S512x256.size inb_S512x256_S512x256_0_0)) (View.ld X.x25 (Rect.unit (s := S1x512) ![0, 0] S1x512.size inb_S1x512_S1x512_0_0))
def Blocks.v667 : FVec F S1x512 .f32 := k5_pay48 (View.ld X.x26 (Rect.unit (s := S1x512) ![0, 0] S1x512.size inb_S1x512_S1x512_0_0))
def Blocks.v669 : FVec F S1x512 .f32 := k5_pay49 (View.ld X.x27 (Rect.unit (s := S1x512) ![0, 0] S1x512.size inb_S1x512_S1x512_0_0))
def Blocks.v674 : FVec F S1024x512 .f32 := k5_pay50 X.v633 (View.ld X.x22 (Rect.unit (s := S1x256) ![0, 0] S1x256.size inb_S1x256_S1x256_0_0)) (View.ld X.x23 (Rect.unit (s := S1x256) ![0, 0] S1x256.size inb_S1x256_S1x256_0_0)) (View.ld X.x24 (Rect.unit (s := S512x256) ![0, 0] S512x256.size inb_S512x256_S512x256_0_0)) (View.ld X.x25 (Rect.unit (s := S1x512) ![0, 0] S1x512.size inb_S1x512_S1x512_0_0))
def Blocks.v691 : FVec F S1024x512 .f32 := k5_pay51 X.v665 X.v667 X.v669 X.v674
def Blocks.v702 : FVec F S64x128 .f32 := k5_pay52 (View.ld X.x7 (Rect.unit (s := S64x1024) ![0, 0] S64x1024.size inb_S64x1024_S64x1024_0_0)) (View.ld X.x30 (Rect.unit (s := S128x1024) ![0, 0] S128x1024.size inb_S128x1024_S128x1024_0_0)) (View.ld X.x8 (Rect.unit (s := S64x1024) ![0, 0] S64x1024.size inb_S64x1024_S64x1024_0_0)) (View.ld X.x31 (Rect.unit (s := S128x1024) ![0, 0] S128x1024.size inb_S128x1024_S128x1024_0_0))
def Blocks.v706 : FVec F S64x128 .f32 := k5_pay53 (View.ld X.x5 (Rect.unit (s := S64x512) ![0, 0] S64x512.size inb_S64x512_S64x512_0_0)) (View.ld X.x28 (Rect.unit (s := S128x512) ![0, 0] S128x512.size inb_S128x512_S128x512_0_0))
def Blocks.v710 : FVec F S64x128 .f32 := k5_pay54 (View.ld X.x6 (Rect.unit (s := S64x1024) ![0, 0] S64x1024.size inb_S64x1024_S64x1024_0_0)) (View.ld X.x29 (Rect.unit (s := S128x1024) ![0, 0] S128x1024.size inb_S128x1024_S128x1024_0_0))
def Blocks.v714 : FVec F S64x128 .f32 := k5_pay55 (View.ld X.x9 (Rect.unit (s := S64x2048) ![0, 0] S64x2048.size inb_S64x2048_S64x2048_0_0)) (View.ld X.x32 (Rect.unit (s := S128x2048) ![0, 0] S128x2048.size inb_S128x2048_S128x2048_0_0))
def Blocks.v745 : FVec F S64x128 .f32 := k5_pay56 X.v706 (View.ld X.x33 (Rect.unit (s := S4x128) ![0, 0] S1x128.size inb_S4x128_S1x128_0_0)) (View.ld X.x34 (Rect.unit (s := S4x128) ![0, 0] S1x128.size inb_S4x128_S1x128_0_0)) (View.ld X.x35 (Rect.unit (s := S4x128) ![0, 0] S1x128.size inb_S4x128_S1x128_0_0))
def Blocks.v752 : FVec F S64x128 .f32 := k5_pay57 X.v706 (View.ld X.x33 (Rect.unit (s := S4x128) ![0, 0] S1x128.size inb_S4x128_S1x128_0_0)) (View.ld X.x34 (Rect.unit (s := S4x128) ![0, 0] S1x128.size inb_S4x128_S1x128_0_0)) (View.ld X.x35 (Rect.unit (s := S4x128) ![0, 0] S1x128.size inb_S4x128_S1x128_0_0))
def Blocks.v753 : FVec F S64x128 .f32 := k5_pay58 X.v745 X.v752
def Blocks.v792 : FVec F S64x128 .f32 := k5_pay59 X.v710 (View.ld X.x33 (Rect.unit (s := S4x128) ![1, 0] S1x128.size inb_S4x128_S1x128_1_0)) (View.ld X.x34 (Rect.unit (s := S4x128) ![1, 0] S1x128.size inb_S4x128_S1x128_1_0)) (View.ld X.x35 (Rect.unit (s := S4x128) ![1, 0] S1x128.size inb_S4x128_S1x128_1_0))
def Blocks.v797 : FVec F S64x128 .f32 := k5_pay60 X.v702 (View.ld X.x33 (Rect.unit (s := S4x128) ![2, 0] S1x128.size inb_S4x128_S1x128_2_0))
def Blocks.v831 : FVec F S64x128 .f32 := k5_pay61 X.v797 (View.ld X.x34 (Rect.unit (s := S4x128) ![2, 0] S1x128.size inb_S4x128_S1x128_2_0)) (View.ld X.x35 (Rect.unit (s := S4x128) ![2, 0] S1x128.size inb_S4x128_S1x128_2_0))
def Blocks.v836 : FVec F S64x128 .f32 := k5_pay62 X.v714 (View.ld X.x33 (Rect.unit (s := S4x128) ![3, 0] S1x128.size inb_S4x128_S1x128_3_0))
def Blocks.v838 : FVec F S128 .f32 := k5_pay63 (View.ld X.x34 (Rect.unit (s := S4x128) ![3, 0] S1x128.size inb_S4x128_S1x128_3_0))
def Blocks.v840 : FVec F S128 .f32 := k5_pay64 (View.ld X.x35 (Rect.unit (s := S4x128) ![3, 0] S1x128.size inb_S4x128_S1x128_3_0))
def Blocks.v870 : FVec F S64x128 .f32 := k5_pay65 X.v836 X.v838 X.v840
def Blocks.v873 : FVec F S4x16 .f32 := k5_pay66 (View.ld X.x36 (Rect.unit (s := S4x128) ![0, 0] S4x128.size inb_S4x128_S4x128_0_0)) (View.ld X.x37 (Rect.unit (s := S16x128) ![0, 0] S16x128.size inb_S16x128_S16x128_0_0))
def Blocks.v874 (_X : Blocks F) : FVec F S1x1 .f32 := k5_pay67 (F := F)
def Blocks.v884 : FVec F S64x16x128 .f32 := k5_pay68 X.v691
def Blocks.v885 : FVec F S64x1x128 .f32 := k5_pay69 X.v753
def Blocks.v904 : FVec F S64x16 .f32 := k5_pay70 X.v873 X.v884 X.v885
def Blocks.v914 : FVec F S1x1 .f32 := k5_pay71 X.v873 X.v874 X.v884 X.v885
def Blocks.v935 : FVec F S64x16 .f32 := k5_pay72 X.v691 X.v792 X.v873
def Blocks.v944 : FVec F S64x16 .f32 := k5_pay73 X.v935
def Blocks.v954 : FVec F S1x1 .f32 := k5_pay74 X.v914 X.v935
def Blocks.v984 : FVec F S64x16 .f32 := k5_pay75 X.v691 X.v831 X.v873
def Blocks.cst_377 (_X : Blocks F) : F .f32 := Scalar.ofBits .f32 0x322BCC77#32
def Blocks.v1024 : FVec F S64x16 .f32 := k5_pay76 X.v691 X.v870 X.v873
def Blocks.v1034 : FVec F S1x1 .f32 := k5_pay77 X.v691 X.v870 X.v873 X.v954 X.v984 X.cst_377
def Blocks.cst_387 (_X : Blocks F) : F .f32 := Scalar.ofBits .f32 0x00000000#32
def Blocks.v1040 : FVec F S1x1 .f32 := k5_pay78 X.v1034 X.cst_387
def Blocks.v1051 : FVec F S1x4 .f32 := k5_pay79 (View.ld X.x38 (Rect.unit (s := S1x4) ![0, 0] S1x4.size inb_S1x4_S1x4_0_0))
def Blocks.v1053 : FVec F S64x16x1024 .f32 := k5_pay80 (View.ld X.x1 (Rect.unit (s := S64x16x1024) ![0, 0, 0] S64x16x1024.size inb_S64x16x1024_S64x16x1024_0_0_0))
def Blocks.v1057 : FVec F S64x16x1 .f32 := k5_pay81 (View.ld X.x1 (Rect.unit (s := S64x16x1024) ![0, 0, 0] S64x16x1024.size inb_S64x16x1024_S64x16x1024_0_0_0))
def Blocks.v1070 : FVec F S64x16x1 .f32 := k5_pay82 (View.ld X.x1 (Rect.unit (s := S64x16x1024) ![0, 0, 0] S64x16x1024.size inb_S64x16x1024_S64x16x1024_0_0_0)) (X.word X.x14 (Rect.unit (s := S1x4) ![0, 0] S1x1.size inb_S1x4_S1x1_0_0)) (X.word X.x15 (Rect.unit (s := S1x4) ![0, 0] S1x1.size inb_S1x4_S1x1_0_0))
def Blocks.v1073 : FVec F S64x16x1 .f32 := k5_pay83 (View.ld X.x1 (Rect.unit (s := S64x16x1024) ![0, 0, 0] S64x16x1024.size inb_S64x16x1024_S64x16x1024_0_0_0)) (X.word X.x14 (Rect.unit (s := S1x4) ![0, 1] S1x1.size inb_S1x4_S1x1_0_1))
def Blocks.v1083 : FVec F S64x16x1 .f32 := k5_pay84 X.v1073 (X.word X.x15 (Rect.unit (s := S1x4) ![0, 1] S1x1.size inb_S1x4_S1x1_0_1))
def Blocks.v1096 : FVec F S64x16x1 .f32 := k5_pay85 X.v1057 (X.word X.x14 (Rect.unit (s := S1x4) ![0, 2] S1x1.size inb_S1x4_S1x1_0_2)) (X.word X.x15 (Rect.unit (s := S1x4) ![0, 2] S1x1.size inb_S1x4_S1x1_0_2))
def Blocks.v1109 : FVec F S64x16x1 .f32 := k5_pay86 X.v1057 (X.word X.x14 (Rect.unit (s := S1x4) ![0, 3] S1x1.size inb_S1x4_S1x1_0_3)) (X.word X.x15 (Rect.unit (s := S1x4) ![0, 3] S1x1.size inb_S1x4_S1x1_0_3))
def Blocks.v1111 : FVec F S1024x256 .f32 := k5_pay87 (View.ld X.x2 (Rect.unit (s := S4x1024x256) ![0, 0, 0] S1x1024x256.size inb_S4x1024x256_S1x1024x256_0_0_0))
def Blocks.v1122 : FVec F S1024x256 .f32 := k5_pay88 X.v1111 (View.ld X.x2 (Rect.unit (s := S4x1024x256) ![1, 0, 0] S1x1024x256.size inb_S4x1024x256_S1x1024x256_1_0_0)) (View.ld X.x2 (Rect.unit (s := S4x1024x256) ![2, 0, 0] S1x1024x256.size inb_S4x1024x256_S1x1024x256_2_0_0)) (View.ld X.x2 (Rect.unit (s := S4x1024x256) ![3, 0, 0] S1x1024x256.size inb_S4x1024x256_S1x1024x256_3_0_0))
def Blocks.v1133 : FVec F S1024x256 .f32 := k5_pay89 (View.ld X.x2 (Rect.unit (s := S4x1024x256) ![0, 0, 0] S1x1024x256.size inb_S4x1024x256_S1x1024x256_0_0_0)) (View.ld X.x2 (Rect.unit (s := S4x1024x256) ![1, 0, 0] S1x1024x256.size inb_S4x1024x256_S1x1024x256_1_0_0)) (View.ld X.x2 (Rect.unit (s := S4x1024x256) ![2, 0, 0] S1x1024x256.size inb_S4x1024x256_S1x1024x256_2_0_0)) (View.ld X.x2 (Rect.unit (s := S4x1024x256) ![3, 0, 0] S1x1024x256.size inb_S4x1024x256_S1x1024x256_3_0_0))
def Blocks.v1140 : FVec F S1024x64 .f32 := k5_pay91 (View.ld X.x3 (Rect.unit (s := S16x1024x64) ![0, 0, 0] S1x1024x64.size inb_S16x1024x64_S1x1024x64_0_0_0)) (View.ld X.x3 (Rect.unit (s := S16x1024x64) ![1, 0, 0] S1x1024x64.size inb_S16x1024x64_S1x1024x64_1_0_0))
def Blocks.v1141 : FVec F S1024x64 .f32 := k5_pay92 (View.ld X.x3 (Rect.unit (s := S16x1024x64) ![0, 0, 0] S1x1024x64.size inb_S16x1024x64_S1x1024x64_0_0_0)) (View.ld X.x3 (Rect.unit (s := S16x1024x64) ![1, 0, 0] S1x1024x64.size inb_S16x1024x64_S1x1024x64_1_0_0))
def Blocks.v1172 : FVec F S1024x64 .f32 := k5_pay101 X.v1140 (View.ld X.x3 (Rect.unit (s := S16x1024x64) ![2, 0, 0] S1x1024x64.size inb_S16x1024x64_S1x1024x64_2_0_0)) (View.ld X.x3 (Rect.unit (s := S16x1024x64) ![3, 0, 0] S1x1024x64.size inb_S16x1024x64_S1x1024x64_3_0_0)) (View.ld X.x3 (Rect.unit (s := S16x1024x64) ![4, 0, 0] S1x1024x64.size inb_S16x1024x64_S1x1024x64_4_0_0)) (View.ld X.x3 (Rect.unit (s := S16x1024x64) ![5, 0, 0] S1x1024x64.size inb_S16x1024x64_S1x1024x64_5_0_0)) (View.ld X.x3 (Rect.unit (s := S16x1024x64) ![6, 0, 0] S1x1024x64.size inb_S16x1024x64_S1x1024x64_6_0_0)) (View.ld X.x3 (Rect.unit (s := S16x1024x64) ![7, 0, 0] S1x1024x64.size inb_S16x1024x64_S1x1024x64_7_0_0)) (View.ld X.x3 (Rect.unit (s := S16x1024x64) ![8, 0, 0] S1x1024x64.size inb_S16x1024x64_S1x1024x64_8_0_0)) (View.ld X.x3 (Rect.unit (s := S16x1024x64) ![9, 0, 0] S1x1024x64.size inb_S16x1024x64_S1x1024x64_9_0_0))
def Blocks.v1173 : FVec F S1024x64 .f32 := k5_pay102 X.v1141 (View.ld X.x3 (Rect.unit (s := S16x1024x64) ![2, 0, 0] S1x1024x64.size inb_S16x1024x64_S1x1024x64_2_0_0)) (View.ld X.x3 (Rect.unit (s := S16x1024x64) ![3, 0, 0] S1x1024x64.size inb_S16x1024x64_S1x1024x64_3_0_0)) (View.ld X.x3 (Rect.unit (s := S16x1024x64) ![4, 0, 0] S1x1024x64.size inb_S16x1024x64_S1x1024x64_4_0_0)) (View.ld X.x3 (Rect.unit (s := S16x1024x64) ![5, 0, 0] S1x1024x64.size inb_S16x1024x64_S1x1024x64_5_0_0)) (View.ld X.x3 (Rect.unit (s := S16x1024x64) ![6, 0, 0] S1x1024x64.size inb_S16x1024x64_S1x1024x64_6_0_0)) (View.ld X.x3 (Rect.unit (s := S16x1024x64) ![7, 0, 0] S1x1024x64.size inb_S16x1024x64_S1x1024x64_7_0_0)) (View.ld X.x3 (Rect.unit (s := S16x1024x64) ![8, 0, 0] S1x1024x64.size inb_S16x1024x64_S1x1024x64_8_0_0)) (View.ld X.x3 (Rect.unit (s := S16x1024x64) ![9, 0, 0] S1x1024x64.size inb_S16x1024x64_S1x1024x64_9_0_0))
def Blocks.v1174 : Vec F S1x1024x64 .f32 := (View.ld X.x3 (Rect.unit (s := S16x1024x64) ![10, 0, 0] S1x1024x64.size inb_S16x1024x64_S1x1024x64_10_0_0))
def Blocks.v1196 : FVec F S1024x64 .f32 := k5_pay109 X.v1172 X.v1174 (View.ld X.x3 (Rect.unit (s := S16x1024x64) ![11, 0, 0] S1x1024x64.size inb_S16x1024x64_S1x1024x64_11_0_0)) (View.ld X.x3 (Rect.unit (s := S16x1024x64) ![12, 0, 0] S1x1024x64.size inb_S16x1024x64_S1x1024x64_12_0_0)) (View.ld X.x3 (Rect.unit (s := S16x1024x64) ![13, 0, 0] S1x1024x64.size inb_S16x1024x64_S1x1024x64_13_0_0)) (View.ld X.x3 (Rect.unit (s := S16x1024x64) ![14, 0, 0] S1x1024x64.size inb_S16x1024x64_S1x1024x64_14_0_0)) (View.ld X.x3 (Rect.unit (s := S16x1024x64) ![15, 0, 0] S1x1024x64.size inb_S16x1024x64_S1x1024x64_15_0_0))
def Blocks.v1197 : FVec F S1024x64 .f32 := k5_pay110 X.v1173 X.v1174 (View.ld X.x3 (Rect.unit (s := S16x1024x64) ![11, 0, 0] S1x1024x64.size inb_S16x1024x64_S1x1024x64_11_0_0)) (View.ld X.x3 (Rect.unit (s := S16x1024x64) ![12, 0, 0] S1x1024x64.size inb_S16x1024x64_S1x1024x64_12_0_0)) (View.ld X.x3 (Rect.unit (s := S16x1024x64) ![13, 0, 0] S1x1024x64.size inb_S16x1024x64_S1x1024x64_13_0_0)) (View.ld X.x3 (Rect.unit (s := S16x1024x64) ![14, 0, 0] S1x1024x64.size inb_S16x1024x64_S1x1024x64_14_0_0)) (View.ld X.x3 (Rect.unit (s := S16x1024x64) ![15, 0, 0] S1x1024x64.size inb_S16x1024x64_S1x1024x64_15_0_0))
def Blocks.v1202 : FVec F S1024x16 .f32 := k5_pay112 (View.ld X.x4 (Rect.unit (s := S1024x16x64) ![0, 0, 0] S1024x16x64.size inb_S1024x16x64_S1024x16x64_0_0_0))
def Blocks.v1203 : FVec F S1024x16 .f32 := k5_pay113 (View.ld X.x4 (Rect.unit (s := S1024x16x64) ![0, 0, 0] S1024x16x64.size inb_S1024x16x64_S1024x16x64_0_0_0))
def Blocks.v1205 : FVec F S64x16x1024 .f32 := k5_pay114 X.v1053 X.v1070
def Blocks.v1211 : FVec F S64x16x256 .f32 := k5_pay115 X.v1122 X.v1133
def Blocks.v1213 : FVec F S64x16x256 .f32 := k5_pay116 X.v1083 X.v1211
def Blocks.v1221 : FVec F S64x16x64 .f32 := k5_pay117 X.v1096 X.v1196 X.v1197
def Blocks.v1229 : FVec F S64x16x16 .f32 := k5_pay118 X.v1109 X.v1202 X.v1203
def Blocks.v1258 : FVec F S64x16x1024 .f32 := k5_pay119 X.v1205 (View.ld X.x39 (Rect.unit (s := S16x1024) ![0, 0] S16x1024.size inb_S16x1024_S16x1024_0_0))
def Blocks.v1302 : FVec F S1x1x1 .f32 := k5_pay120 X.v904 X.v1258 (View.ld X.x43 (Rect.unit (s := S16x1024) ![0, 0] S16x1024.size inb_S16x1024_S16x1024_0_0)) (View.ld X.x10 (Rect.unit (s := S64x1024) ![0, 0] S64x1024.size inb_S64x1024_S64x1024_0_0))
def Blocks.v1309 : FVec F S1x1 .f32 := k5_pay121 X.v1040 X.v1051 X.v1302
def Blocks.v1343 : FVec F S64x16x256 .f32 := k5_pay122 X.v1213 (View.ld X.x40 (Rect.unit (s := S16x256) ![0, 0] S16x256.size inb_S16x256_S16x256_0_0)) (View.ld X.x44 (Rect.unit (s := S16x256) ![0, 0] S16x256.size inb_S16x256_S16x256_0_0))
def Blocks.v1345 : FVec F S64x256 .f32 := k5_pay123 (View.ld X.x11 (Rect.unit (s := S64x256) ![0, 0] S64x256.size inb_S64x256_S64x256_0_0))
def Blocks.v1347 : FVec F S64 .f32 := k5_pay124 (View.ld X.x11 (Rect.unit (s := S64x256) ![0, 0] S64x256.size inb_S64x256_S64x256_0_0))
def Blocks.v1389 : FVec F S1x1 .f32 := k5_pay125 X.v944 X.v1051 X.v1309 X.v1343 X.v1345 X.v1347
def Blocks.v1393 : FVec F S64x16x1 .f32 := k5_pay126 X.v1221
def Blocks.cst_568 (_X : Blocks F) : F .f32 := Scalar.ofBits .f32 0x2B8CBCCC#32
def Blocks.v1436 : FVec F S64x16x64 .f32 := k5_pay127 X.v1221 X.v1393 X.cst_568 (View.ld X.x41 (Rect.unit (s := S16x64) ![0, 0] S16x64.size inb_S16x64_S16x64_0_0)) (View.ld X.x45 (Rect.unit (s := S16x64) ![0, 0] S16x64.size inb_S16x64_S16x64_0_0)) (View.ld X.x12 (Rect.unit (s := S64x64) ![0, 0] S64x64.size inb_S64x64_S64x64_0_0))
def Blocks.v1437 : FVec F S64x16x64 .f32 := k5_pay128 X.v1221 X.v1393 X.cst_568 (View.ld X.x41 (Rect.unit (s := S16x64) ![0, 0] S16x64.size inb_S16x64_S16x64_0_0)) (View.ld X.x45 (Rect.unit (s := S16x64) ![0, 0] S16x64.size inb_S16x64_S16x64_0_0)) (View.ld X.x12 (Rect.unit (s := S64x64) ![0, 0] S64x64.size inb_S64x64_S64x64_0_0))
def Blocks.v1439 : IVec S64x16x64 1 := k5_pay129 X.v1221 X.v1393 X.cst_568 (View.ld X.x41 (Rect.unit (s := S16x64) ![0, 0] S16x64.size inb_S16x64_S16x64_0_0)) (View.ld X.x45 (Rect.unit (s := S16x64) ![0, 0] S16x64.size inb_S16x64_S16x64_0_0)) (View.ld X.x12 (Rect.unit (s := S64x64) ![0, 0] S64x64.size inb_S64x64_S64x64_0_0))
def Blocks.v1469 : FVec F S1x1 .f32 := k5_pay130 X.v984 X.v1051 X.v1389 X.v1436 X.v1437 X.v1439
def Blocks.v1483 : FVec F S64x16x16 .f32 := k5_pay131 X.v1229
def Blocks.v1484 : FVec F S64x16x16 .f32 := k5_pay132 X.v1229
def Blocks.v1528 : FVec F S64x16 .f32 := k5_pay134 X.v1483 X.v1484 (View.ld X.x42 (Rect.unit (s := S16x16) ![0, 0] S16x16.size inb_S16x16_S16x16_0_0)) (View.ld X.x46 (Rect.unit (s := S16x16) ![0, 0] S16x16.size inb_S16x16_S16x16_0_0)) (View.ld X.x13 (Rect.unit (s := S64x16) ![0, 0] S64x16.size inb_S64x16_S64x16_0_0))
def Blocks.v1529 : FVec F S64x16x16 .f32 := k5_pay135 X.v1483 X.v1484 (View.ld X.x42 (Rect.unit (s := S16x16) ![0, 0] S16x16.size inb_S16x16_S16x16_0_0)) (View.ld X.x46 (Rect.unit (s := S16x16) ![0, 0] S16x16.size inb_S16x16_S16x16_0_0)) (View.ld X.x13 (Rect.unit (s := S64x16) ![0, 0] S64x16.size inb_S64x16_S64x16_0_0))
def Blocks.v1546 : FVec F S1x1 .f32 := k5_pay136 X.v1024 X.v1528 X.v1529
def Blocks.v1547 : FVec F S1x1 .f32 := k5_pay137 X.v1051

/-- The loss the call stores. -/
def Blocks.out : FVec F S1x1 .f32 := k5_pay1 X.v1469 X.v1546 X.v1547

end Cert.KernelIdeal.Epi

end
-- ==== Proof.KernelIdealParts.lean ====
/-
  The last call's program returns the values named for it: part by part, then as a whole.
-/
module

public import proofs.«01_k».proof.Proof.Reads
public import proofs.«01_k».proof.Proof.KernelIdealValues
public import proofs.«01_k».proof.Proof.Gen.KernelIdeal.Launch

@[expose] public section

set_option maxRecDepth 16384

noncomputable section

namespace Cert.KernelIdeal.Epi

open Idealize.ShloMosaic Idealize.ShloMosaic.TcCoe Idealize.ShloMosaic.Tactic Cert.KernelIdeal.Gen Cert.Reads
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Every input buffer is held, at its block. -/
structure Held (c : Dev nD) (J : sProp 𝕄) (R : Refs) (X : Blocks F) : Prop where
  h0 : Holds (U := UR sig nD τ) (c := (c : Thread nD τ)) J R.m0 X.x0
  h1 : Holds (U := UR sig nD τ) (c := (c : Thread nD τ)) J R.m1 X.x1
  h2 : Holds (U := UR sig nD τ) (c := (c : Thread nD τ)) J R.m2 X.x2
  h3 : Holds (U := UR sig nD τ) (c := (c : Thread nD τ)) J R.m3 X.x3
  h4 : Holds (U := UR sig nD τ) (c := (c : Thread nD τ)) J R.m4 X.x4
  h5 : Holds (U := UR sig nD τ) (c := (c : Thread nD τ)) J R.m5 X.x5
  h6 : Holds (U := UR sig nD τ) (c := (c : Thread nD τ)) J R.m6 X.x6
  h7 : Holds (U := UR sig nD τ) (c := (c : Thread nD τ)) J R.m7 X.x7
  h8 : Holds (U := UR sig nD τ) (c := (c : Thread nD τ)) J R.m8 X.x8
  h9 : Holds (U := UR sig nD τ) (c := (c : Thread nD τ)) J R.m9 X.x9
  h10 : Holds (U := UR sig nD τ) (c := (c : Thread nD τ)) J R.m10 X.x10
  h11 : Holds (U := UR sig nD τ) (c := (c : Thread nD τ)) J R.m11 X.x11
  h12 : Holds (U := UR sig nD τ) (c := (c : Thread nD τ)) J R.m12 X.x12
  h13 : Holds (U := UR sig nD τ) (c := (c : Thread nD τ)) J R.m13 X.x13
  h14 : Holds (U := UR sig nD τ) (c := (c : Thread nD τ)) J R.m14 X.x14
  h15 : Holds (U := UR sig nD τ) (c := (c : Thread nD τ)) J R.m15 X.x15
  h16 : Holds (U := UR sig nD τ) (c := (c : Thread nD τ)) J R.m16 X.x16
  h17 : Holds (U := UR sig nD τ) (c := (c : Thread nD τ)) J R.m17 X.x17
  h18 : Holds (U := UR sig nD τ) (c := (c : Thread nD τ)) J R.m18 X.x18
  h19 : Holds (U := UR sig nD τ) (c := (c : Thread nD τ)) J R.m19 X.x19
  h20 : Holds (U := UR sig nD τ) (c := (c : Thread nD τ)) J R.m20 X.x20
  h21 : Holds (U := UR sig nD τ) (c := (c : Thread nD τ)) J R.m21 X.x21
  h22 : Holds (U := UR sig nD τ) (c := (c : Thread nD τ)) J R.m22 X.x22
  h23 : Holds (U := UR sig nD τ) (c := (c : Thread nD τ)) J R.m23 X.x23
  h24 : Holds (U := UR sig nD τ) (c := (c : Thread nD τ)) J R.m24 X.x24
  h25 : Holds (U := UR sig nD τ) (c := (c : Thread nD τ)) J R.m25 X.x25
  h26 : Holds (U := UR sig nD τ) (c := (c : Thread nD τ)) J R.m26 X.x26
  h27 : Holds (U := UR sig nD τ) (c := (c : Thread nD τ)) J R.m27 X.x27
  h28 : Holds (U := UR sig nD τ) (c := (c : Thread nD τ)) J R.m28 X.x28
  h29 : Holds (U := UR sig nD τ) (c := (c : Thread nD τ)) J R.m29 X.x29
  h30 : Holds (U := UR sig nD τ) (c := (c : Thread nD τ)) J R.m30 X.x30
  h31 : Holds (U := UR sig nD τ) (c := (c : Thread nD τ)) J R.m31 X.x31
  h32 : Holds (U := UR sig nD τ) (c := (c : Thread nD τ)) J R.m32 X.x32
  h33 : Holds (U := UR sig nD τ) (c := (c : Thread nD τ)) J R.m33 X.x33
  h34 : Holds (U := UR sig nD τ) (c := (c : Thread nD τ)) J R.m34 X.x34
  h35 : Holds (U := UR sig nD τ) (c := (c : Thread nD τ)) J R.m35 X.x35
  h36 : Holds (U := UR sig nD τ) (c := (c : Thread nD τ)) J R.m36 X.x36
  h37 : Holds (U := UR sig nD τ) (c := (c : Thread nD τ)) J R.m37 X.x37
  h38 : Holds (U := UR sig nD τ) (c := (c : Thread nD τ)) J R.m38 X.x38
  h39 : Holds (U := UR sig nD τ) (c := (c : Thread nD τ)) J R.m39 X.x39
  h40 : Holds (U := UR sig nD τ) (c := (c : Thread nD τ)) J R.m40 X.x40
  h41 : Holds (U := UR sig nD τ) (c := (c : Thread nD τ)) J R.m41 X.x41
  h42 : Holds (U := UR sig nD τ) (c := (c : Thread nD τ)) J R.m42 X.x42
  h43 : Holds (U := UR sig nD τ) (c := (c : Thread nD τ)) J R.m43 X.x43
  h44 : Holds (U := UR sig nD τ) (c := (c : Thread nD τ)) J R.m44 X.x44
  h45 : Holds (U := UR sig nD τ) (c := (c : Thread nD τ)) J R.m45 X.x45
  h46 : Holds (U := UR sig nD τ) (c := (c : Thread nD τ)) J R.m46 X.x46

/-- Run at these buffers, holding `J`, a program returns a value. -/
abbrev Gives (c : Dev nD) (J : sProp 𝕄) {α : Type} (p : Prog (TpuEff nD τ sig (Elt F) Λ₀ .tc) α) (r : α) : Prop :=
  Returns (U := UR sig nD τ) (defs₀ (F := F)) (c : Thread nD τ) Set.univ J p r

variable {c : Dev nD} {J : sProp (MT nD τ sig Unit (Elt F) ℕ (UR sig nD τ) ℕ)} {R : Refs} {X : Blocks F}

/-! ## The parts -/

theorem part1 (H : Held c J R X) : Gives c J (R.app k5_part1 ) ⟨X.v1, X.v40⟩ := by
  rw [k5_part1_eq_skeleton (F := F)]; unfold Refs.app k5_part1_skel
  exact .bind (.load H.h0) <| .bind (.load H.h16) <| .bind (.load H.h17) <| .bind (.load H.h18) <| .bind (.load H.h19) <| .pure _

theorem part2 (H : Held c J R X) : Gives c J (R.app k5_part2 X.v1) ⟨X.v79, X.v81⟩ := by
  rw [k5_part2_eq_skeleton (F := F)]; unfold Refs.app k5_part2_skel
  exact .bind (.load H.h16) <| .bind (.load H.h17) <| .bind (.load H.h18) <| .bind (.load H.h19) <| .pure _

theorem part3 (H : Held c J R X) : Gives c J (R.app k5_part3 X.v1 X.v81) ⟨X.v118, X.v123⟩ := by
  rw [k5_part3_eq_skeleton (F := F)]; unfold Refs.app k5_part3_skel
  exact .bind (.load H.h16) <| .bind (.load H.h17) <| .bind (.load H.h18) <| .bind (.load H.h19) <| .bind (.load H.h16) <| .pure _

theorem part4 (H : Held c J R X) : Gives c J (R.app k5_part4 X.v1 X.v123) ⟨X.v157, X.v162, X.v166⟩ := by
  rw [k5_part4_eq_skeleton (F := F)]; unfold Refs.app k5_part4_skel
  exact .bind (.load H.h17) <| .bind (.load H.h18) <| .bind (.load H.h19) <| .bind (.load H.h16) <| .bind (.load H.h17) <| .pure _

theorem part5 (H : Held c J R X) : Gives c J (R.app k5_part5 X.v1 X.v162 X.v166) ⟨X.v196, X.v206, X.v208⟩ := by
  rw [k5_part5_eq_skeleton (F := F)]; unfold Refs.app k5_part5_skel
  exact .bind (.load H.h18) <| .bind (.load H.h19) <| .bind (.load H.h16) <| .bind (.load H.h17) <| .bind (.load H.h18) <| .pure _

theorem part6 (H : Held c J R X) : Gives c J (R.app k5_part6 X.v1 X.v206 X.v208) ⟨X.v235, X.v245, X.v247, X.v249⟩ := by
  rw [k5_part6_eq_skeleton (F := F)]; unfold Refs.app k5_part6_skel
  exact .bind (.load H.h19) <| .bind (.load H.h16) <| .bind (.load H.h17) <| .bind (.load H.h18) <| .bind (.load H.h19) <| .pure _

theorem part7 (H : Held c J R X) : Gives c J (R.app k5_part7 X.v1 X.v245 X.v247 X.v249) ⟨X.v274, X.v284, X.v286, X.v288, X.v292⟩ := by
  rw [k5_part7_eq_skeleton (F := F)]; unfold Refs.app k5_part7_skel
  exact .bind (.load H.h16) <| .bind (.load H.h17) <| .bind (.load H.h18) <| .bind (.load H.h19) <| .pure _

theorem part8 (H : Held c J R X) : Gives c J (R.app k5_part8 X.v1 X.v284 X.v286 X.v288 X.v292) ⟨X.v313, X.v325, X.v327, X.v333, X.v335⟩ := by
  rw [k5_part8_eq_skeleton (F := F)]; unfold Refs.app k5_part8_skel
  exact .bind (.load H.h16) <| .bind (.load H.h17) <| .bind (.load H.h18) <| .bind (.load H.h19) <| .pure _

theorem part9 (H : Held c J R X) : Gives c J (R.app k5_part9 X.v1 X.v325 X.v327 X.v333 X.v335) ⟨X.v352, X.v364, X.v366, X.v372, X.v377, X.cst_150⟩ := by
  rw [k5_part9_eq_skeleton (F := F)]; unfold Refs.app k5_part9_skel
  exact .bind (.load H.h16) <| .bind (.load H.h17) <| .bind (.load H.h18) <| .bind (.load H.h19) <| .pure _

theorem part10 (H : Held c J R X) : Gives c J (R.app k5_part10 X.v1 X.v364 X.v366 X.v372 X.v377 X.cst_150) ⟨X.v391, X.v403, X.v405, X.v421⟩ := by
  rw [k5_part10_eq_skeleton (F := F)]; unfold Refs.app k5_part10_skel
  exact .bind (.load H.h16) <| .bind (.load H.h17) <| .bind (.load H.h18) <| .bind (.load H.h19) <| .pure _

theorem part11 (H : Held c J R X) : Gives c J (R.app k5_part11 X.v1 X.v403 X.v405 X.v421) ⟨X.v430, X.v463, X.v465⟩ := by
  rw [k5_part11_eq_skeleton (F := F)]; unfold Refs.app k5_part11_skel
  exact .bind (.load H.h16) <| .bind (.load H.h17) <| .bind (.load H.h18) <| .bind (.load H.h19) <| .pure _

theorem part12 (H : Held c J R X) : Gives c J (R.app k5_part12 X.v1 X.v463 X.v465) ⟨X.v469, X.v508⟩ := by
  rw [k5_part12_eq_skeleton (F := F)]; unfold Refs.app k5_part12_skel
  exact .bind (.load H.h16) <| .bind (.load H.h17) <| .bind (.load H.h18) <| .bind (.load H.h19) <| .pure _

theorem part13 (H : Held c J R X) : Gives c J (R.app k5_part13 X.v1) ⟨X.v547, X.v549⟩ := by
  rw [k5_part13_eq_skeleton (F := F)]; unfold Refs.app k5_part13_skel
  exact .bind (.load H.h16) <| .bind (.load H.h17) <| .bind (.load H.h18) <| .bind (.load H.h19) <| .pure _

theorem part14 (H : Held c J R X) : Gives c J (R.app k5_part14 X.v1 X.v549) ⟨X.v586, X.v591⟩ := by
  rw [k5_part14_eq_skeleton (F := F)]; unfold Refs.app k5_part14_skel
  exact .bind (.load H.h16) <| .bind (.load H.h17) <| .bind (.load H.h18) <| .bind (.load H.h19) <| .bind (.load H.h16) <| .pure _

theorem part15 (H : Held c J R X) : Gives c J (R.app k5_part15 X.v40 X.v79 X.v118 X.v157 X.v196 X.v235 X.v274 X.v313 X.v352 X.v391 X.v430 X.v469 X.v508 X.v547 X.v586 X.v591) X.v633 := by
  rw [k5_part15_eq_skeleton (F := F)]; unfold Refs.app k5_part15_skel
  exact .bind (.load H.h17) <| .bind (.load H.h18) <| .bind (.load H.h19) <| .bind (.load H.h20) <| .bind (.load H.h21) <| .pure _

theorem part16 (H : Held c J R X) : Gives c J (R.app k5_part16 X.v633) ⟨X.v665, X.v667, X.v669, X.v674⟩ := by
  rw [k5_part16_eq_skeleton (F := F)]; unfold Refs.app k5_part16_skel
  exact .bind (.load H.h22) <| .bind (.load H.h23) <| .bind (.load H.h24) <| .bind (.load H.h25) <| .bind (.load H.h26) <| .bind (.load H.h27) <| .pure _

theorem part17 (H : Held c J R X) : Gives c J (R.app k5_part17 X.v665 X.v667 X.v669 X.v674) ⟨X.v691, X.v702, X.v706, X.v710⟩ := by
  rw [k5_part17_eq_skeleton (F := F)]; unfold Refs.app k5_part17_skel
  exact .bind (.load H.h7) <| .bind (.load H.h30) <| .bind (.load H.h8) <| .bind (.load H.h31) <| .bind (.load H.h5) <| .bind (.load H.h28) <| .bind (.load H.h6) <| .bind (.load H.h29) <| .pure _

theorem part18 (H : Held c J R X) : Gives c J (R.app k5_part18 X.v706) ⟨X.v714, X.v745, X.v752⟩ := by
  rw [k5_part18_eq_skeleton (F := F)]; unfold Refs.app k5_part18_skel
  exact .bind (.load H.h9) <| .bind (.load H.h32) <| .bind (.load H.h33) <| .bind (.load H.h34) <| .bind (.load H.h35) <| .pure _

theorem part19 (H : Held c J R X) : Gives c J (R.app k5_part19 X.v702 X.v710 X.v745 X.v752) ⟨X.v753, X.v792, X.v797⟩ := by
  rw [k5_part19_eq_skeleton (F := F)]; unfold Refs.app k5_part19_skel
  exact .bind (.load H.h33) <| .bind (.load H.h34) <| .bind (.load H.h35) <| .bind (.load H.h33) <| .pure _

theorem part20 (H : Held c J R X) : Gives c J (R.app k5_part20 X.v714 X.v797) ⟨X.v831, X.v836, X.v838, X.v840⟩ := by
  rw [k5_part20_eq_skeleton (F := F)]; unfold Refs.app k5_part20_skel
  exact .bind (.load H.h34) <| .bind (.load H.h35) <| .bind (.load H.h33) <| .bind (.load H.h34) <| .bind (.load H.h35) <| .pure _

theorem part21 (H : Held c J R X) : Gives c J (R.app k5_part21 X.v691 X.v753 X.v836 X.v838 X.v840) ⟨X.v870, X.v873, X.v874, X.v884, X.v885⟩ := by
  rw [k5_part21_eq_skeleton (F := F)]; unfold Refs.app k5_part21_skel
  exact .bind (.load H.h36) <| .bind (.load H.h37) <| .pure _

theorem part22 (H : Held c J R X) : Gives c J (R.app k5_part22 X.v691 X.v792 X.v873 X.v874 X.v884 X.v885) ⟨X.v904, X.v914, X.v935⟩ := by
  rw [k5_part22_eq_skeleton (F := F)]; unfold Refs.app k5_part22_skel
  exact .pure _

theorem part23 (H : Held c J R X) : Gives c J (R.app k5_part23 X.v691 X.v831 X.v873 X.v914 X.v935) ⟨X.v944, X.v954, X.v984, X.cst_377⟩ := by
  rw [k5_part23_eq_skeleton (F := F)]; unfold Refs.app k5_part23_skel
  exact .pure _

theorem part24 (H : Held c J R X) : Gives c J (R.app k5_part24 X.v691 X.v870 X.v873 X.v954 X.v984 X.cst_377) ⟨X.v1024, X.v1034, X.cst_387⟩ := by
  rw [k5_part24_eq_skeleton (F := F)]; unfold Refs.app k5_part24_skel
  exact .pure _

theorem part25 (H : Held c J R X) : Gives c J (R.app k5_part25 X.v1034 X.cst_387) ⟨X.v1040, X.v1051, X.v1053, X.v1057, X.v1070, X.v1073⟩ := by
  rw [k5_part25_eq_skeleton (F := F)]; unfold Refs.app k5_part25_skel
  exact .bind (.load H.h38) <| .bind (.load H.h1) <| .bind (.word H.h14) <| .bind (.word H.h15) <| .bind (.word H.h14) <| .pure _

theorem part26 (H : Held c J R X) : Gives c J (R.app k5_part26 X.v1057 X.v1073) ⟨X.v1083, X.v1096, X.v1109, X.v1111⟩ := by
  rw [k5_part26_eq_skeleton (F := F)]; unfold Refs.app k5_part26_skel
  exact .bind (.word H.h15) <| .bind (.word H.h14) <| .bind (.word H.h15) <| .bind (.word H.h14) <| .bind (.word H.h15) <| .bind (.load H.h2) <| .pure _

theorem part27 (H : Held c J R X) : Gives c J (R.app k5_part27 X.v1111) ⟨X.v1122, X.v1133, X.v1140, X.v1141⟩ := by
  rw [k5_part27_eq_skeleton (F := F)]; unfold Refs.app k5_part27_skel
  exact .bind (.load H.h2) <| .bind (.load H.h2) <| .bind (.load H.h2) <| .bind (.load H.h2) <| .bind (.load H.h2) <| .bind (.load H.h2) <| .bind (.load H.h2) <| .bind (.load H.h3) <| .bind (.load H.h3) <| .bind (.load H.h3) <| .pure _

theorem part28 (H : Held c J R X) : Gives c J (R.app k5_part28 X.v1140 X.v1141) ⟨X.v1172, X.v1173, X.v1174⟩ := by
  rw [k5_part28_eq_skeleton (F := F)]; unfold Refs.app k5_part28_skel
  exact .bind (.load H.h3) <| .bind (.load H.h3) <| .bind (.load H.h3) <| .bind (.load H.h3) <| .bind (.load H.h3) <| .bind (.load H.h3) <| .bind (.load H.h3) <| .bind (.load H.h3) <| .bind (.load H.h3) <| .pure _

theorem part29 (H : Held c J R X) : Gives c J (R.app k5_part29 X.v1053 X.v1070 X.v1122 X.v1133 X.v1172 X.v1173 X.v1174) ⟨X.v1196, X.v1197, X.v1202, X.v1203, X.v1205, X.v1211⟩ := by
  rw [k5_part29_eq_skeleton (F := F)]; unfold Refs.app k5_part29_skel
  exact .bind (.load H.h3) <| .bind (.load H.h3) <| .bind (.load H.h3) <| .bind (.load H.h3) <| .bind (.load H.h3) <| .bind (.load H.h4) <| .pure _

theorem part30 (H : Held c J R X) : Gives c J (R.app k5_part30 X.v1083 X.v1096 X.v1109 X.v1196 X.v1197 X.v1202 X.v1203 X.v1205 X.v1211) ⟨X.v1213, X.v1221, X.v1229, X.v1258⟩ := by
  rw [k5_part30_eq_skeleton (F := F)]; unfold Refs.app k5_part30_skel
  exact .bind (.load H.h39) <| .pure _

theorem part31 (H : Held c J R X) : Gives c J (R.app k5_part31 X.v904 X.v1258) X.v1302 := by
  rw [k5_part31_eq_skeleton (F := F)]; unfold Refs.app k5_part31_skel
  exact .bind (.load H.h43) <| .bind (.load H.h10) <| .pure _

theorem part32 (H : Held c J R X) : Gives c J (R.app k5_part32 X.v1040 X.v1051 X.v1213 X.v1302) ⟨X.v1309, X.v1343, X.v1345, X.v1347⟩ := by
  rw [k5_part32_eq_skeleton (F := F)]; unfold Refs.app k5_part32_skel
  exact .bind (.load H.h40) <| .bind (.load H.h44) <| .bind (.load H.h11) <| .pure _

theorem part33 (H : Held c J R X) : Gives c J (R.app k5_part33 X.v944 X.v1051 X.v1221 X.v1309 X.v1343 X.v1345 X.v1347) ⟨X.v1389, X.v1393, X.cst_568⟩ := by
  rw [k5_part33_eq_skeleton (F := F)]; unfold Refs.app k5_part33_skel
  exact .pure _

theorem part34 (H : Held c J R X) : Gives c J (R.app k5_part34 X.v1221 X.v1393 X.cst_568) ⟨X.v1436, X.v1437, X.v1439⟩ := by
  rw [k5_part34_eq_skeleton (F := F)]; unfold Refs.app k5_part34_skel
  exact .bind (.load H.h41) <| .bind (.load H.h45) <| .bind (.load H.h12) <| .pure _

theorem part35 (H : Held c J R X) : Gives c J (R.app k5_part35 X.v984 X.v1051 X.v1229 X.v1389 X.v1436 X.v1437 X.v1439) ⟨X.v1469, X.v1483, X.v1484⟩ := by
  rw [k5_part35_eq_skeleton (F := F)]; unfold Refs.app k5_part35_skel
  exact .pure _

theorem part36 (H : Held c J R X) : Gives c J (R.app k5_part36 X.v1483 X.v1484) ⟨X.v1528, X.v1529⟩ := by
  rw [k5_part36_eq_skeleton (F := F)]; unfold Refs.app k5_part36_skel
  exact .bind (.load H.h42) <| .bind (.load H.h46) <| .bind (.load H.h13) <| .pure _

/-- The whole program up to its last load and store. -/
theorem part37 (H : Held c J R X) : Gives c J (R.app k5_part37) ⟨X.v1469, X.v1546, X.v1547⟩ := by
  rw [k5_part37_eq_skeleton (F := F)]; unfold Refs.app k5_part37_skel
  exact .bind (part1 H) <| .bind (part2 H) <| .bind (part3 H) <| .bind (part4 H) <| .bind (part5 H) <| .bind (part6 H) <| .bind (part7 H) <| .bind (part8 H) <| .bind (part9 H) <| .bind (part10 H) <| .bind (part11 H) <| .bind (part12 H) <| .bind (part13 H) <| .bind (part14 H) <| .bind (part15 H) <| .bind (part16 H) <| .bind (part17 H) <| .bind (part18 H) <| .bind (part19 H) <| .bind (part20 H) <| .bind (part21 H) <| .bind (part22 H) <| .bind (part23 H) <| .bind (part24 H) <| .bind (part25 H) <| .bind (part26 H) <| .bind (part27 H) <| .bind (part28 H) <| .bind (part29 H) <| .bind (part30 H) <| .bind (part31 H) <| .bind (part32 H) <| .bind (part33 H) <| .bind (part34 H) <| .bind (part35 H) <| .bind (part36 H) <| .pure _

end Cert.KernelIdeal.Epi

end
-- ==== Proof.KernelIdealRegion.lean ====
/-
  The last call as a region: from whatever its arrays hold on entry, its body leaves the loss of the blocks in its output.
-/
module

public import proofs.«01_k».proof.Proof.KernelIdealParts
public import proofs.«01_k».proof.Proof.Gen.KernelIdeal.Points
public import Idealize.ShloMosaic.Lib.Pipeline.RegionsLoop
public import Idealize.ShloMosaic.Lib.Pipeline.FrameSuffix
public import Idealize.ShloMosaic.Lib.Pipeline.Value

@[expose] public section

set_option maxRecDepth 16384

noncomputable section

namespace Cert.KernelIdeal.Epi

open Idealize.ShloMosaic Idealize.ShloMosaic.TcCoe Idealize.ShloMosaic.Tactic Cert.KernelIdeal.Gen Cert.Reads
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Where the body stores its result. -/
abbrev outRect : Rect S1x1 := Rect.unit (s := S1x1) ![0, 0] S1x1.size inb_S1x1_S1x1_0_0

/-- The store covers the buffer, -/
theorem cover (p : Vec F S1x1 .f32) (y : S1x1.Idx) :
    ∃ pc ∈ ([⟨outRect, p⟩] : List (View.Piece (Elt F) S1x1 .f32)), y ∈ pc.1.set :=
  View.cover_of_tiled [⟨outRect, p⟩] S1x1.size (by rfl) y

/-- and leaves what it stores. -/
theorem stored (p : Vec F S1x1 .f32) : View.canon ([⟨outRect, p⟩] : List (View.Piece (Elt F) S1x1 .f32)) = p :=
  View.canon_unit_zero (funext fun a => by fin_cases a <;> rfl) _ _

/-- The body from what it holds: the inputs' part `J` and the output buffer at anything. -/
theorem body {c : Dev nD} {J : sProp (MT nD τ sig Unit (Elt F) ℕ (UR sig nD τ) ℕ)} {R : Refs} {X : Blocks F} (d : Vec F S1x1 .f32) (K : PUnit → sProp 𝕄)
    (H : Held c iprop(J ∗ owns (c : Thread nD τ) R.m47 fullShare d) R X) (hK : iprop(J ∗ owns (c : Thread nD τ) R.m47 fullShare X.out) ⊢ K ⟨⟩) :
    iprop(J ∗ owns (c : Thread nD τ) R.m47 fullShare d) ⊢ wp frame (wpE (defs₀ (F := F)) Variants.none c none) Set.univ (R.app cc5_afd_epilogue) K := by
  rw [cc5_afd_epilogue_eq_skeleton (F := F)]; unfold Refs.app cc5_afd_epilogue_skel
  rw [wp_bind]
  refine part37 H _ ?_
  unfold owns
  iintro ⟨HJ, %f, -, Hm⟩
  sl_exec
  sl_step
  iapply hK
  isplitl [HJ]; · iexact HJ
  unfold owns
  iexists _; isplitr
  swap; · iexact Hm
  ipureintro
  exact (View.read_writes_eq_canon _ _ _ (cover X.out)).trans (stored X.out)

section Region
variable (V : (c : Dev nD) → (b : Ref sig .tc) → Buf (Elt F) ((c : Thread nD τ).loc b))

/-- A window's block, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input blocks together. -/
noncomputable def blocks (c : Dev nD) (t : Fin cfg5.N) : Blocks F where
  x0 := iblk5 V c 0 t
  x1 := iblk5 V c 1 t
  x2 := iblk5 V c 2 t
  x3 := iblk5 V c 3 t
  x4 := iblk5 V c 4 t
  x5 := iblk5 V c 5 t
  x6 := iblk5 V c 6 t
  x7 := iblk5 V c 7 t
  x8 := iblk5 V c 8 t
  x9 := iblk5 V c 9 t
  x10 := iblk5 V c 10 t
  x11 := iblk5 V c 11 t
  x12 := iblk5 V c 12 t
  x13 := iblk5 V c 13 t
  x14 := iblk5 V c 14 t
  x15 := iblk5 V c 15 t
  x16 := iblk5 V c 16 t
  x17 := iblk5 V c 17 t
  x18 := iblk5 V c 18 t
  x19 := iblk5 V c 19 t
  x20 := iblk5 V c 20 t
  x21 := iblk5 V c 21 t
  x22 := iblk5 V c 22 t
  x23 := iblk5 V c 23 t
  x24 := iblk5 V c 24 t
  x25 := iblk5 V c 25 t
  x26 := iblk5 V c 26 t
  x27 := iblk5 V c 27 t
  x28 := iblk5 V c 28 t
  x29 := iblk5 V c 29 t
  x30 := iblk5 V c 30 t
  x31 := iblk5 V c 31 t
  x32 := iblk5 V c 32 t
  x33 := iblk5 V c 33 t
  x34 := iblk5 V c 34 t
  x35 := iblk5 V c 35 t
  x36 := iblk5 V c 36 t
  x37 := iblk5 V c 37 t
  x38 := iblk5 V c 38 t
  x39 := iblk5 V c 39 t
  x40 := iblk5 V c 40 t
  x41 := iblk5 V c 41 t
  x42 := iblk5 V c 42 t
  x43 := iblk5 V c 43 t
  x44 := iblk5 V c 44 t
  x45 := iblk5 V c 45 t
  x46 := iblk5 V c 46 t

/-- The region's proof data: the inputs' buffers stay at their blocks, the output's ends at the loss. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => iblk5 V c 14 t
    | ⟨15, _⟩ => iblk5 V c 15 t
    | ⟨16, _⟩ => iblk5 V c 16 t
    | ⟨17, _⟩ => iblk5 V c 17 t
    | ⟨18, _⟩ => iblk5 V c 18 t
    | ⟨19, _⟩ => iblk5 V c 19 t
    | ⟨20, _⟩ => iblk5 V c 20 t
    | ⟨21, _⟩ => iblk5 V c 21 t
    | ⟨22, _⟩ => iblk5 V c 22 t
    | ⟨23, _⟩ => iblk5 V c 23 t
    | ⟨24, _⟩ => iblk5 V c 24 t
    | ⟨25, _⟩ => iblk5 V c 25 t
    | ⟨26, _⟩ => iblk5 V c 26 t
    | ⟨27, _⟩ => iblk5 V c 27 t
    | ⟨28, _⟩ => iblk5 V c 28 t
    | ⟨29, _⟩ => iblk5 V c 29 t
    | ⟨30, _⟩ => iblk5 V c 30 t
    | ⟨31, _⟩ => iblk5 V c 31 t
    | ⟨32, _⟩ => iblk5 V c 32 t
    | ⟨33, _⟩ => iblk5 V c 33 t
    | ⟨34, _⟩ => iblk5 V c 34 t
    | ⟨35, _⟩ => iblk5 V c 35 t
    | ⟨36, _⟩ => iblk5 V c 36 t
    | ⟨37, _⟩ => iblk5 V c 37 t
    | ⟨38, _⟩ => iblk5 V c 38 t
    | ⟨39, _⟩ => iblk5 V c 39 t
    | ⟨40, _⟩ => iblk5 V c 40 t
    | ⟨41, _⟩ => iblk5 V c 41 t
    | ⟨42, _⟩ => iblk5 V c 42 t
    | ⟨43, _⟩ => iblk5 V c 43 t
    | ⟨44, _⟩ => iblk5 V c 44 t
    | ⟨45, _⟩ => iblk5 V c 45 t
    | ⟨46, _⟩ => iblk5 V c 46 t
    | ⟨47, _⟩ => (blocks V c t).out
    | ⟨_ + 48, h⟩ => absurd h (Nat.not_lt.2 (Nat.le_add_left _ _))
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_47 (c : Dev nD) (t : Fin cfg5.N) : (dat5 V c).after 47 t = (blocks V c t).out := by dsimp only [dat5]

/-- Every input is fetched at the one point. -/
theorem fetched_all : ∀ w : Fin cfg5.W, w ≠ 47 → ∀ t : Fin cfg5.N, (cfg5.win w).fetch t = true :=
  (by decide +kernel : ∀ w : Fin 48, w ≠ 47 → ∀ t : Fin grid5.N, (win5 w).fetch t = true)

set_option maxHeartbeats 4000000 in
/-- What an input's buffer holds when the body starts is what it leaves. -/
theorem keeps (c : Dev nD) (t : Fin cfg5.N) : ∀ (w : Fin 48) (_ : w ≠ 47) (d), (dat5 V c).before w t d = (dat5 V c).after w t := by
  intro w hw d
  fin_cases w
  all_goals first
    | exact absurd rfl hw
    | exact ((dat5 V c).before_fetched _ t (fetched_all _ hw t) d).trans rfl

/-- The buffers the body is called on at point `t`. -/
noncomputable def refs (t : Fin cfg5.N) : Refs where
  m0 := win5_0.stage (cfg5.slots t 0)
  w0 := hstage5_0 0
  m1 := win5_1.stage (cfg5.slots t 1)
  w1 := hstage5_1 0
  m2 := win5_2.stage (cfg5.slots t 2)
  w2 := hstage5_2 0
  m3 := win5_3.stage (cfg5.slots t 3)
  w3 := hstage5_3 0
  m4 := win5_4.stage (cfg5.slots t 4)
  w4 := hstage5_4 0
  m5 := win5_5.stage (cfg5.slots t 5)
  w5 := hstage5_5 0
  m6 := win5_6.stage (cfg5.slots t 6)
  w6 := hstage5_6 0
  m7 := win5_7.stage (cfg5.slots t 7)
  w7 := hstage5_7 0
  m8 := win5_8.stage (cfg5.slots t 8)
  w8 := hstage5_8 0
  m9 := win5_9.stage (cfg5.slots t 9)
  w9 := hstage5_9 0
  m10 := win5_10.stage (cfg5.slots t 10)
  w10 := hstage5_10 0
  m11 := win5_11.stage (cfg5.slots t 11)
  w11 := hstage5_11 0
  m12 := win5_12.stage (cfg5.slots t 12)
  w12 := hstage5_12 0
  m13 := win5_13.stage (cfg5.slots t 13)
  w13 := hstage5_13 0
  m14 := win5_14.stage (cfg5.slots t 14)
  w14 := hstage5_14 0
  m15 := win5_15.stage (cfg5.slots t 15)
  w15 := hstage5_15 0
  m16 := win5_16.stage (cfg5.slots t 16)
  w16 := hstage5_16 0
  m17 := win5_17.stage (cfg5.slots t 17)
  w17 := hstage5_17 0
  m18 := win5_18.stage (cfg5.slots t 18)
  w18 := hstage5_18 0
  m19 := win5_19.stage (cfg5.slots t 19)
  w19 := hstage5_19 0
  m20 := win5_20.stage (cfg5.slots t 20)
  w20 := hstage5_20 0
  m21 := win5_21.stage (cfg5.slots t 21)
  w21 := hstage5_21 0
  m22 := win5_22.stage (cfg5.slots t 22)
  w22 := hstage5_22 0
  m23 := win5_23.stage (cfg5.slots t 23)
  w23 := hstage5_23 0
  m24 := win5_24.stage (cfg5.slots t 24)
  w24 := hstage5_24 0
  m25 := win5_25.stage (cfg5.slots t 25)
  w25 := hstage5_25 0
  m26 := win5_26.stage (cfg5.slots t 26)
  w26 := hstage5_26 0
  m27 := win5_27.stage (cfg5.slots t 27)
  w27 := hstage5_27 0
  m28 := win5_28.stage (cfg5.slots t 28)
  w28 := hstage5_28 0
  m29 := win5_29.stage (cfg5.slots t 29)
  w29 := hstage5_29 0
  m30 := win5_30.stage (cfg5.slots t 30)
  w30 := hstage5_30 0
  m31 := win5_31.stage (cfg5.slots t 31)
  w31 := hstage5_31 0
  m32 := win5_32.stage (cfg5.slots t 32)
  w32 := hstage5_32 0
  m33 := win5_33.stage (cfg5.slots t 33)
  w33 := hstage5_33 0
  m34 := win5_34.stage (cfg5.slots t 34)
  w34 := hstage5_34 0
  m35 := win5_35.stage (cfg5.slots t 35)
  w35 := hstage5_35 0
  m36 := win5_36.stage (cfg5.slots t 36)
  w36 := hstage5_36 0
  m37 := win5_37.stage (cfg5.slots t 37)
  w37 := hstage5_37 0
  m38 := win5_38.stage (cfg5.slots t 38)
  w38 := hstage5_38 0
  m39 := win5_39.stage (cfg5.slots t 39)
  w39 := hstage5_39 0
  m40 := win5_40.stage (cfg5.slots t 40)
  w40 := hstage5_40 0
  m41 := win5_41.stage (cfg5.slots t 41)
  w41 := hstage5_41 0
  m42 := win5_42.stage (cfg5.slots t 42)
  w42 := hstage5_42 0
  m43 := win5_43.stage (cfg5.slots t 43)
  w43 := hstage5_43 0
  m44 := win5_44.stage (cfg5.slots t 44)
  w44 := hstage5_44 0
  m45 := win5_45.stage (cfg5.slots t 45)
  w45 := hstage5_45 0
  m46 := win5_46.stage (cfg5.slots t 46)
  w46 := hstage5_46 0
  m47 := win5_47.stage (cfg5.slots t 47)
  w47 := hstage5_47 0

theorem row5 (t : Fin cfg5.N) :
    defs₀ (F := F) .tc cfg5.body (cfg5.bodyArgs t (cfg5.slots t)) = (refs t).app cc5_afd_epilogue := by
  unfold defs₀; rw [Defs.onTc_tc]; rfl

/-- What the body holds beside its output buffer: the invariant, its debts and the inputs' buffers. -/
noncomputable def beside (c : Dev nD) (t : Fin cfg5.N) : sProp 𝕄 :=
  iprop(((dat5 V c).Φ t.castSucc ∗ (dat5 V c).owesAt () t.castSucc) ∗ bigSep (Finset.univ.erase (47 : Fin 48)) fun w : Fin 48 =>
    iprop(∃ d, owns (c : Thread nD τ) ((cfg5.win w).stage (cfg5.slots t w)) fullShare ((dat5 V c).before w t d)))

theorem hold (c : Dev nD) (t : Fin cfg5.N) (d : Vec F S1x1 .f32) (w : Fin 48) (hw : w ≠ 47) {X} (hX : (dat5 V c).after w t = X) :
    Holds (U := UR sig nD τ) (c := (c : Thread nD τ)) iprop(beside V c t ∗ owns (c : Thread nD τ) (refs t).m47 fullShare d)
      ((cfg5.win w).stage (cfg5.slots t w)) X :=
  Holds.of_family w (Finset.mem_erase.2 ⟨hw, Finset.mem_univ _⟩) (exists_holds fun d => (keeps V c t w hw d).trans hX)

set_option maxHeartbeats 4000000 in
theorem held (c : Dev nD) (t : Fin cfg5.N) (d : Vec F S1x1 .f32) :
    Held c iprop(beside V c t ∗ owns (c : Thread nD τ) (refs t).m47 fullShare d) (refs t) (blocks V c t) where
  h0 := hold V c t d 0 (by decide) rfl
  h1 := hold V c t d 1 (by decide) rfl
  h2 := hold V c t d 2 (by decide) rfl
  h3 := hold V c t d 3 (by decide) rfl
  h4 := hold V c t d 4 (by decide) rfl
  h5 := hold V c t d 5 (by decide) rfl
  h6 := hold V c t d 6 (by decide) rfl
  h7 := hold V c t d 7 (by decide) rfl
  h8 := hold V c t d 8 (by decide) rfl
  h9 := hold V c t d 9 (by decide) rfl
  h10 := hold V c t d 10 (by decide) rfl
  h11 := hold V c t d 11 (by decide) rfl
  h12 := hold V c t d 12 (by decide) rfl
  h13 := hold V c t d 13 (by decide) rfl
  h14 := hold V c t d 14 (by decide) rfl
  h15 := hold V c t d 15 (by decide) rfl
  h16 := hold V c t d 16 (by decide) rfl
  h17 := hold V c t d 17 (by decide) rfl
  h18 := hold V c t d 18 (by decide) rfl
  h19 := hold V c t d 19 (by decide) rfl
  h20 := hold V c t d 20 (by decide) rfl
  h21 := hold V c t d 21 (by decide) rfl
  h22 := hold V c t d 22 (by decide) rfl
  h23 := hold V c t d 23 (by decide) rfl
  h24 := hold V c t d 24 (by decide) rfl
  h25 := hold V c t d 25 (by decide) rfl
  h26 := hold V c t d 26 (by decide) rfl
  h27 := hold V c t d 27 (by decide) rfl
  h28 := hold V c t d 28 (by decide) rfl
  h29 := hold V c t d 29 (by decide) rfl
  h30 := hold V c t d 30 (by decide) rfl
  h31 := hold V c t d 31 (by decide) rfl
  h32 := hold V c t d 32 (by decide) rfl
  h33 := hold V c t d 33 (by decide) rfl
  h34 := hold V c t d 34 (by decide) rfl
  h35 := hold V c t d 35 (by decide) rfl
  h36 := hold V c t d 36 (by decide) rfl
  h37 := hold V c t d 37 (by decide) rfl
  h38 := hold V c t d 38 (by decide) rfl
  h39 := hold V c t d 39 (by decide) rfl
  h40 := hold V c t d 40 (by decide) rfl
  h41 := hold V c t d 41 (by decide) rfl
  h42 := hold V c t d 42 (by decide) rfl
  h43 := hold V c t d 43 (by decide) rfl
  h44 := hold V c t d 44 (by decide) rfl
  h45 := hold V c t d 45 (by decide) rfl
  h46 := hold V c t d 46 (by decide) rfl

theorem given (c : Dev nD) (t : Fin cfg5.N) (w : Fin 48) (hw : w ≠ 47) :
    (iprop(∃ d, owns (c : Thread nD τ) ((cfg5.win w).stage (cfg5.slots t w)) fullShare ((dat5 V c).before w t d)) : sProp 𝕄)
      ⊢ owns (c : Thread nD τ) ((cfg5.win w).stage (cfg5.slots t w)) fullShare ((dat5 V c).after w t) := by
  iintro ⟨%d, H⟩
  rw [keeps V c t w hw d]
  iexact H

theorem given_all (c : Dev nD) (t : Fin cfg5.N) :
    (bigSep (Finset.univ.erase (47 : Fin 48)) (fun w : Fin 48 =>
        iprop(∃ d, owns (c : Thread nD τ) ((cfg5.win w).stage (cfg5.slots t w)) fullShare ((dat5 V c).before w t d))) : sProp 𝕄)
      ⊢ bigSep (Finset.univ.erase (47 : Fin 48)) fun w : Fin 48 =>
        owns (c : Thread nD τ) ((cfg5.win w).stage (cfg5.slots t w)) fullShare ((dat5 V c).after w t) :=
  bigSep_mono fun w hw => given V c t w (Finset.mem_erase.1 hw).1

theorem body_obligation5 (c : Dev nD) : BodyObligation (dat5 (F := F) V c) (defs₀ (F := F)) Variants.none () Set.univ := fun t => by
  rw [row5]
  refine triple_restated (P := iprop((dat5 V c).Φ t.castSucc ∗ (dat5 V c).owesAt () t.castSucc ∗ bigSep Finset.univ fun w : Fin 48 =>
    iprop(∃ d, owns (c : Thread nD τ) ((cfg5.win w).stage (cfg5.slots t w)) fullShare ((dat5 V c).before w t d))))
    (Q := fun _ => iprop((dat5 V c).Φ t.castSucc ∗ (dat5 V c).owesAt () t.castSucc ∗ bigSep Finset.univ fun w : Fin 48 =>
      owns (c : Thread nD τ) ((cfg5.win w).stage (cfg5.slots t w)) fullShare ((dat5 V c).after w t))) ?_ rfl .rfl fun _ => .rfl
  rw [bigSep_univ_split (47 : Fin 48), bigSep_univ_split (47 : Fin 48)]
  show iprop((dat5 V c).Φ t.castSucc ∗ (dat5 V c).owesAt () t.castSucc ∗ (∃ d, owns (c : Thread nD τ) (refs t).m47 fullShare ((dat5 V c).before 47 t d))
      ∗ bigSep (Finset.univ.erase (47 : Fin 48)) fun w : Fin 48 =>
        iprop(∃ d, owns (c : Thread nD τ) ((cfg5.win w).stage (cfg5.slots t w)) fullShare ((dat5 V c).before w t d)))
    ⊢ wp frame (wpE (defs₀ (F := F)) Variants.none c none) Set.univ ((refs t).app cc5_afd_epilogue) fun _ =>
      iprop((dat5 V c).Φ t.castSucc ∗ (dat5 V c).owesAt () t.castSucc ∗ owns (c : Thread nD τ) (refs t).m47 fullShare (blocks V c t).out
        ∗ bigSep (Finset.univ.erase (47 : Fin 48)) fun w : Fin 48 =>
          owns (c : Thread nD τ) ((cfg5.win w).stage (cfg5.slots t w)) fullShare ((dat5 V c).after w t))
  iintro ⟨HΦ, Ho, ⟨%d, Hm⟩, Hw⟩
  have hK : iprop(beside V c t ∗ owns (c : Thread nD τ) (refs t).m47 fullShare (blocks V c t).out) ⊢
      iprop((dat5 V c).Φ t.castSucc ∗ (dat5 V c).owesAt () t.castSucc ∗ owns (c : Thread nD τ) (refs t).m47 fullShare (blocks V c t).out
        ∗ bigSep (Finset.univ.erase (47 : Fin 48)) fun w : Fin 48 =>
          owns (c : Thread nD τ) ((cfg5.win w).stage (cfg5.slots t w)) fullShare ((dat5 V c).after w t)) := by
    unfold beside
    iintro ⟨⟨⟨HΦ, Ho⟩, Hw⟩, Hm⟩
    isplitl [HΦ]; · iexact HΦ
    isplitl [Ho]; · iexact Ho
    isplitl [Hm]; · iexact Hm
    iapply (given_all V c t) $$ Hw
  iapply (body (J := beside V c t) ((dat5 V c).before 47 t d) (fun _ => _) (held V c t _) hK)
  isplitr [Hm]
  · unfold beside
    isplitr [Hw]
    · isplitl [HΦ]; · iexact HΦ
      iexact Ho
    iexact Hw
  iexact Hm

end Region

end Cert.KernelIdeal.Epi

end
-- ==== Proof.KernelIdealFold.lean ====
/-
  What the buffers hold at each boundary between the host's stretches and the six calls, from launch to return.
-/
module

public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gen.KernelIdeal.Frame.Region4
public import proofs.«01_k».proof.Proof.Gen.KernelIdeal.Frame.Hosts0
public import proofs.«01_k».proof.Proof.KernelIdealRegion

@[expose] public section

set_option maxRecDepth 16384

noncomputable section

namespace Cert.KernelIdeal.Run

open Cert.KernelIdeal.Gen Cert.KernelIdeal.Epi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's write-backs
    folded: `Dat.arrAt … N`), every other buffer as entered (Lib/Pipeline/FrameSuffix.lean `withArrays`). -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it: an input window's
    array is never written back (`Dat.arrAt_in`, `A_eq4`); any other buffer is left as is. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- A reference `hostOps5` does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- A reference that is none of region 5's OUTPUT arrays keeps its entry contents across it: an input window's
    array is never written back (`Dat.arrAt_in`, `A_eq5`); any other buffer is left as is. -/
theorem W12_of (c : Dev nD) (r : Ref sig .tc) (h : ∀ w : Fin cfg5.W, Pipeline.arrRef spec5 w = r → (cfg5.win w).isOut = false) :
    W12 m ρ c (Proc.devRef .tc r) = W11 m ρ c (Proc.devRef .tc r) := by
  by_cases hw : ∃ w : Fin cfg5.W, Pipeline.arrRef spec5 w = r
  · obtain ⟨w, rfl⟩ := hw
    exact (W12_arr m ρ c w).trans (((dat5 (V11 m ρ) c).arrAt_in w (h w rfl) _).trans (A_eq5 (V11 m ρ) c w))
  · exact W12_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn5 a ha)).trans (W11_args m ρ c a ha)
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`. -/
abbrev W13 : Dev nD → Valuation τ sig (Elt F) := fun c => StableHlo.after hostOps6 (W12 m ρ c)
/-- A reference `hostOps6` does not write keeps its contents across it. -/
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h
theorem W13_args (c : Dev nD) : ∀ a ∈ argRefs, W13 m ρ c (Proc.devRef .tc a) = m ((c : Thread nD τ).loc a) :=
  fun a ha => (W13_of m ρ c a (hostOps6_args a ha)).trans (W12_args m ρ c a ha)

/-! ### The arguments end as launched: no host stretch writes one and no region may change one (a region reads it
    through an input window or bypasses it) -/

theorem W13_main_arg0 (c : Dev nD) : W13 m ρ c (Proc.devRef .tc main_arg0) = m ((c : Thread nD τ).loc main_arg0) :=
  W13_args m ρ c main_arg0 (by decide)
theorem W13_main_arg1 (c : Dev nD) : W13 m ρ c (Proc.devRef .tc main_arg1) = m ((c : Thread nD τ).loc main_arg1) :=
  W13_args m ρ c main_arg1 (by decide)
theorem W13_main_arg2 (c : Dev nD) : W13 m ρ c (Proc.devRef .tc main_arg2) = m ((c : Thread nD τ).loc main_arg2) :=
  W13_args m ρ c main_arg2 (by decide)
theorem W13_main_arg3 (c : Dev nD) : W13 m ρ c (Proc.devRef .tc main_arg3) = m ((c : Thread nD τ).loc main_arg3) :=
  W13_args m ρ c main_arg3 (by decide)
theorem W13_main_arg4 (c : Dev nD) : W13 m ρ c (Proc.devRef .tc main_arg4) = m ((c : Thread nD τ).loc main_arg4) :=
  W13_args m ρ c main_arg4 (by decide)
theorem W13_main_arg5 (c : Dev nD) : W13 m ρ c (Proc.devRef .tc main_arg5) = m ((c : Thread nD τ).loc main_arg5) :=
  W13_args m ρ c main_arg5 (by decide)
theorem W13_main_arg6 (c : Dev nD) : W13 m ρ c (Proc.devRef .tc main_arg6) = m ((c : Thread nD τ).loc main_arg6) :=
  W13_args m ρ c main_arg6 (by decide)
theorem W13_main_arg7 (c : Dev nD) : W13 m ρ c (Proc.devRef .tc main_arg7) = m ((c : Thread nD τ).loc main_arg7) :=
  W13_args m ρ c main_arg7 (by decide)
theorem W13_main_arg8 (c : Dev nD) : W13 m ρ c (Proc.devRef .tc main_arg8) = m ((c : Thread nD τ).loc main_arg8) :=
  W13_args m ρ c main_arg8 (by decide)
theorem W13_main_arg9 (c : Dev nD) : W13 m ρ c (Proc.devRef .tc main_arg9) = m ((c : Thread nD τ).loc main_arg9) :=
  W13_args m ρ c main_arg9 (by decide)
theorem W13_main_arg10 (c : Dev nD) : W13 m ρ c (Proc.devRef .tc main_arg10) = m ((c : Thread nD τ).loc main_arg10) :=
  W13_args m ρ c main_arg10 (by decide)
theorem W13_main_arg11 (c : Dev nD) : W13 m ρ c (Proc.devRef .tc main_arg11) = m ((c : Thread nD τ).loc main_arg11) :=
  W13_args m ρ c main_arg11 (by decide)
theorem W13_main_arg12 (c : Dev nD) : W13 m ρ c (Proc.devRef .tc main_arg12) = m ((c : Thread nD τ).loc main_arg12) :=
  W13_args m ρ c main_arg12 (by decide)
theorem W13_main_arg13 (c : Dev nD) : W13 m ρ c (Proc.devRef .tc main_arg13) = m ((c : Thread nD τ).loc main_arg13) :=
  W13_args m ρ c main_arg13 (by decide)
theorem W13_main_arg14 (c : Dev nD) : W13 m ρ c (Proc.devRef .tc main_arg14) = m ((c : Thread nD τ).loc main_arg14) :=
  W13_args m ρ c main_arg14 (by decide)
theorem W13_main_arg15 (c : Dev nD) : W13 m ρ c (Proc.devRef .tc main_arg15) = m ((c : Thread nD τ).loc main_arg15) :=
  W13_args m ρ c main_arg15 (by decide)
theorem W13_main_arg16 (c : Dev nD) : W13 m ρ c (Proc.devRef .tc main_arg16) = m ((c : Thread nD τ).loc main_arg16) :=
  W13_args m ρ c main_arg16 (by decide)
theorem W13_main_arg17 (c : Dev nD) : W13 m ρ c (Proc.devRef .tc main_arg17) = m ((c : Thread nD τ).loc main_arg17) :=
  W13_args m ρ c main_arg17 (by decide)
theorem W13_main_arg18 (c : Dev nD) : W13 m ρ c (Proc.devRef .tc main_arg18) = m ((c : Thread nD τ).loc main_arg18) :=
  W13_args m ρ c main_arg18 (by decide)
theorem W13_main_arg19 (c : Dev nD) : W13 m ρ c (Proc.devRef .tc main_arg19) = m ((c : Thread nD τ).loc main_arg19) :=
  W13_args m ρ c main_arg19 (by decide)
theorem W13_main_arg20 (c : Dev nD) : W13 m ρ c (Proc.devRef .tc main_arg20) = m ((c : Thread nD τ).loc main_arg20) :=
  W13_args m ρ c main_arg20 (by decide)
theorem W13_main_arg21 (c : Dev nD) : W13 m ρ c (Proc.devRef .tc main_arg21) = m ((c : Thread nD τ).loc main_arg21) :=
  W13_args m ρ c main_arg21 (by decide)
theorem W13_main_arg22 (c : Dev nD) : W13 m ρ c (Proc.devRef .tc main_arg22) = m ((c : Thread nD τ).loc main_arg22) :=
  W13_args m ρ c main_arg22 (by decide)
theorem W13_main_arg23 (c : Dev nD) : W13 m ρ c (Proc.devRef .tc main_arg23) = m ((c : Thread nD τ).loc main_arg23) :=
  W13_args m ρ c main_arg23 (by decide)
theorem W13_main_arg24 (c : Dev nD) : W13 m ρ c (Proc.devRef .tc main_arg24) = m ((c : Thread nD τ).loc main_arg24) :=
  W13_args m ρ c main_arg24 (by decide)
theorem W13_main_arg25 (c : Dev nD) : W13 m ρ c (Proc.devRef .tc main_arg25) = m ((c : Thread nD τ).loc main_arg25) :=
  W13_args m ρ c main_arg25 (by decide)
theorem W13_main_arg26 (c : Dev nD) : W13 m ρ c (Proc.devRef .tc main_arg26) = m ((c : Thread nD τ).loc main_arg26) :=
  W13_args m ρ c main_arg26 (by decide)
theorem W13_main_arg27 (c : Dev nD) : W13 m ρ c (Proc.devRef .tc main_arg27) = m ((c : Thread nD τ).loc main_arg27) :=
  W13_args m ρ c main_arg27 (by decide)
theorem W13_main_arg28 (c : Dev nD) : W13 m ρ c (Proc.devRef .tc main_arg28) = m ((c : Thread nD τ).loc main_arg28) :=
  W13_args m ρ c main_arg28 (by decide)
theorem W13_main_arg29 (c : Dev nD) : W13 m ρ c (Proc.devRef .tc main_arg29) = m ((c : Thread nD τ).loc main_arg29) :=
  W13_args m ρ c main_arg29 (by decide)
theorem W13_main_arg30 (c : Dev nD) : W13 m ρ c (Proc.devRef .tc main_arg30) = m ((c : Thread nD τ).loc main_arg30) :=
  W13_args m ρ c main_arg30 (by decide)
theorem W13_main_arg31 (c : Dev nD) : W13 m ρ c (Proc.devRef .tc main_arg31) = m ((c : Thread nD τ).loc main_arg31) :=
  W13_args m ρ c main_arg31 (by decide)
theorem W13_main_arg32 (c : Dev nD) : W13 m ρ c (Proc.devRef .tc main_arg32) = m ((c : Thread nD τ).loc main_arg32) :=
  W13_args m ρ c main_arg32 (by decide)
theorem W13_main_arg33 (c : Dev nD) : W13 m ρ c (Proc.devRef .tc main_arg33) = m ((c : Thread nD τ).loc main_arg33) :=
  W13_args m ρ c main_arg33 (by decide)
theorem W13_main_arg34 (c : Dev nD) : W13 m ρ c (Proc.devRef .tc main_arg34) = m ((c : Thread nD τ).loc main_arg34) :=
  W13_args m ρ c main_arg34 (by decide)
theorem W13_main_arg35 (c : Dev nD) : W13 m ρ c (Proc.devRef .tc main_arg35) = m ((c : Thread nD τ).loc main_arg35) :=
  W13_args m ρ c main_arg35 (by decide)
theorem W13_main_arg36 (c : Dev nD) : W13 m ρ c (Proc.devRef .tc main_arg36) = m ((c : Thread nD τ).loc main_arg36) :=
  W13_args m ρ c main_arg36 (by decide)
theorem W13_main_arg37 (c : Dev nD) : W13 m ρ c (Proc.devRef .tc main_arg37) = m ((c : Thread nD τ).loc main_arg37) :=
  W13_args m ρ c main_arg37 (by decide)
theorem W13_main_arg38 (c : Dev nD) : W13 m ρ c (Proc.devRef .tc main_arg38) = m ((c : Thread nD τ).loc main_arg38) :=
  W13_args m ρ c main_arg38 (by decide)
theorem W13_main_arg39 (c : Dev nD) : W13 m ρ c (Proc.devRef .tc main_arg39) = m ((c : Thread nD τ).loc main_arg39) :=
  W13_args m ρ c main_arg39 (by decide)
theorem W13_main_arg40 (c : Dev nD) : W13 m ρ c (Proc.devRef .tc main_arg40) = m ((c : Thread nD τ).loc main_arg40) :=
  W13_args m ρ c main_arg40 (by decide)
theorem W13_main_arg41 (c : Dev nD) : W13 m ρ c (Proc.devRef .tc main_arg41) = m ((c : Thread nD τ).loc main_arg41) :=
  W13_args m ρ c main_arg41 (by decide)
theorem W13_main_arg42 (c : Dev nD) : W13 m ρ c (Proc.devRef .tc main_arg42) = m ((c : Thread nD τ).loc main_arg42) :=
  W13_args m ρ c main_arg42 (by decide)
theorem W13_main_arg43 (c : Dev nD) : W13 m ρ c (Proc.devRef .tc main_arg43) = m ((c : Thread nD τ).loc main_arg43) :=
  W13_args m ρ c main_arg43 (by decide)
theorem W13_main_arg44 (c : Dev nD) : W13 m ρ c (Proc.devRef .tc main_arg44) = m ((c : Thread nD τ).loc main_arg44) :=
  W13_args m ρ c main_arg44 (by decide)
theorem W13_main_arg45 (c : Dev nD) : W13 m ρ c (Proc.devRef .tc main_arg45) = m ((c : Thread nD τ).loc main_arg45) :=
  W13_args m ρ c main_arg45 (by decide)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W13`, the generator register at some state. -/
abbrev Tₙ (c : Dev nD) : sProp 𝕄 := iprop(StableHlo.held (c : Thread nD τ) (Pipeline.ucRefs τ sig) (W13 m ρ c) ∗ ∃ r, prngReg c r)

end Cert.KernelIdeal.Run

end
-- ==== Proof.KernelIdealRecords.lean ====
/-
  Each call as a step between the buffer contents before and after it.
-/
module

public import proofs.«01_k».proof.Proof.KernelIdealFold

@[expose] public section

set_option maxRecDepth 16384

noncomputable section

namespace Cert.KernelIdeal.Run

open Cert.KernelIdeal.Gen Cert.KernelIdeal.Epi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 5 (custom_call 5) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KernelIdealFrame.lean ====
/-
  The whole program as its segments, and its run: where every buffer ends.
-/
module

public import proofs.«01_k».proof.Proof.KernelIdealRecords

@[expose] public section

set_option maxRecDepth 16384

noncomputable section

namespace Cert.KernelIdeal.Run

open Cert.KernelIdeal.Gen Cert.KernelIdeal.Epi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution ends, nothing faulting, with every buffer at its last contents and every counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- The arguments end as launched. -/
theorem args_kept (c : Dev nD) {M : (ℓ : Loc nD τ sig) → Buf (Elt F) ℓ} (h : ∀ b ∈ Pipeline.ucRefs τ sig, M (((c : Thread nD τ)).1, b) = W13 m ρ c b) :
    M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3)
      ∧ M ((c.tc : Thread nD τ).loc main_arg4) = m ((c.tc : Thread nD τ).loc main_arg4)
      ∧ M ((c.tc : Thread nD τ).loc main_arg5) = m ((c.tc : Thread nD τ).loc main_arg5)
      ∧ M ((c.tc : Thread nD τ).loc main_arg6) = m ((c.tc : Thread nD τ).loc main_arg6)
      ∧ M ((c.tc : Thread nD τ).loc main_arg7) = m ((c.tc : Thread nD τ).loc main_arg7)
      ∧ M ((c.tc : Thread nD τ).loc main_arg8) = m ((c.tc : Thread nD τ).loc main_arg8)
      ∧ M ((c.tc : Thread nD τ).loc main_arg9) = m ((c.tc : Thread nD τ).loc main_arg9)
      ∧ M ((c.tc : Thread nD τ).loc main_arg10) = m ((c.tc : Thread nD τ).loc main_arg10)
      ∧ M ((c.tc : Thread nD τ).loc main_arg11) = m ((c.tc : Thread nD τ).loc main_arg11)
      ∧ M ((c.tc : Thread nD τ).loc main_arg12) = m ((c.tc : Thread nD τ).loc main_arg12)
      ∧ M ((c.tc : Thread nD τ).loc main_arg13) = m ((c.tc : Thread nD τ).loc main_arg13)
      ∧ M ((c.tc : Thread nD τ).loc main_arg14) = m ((c.tc : Thread nD τ).loc main_arg14)
      ∧ M ((c.tc : Thread nD τ).loc main_arg15) = m ((c.tc : Thread nD τ).loc main_arg15)
      ∧ M ((c.tc : Thread nD τ).loc main_arg16) = m ((c.tc : Thread nD τ).loc main_arg16)
      ∧ M ((c.tc : Thread nD τ).loc main_arg17) = m ((c.tc : Thread nD τ).loc main_arg17)
      ∧ M ((c.tc : Thread nD τ).loc main_arg18) = m ((c.tc : Thread nD τ).loc main_arg18)
      ∧ M ((c.tc : Thread nD τ).loc main_arg19) = m ((c.tc : Thread nD τ).loc main_arg19)
      ∧ M ((c.tc : Thread nD τ).loc main_arg20) = m ((c.tc : Thread nD τ).loc main_arg20)
      ∧ M ((c.tc : Thread nD τ).loc main_arg21) = m ((c.tc : Thread nD τ).loc main_arg21)
      ∧ M ((c.tc : Thread nD τ).loc main_arg22) = m ((c.tc : Thread nD τ).loc main_arg22)
      ∧ M ((c.tc : Thread nD τ).loc main_arg23) = m ((c.tc : Thread nD τ).loc main_arg23)
      ∧ M ((c.tc : Thread nD τ).loc main_arg24) = m ((c.tc : Thread nD τ).loc main_arg24)
      ∧ M ((c.tc : Thread nD τ).loc main_arg25) = m ((c.tc : Thread nD τ).loc main_arg25)
      ∧ M ((c.tc : Thread nD τ).loc main_arg26) = m ((c.tc : Thread nD τ).loc main_arg26)
      ∧ M ((c.tc : Thread nD τ).loc main_arg27) = m ((c.tc : Thread nD τ).loc main_arg27)
      ∧ M ((c.tc : Thread nD τ).loc main_arg28) = m ((c.tc : Thread nD τ).loc main_arg28)
      ∧ M ((c.tc : Thread nD τ).loc main_arg29) = m ((c.tc : Thread nD τ).loc main_arg29)
      ∧ M ((c.tc : Thread nD τ).loc main_arg30) = m ((c.tc : Thread nD τ).loc main_arg30)
      ∧ M ((c.tc : Thread nD τ).loc main_arg31) = m ((c.tc : Thread nD τ).loc main_arg31)
      ∧ M ((c.tc : Thread nD τ).loc main_arg32) = m ((c.tc : Thread nD τ).loc main_arg32)
      ∧ M ((c.tc : Thread nD τ).loc main_arg33) = m ((c.tc : Thread nD τ).loc main_arg33)
      ∧ M ((c.tc : Thread nD τ).loc main_arg34) = m ((c.tc : Thread nD τ).loc main_arg34)
      ∧ M ((c.tc : Thread nD τ).loc main_arg35) = m ((c.tc : Thread nD τ).loc main_arg35)
      ∧ M ((c.tc : Thread nD τ).loc main_arg36) = m ((c.tc : Thread nD τ).loc main_arg36)
      ∧ M ((c.tc : Thread nD τ).loc main_arg37) = m ((c.tc : Thread nD τ).loc main_arg37)
      ∧ M ((c.tc : Thread nD τ).loc main_arg38) = m ((c.tc : Thread nD τ).loc main_arg38)
      ∧ M ((c.tc : Thread nD τ).loc main_arg39) = m ((c.tc : Thread nD τ).loc main_arg39)
      ∧ M ((c.tc : Thread nD τ).loc main_arg40) = m ((c.tc : Thread nD τ).loc main_arg40)
      ∧ M ((c.tc : Thread nD τ).loc main_arg41) = m ((c.tc : Thread nD τ).loc main_arg41)
      ∧ M ((c.tc : Thread nD τ).loc main_arg42) = m ((c.tc : Thread nD τ).loc main_arg42)
      ∧ M ((c.tc : Thread nD τ).loc main_arg43) = m ((c.tc : Thread nD τ).loc main_arg43)
      ∧ M ((c.tc : Thread nD τ).loc main_arg44) = m ((c.tc : Thread nD τ).loc main_arg44)
      ∧ M ((c.tc : Thread nD τ).loc main_arg45) = m ((c.tc : Thread nD τ).loc main_arg45) :=
      ⟨(h _ (mem_uc main_arg0 (by decide))).trans (W13_main_arg0 m ρ c),
       (h _ (mem_uc main_arg1 (by decide))).trans (W13_main_arg1 m ρ c),
       (h _ (mem_uc main_arg2 (by decide))).trans (W13_main_arg2 m ρ c),
       (h _ (mem_uc main_arg3 (by decide))).trans (W13_main_arg3 m ρ c),
       (h _ (mem_uc main_arg4 (by decide))).trans (W13_main_arg4 m ρ c),
       (h _ (mem_uc main_arg5 (by decide))).trans (W13_main_arg5 m ρ c),
       (h _ (mem_uc main_arg6 (by decide))).trans (W13_main_arg6 m ρ c),
       (h _ (mem_uc main_arg7 (by decide))).trans (W13_main_arg7 m ρ c),
       (h _ (mem_uc main_arg8 (by decide))).trans (W13_main_arg8 m ρ c),
       (h _ (mem_uc main_arg9 (by decide))).trans (W13_main_arg9 m ρ c),
       (h _ (mem_uc main_arg10 (by decide))).trans (W13_main_arg10 m ρ c),
       (h _ (mem_uc main_arg11 (by decide))).trans (W13_main_arg11 m ρ c),
       (h _ (mem_uc main_arg12 (by decide))).trans (W13_main_arg12 m ρ c),
       (h _ (mem_uc main_arg13 (by decide))).trans (W13_main_arg13 m ρ c),
       (h _ (mem_uc main_arg14 (by decide))).trans (W13_main_arg14 m ρ c),
       (h _ (mem_uc main_arg15 (by decide))).trans (W13_main_arg15 m ρ c),
       (h _ (mem_uc main_arg16 (by decide))).trans (W13_main_arg16 m ρ c),
       (h _ (mem_uc main_arg17 (by decide))).trans (W13_main_arg17 m ρ c),
       (h _ (mem_uc main_arg18 (by decide))).trans (W13_main_arg18 m ρ c),
       (h _ (mem_uc main_arg19 (by decide))).trans (W13_main_arg19 m ρ c),
       (h _ (mem_uc main_arg20 (by decide))).trans (W13_main_arg20 m ρ c),
       (h _ (mem_uc main_arg21 (by decide))).trans (W13_main_arg21 m ρ c),
       (h _ (mem_uc main_arg22 (by decide))).trans (W13_main_arg22 m ρ c),
       (h _ (mem_uc main_arg23 (by decide))).trans (W13_main_arg23 m ρ c),
       (h _ (mem_uc main_arg24 (by decide))).trans (W13_main_arg24 m ρ c),
       (h _ (mem_uc main_arg25 (by decide))).trans (W13_main_arg25 m ρ c),
       (h _ (mem_uc main_arg26 (by decide))).trans (W13_main_arg26 m ρ c),
       (h _ (mem_uc main_arg27 (by decide))).trans (W13_main_arg27 m ρ c),
       (h _ (mem_uc main_arg28 (by decide))).trans (W13_main_arg28 m ρ c),
       (h _ (mem_uc main_arg29 (by decide))).trans (W13_main_arg29 m ρ c),
       (h _ (mem_uc main_arg30 (by decide))).trans (W13_main_arg30 m ρ c),
       (h _ (mem_uc main_arg31 (by decide))).trans (W13_main_arg31 m ρ c),
       (h _ (mem_uc main_arg32 (by decide))).trans (W13_main_arg32 m ρ c),
       (h _ (mem_uc main_arg33 (by decide))).trans (W13_main_arg33 m ρ c),
       (h _ (mem_uc main_arg34 (by decide))).trans (W13_main_arg34 m ρ c),
       (h _ (mem_uc main_arg35 (by decide))).trans (W13_main_arg35 m ρ c),
       (h _ (mem_uc main_arg36 (by decide))).trans (W13_main_arg36 m ρ c),
       (h _ (mem_uc main_arg37 (by decide))).trans (W13_main_arg37 m ρ c),
       (h _ (mem_uc main_arg38 (by decide))).trans (W13_main_arg38 m ρ c),
       (h _ (mem_uc main_arg39 (by decide))).trans (W13_main_arg39 m ρ c),
       (h _ (mem_uc main_arg40 (by decide))).trans (W13_main_arg40 m ρ c),
       (h _ (mem_uc main_arg41 (by decide))).trans (W13_main_arg41 m ρ c),
       (h _ (mem_uc main_arg42 (by decide))).trans (W13_main_arg42 m ρ c),
       (h _ (mem_uc main_arg43 (by decide))).trans (W13_main_arg43 m ρ c),
       (h _ (mem_uc main_arg44 (by decide))).trans (W13_main_arg44 m ρ c),
       (h _ (mem_uc main_arg45 (by decide))).trans (W13_main_arg45 m ρ c)⟩

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45))
      ∧ r.2.sem = fun _ => 0) :=
  (θ_run defs _ _).mono (fun _ h => ⟨fun c => args_kept m ρ c (h.1 c), h.2⟩) (run m ρ)

end Cert.KernelIdeal.Run

end
-- ==== Proof.Reductions.lean ====
/-
  Two host reductions of this problem that the library's reading lemmas do not cover: over the last two axes of a rank 5
  array (the pixels of an image), and over axes 3 and 5 of a rank 6 one (the pixels of a pooling block).  Each is a sum
  (or a fold) over the two coordinates.
-/
module

public import Idealize.ShloMosaic.Lib.Pointwise

@[expose] public section

namespace Cert.Reductions

open Idealize Idealize.ShloMosaic

section Pixels
variable {n0 n1 n2 n3 n4 : Nat}

/-- The rank 5 indices that lie over `(a, b, c)` once the last two axes are dropped. -/
theorem over_pixels (h : (⟨5, ![n0, n1, n2, n3, n4]⟩ : Shape).ReducesTo [3, 4] ⟨3, ![n0, n1, n2]⟩)
    (a : Fin n0) (b : Fin n1) (c : Fin n2) (i : (⟨5, ![n0, n1, n2, n3, n4]⟩ : Shape).Idx) :
    h.drop i = ix3 a b c ↔ ∃ k : Fin n3 × Fin n4, ix5 a b c k.1 k.2 = i := by
  refine ⟨fun e => ⟨(i 3, i 4), ?_⟩, ?_⟩
  · funext q
    match q with
    | ⟨0, _⟩ => exact Fin.ext (congrArg Fin.val (congrFun e 0)).symm
    | ⟨1, _⟩ => exact Fin.ext (congrArg Fin.val (congrFun e 1)).symm
    | ⟨2, _⟩ => exact Fin.ext (congrArg Fin.val (congrFun e 2)).symm
    | ⟨3, _⟩ => rfl
    | ⟨4, _⟩ => rfl
  · rintro ⟨k, rfl⟩
    funext q
    match q with
    | ⟨0, _⟩ => rfl
    | ⟨1, _⟩ => rfl
    | ⟨2, _⟩ => rfl

/-- The host's sum over the last two axes of a rank 5 array. -/
@[pointwise] theorem hostSum_pixels (h : (⟨5, ![n0, n1, n2, n3, n4]⟩ : Shape).ReducesTo [3, 4] ⟨3, ![n0, n1, n2]⟩)
    (v : (⟨5, ![n0, n1, n2, n3, n4]⟩ : Shape).Idx → EReal) (init : EReal) (a : Fin n0) (b : Fin n1) (c : Fin n2) :
    Ideal.hostReduceAdd h v init (ix3 a b c) = init + ∑ y : Fin n3, ∑ x : Fin n4, v (ix5 a b c y x) := by
  refine congrArg (init + ·) ((Finset.sum_filter_eq_sum_of_fiber _ (fun k : Fin n3 × Fin n4 => ix5 a b c k.1 k.2)
    (fun _ _ e => Prod.ext (congrFun e 3) (congrFun e 4)) (over_pixels h a b c) v).trans ?_)
  rw [Fintype.sum_prod_type]

/-- A fold over the rank 5 indices that lie over `(a, b, c)`. -/
@[pointwise] theorem fold_pixels (h : (⟨5, ![n0, n1, n2, n3, n4]⟩ : Shape).ReducesTo [3, 4] ⟨3, ![n0, n1, n2]⟩)
    {α : Type*} (op : α → α → α) [Std.Commutative op] [Std.Associative op] (init : α)
    (v : (⟨5, ![n0, n1, n2, n3, n4]⟩ : Shape).Idx → α) (a : Fin n0) (b : Fin n1) (c : Fin n2) :
    (Finset.univ.filter (fun i => h.drop i = ix3 a b c)).fold op init v
      = (Finset.univ : Finset (Fin n3 × Fin n4)).fold op init (fun k => v (ix5 a b c k.1 k.2)) :=
  Finset.fold_filter_eq_fold_of_fiber op _ (fun k : Fin n3 × Fin n4 => ix5 a b c k.1 k.2)
    (fun _ _ e => Prod.ext (congrFun e 3) (congrFun e 4)) (over_pixels h a b c) init v

end Pixels

section Blocks
variable {n0 n1 n2 n3 n4 n5 : Nat}

/-- The rank 6 indices that lie over `(a, b, i, j)` once axes 3 and 5 are dropped. -/
theorem over_block (h : (⟨6, ![n0, n1, n2, n3, n4, n5]⟩ : Shape).ReducesTo [3, 5] ⟨4, ![n0, n1, n2, n4]⟩)
    (a : Fin n0) (b : Fin n1) (i : Fin n2) (j : Fin n4) (w : (⟨6, ![n0, n1, n2, n3, n4, n5]⟩ : Shape).Idx) :
    h.drop w = ix4 a b i j ↔ ∃ k : Fin n3 × Fin n5, ix6 a b i k.1 j k.2 = w := by
  refine ⟨fun e => ⟨(w 3, w 5), ?_⟩, ?_⟩
  · funext q
    match q with
    | ⟨0, _⟩ => exact Fin.ext (congrArg Fin.val (congrFun e 0)).symm
    | ⟨1, _⟩ => exact Fin.ext (congrArg Fin.val (congrFun e 1)).symm
    | ⟨2, _⟩ => exact Fin.ext (congrArg Fin.val (congrFun e 2)).symm
    | ⟨3, _⟩ => rfl
    | ⟨4, _⟩ => exact Fin.ext (congrArg Fin.val (congrFun e 3)).symm
    | ⟨5, _⟩ => rfl
  · rintro ⟨k, rfl⟩
    funext q
    match q with
    | ⟨0, _⟩ => rfl
    | ⟨1, _⟩ => rfl
    | ⟨2, _⟩ => rfl
    | ⟨3, _⟩ => rfl

/-- The host's sum over axes 3 and 5 of a rank 6 array. -/
@[pointwise] theorem hostSum_block (h : (⟨6, ![n0, n1, n2, n3, n4, n5]⟩ : Shape).ReducesTo [3, 5] ⟨4, ![n0, n1, n2, n4]⟩)
    (v : (⟨6, ![n0, n1, n2, n3, n4, n5]⟩ : Shape).Idx → EReal) (init : EReal)
    (a : Fin n0) (b : Fin n1) (i : Fin n2) (j : Fin n4) :
    Ideal.hostReduceAdd h v init (ix4 a b i j) = init + ∑ y : Fin n3, ∑ x : Fin n5, v (ix6 a b i y j x) := by
  refine congrArg (init + ·) ((Finset.sum_filter_eq_sum_of_fiber _ (fun k : Fin n3 × Fin n5 => ix6 a b i k.1 j k.2)
    (fun _ _ e => Prod.ext (congrFun e 3) (congrFun e 5)) (over_block h a b i j) v).trans ?_)
  rw [Fintype.sum_prod_type]

/-- A fold over the rank 6 indices that lie over `(a, b, i, j)`. -/
@[pointwise] theorem fold_block (h : (⟨6, ![n0, n1, n2, n3, n4, n5]⟩ : Shape).ReducesTo [3, 5] ⟨4, ![n0, n1, n2, n4]⟩)
    {α : Type*} (op : α → α → α) [Std.Commutative op] [Std.Associative op] (init : α)
    (v : (⟨6, ![n0, n1, n2, n3, n4, n5]⟩ : Shape).Idx → α) (a : Fin n0) (b : Fin n1) (i : Fin n2) (j : Fin n4) :
    (Finset.univ.filter (fun w => h.drop w = ix4 a b i j)).fold op init v
      = (Finset.univ : Finset (Fin n3 × Fin n5)).fold op init (fun k => v (ix6 a b i k.1 j k.2)) :=
  Finset.fold_filter_eq_fold_of_fiber op _ (fun k : Fin n3 × Fin n5 => ix6 a b i k.1 j k.2)
    (fun _ _ e => Prod.ext (congrFun e 3) (congrFun e 5)) (over_block h a b i j) init v

end Blocks

/-- A maximum started from minus infinity is the supremum. -/
theorem fold_max_eq_iSup {ι : Type*} [Fintype ι] (f : ι → EReal) :
    (Finset.univ : Finset ι).fold max (Ideal.ofBits .f32 0xFF800000#32) f = ⨆ i, f i := by
  have e : Ideal.ofBits .f32 0xFF800000#32 = (⊥ : EReal) := by simp [Ideal.ofBits, Ideal.ieee]
  rw [e, ← Finset.sup_univ_eq_iSup]; rfl

theorem ofBits_neg_inf : Ideal.ofBits .f32 0xFF800000#32 = (⊥ : EReal) := by simp [Ideal.ofBits, Ideal.ieee]

/-- A supremum over `N = J * T` positions, tile by tile. -/
theorem iSup_tiles {N : ℕ} (J T : ℕ) (hN : J * T = N) (f : Fin N → EReal) (hb : ∀ (j : Fin J) (t : Fin T), j.val * T + t.val < N) :
    ⨆ k : Fin N, f k = ⨆ j : Fin J, ⨆ t : Fin T, f ⟨j.val * T + t.val, hb j t⟩ := by
  subst hN
  rw [← iSup_prod (f := fun p : Fin J × Fin T => f ⟨p.1.val * T + p.2.val, hb p.1 p.2⟩)]
  refine (Equiv.iSup_congr finProdFinEquiv fun p => congrArg f (Fin.ext ?_)).symm
  simp [finProdFinEquiv, Nat.add_comm, Nat.mul_comm]

/-- A sum over `N = J * T` positions, tile by tile, with the bound given. -/
theorem sum_tiles {N : ℕ} (J T : ℕ) (hN : J * T = N) (f : Fin N → EReal) (hb : ∀ (j : Fin J) (t : Fin T), j.val * T + t.val < N) :
    ∑ k : Fin N, f k = ∑ j : Fin J, ∑ t : Fin T, f ⟨j.val * T + t.val, hb j t⟩ :=
  Fin.sum_univ_tiles J T hN f

end Cert.Reductions
-- ==== Proof.Spec.lean ====
/-
  The quantities both programs compute, as functions of plain coordinates with extended real values: a normalisation over
  a batch, a unit vector, a softmax, the attention from the normalised keys and queries, the squared-feature maps, and the
  distillation loss of one teacher.  The programs' own formulas are read into these once each.
-/
module

public import Idealize.ShloMosaic.Lib.Pointwise
public import proofs.«01_k».proof.Proof.Reductions

@[expose] public section

namespace Cert.Spec

open Idealize Idealize.ShloMosaic

/-- The extended real a 32-bit pattern denotes. -/
noncomputable abbrev lit (b : BitVec 32) : EReal := Ideal.ofBits .f32 b

/-- The mean of a family, `N` being its number of members as an extended real. -/
noncomputable def mean {ι : Type*} [Fintype ι] (N : EReal) (x : ι → EReal) : EReal := Ideal.div (∑ i, x i) N

/-- Normalisation over a family: centred, divided by the root of the variance plus `1e-5`, scaled and shifted. -/
noncomputable def nrm {ι : Type*} [Fintype ι] (N : EReal) (x : ι → EReal) (g e : EReal) (i : ι) : EReal :=
  (x i - mean N x) * Ideal.rsqrt (mean N (fun k => (x k - mean N x) * (x k - mean N x)) + lit 0x3727C5AC#32) * g + e

/-- A vector over its length, the length kept from being below `1e-12`. -/
noncomputable def unit {ι : Type*} [Fintype ι] (x : ι → EReal) (i : ι) : EReal :=
  Ideal.div (x i) (max (Ideal.sqrt (∑ k, x k * x k)) (lit 0x2B8CBCCC#32))

/-- Softmax over a family. -/
noncomputable def softmax {ι : Type*} [Fintype ι] (x : ι → EReal) (i : ι) : EReal :=
  Ideal.div (Ideal.exp (x i - ⨆ k, x k)) (∑ k, Ideal.exp (x k - ⨆ k, x k))

/-- The channel descriptor of an image: `0.7` of its mean and `0.3` of its maximum. -/
noncomputable def desc (x : Fin 1024 → EReal) : EReal :=
  lit 0x3F333333#32 * mean (lit 0x44800000#32) x + lit 0x3E99999A#32 * ⨆ p, x p

/-- One entry of a student's key: a linear layer on the channel descriptors, normalised over the batch, negative values cut. -/
noncomputable def keyEntry (x : Fin 64 → Fin 16 → EReal) (w : Fin 16 → EReal) (b g e : EReal) (n : Fin 64) : EReal :=
  max (nrm (lit 0x42800000#32) (fun n => (∑ c, x n c * w c) + b) g e n) 0

/-- A linear layer on `R` rows, normalised over the rows, negative values cut. -/
noncomputable def layer {R K O : ℕ} (N : EReal) (x : Fin R → Fin K → EReal) (W : Fin O → Fin K → EReal)
    (b g e : Fin O → EReal) (r : Fin R) (o : Fin O) : EReal :=
  max (nrm N (fun r => (∑ k, x r k * W o k) + b o) (g o) (e o) r) 0

/-- A query: a linear layer on the teacher's channel means, normalised over the batch, then made a unit vector. -/
noncomputable def query {K : ℕ} (tm : Fin 64 → Fin K → EReal) (W : Fin 128 → Fin K → EReal)
    (b g e : Fin 128 → EReal) (n : Fin 64) (j : Fin 128) : EReal :=
  unit (fun j => nrm (lit 0x42800000#32) (fun n => (∑ k, tm n k * W j k) + b j) (g j) (e j) n) j

/-- The attention logit: half of cosine plus positional product. -/
noncomputable def logit (h : Fin 128 → EReal) (q : Fin 128 → EReal) (pp : EReal) : EReal :=
  ((∑ j, unit h j * q j) + pp) * lit 0x3F000000#32

/-- The gate of a student for one teacher: the logistic function of an affine function of the map's mean. -/
noncomputable def gate (w b : EReal) (P : Fin 1024 → EReal) : EReal :=
  Ideal.div 1 (1 + Ideal.exp (-(w * mean (lit 0x44800000#32) P + b)))

/-- Pooling of a block: `0.7` of its mean and `0.3` of its maximum. -/
noncomputable def pool {ι : Type*} [Fintype ι] (N : EReal) (f : ι → EReal) : EReal :=
  lit 0x3F333333#32 * mean N f + lit 0x3E99999A#32 * ⨆ k, f k

/-- The difference between a student's normalised map and the teacher's, at one position: the students' maps are made
    unit vectors, normalised over the sixteen students, scaled and shifted; the teacher's is made a unit vector. -/
noncomputable def gap {N : ℕ} (f : Fin 16 → Fin N → EReal) (g e : Fin 16 → Fin N → EReal)
    (t : Fin N → EReal) (s : Fin 16) (p : Fin N) : EReal :=
  nrm (lit 0x41800000#32) (fun s => unit (f s) p) (g s p) (e s p) s - unit t p

/-- The smooth absolute value: a parabola near zero, the absolute value less a half beyond. -/
noncomputable def smooth (d : EReal) : EReal :=
  if FloatOps.absf (F := Ideal) (φ := .f32) d < 1 then lit 0x3F000000#32 * d * d
  else FloatOps.absf (F := Ideal) (φ := .f32) d - lit 0x3F000000#32

/-- The distillation loss from the differences at the positions. -/
noncomputable def lossOf {N : ℕ} (lN : EReal) (d : Fin N → EReal) : EReal :=
  lit 0x3F333333#32 * mean lN (fun p => smooth (d p))
    + lit 0x3E99999A#32 * mean lN (fun p => d p * d p) * mean lN (fun p => d p * d p)

/-- The negative entropy of an attention. -/
noncomputable def ent (a : Fin 64 → Fin 16 → EReal) : EReal :=
  ∑ n, ∑ s, a n s * Ideal.log (a n s + lit 0x322BCC77#32)

/-- One teacher's share of the loss. -/
noncomputable def share (l a : Fin 64 → Fin 16 → EReal) (w : EReal) : EReal :=
  Ideal.div (∑ n, ∑ s, l n s * a n s) (lit 0x42800000#32) * w

/-- The whole loss from the four attentions, the four teachers' losses and their weights. -/
noncomputable def total (a l : Fin 4 → Fin 64 → Fin 16 → EReal) (w : Fin 4 → EReal) : EReal :=
  lit 0x3DCCCCCD#32 * Ideal.div (-(ent (a 0) + ent (a 1) + ent (a 2) + ent (a 3))) (lit 0x43800000#32)
    + share (l 0) (a 0) (w 0) + share (l 1) (a 1) (w 1) + share (l 2) (a 2) (w 2) + share (l 3) (a 3) (w 3)

end Cert.Spec
-- ==== Proof.Flat.lean ====
/-
  Positions of an image counted in one run, and what a mean and a maximum over blocks of it are.
-/
module

public import Idealize.ShloMosaic.Lib.Pointwise
public import proofs.«01_k».proof.Proof.Spec

@[expose] public section

namespace Cert.Reference

open Idealize Idealize.ShloMosaic

/-- An array of extended reals of a printed shape. -/
abbrev A (s : Shape) := (⟨s, .f32⟩ : BufTy).Contents (Elt Ideal)

/-- The maximum of a family started at minus infinity is its supremum. -/
theorem fold_max_bot {ι : Type*} [Fintype ι] (f : ι → EReal) : (Finset.univ : Finset ι).fold max ⊥ f = ⨆ i, f i := by
  rw [← Finset.sup_univ_eq_iSup]; rfl

/-- A sum over the positions of an image in one run is the sum over its rows and columns. -/
theorem sum_flat {N : ℕ} (J T : ℕ) (hN : J * T = N) (f : Fin J → Fin T → EReal) (h1 : ∀ p : Fin N, p.val / T < J)
    (h2 : ∀ p : Fin N, p.val % T < T) :
    ∑ p : Fin N, f ⟨p.val / T, h1 p⟩ ⟨p.val % T, h2 p⟩ = ∑ j, ∑ t, f j t := by
  subst hN
  have hb : ∀ (j : Fin J) (t : Fin T), j.val * T + t.val < J * T := fun j t =>
    calc j.val * T + t.val < j.val * T + T := by omega
      _ = (j.val + 1) * T := by ring
      _ ≤ J * T := Nat.mul_le_mul_right T j.isLt
  rw [Cert.Reductions.sum_tiles J T rfl _ hb]
  refine Finset.sum_congr rfl fun j _ => Finset.sum_congr rfl fun t _ => ?_
  have ht : 0 < T := Nat.lt_of_le_of_lt (Nat.zero_le _) t.isLt
  congr 1 <;> apply Fin.ext
  · show (j.val * T + t.val) / T = j.val
    rw [Nat.add_comm, Nat.add_mul_div_right _ _ ht, Nat.div_eq_of_lt t.isLt, Nat.zero_add]
  · show (j.val * T + t.val) % T = t.val
    rw [Nat.add_comm, Nat.add_mul_mod_self_right, Nat.mod_eq_of_lt t.isLt]

/-- So is a supremum. -/
theorem iSup_flat {N : ℕ} (J T : ℕ) (hN : J * T = N) (f : Fin J → Fin T → EReal) (h1 : ∀ p : Fin N, p.val / T < J)
    (h2 : ∀ p : Fin N, p.val % T < T) :
    ⨆ p : Fin N, f ⟨p.val / T, h1 p⟩ ⟨p.val % T, h2 p⟩ = ⨆ k : Fin J × Fin T, f k.1 k.2 := by
  subst hN
  refine le_antisymm (iSup_le fun p => le_iSup (fun k : Fin J × Fin T => f k.1 k.2) (⟨p.val / T, h1 p⟩, ⟨p.val % T, h2 p⟩))
    (iSup_le fun k => ?_)
  have hb : k.1.val * T + k.2.val < J * T :=
    calc k.1.val * T + k.2.val < k.1.val * T + T := by omega
      _ = (k.1.val + 1) * T := by ring
      _ ≤ J * T := Nat.mul_le_mul_right T k.1.isLt
  have ht : 0 < T := Nat.lt_of_le_of_lt (Nat.zero_le _) k.2.isLt
  refine le_trans (le_of_eq ?_) (le_iSup (fun p : Fin (J * T) => f ⟨p.val / T, h1 p⟩ ⟨p.val % T, h2 p⟩) ⟨k.1.val * T + k.2.val, hb⟩)
  congr 1 <;> apply Fin.ext
  · show k.1.val = (k.1.val * T + k.2.val) / T
    rw [Nat.add_comm, Nat.add_mul_div_right _ _ ht, Nat.div_eq_of_lt k.2.isLt, Nat.zero_add]
  · show k.2.val = (k.1.val * T + k.2.val) % T
    rw [Nat.add_comm, Nat.add_mul_mod_self_right, Nat.mod_eq_of_lt k.2.isLt]

/-- The descriptor of an image in one run, from its rows and columns. -/
theorem desc_flat (f : Fin 32 → Fin 32 → EReal) :
    Cert.Spec.desc (fun p => f ⟨p.val / 32, by omega⟩ ⟨p.val % 32, by omega⟩)
      = Cert.Spec.lit 0x3F333333#32 * Ideal.div (∑ y, ∑ x, f y x) (Cert.Spec.lit 0x44800000#32)
        + Cert.Spec.lit 0x3E99999A#32 * ⨆ k : Fin 32 × Fin 32, f k.1 k.2 := by
  unfold Cert.Spec.desc Cert.Spec.mean
  rw [sum_flat 32 32 rfl f, iSup_flat 32 32 rfl f]

end Cert.Reference
-- ==== Proof.Host.lean ====
/-
  The layout operations between the calls, read at plain coordinates.
-/
module

public import Idealize.ShloMosaic.Lib.Pipeline.ValueKit
public import Idealize.ShloMosaic.Lib.Pointwise
public import Idealize.ShloMosaic.Lib.StableHlo.RunRead
public import proofs.«01_k».proof.Proof.Flat
public import proofs.«01_k».proof.Proof.Gen.KernelIdeal.Launch

@[expose] public section

set_option maxRecDepth 16384

namespace Cert.KernelIdeal.Host

open Idealize Idealize.ShloMosaic Cert.KernelIdeal Cert.KernelIdeal.Gen Cert.Reference

variable (W : Valuation τ sig (Elt Ideal))

/-! Before the last call: the students' maps and their blocks, the teachers' reduced data, the parameters. -/

theorem h25 (n : Fin 64) (s : Fin 16) (p : Fin 1024) :
    (StableHlo.after (hostOps5 (F := Ideal)) W (Proc.devRef .tc main_v25) : A S64x16x1024) (ix3 n s p)
      = (W (Proc.devRef .tc main_v24_1) : A S64x16x8x128) (ix4 n s ⟨p.val / 128, by omega⟩ ⟨p.val % 128, by omega⟩) := by
  after_reads_simp
  generalize W (Proc.devRef .tc main_v24_1) = x
  pointwise []

theorem h28 (k : Fin 4) (n : Fin 64) (s : Fin 16) (p : Fin 256) :
    (StableHlo.after (hostOps5 (F := Ideal)) W (Proc.devRef .tc main_v28) : A S4x1024x256) (ix3 k ⟨n.val * 16 + s.val, by omega⟩ p)
      = (W (Proc.devRef .tc main_v24_1) : A S64x16x8x128) (ix4 n s ⟨((p.val / 16 * 2 + k.val / 2) * 32 + (p.val % 16 * 2 + k.val % 2)) / 128, by omega⟩ ⟨((p.val / 16 * 2 + k.val / 2) * 32 + (p.val % 16 * 2 + k.val % 2)) % 128, by omega⟩) := by
  after_reads_simp
  generalize W (Proc.devRef .tc main_v24_1) = x
  pointwise []
  congr 2 <;> (apply Fin.ext; dsimp only; omega)

theorem h31 (k : Fin 16) (n : Fin 64) (s : Fin 16) (p : Fin 64) :
    (StableHlo.after (hostOps5 (F := Ideal)) W (Proc.devRef .tc main_v31) : A S16x1024x64) (ix3 k ⟨n.val * 16 + s.val, by omega⟩ p)
      = (W (Proc.devRef .tc main_v24_1) : A S64x16x8x128) (ix4 n s ⟨((p.val / 8 * 4 + k.val / 4) * 32 + (p.val % 8 * 4 + k.val % 4)) / 128, by omega⟩ ⟨((p.val / 8 * 4 + k.val / 4) * 32 + (p.val % 8 * 4 + k.val % 4)) % 128, by omega⟩) := by
  after_reads_simp
  generalize W (Proc.devRef .tc main_v24_1) = x
  pointwise []
  congr 2 <;> (apply Fin.ext; dsimp only; omega)

theorem h34 (n : Fin 64) (s : Fin 16) (p : Fin 16) (k : Fin 64) :
    (StableHlo.after (hostOps5 (F := Ideal)) W (Proc.devRef .tc main_v34) : A S1024x16x64) (ix3 ⟨n.val * 16 + s.val, by omega⟩ p k)
      = (W (Proc.devRef .tc main_v24_1) : A S64x16x8x128) (ix4 n s ⟨((p.val / 4 * 8 + k.val / 8) * 32 + (p.val % 4 * 8 + k.val % 8)) / 128, by omega⟩ ⟨((p.val / 4 * 8 + k.val / 8) * 32 + (p.val % 4 * 8 + k.val % 8)) % 128, by omega⟩) := by
  after_reads_simp
  generalize W (Proc.devRef .tc main_v24_1) = x
  pointwise []
  congr 2 <;> (apply Fin.ext; dsimp only; omega)

theorem h35 (n : Fin 64) (q : Fin 1024) :
    (StableHlo.after (hostOps5 (F := Ideal)) W (Proc.devRef .tc main_v35) : A S64x1024) (ix2 n q)
      = (W (Proc.devRef .tc main_v3_0) : A S64x256x4) (ix3 n ⟨q.val / 4, by omega⟩ ⟨q.val % 4, by omega⟩) := by
  after_reads_simp
  generalize W (Proc.devRef .tc main_v3_0) = x
  pointwise []

theorem h36 (n : Fin 64) (q : Fin 1024) :
    (StableHlo.after (hostOps5 (F := Ideal)) W (Proc.devRef .tc main_v36) : A S64x1024) (ix2 n q)
      = (W (Proc.devRef .tc main_v5_0) : A S64x128x8) (ix3 n ⟨q.val / 8, by omega⟩ ⟨q.val % 8, by omega⟩) := by
  after_reads_simp
  generalize W (Proc.devRef .tc main_v5_0) = x
  pointwise []

theorem h37 (n : Fin 64) (q : Fin 1024) :
    (StableHlo.after (hostOps5 (F := Ideal)) W (Proc.devRef .tc main_v37) : A S64x1024) (ix2 n q)
      = (W (Proc.devRef .tc main_v5_1) : A S64x128x8) (ix3 n ⟨q.val / 8, by omega⟩ ⟨q.val % 8, by omega⟩) := by
  after_reads_simp
  generalize W (Proc.devRef .tc main_v5_1) = x
  pointwise []

theorem h38 (n : Fin 64) (q : Fin 1024) :
    (StableHlo.after (hostOps5 (F := Ideal)) W (Proc.devRef .tc main_v38) : A S64x1024) (ix2 n q)
      = (W (Proc.devRef .tc main_v1_1) : A S64x8x128) (ix3 n ⟨q.val / 128, by omega⟩ ⟨q.val % 128, by omega⟩) := by
  after_reads_simp
  generalize W (Proc.devRef .tc main_v1_1) = x
  pointwise []

theorem h39 (n : Fin 64) (q : Fin 256) :
    (StableHlo.after (hostOps5 (F := Ideal)) W (Proc.devRef .tc main_v39) : A S64x256) (ix2 n q)
      = (W (Proc.devRef .tc main_v3_1) : A S64x2x128) (ix3 n ⟨q.val / 128, by omega⟩ ⟨q.val % 128, by omega⟩) := by
  after_reads_simp
  generalize W (Proc.devRef .tc main_v3_1) = x
  pointwise []

theorem h40 (t : Fin 4) :
    (StableHlo.after (hostOps5 (F := Ideal)) W (Proc.devRef .tc main_v40) : A S1x4) (ix2 0 t)
      = (W (Proc.devRef .tc main_arg20) : A S4) (ix1 t) := by
  after_reads_simp
  generalize W (Proc.devRef .tc main_arg20) = x
  pointwise []

theorem h41 (t : Fin 4) :
    (StableHlo.after (hostOps5 (F := Ideal)) W (Proc.devRef .tc main_v41) : A S1x4) (ix2 0 t)
      = (W (Proc.devRef .tc main_arg21) : A S4) (ix1 t) := by
  after_reads_simp
  generalize W (Proc.devRef .tc main_arg21) = x
  pointwise []

theorem h42 (t : Fin 256) :
    (StableHlo.after (hostOps5 (F := Ideal)) W (Proc.devRef .tc main_v42) : A S1x256) (ix2 0 t)
      = (W (Proc.devRef .tc main_arg27) : A S256) (ix1 t) := by
  after_reads_simp
  generalize W (Proc.devRef .tc main_arg27) = x
  pointwise []

theorem h43 (t : Fin 256) :
    (StableHlo.after (hostOps5 (F := Ideal)) W (Proc.devRef .tc main_v43) : A S1x256) (ix2 0 t)
      = (W (Proc.devRef .tc main_arg28) : A S256) (ix1 t) := by
  after_reads_simp
  generalize W (Proc.devRef .tc main_arg28) = x
  pointwise []

theorem h44 (t : Fin 256) :
    (StableHlo.after (hostOps5 (F := Ideal)) W (Proc.devRef .tc main_v44) : A S1x256) (ix2 0 t)
      = (W (Proc.devRef .tc main_arg29) : A S256) (ix1 t) := by
  after_reads_simp
  generalize W (Proc.devRef .tc main_arg29) = x
  pointwise []

theorem h45 (t : Fin 512) :
    (StableHlo.after (hostOps5 (F := Ideal)) W (Proc.devRef .tc main_v45) : A S1x512) (ix2 0 t)
      = (W (Proc.devRef .tc main_arg31) : A S512) (ix1 t) := by
  after_reads_simp
  generalize W (Proc.devRef .tc main_arg31) = x
  pointwise []

theorem h46 (t : Fin 512) :
    (StableHlo.after (hostOps5 (F := Ideal)) W (Proc.devRef .tc main_v46) : A S1x512) (ix2 0 t)
      = (W (Proc.devRef .tc main_arg32) : A S512) (ix1 t) := by
  after_reads_simp
  generalize W (Proc.devRef .tc main_arg32) = x
  pointwise []

theorem h47 (t : Fin 512) :
    (StableHlo.after (hostOps5 (F := Ideal)) W (Proc.devRef .tc main_v47) : A S1x512) (ix2 0 t)
      = (W (Proc.devRef .tc main_arg33) : A S512) (ix1 t) := by
  after_reads_simp
  generalize W (Proc.devRef .tc main_arg33) = x
  pointwise []

theorem h50 (t : Fin 4) :
    (StableHlo.after (hostOps5 (F := Ideal)) W (Proc.devRef .tc main_v50) : A S1x4) (ix2 0 t)
      = (W (Proc.devRef .tc main_arg43) : A S4) (ix1 t) := by
  after_reads_simp
  generalize W (Proc.devRef .tc main_arg43) = x
  pointwise []

theorem h48 (j : Fin 128) (k : Fin 1024) :
    (StableHlo.after (hostOps5 (F := Ideal)) W (Proc.devRef .tc main_v48) : A S128x1024) (ix2 j k)
      = (W (Proc.devRef .tc main_arg36) : A S128x2048) (ix2 j ⟨2 * k.val, by omega⟩) := by
  after_reads_simp
  generalize W (Proc.devRef .tc main_arg36) = x
  pointwise []

theorem h49 (j : Fin 128) (k : Fin 1024) :
    (StableHlo.after (hostOps5 (F := Ideal)) W (Proc.devRef .tc main_v49) : A S128x1024) (ix2 j k)
      = (W (Proc.devRef .tc main_arg36) : A S128x2048) (ix2 j ⟨2 * k.val + 1, by omega⟩) := by
  after_reads_simp
  generalize W (Proc.devRef .tc main_arg36) = x
  pointwise []
  congr 2 <;> (apply Fin.ext; dsimp only; omega)

theorem h54 (s : Fin 16) (p : Fin 1024) :
    (StableHlo.after (hostOps5 (F := Ideal)) W (Proc.devRef .tc main_v54) : A S16x1024) (ix2 s p)
      = (W (Proc.devRef .tc main_arg44) : A S4x16) (ix2 0 s) := by
  after_reads_simp
  generalize W (Proc.devRef .tc main_arg44) = x
  pointwise []

theorem h58 (s : Fin 16) (p : Fin 256) :
    (StableHlo.after (hostOps5 (F := Ideal)) W (Proc.devRef .tc main_v58) : A S16x256) (ix2 s p)
      = (W (Proc.devRef .tc main_arg44) : A S4x16) (ix2 1 s) := by
  after_reads_simp
  generalize W (Proc.devRef .tc main_arg44) = x
  pointwise []

theorem h62 (s : Fin 16) (p : Fin 64) :
    (StableHlo.after (hostOps5 (F := Ideal)) W (Proc.devRef .tc main_v62) : A S16x64) (ix2 s p)
      = (W (Proc.devRef .tc main_arg44) : A S4x16) (ix2 2 s) := by
  after_reads_simp
  generalize W (Proc.devRef .tc main_arg44) = x
  pointwise []

theorem h66 (s : Fin 16) (p : Fin 16) :
    (StableHlo.after (hostOps5 (F := Ideal)) W (Proc.devRef .tc main_v66) : A S16x16) (ix2 s p)
      = (W (Proc.devRef .tc main_arg44) : A S4x16) (ix2 3 s) := by
  after_reads_simp
  generalize W (Proc.devRef .tc main_arg44) = x
  pointwise []

theorem h70 (s : Fin 16) (p : Fin 1024) :
    (StableHlo.after (hostOps5 (F := Ideal)) W (Proc.devRef .tc main_v70) : A S16x1024) (ix2 s p)
      = (W (Proc.devRef .tc main_arg45) : A S4x16) (ix2 0 s) := by
  after_reads_simp
  generalize W (Proc.devRef .tc main_arg45) = x
  pointwise []

theorem h74 (s : Fin 16) (p : Fin 256) :
    (StableHlo.after (hostOps5 (F := Ideal)) W (Proc.devRef .tc main_v74) : A S16x256) (ix2 s p)
      = (W (Proc.devRef .tc main_arg45) : A S4x16) (ix2 1 s) := by
  after_reads_simp
  generalize W (Proc.devRef .tc main_arg45) = x
  pointwise []

theorem h78 (s : Fin 16) (p : Fin 64) :
    (StableHlo.after (hostOps5 (F := Ideal)) W (Proc.devRef .tc main_v78) : A S16x64) (ix2 s p)
      = (W (Proc.devRef .tc main_arg45) : A S4x16) (ix2 2 s) := by
  after_reads_simp
  generalize W (Proc.devRef .tc main_arg45) = x
  pointwise []

theorem h82 (s : Fin 16) (p : Fin 16) :
    (StableHlo.after (hostOps5 (F := Ideal)) W (Proc.devRef .tc main_v82) : A S16x16) (ix2 s p)
      = (W (Proc.devRef .tc main_arg45) : A S4x16) (ix2 3 s) := by
  after_reads_simp
  generalize W (Proc.devRef .tc main_arg45) = x
  pointwise []

/-! Before the reductions: the feature maps in rows of `128`. -/

theorem h0 (n : Fin 64) (k : Fin 512) (a : Fin 8) (b : Fin 128) :
    (StableHlo.after (hostOps0 (F := Ideal)) W (Proc.devRef .tc main_v0) : A S64x512x8x128) (ix4 n k a b)
      = (W (Proc.devRef .tc main_arg16) : A S64x512x32x32) (ix4 n k ⟨(a.val * 128 + b.val) / 32, by omega⟩ ⟨(a.val * 128 + b.val) % 32, by omega⟩) := by
  after_reads_simp
  generalize W (Proc.devRef .tc main_arg16) = x
  pointwise []
  congr 2 <;> (apply Fin.ext; dsimp only; omega)

theorem h2 (n : Fin 64) (k : Fin 256) (a : Fin 8) (b : Fin 128) :
    (StableHlo.after (hostOps1 (F := Ideal)) W (Proc.devRef .tc main_v2) : A S64x256x8x128) (ix4 n k a b)
      = (W (Proc.devRef .tc main_arg17) : A S64x1024x16x16) (ix4 n ⟨k.val * 4 + a.val / 2, by omega⟩ ⟨(a.val % 2 * 128 + b.val) / 16, by omega⟩ ⟨(a.val % 2 * 128 + b.val) % 16, by omega⟩) := by
  after_reads_simp
  generalize W (Proc.devRef .tc main_arg17) = x
  pointwise []
  congr 2 <;> (apply Fin.ext; dsimp only; omega)

theorem h4 (n : Fin 64) (k : Fin 128) (a : Fin 8) (b : Fin 128) :
    (StableHlo.after (hostOps2 (F := Ideal)) W (Proc.devRef .tc main_v4) : A S64x128x8x128) (ix4 n k a b)
      = (W (Proc.devRef .tc main_arg18) : A S64x2048x8x8) (ix4 n ⟨k.val * 16 + a.val * 2 + b.val / 64, by omega⟩ ⟨b.val % 64 / 8, by omega⟩ ⟨b.val % 8, by omega⟩) := by
  after_reads_simp
  generalize W (Proc.devRef .tc main_arg18) = x
  pointwise []
  congr 2 <;> (apply Fin.ext; dsimp only; omega)

theorem h6 (n : Fin 64) (k : Fin 2048) (a : Fin 16) :
    (StableHlo.after (hostOps3 (F := Ideal)) W (Proc.devRef .tc main_v6) : A S64x2048x16) (ix3 n k a)
      = (W (Proc.devRef .tc main_arg19) : A S64x2048x4x4) (ix4 n k ⟨a.val / 4, by omega⟩ ⟨a.val % 4, by omega⟩) := by
  after_reads_simp
  generalize W (Proc.devRef .tc main_arg19) = x
  pointwise []

theorem h8 (n : Fin 64) (k : Fin 16) (a : Fin 8) (b : Fin 128) :
    (StableHlo.after (hostOps4 (F := Ideal)) W (Proc.devRef .tc main_v8) : A S64x16x8x128) (ix4 n k a b)
      = (W (Proc.devRef .tc main_arg0) : A S64x16x32x32) (ix4 n k ⟨(a.val * 128 + b.val) / 32, by omega⟩ ⟨(a.val * 128 + b.val) % 32, by omega⟩) := by
  after_reads_simp
  generalize W (Proc.devRef .tc main_arg0) = x
  pointwise []
  congr 2 <;> (apply Fin.ext; dsimp only; omega)

theorem h9 (n : Fin 64) (k : Fin 16) (a : Fin 8) (b : Fin 128) :
    (StableHlo.after (hostOps4 (F := Ideal)) W (Proc.devRef .tc main_v9) : A S64x16x8x128) (ix4 n k a b)
      = (W (Proc.devRef .tc main_arg1) : A S64x16x32x32) (ix4 n k ⟨(a.val * 128 + b.val) / 32, by omega⟩ ⟨(a.val * 128 + b.val) % 32, by omega⟩) := by
  after_reads_simp
  generalize W (Proc.devRef .tc main_arg1) = x
  pointwise []
  congr 2 <;> (apply Fin.ext; dsimp only; omega)

theorem h10 (n : Fin 64) (k : Fin 16) (a : Fin 8) (b : Fin 128) :
    (StableHlo.after (hostOps4 (F := Ideal)) W (Proc.devRef .tc main_v10) : A S64x16x8x128) (ix4 n k a b)
      = (W (Proc.devRef .tc main_arg2) : A S64x16x32x32) (ix4 n k ⟨(a.val * 128 + b.val) / 32, by omega⟩ ⟨(a.val * 128 + b.val) % 32, by omega⟩) := by
  after_reads_simp
  generalize W (Proc.devRef .tc main_arg2) = x
  pointwise []
  congr 2 <;> (apply Fin.ext; dsimp only; omega)

theorem h11 (n : Fin 64) (k : Fin 16) (a : Fin 8) (b : Fin 128) :
    (StableHlo.after (hostOps4 (F := Ideal)) W (Proc.devRef .tc main_v11) : A S64x16x8x128) (ix4 n k a b)
      = (W (Proc.devRef .tc main_arg3) : A S64x16x32x32) (ix4 n k ⟨(a.val * 128 + b.val) / 32, by omega⟩ ⟨(a.val * 128 + b.val) % 32, by omega⟩) := by
  after_reads_simp
  generalize W (Proc.devRef .tc main_arg3) = x
  pointwise []
  congr 2 <;> (apply Fin.ext; dsimp only; omega)

theorem h12 (n : Fin 64) (k : Fin 16) (a : Fin 8) (b : Fin 128) :
    (StableHlo.after (hostOps4 (F := Ideal)) W (Proc.devRef .tc main_v12) : A S64x16x8x128) (ix4 n k a b)
      = (W (Proc.devRef .tc main_arg4) : A S64x16x32x32) (ix4 n k ⟨(a.val * 128 + b.val) / 32, by omega⟩ ⟨(a.val * 128 + b.val) % 32, by omega⟩) := by
  after_reads_simp
  generalize W (Proc.devRef .tc main_arg4) = x
  pointwise []
  congr 2 <;> (apply Fin.ext; dsimp only; omega)

theorem h13 (n : Fin 64) (k : Fin 16) (a : Fin 8) (b : Fin 128) :
    (StableHlo.after (hostOps4 (F := Ideal)) W (Proc.devRef .tc main_v13) : A S64x16x8x128) (ix4 n k a b)
      = (W (Proc.devRef .tc main_arg5) : A S64x16x32x32) (ix4 n k ⟨(a.val * 128 + b.val) / 32, by omega⟩ ⟨(a.val * 128 + b.val) % 32, by omega⟩) := by
  after_reads_simp
  generalize W (Proc.devRef .tc main_arg5) = x
  pointwise []
  congr 2 <;> (apply Fin.ext; dsimp only; omega)

theorem h14 (n : Fin 64) (k : Fin 16) (a : Fin 8) (b : Fin 128) :
    (StableHlo.after (hostOps4 (F := Ideal)) W (Proc.devRef .tc main_v14) : A S64x16x8x128) (ix4 n k a b)
      = (W (Proc.devRef .tc main_arg6) : A S64x16x32x32) (ix4 n k ⟨(a.val * 128 + b.val) / 32, by omega⟩ ⟨(a.val * 128 + b.val) % 32, by omega⟩) := by
  after_reads_simp
  generalize W (Proc.devRef .tc main_arg6) = x
  pointwise []
  congr 2 <;> (apply Fin.ext; dsimp only; omega)

theorem h15 (n : Fin 64) (k : Fin 16) (a : Fin 8) (b : Fin 128) :
    (StableHlo.after (hostOps4 (F := Ideal)) W (Proc.devRef .tc main_v15) : A S64x16x8x128) (ix4 n k a b)
      = (W (Proc.devRef .tc main_arg7) : A S64x16x32x32) (ix4 n k ⟨(a.val * 128 + b.val) / 32, by omega⟩ ⟨(a.val * 128 + b.val) % 32, by omega⟩) := by
  after_reads_simp
  generalize W (Proc.devRef .tc main_arg7) = x
  pointwise []
  congr 2 <;> (apply Fin.ext; dsimp only; omega)

theorem h16 (n : Fin 64) (k : Fin 16) (a : Fin 8) (b : Fin 128) :
    (StableHlo.after (hostOps4 (F := Ideal)) W (Proc.devRef .tc main_v16) : A S64x16x8x128) (ix4 n k a b)
      = (W (Proc.devRef .tc main_arg8) : A S64x16x32x32) (ix4 n k ⟨(a.val * 128 + b.val) / 32, by omega⟩ ⟨(a.val * 128 + b.val) % 32, by omega⟩) := by
  after_reads_simp
  generalize W (Proc.devRef .tc main_arg8) = x
  pointwise []
  congr 2 <;> (apply Fin.ext; dsimp only; omega)

theorem h17 (n : Fin 64) (k : Fin 16) (a : Fin 8) (b : Fin 128) :
    (StableHlo.after (hostOps4 (F := Ideal)) W (Proc.devRef .tc main_v17) : A S64x16x8x128) (ix4 n k a b)
      = (W (Proc.devRef .tc main_arg9) : A S64x16x32x32) (ix4 n k ⟨(a.val * 128 + b.val) / 32, by omega⟩ ⟨(a.val * 128 + b.val) % 32, by omega⟩) := by
  after_reads_simp
  generalize W (Proc.devRef .tc main_arg9) = x
  pointwise []
  congr 2 <;> (apply Fin.ext; dsimp only; omega)

theorem h18 (n : Fin 64) (k : Fin 16) (a : Fin 8) (b : Fin 128) :
    (StableHlo.after (hostOps4 (F := Ideal)) W (Proc.devRef .tc main_v18) : A S64x16x8x128) (ix4 n k a b)
      = (W (Proc.devRef .tc main_arg10) : A S64x16x32x32) (ix4 n k ⟨(a.val * 128 + b.val) / 32, by omega⟩ ⟨(a.val * 128 + b.val) % 32, by omega⟩) := by
  after_reads_simp
  generalize W (Proc.devRef .tc main_arg10) = x
  pointwise []
  congr 2 <;> (apply Fin.ext; dsimp only; omega)

theorem h19 (n : Fin 64) (k : Fin 16) (a : Fin 8) (b : Fin 128) :
    (StableHlo.after (hostOps4 (F := Ideal)) W (Proc.devRef .tc main_v19) : A S64x16x8x128) (ix4 n k a b)
      = (W (Proc.devRef .tc main_arg11) : A S64x16x32x32) (ix4 n k ⟨(a.val * 128 + b.val) / 32, by omega⟩ ⟨(a.val * 128 + b.val) % 32, by omega⟩) := by
  after_reads_simp
  generalize W (Proc.devRef .tc main_arg11) = x
  pointwise []
  congr 2 <;> (apply Fin.ext; dsimp only; omega)

theorem h20 (n : Fin 64) (k : Fin 16) (a : Fin 8) (b : Fin 128) :
    (StableHlo.after (hostOps4 (F := Ideal)) W (Proc.devRef .tc main_v20) : A S64x16x8x128) (ix4 n k a b)
      = (W (Proc.devRef .tc main_arg12) : A S64x16x32x32) (ix4 n k ⟨(a.val * 128 + b.val) / 32, by omega⟩ ⟨(a.val * 128 + b.val) % 32, by omega⟩) := by
  after_reads_simp
  generalize W (Proc.devRef .tc main_arg12) = x
  pointwise []
  congr 2 <;> (apply Fin.ext; dsimp only; omega)

theorem h21 (n : Fin 64) (k : Fin 16) (a : Fin 8) (b : Fin 128) :
    (StableHlo.after (hostOps4 (F := Ideal)) W (Proc.devRef .tc main_v21) : A S64x16x8x128) (ix4 n k a b)
      = (W (Proc.devRef .tc main_arg13) : A S64x16x32x32) (ix4 n k ⟨(a.val * 128 + b.val) / 32, by omega⟩ ⟨(a.val * 128 + b.val) % 32, by omega⟩) := by
  after_reads_simp
  generalize W (Proc.devRef .tc main_arg13) = x
  pointwise []
  congr 2 <;> (apply Fin.ext; dsimp only; omega)

theorem h22 (n : Fin 64) (k : Fin 16) (a : Fin 8) (b : Fin 128) :
    (StableHlo.after (hostOps4 (F := Ideal)) W (Proc.devRef .tc main_v22) : A S64x16x8x128) (ix4 n k a b)
      = (W (Proc.devRef .tc main_arg14) : A S64x16x32x32) (ix4 n k ⟨(a.val * 128 + b.val) / 32, by omega⟩ ⟨(a.val * 128 + b.val) % 32, by omega⟩) := by
  after_reads_simp
  generalize W (Proc.devRef .tc main_arg14) = x
  pointwise []
  congr 2 <;> (apply Fin.ext; dsimp only; omega)

theorem h23 (n : Fin 64) (k : Fin 16) (a : Fin 8) (b : Fin 128) :
    (StableHlo.after (hostOps4 (F := Ideal)) W (Proc.devRef .tc main_v23) : A S64x16x8x128) (ix4 n k a b)
      = (W (Proc.devRef .tc main_arg15) : A S64x16x32x32) (ix4 n k ⟨(a.val * 128 + b.val) / 32, by omega⟩ ⟨(a.val * 128 + b.val) % 32, by omega⟩) := by
  after_reads_simp
  generalize W (Proc.devRef .tc main_arg15) = x
  pointwise []
  congr 2 <;> (apply Fin.ext; dsimp only; omega)

end Cert.KernelIdeal.Host
-- ==== Proof.Gates.lean ====
/-
  Pooling and a gate: the gate is between zero and one, so it leaves a pool as a factor.
-/
module

public import Idealize.ShloMosaic.Lib.Pointwise
public import proofs.«01_k».proof.Proof.Spec

@[expose] public section

namespace Cert.Reference

open Idealize Idealize.ShloMosaic Cert.Spec

theorem lit_two : lit 0x40000000#32 = ((2 : ℝ) : EReal) := by
  simp [Ideal.ofBits, Ideal.ieee, -EReal.coe_mul] <;> norm_num
theorem lit_half : lit 0x3F000000#32 = ((1 / 2 : ℝ) : EReal) := by
  simp [Ideal.ofBits, Ideal.ieee, -EReal.coe_mul] <;> norm_num
theorem lit_four : lit 0x40800000#32 = ((4 : ℝ) : EReal) := by
  simp [Ideal.ofBits, Ideal.ieee, -EReal.coe_mul] <;> norm_num
theorem lit_16 : lit 0x41800000#32 = ((16 : ℝ) : EReal) := by
  simp [Ideal.ofBits, Ideal.ieee, -EReal.coe_mul] <;> norm_num
theorem lit_64 : lit 0x42800000#32 = ((64 : ℝ) : EReal) := by
  simp [Ideal.ofBits, Ideal.ieee, -EReal.coe_mul] <;> norm_num
theorem lit_256 : lit 0x43800000#32 = ((256 : ℝ) : EReal) := by
  simp [Ideal.ofBits, Ideal.ieee, -EReal.coe_mul] <;> norm_num
theorem lit_one : lit 0x3F800000#32 = ((1 : ℝ) : EReal) := by
  simp [Ideal.ofBits, Ideal.ieee, -EReal.coe_mul] <;> norm_num
theorem lit_mean : lit 0x3F333333#32 = ((11744051 / 16777216 : ℝ) : EReal) := by
  simp [Ideal.ofBits, Ideal.ieee, -EReal.coe_mul] <;> norm_num
theorem lit_max : lit 0x3E99999A#32 = ((10066330 / 33554432 : ℝ) : EReal) := by
  simp [Ideal.ofBits, Ideal.ieee, -EReal.coe_mul] <;> norm_num

/-- Dividing by two is multiplying by a half. -/
theorem div_two (x : EReal) : Ideal.div x (lit 0x40000000#32) = x * lit 0x3F000000#32 := by
  rw [lit_two, lit_half, Ideal.div_coe (by norm_num)]

/-- A negation passes a division by `256`. -/
theorem neg_div_lit (x : EReal) : -(Ideal.div x (lit 0x43800000#32)) = Ideal.div (-x) (lit 0x43800000#32) := by
  rw [lit_256, Ideal.div_coe (by norm_num), Ideal.div_coe (by norm_num), EReal.neg_mul]

theorem exp_nonneg (x : EReal) : 0 ≤ Ideal.exp x := by
  induction x using EReal.rec with
  | bot => exact le_refl (0 : EReal)
  | top => exact le_top (a := (0 : EReal))
  | coe r =>
    show (0 : EReal) ≤ ((Real.exp r : ℝ) : EReal)
    exact_mod_cast (Real.exp_pos r).le

/-- The reciprocal of a number not below one is between zero and one. -/
theorem recip_bounds {d : EReal} (h : 1 ≤ d) : 0 ≤ Ideal.div 1 d ∧ Ideal.div 1 d ≠ ⊤ := by
  induction d using EReal.rec with
  | bot => exact absurd (le_trans zero_le_one h) (by simp)
  | top => simp [Ideal.div]
  | coe r =>
    have hr : (1 : ℝ) ≤ r := by exact_mod_cast h
    rw [Ideal.div_coe (by linarith)]
    rw [one_mul]
    exact ⟨by exact_mod_cast (by positivity : (0 : ℝ) ≤ 1 / r), EReal.coe_ne_top _⟩

theorem gate_bounds (w b : EReal) (P : Fin 1024 → EReal) : 0 ≤ gate w b P ∧ gate w b P ≠ ⊤ := by
  unfold gate
  exact recip_bounds (le_add_of_nonneg_right (exp_nonneg _))

theorem gate_nonneg (w b : EReal) (P : Fin 1024 → EReal) : 0 ≤ gate w b P := (gate_bounds w b P).1
theorem gate_ne_top (w b : EReal) (P : Fin 1024 → EReal) : gate w b P ≠ ⊤ := (gate_bounds w b P).2

/-- A factor between zero and infinity leaves a finite sum. -/
theorem sum_mul_factor {ι : Type*} (s : Finset ι) (f : ι → EReal) {g : EReal} (h0 : 0 ≤ g) (h1 : g ≠ ⊤) :
    ∑ k ∈ s, f k * g = (∑ k ∈ s, f k) * g := by
  classical
  induction s using Finset.induction_on with
  | empty => simp
  | insert a s ha ih => rw [Finset.sum_insert ha, Finset.sum_insert ha, ih, EReal.right_distrib_of_nonneg_of_ne_top h0 h1]

/-- It leaves a finite maximum. -/
theorem iSup_mul_factor {ι : Type*} [Finite ι] [Nonempty ι] (f : ι → EReal) {g : EReal} (h0 : 0 ≤ g) :
    ⨆ k, f k * g = (⨆ k, f k) * g := by
  obtain ⟨i, hi⟩ := exists_eq_ciSup_of_finite (f := f)
  refine le_antisymm (iSup_le fun k => mul_le_mul_of_nonneg_right (le_iSup f k) h0) ?_
  rw [← hi]
  exact le_iSup (fun k => f k * g) i

theorem pool_gate {ι : Type*} [Fintype ι] [Nonempty ι] {N : ℝ} {b : BitVec 32} (hN : lit b = (N : EReal)) (hz : N ≠ 0)
    (f : ι → EReal) {g : EReal} (h0 : 0 ≤ g) (h1 : g ≠ ⊤) :
    Cert.Spec.pool (lit b) (fun k => f k * g) = g * Cert.Spec.pool (lit b) f := by
  unfold Cert.Spec.pool mean
  rw [sum_mul_factor _ f h0 h1, iSup_mul_factor f h0, hN, Ideal.div_coe hz, Ideal.div_coe hz, mul_comm g,
    EReal.right_distrib_of_nonneg_of_ne_top h0 h1]
  congr 1
  · rw [mul_right_comm (∑ k, f k), mul_assoc (lit 0x3F333333#32)]
  · rw [mul_assoc]

/-- A pool of one entry is the entry. -/
theorem pool_one (f : Fin 1 × Fin 1 → EReal)   : Cert.Spec.pool (lit 0x3F800000#32) f = f (0, 0) := by
  unfold Cert.Spec.pool mean
  have e : ∀ k : Fin 1 × Fin 1, f k = f (0, 0) := fun k => by rw [Subsingleton.elim k (0, 0)]
  simp only [e, ciSup_const, Finset.sum_const, Finset.card_univ, Fintype.card_prod, Fintype.card_fin, mul_one, one_smul]
  rw [lit_one, Ideal.div_coe (by norm_num), lit_mean, lit_max]
  have h : ((1 / 1 : ℝ) : EReal) = 1 := by norm_num
  rw [h, mul_one, ← EReal.right_distrib_of_nonneg (by exact_mod_cast (by norm_num : (0 : ℝ) ≤ 11744051 / 16777216))
    (by exact_mod_cast (by norm_num : (0 : ℝ) ≤ 10066330 / 33554432)), ← EReal.coe_add]
  norm_num

end Cert.Reference
-- ==== Proof.Tiles.lean ====
/-
  The arithmetic between the two programs: means as products, sums and maxima over an image in rows of another length.
-/
module

public import Idealize.ShloMosaic.Lib.Pointwise
public import proofs.«01_k».proof.Proof.Spec
public import proofs.«01_k».proof.Proof.Flat
public import proofs.«01_k».proof.Proof.Gates

@[expose] public section

namespace Cert.Reference

open Idealize Idealize.ShloMosaic Cert.Spec

theorem lit_512 : lit 0x44000000#32 = ((512 : ℝ) : EReal) := by
  simp [Ideal.ofBits, Ideal.ieee, -EReal.coe_mul] <;> norm_num
theorem lit_1024 : lit 0x44800000#32 = ((1024 : ℝ) : EReal) := by
  simp [Ideal.ofBits, Ideal.ieee, -EReal.coe_mul] <;> norm_num
theorem lit_2048 : lit 0x45000000#32 = ((2048 : ℝ) : EReal) := by
  simp [Ideal.ofBits, Ideal.ieee, -EReal.coe_mul] <;> norm_num
theorem lit_r4 : lit 0x3E800000#32 = ((1 / 4 : ℝ) : EReal) := by
  simp [Ideal.ofBits, Ideal.ieee, -EReal.coe_mul] <;> norm_num
theorem lit_r16 : lit 0x3D800000#32 = ((1 / 16 : ℝ) : EReal) := by
  simp [Ideal.ofBits, Ideal.ieee, -EReal.coe_mul] <;> norm_num
theorem lit_r64 : lit 0x3C800000#32 = ((1 / 64 : ℝ) : EReal) := by
  simp [Ideal.ofBits, Ideal.ieee, -EReal.coe_mul] <;> norm_num
theorem lit_r256 : lit 0x3B800000#32 = ((1 / 256 : ℝ) : EReal) := by
  simp [Ideal.ofBits, Ideal.ieee, -EReal.coe_mul] <;> norm_num
theorem lit_r512 : lit 0x3B000000#32 = ((1 / 512 : ℝ) : EReal) := by
  simp [Ideal.ofBits, Ideal.ieee, -EReal.coe_mul] <;> norm_num
theorem lit_r1024 : lit 0x3A800000#32 = ((1 / 1024 : ℝ) : EReal) := by
  simp [Ideal.ofBits, Ideal.ieee, -EReal.coe_mul] <;> norm_num
theorem lit_r2048 : lit 0x3A000000#32 = ((1 / 2048 : ℝ) : EReal) := by
  simp [Ideal.ofBits, Ideal.ieee, -EReal.coe_mul] <;> norm_num
theorem lit_mean16 : lit 0x3D333333#32 = ((11744051 / 268435456 : ℝ) : EReal) := by
  simp [Ideal.ofBits, Ideal.ieee, -EReal.coe_mul] <;> norm_num

/-- A product with a reciprocal is a division. -/
theorem recip {N : ℝ} {b r : BitVec 32} (hb : lit b = (N : EReal)) (hr : lit r = ((1 / N : ℝ) : EReal)) (hz : N ≠ 0) (x : EReal) :
    x * lit r = Ideal.div x (lit b) := by
  rw [hb, hr, Ideal.div_coe hz]

theorem recip16 (x : EReal) : x * lit 0x3D800000#32 = Ideal.div x (lit 0x41800000#32) := recip lit_16 lit_r16 (by norm_num) x
theorem recip64 (x : EReal) : x * lit 0x3C800000#32 = Ideal.div x (lit 0x42800000#32) := recip lit_64 lit_r64 (by norm_num) x
theorem recip256 (x : EReal) : x * lit 0x3B800000#32 = Ideal.div x (lit 0x43800000#32) := recip lit_256 lit_r256 (by norm_num) x
theorem recip512 (x : EReal) : x * lit 0x3B000000#32 = Ideal.div x (lit 0x44000000#32) := recip lit_512 lit_r512 (by norm_num) x
theorem recip1024 (x : EReal) : x * lit 0x3A800000#32 = Ideal.div x (lit 0x44800000#32) := recip lit_1024 lit_r1024 (by norm_num) x
theorem recip2048 (x : EReal) : x * lit 0x3A000000#32 = Ideal.div x (lit 0x45000000#32) := recip lit_2048 lit_r2048 (by norm_num) x

/-- A family over the sixteen, four or sixty-four places of a block in one run, pooled. -/
theorem pool_flat {N : ℕ} (b : ℕ) (hN : b * b = N) (L : EReal) (f : Fin b → Fin b → EReal) (h1 : ∀ p : Fin N, p.val / b < b)
    (h2 : ∀ p : Fin N, p.val % b < b) :
    Cert.Spec.pool L (fun p : Fin N => f ⟨p.val / b, h1 p⟩ ⟨p.val % b, h2 p⟩)
      = Cert.Spec.pool L (fun k : Fin b × Fin b => f k.1 k.2) := by
  unfold Cert.Spec.pool mean
  rw [sum_flat b b hN f, iSup_flat b b hN f, Fintype.sum_prod_type]

/-- The pool of four as the call computes it. -/
theorem pool4 (f : Fin 4 → EReal) :
    lit 0x3F333333#32 * (lit 0x3E800000#32 * ∑ k, f k) + lit 0x3E99999A#32 * ⨆ k, f k = Cert.Spec.pool (lit 0x40800000#32) f := by
  unfold Cert.Spec.pool mean
  rw [mul_comm (lit 0x3E800000#32), recip lit_four lit_r4 (by norm_num)]

/-- The pool of sixteen as the call computes it: the two factors in one. -/
theorem pool16 (f : Fin 16 → EReal) :
    lit 0x3D333333#32 * (∑ k, f k) + lit 0x3E99999A#32 * ⨆ k, f k = Cert.Spec.pool (lit 0x41800000#32) f := by
  unfold Cert.Spec.pool mean
  have e : lit 0x3D333333#32 = lit 0x3F333333#32 * ((1 / 16 : ℝ) : EReal) := by
    rw [lit_mean16, lit_mean, ← EReal.coe_mul]; norm_num
  rw [e, lit_16, Ideal.div_coe (by norm_num), mul_assoc, mul_comm (((1 / 16 : ℝ) : EReal))]

/-- The positions of an image of `1024` in rows of `128`. -/
theorem sum_rows (f : Fin 1024 → EReal) : ∑ a : Fin 8, ∑ b : Fin 128, f ⟨a.val * 128 + b.val, by omega⟩ = ∑ p, f p :=
  (Cert.Reductions.sum_tiles 8 128 rfl f (fun _ _ => by omega)).symm

theorem iSup_rows (f : Fin 1024 → EReal) : ⨆ a : Fin 8, ⨆ b : Fin 128, f ⟨a.val * 128 + b.val, by omega⟩ = ⨆ p, f p :=
  (Cert.Reductions.iSup_tiles 8 128 rfl f (fun _ _ => by omega)).symm

end Cert.Reference
-- ==== Proof.Teacher0.lean ====
/-
  What the reduction of the first teacher leaves: the channels' means and the map of squares.
-/
module

public import Idealize.ShloMosaic.Lib.Pipeline.ValueKit
public import proofs.«01_k».proof.Proof.Flat
public import proofs.«01_k».proof.Proof.Gen.KernelIdeal.Frame.Region0

@[expose] public section

set_option maxRecDepth 16384

namespace Cert.KernelIdeal.Gen

open Idealize Idealize.ShloMosaic Idealize.ShloMosaic.TcCoe
open Idealize.ShloMosaic.Pipeline (Dat Cfg Window)
open Cert.Spec Cert.Reference

variable (V : (c : Dev nD) → (b : Ref sig .tc) → Buf (Elt Ideal) ((c : Thread nD τ).loc b))

/-- The blocks of the windows. -/
theorem idx0 : ∀ t : Fin cfg0.N, win0_0.index t = ![t.val, 0, 0, 0] ∧ win0_1.index t = ![t.val, 0] ∧ win0_2.index t = ![t.val, 0, 0] :=
  (by decide +kernel : ∀ t : Fin grid0.N, _)

/-- The mean over the positions. -/
noncomputable def means0 (x : A S64x512x8x128) : A S64x512 := fun i => (∑ a : Fin 8, ∑ b : Fin 128, x (ix4 (i 0) (i 1) a b)) * lit 0x3A800000#32

theorem means0_point (c : Dev nD) (t : Fin cfg0.N) (y) : k0_pay2 (F := Ideal) (iblk0 V c 0 t) y
    = means0 (V c main_v0) (((cfg0.win 1).blk t).view.emb y) := by
  pointwise [k0_pay1, k0_pay2, means0]
  blk_point [iblk0, idx0 t]

/-- What the reduction leaves in this array. -/
theorem means0_eq (c : Dev nD) : (dat0 V c).arrAt 1 cfg0.N = means0 (V c main_v0) := by
  refine (dat0 V c).arrAt_eq_of_covers 1 _ (by decide +kernel) fun t _ y => ?_
  blk_simp
  rw [after0_1]; frame_out
  exact means0_point V c t y

/-- The mean over the channels of the squares. -/
noncomputable def maps0 (x : A S64x512x8x128) : A S64x8x128 := fun i => (∑ k : Fin 512, x (ix4 (i 0) k (i 1) (i 2)) * x (ix4 (i 0) k (i 1) (i 2))) * lit 0x3B000000#32

theorem maps0_point (c : Dev nD) (t : Fin cfg0.N) (y) : k0_pay3 (F := Ideal) (iblk0 V c 0 t) y
    = maps0 (V c main_v0) (((cfg0.win 2).blk t).view.emb y) := by
  pointwise [k0_pay1, k0_pay3, maps0]
  blk_point [iblk0, idx0 t]

/-- What the reduction leaves in this array. -/
theorem maps0_eq (c : Dev nD) : (dat0 V c).arrAt 2 cfg0.N = maps0 (V c main_v0) := by
  refine (dat0 V c).arrAt_eq_of_covers 2 _ (by decide +kernel) fun t _ y => ?_
  blk_simp
  rw [after0_2]; frame_out
  exact maps0_point V c t y

end Cert.KernelIdeal.Gen
-- ==== Proof.Teacher1.lean ====
/-
  What the reduction of the second teacher leaves: the channels' means and the map of squares.
-/
module

public import Idealize.ShloMosaic.Lib.Pipeline.ValueKit
public import proofs.«01_k».proof.Proof.Flat
public import proofs.«01_k».proof.Proof.Gen.KernelIdeal.Frame.Region1

@[expose] public section

set_option maxRecDepth 16384

namespace Cert.KernelIdeal.Gen

open Idealize Idealize.ShloMosaic Idealize.ShloMosaic.TcCoe
open Idealize.ShloMosaic.Pipeline (Dat Cfg Window)
open Cert.Spec Cert.Reference

variable (V : (c : Dev nD) → (b : Ref sig .tc) → Buf (Elt Ideal) ((c : Thread nD τ).loc b))

/-- The blocks of the windows. -/
theorem idx1 : ∀ t : Fin cfg1.N, win1_0.index t = ![t.val, 0, 0, 0] ∧ win1_1.index t = ![t.val, 0, 0] ∧ win1_2.index t = ![t.val, 0, 0] :=
  (by decide +kernel : ∀ t : Fin grid1.N, _)

/-- A block of the teacher's array is eight of its images. -/
theorem block1 (c : Dev nD) (t : Fin cfg1.N) (n : Fin 8) (q : Fin 64) (hq : (q : ℕ) = t.val * 8 + n.val) (a : Fin 256) (b : Fin 8) (d : Fin 128) :
    (iblk1 V c 0 t : Vec Ideal S8x256x8x128 .f32) (ix4 n a b d) = (V c main_v2 : A S64x256x8x128) (ix4 q a b d) := by
  blk_ext [iblk1, idx1 t]

/-- The mean over the positions. -/
noncomputable def means1 {m : ℕ} (x : Fin m → Fin 256 → Fin 8 → Fin 128 → EReal) (n : Fin m) (k : Fin 256) (l : Fin 4) : EReal :=
  (∑ j : Fin 2, ∑ b : Fin 128, x n k ⟨l.val * 2 + j.val, by omega⟩ b) * lit 0x3B800000#32

theorem means1_pay (x : Vec Ideal S8x256x8x128 .f32) (n : Fin 8) (k : Fin 256) (l : Fin 4) :
    k1_pay2 (F := Ideal) x (ix3 n k l) = means1 (fun n a b d => x (ix4 n a b d)) n k l := by
  pointwise [k1_pay1, k1_pay2, means1]

theorem means1_point (c : Dev nD) (t : Fin cfg1.N) (y : S8x256x4.Idx) (q : Fin 64) (k : Fin 256) (l : Fin 4) (hq : (q : ℕ) = t.val * 8 + (y 0 : ℕ)) (hk : (k : ℕ) = (y 1 : ℕ)) (hl : (l : ℕ) = (y 2 : ℕ)) :
    k1_pay2 (F := Ideal) (iblk1 V c 0 t) y = means1 (fun n a b d => (V c main_v2 : A S64x256x8x128) (ix4 n a b d)) q k l := by
  obtain ⟨n, k', l', rfl⟩ : ∃ n k' l', y = ix3 n k' l' := ⟨_, _, _, eq_ix3 y⟩
  obtain rfl : k = k' := Fin.ext hk
  obtain rfl : l = l' := Fin.ext hl
  refine (means1_pay (iblk1 V c 0 t) n k l).trans ?_
  unfold means1
  simp only [block1 V c t n q hq]

/-- What the reduction leaves in this array. -/
theorem means1_eq (c : Dev nD) : (dat1 V c).arrAt 1 cfg1.N
    = ((fun i => means1 (fun n a b d => (V c main_v2 : A S64x256x8x128) (ix4 n a b d)) (i 0) (i 1) (i 2)) : A S64x256x4) := by
  refine (dat1 V c).arrAt_eq_of_covers 1 _ (by decide +kernel) fun t _ y => ?_
  blk_simp
  rw [after1_1]; frame_out
  exact means1_point V c t y _ _ _ (by blk_simp [idx1 t] <;> try omega) (by blk_simp [idx1 t] <;> try omega) (by blk_simp [idx1 t] <;> try omega)

/-- The mean over the channels of the squares. -/
noncomputable def maps1 {m : ℕ} (x : Fin m → Fin 256 → Fin 8 → Fin 128 → EReal) (n : Fin m) (k : Fin 2) (l : Fin 128) : EReal :=
  (∑ j : Fin 4, ∑ c : Fin 256, x n c ⟨j.val * 2 + k.val, by omega⟩ l * x n c ⟨j.val * 2 + k.val, by omega⟩ l) * lit 0x3A800000#32

theorem maps1_pay (x : Vec Ideal S8x256x8x128 .f32) (n : Fin 8) (k : Fin 2) (l : Fin 128) :
    k1_pay3 (F := Ideal) x (ix3 n k l) = maps1 (fun n a b d => x (ix4 n a b d)) n k l := by
  pointwise [k1_pay1, k1_pay3, maps1]

theorem maps1_point (c : Dev nD) (t : Fin cfg1.N) (y : S8x2x128.Idx) (q : Fin 64) (k : Fin 2) (l : Fin 128) (hq : (q : ℕ) = t.val * 8 + (y 0 : ℕ)) (hk : (k : ℕ) = (y 1 : ℕ)) (hl : (l : ℕ) = (y 2 : ℕ)) :
    k1_pay3 (F := Ideal) (iblk1 V c 0 t) y = maps1 (fun n a b d => (V c main_v2 : A S64x256x8x128) (ix4 n a b d)) q k l := by
  obtain ⟨n, k', l', rfl⟩ : ∃ n k' l', y = ix3 n k' l' := ⟨_, _, _, eq_ix3 y⟩
  obtain rfl : k = k' := Fin.ext hk
  obtain rfl : l = l' := Fin.ext hl
  refine (maps1_pay (iblk1 V c 0 t) n k l).trans ?_
  unfold maps1
  simp only [block1 V c t n q hq]

/-- What the reduction leaves in this array. -/
theorem maps1_eq (c : Dev nD) : (dat1 V c).arrAt 2 cfg1.N
    = ((fun i => maps1 (fun n a b d => (V c main_v2 : A S64x256x8x128) (ix4 n a b d)) (i 0) (i 1) (i 2)) : A S64x2x128) := by
  refine (dat1 V c).arrAt_eq_of_covers 2 _ (by decide +kernel) fun t _ y => ?_
  blk_simp
  rw [after1_2]; frame_out
  exact maps1_point V c t y _ _ _ (by blk_simp [idx1 t] <;> try omega) (by blk_simp [idx1 t] <;> try omega) (by blk_simp [idx1 t] <;> try omega)

end Cert.KernelIdeal.Gen
-- ==== Proof.Teacher2.lean ====
/-
  What the reduction of the third teacher leaves: the channels' means and the map of squares.
-/
module

public import Idealize.ShloMosaic.Lib.Pipeline.ValueKit
public import proofs.«01_k».proof.Proof.Flat
public import proofs.«01_k».proof.Proof.Gen.KernelIdeal.Frame.Region2

@[expose] public section

set_option maxRecDepth 16384

namespace Cert.KernelIdeal.Gen

open Idealize Idealize.ShloMosaic Idealize.ShloMosaic.TcCoe
open Idealize.ShloMosaic.Pipeline (Dat Cfg Window)
open Cert.Spec Cert.Reference

variable (V : (c : Dev nD) → (b : Ref sig .tc) → Buf (Elt Ideal) ((c : Thread nD τ).loc b))

/-- The blocks of the windows. -/
theorem idx2 : ∀ t : Fin cfg2.N, win2_0.index t = ![t.val, 0, 0, 0] ∧ win2_1.index t = ![t.val, 0, 0] ∧ win2_2.index t = ![t.val, 0, 0] ∧ win2_3.index t = ![t.val, 0] :=
  (by decide +kernel : ∀ t : Fin grid2.N, _)

/-- A block of the teacher's array is eight of its images. -/
theorem block2 (c : Dev nD) (t : Fin cfg2.N) (n : Fin 8) (q : Fin 64) (hq : (q : ℕ) = t.val * 8 + n.val) (a : Fin 128) (b : Fin 8) (d : Fin 128) :
    (iblk2 V c 0 t : Vec Ideal S8x128x8x128 .f32) (ix4 n a b d) = (V c main_v4 : A S64x128x8x128) (ix4 q a b d) := by
  blk_ext [iblk2, idx2 t]

/-- The mean over the positions, of the even channels. -/
noncomputable def means2 {m : ℕ} (x : Fin m → Fin 128 → Fin 8 → Fin 128 → EReal) (n : Fin m) (k : Fin 128) (l : Fin 8) : EReal :=
  (∑ b : Fin 64, x n k l ⟨b.val, by omega⟩) * lit 0x3C800000#32

theorem means2_pay (x : Vec Ideal S8x128x8x128 .f32) (n : Fin 8) (k : Fin 128) (l : Fin 8) :
    k2_pay2 (F := Ideal) x (ix3 n k l) = means2 (fun n a b d => x (ix4 n a b d)) n k l := by
  pointwise [k2_pay1, k2_pay2, means2]

theorem means2_point (c : Dev nD) (t : Fin cfg2.N) (y : S8x128x8.Idx) (q : Fin 64) (k : Fin 128) (l : Fin 8) (hq : (q : ℕ) = t.val * 8 + (y 0 : ℕ)) (hk : (k : ℕ) = (y 1 : ℕ)) (hl : (l : ℕ) = (y 2 : ℕ)) :
    k2_pay2 (F := Ideal) (iblk2 V c 0 t) y = means2 (fun n a b d => (V c main_v4 : A S64x128x8x128) (ix4 n a b d)) q k l := by
  obtain ⟨n, k', l', rfl⟩ : ∃ n k' l', y = ix3 n k' l' := ⟨_, _, _, eq_ix3 y⟩
  obtain rfl : k = k' := Fin.ext hk
  obtain rfl : l = l' := Fin.ext hl
  refine (means2_pay (iblk2 V c 0 t) n k l).trans ?_
  unfold means2
  simp only [block2 V c t n q hq]

/-- What the reduction leaves in this array. -/
theorem means2_eq (c : Dev nD) : (dat2 V c).arrAt 1 cfg2.N
    = ((fun i => means2 (fun n a b d => (V c main_v4 : A S64x128x8x128) (ix4 n a b d)) (i 0) (i 1) (i 2)) : A S64x128x8) := by
  refine (dat2 V c).arrAt_eq_of_covers 1 _ (by decide +kernel) fun t _ y => ?_
  blk_simp
  rw [after2_1]; frame_out
  exact means2_point V c t y _ _ _ (by blk_simp [idx2 t] <;> try omega) (by blk_simp [idx2 t] <;> try omega) (by blk_simp [idx2 t] <;> try omega)

/-- The mean over the positions, of the odd channels. -/
noncomputable def odds2 {m : ℕ} (x : Fin m → Fin 128 → Fin 8 → Fin 128 → EReal) (n : Fin m) (k : Fin 128) (l : Fin 8) : EReal :=
  (∑ b : Fin 64, x n k l ⟨64 + b.val, by omega⟩) * lit 0x3C800000#32

theorem odds2_pay (x : Vec Ideal S8x128x8x128 .f32) (n : Fin 8) (k : Fin 128) (l : Fin 8) :
    k2_pay3 (F := Ideal) x (ix3 n k l) = odds2 (fun n a b d => x (ix4 n a b d)) n k l := by
  pointwise [k2_pay1, k2_pay3, odds2]

theorem odds2_point (c : Dev nD) (t : Fin cfg2.N) (y : S8x128x8.Idx) (q : Fin 64) (k : Fin 128) (l : Fin 8) (hq : (q : ℕ) = t.val * 8 + (y 0 : ℕ)) (hk : (k : ℕ) = (y 1 : ℕ)) (hl : (l : ℕ) = (y 2 : ℕ)) :
    k2_pay3 (F := Ideal) (iblk2 V c 0 t) y = odds2 (fun n a b d => (V c main_v4 : A S64x128x8x128) (ix4 n a b d)) q k l := by
  obtain ⟨n, k', l', rfl⟩ : ∃ n k' l', y = ix3 n k' l' := ⟨_, _, _, eq_ix3 y⟩
  obtain rfl : k = k' := Fin.ext hk
  obtain rfl : l = l' := Fin.ext hl
  refine (odds2_pay (iblk2 V c 0 t) n k l).trans ?_
  unfold odds2
  simp only [block2 V c t n q hq]

/-- What the reduction leaves in this array. -/
theorem odds2_eq (c : Dev nD) : (dat2 V c).arrAt 2 cfg2.N
    = ((fun i => odds2 (fun n a b d => (V c main_v4 : A S64x128x8x128) (ix4 n a b d)) (i 0) (i 1) (i 2)) : A S64x128x8) := by
  refine (dat2 V c).arrAt_eq_of_covers 2 _ (by decide +kernel) fun t _ y => ?_
  blk_simp
  rw [after2_2]; frame_out
  exact odds2_point V c t y _ _ _ (by blk_simp [idx2 t] <;> try omega) (by blk_simp [idx2 t] <;> try omega) (by blk_simp [idx2 t] <;> try omega)

/-- The mean over the channels of the squares. -/
noncomputable def maps2 {m : ℕ} (x : Fin m → Fin 128 → Fin 8 → Fin 128 → EReal) (n : Fin m) (k : Fin 64) : EReal :=
  ((∑ a : Fin 8, ∑ c : Fin 128, x n c a ⟨k.val, by omega⟩ * x n c a ⟨k.val, by omega⟩) + ∑ a : Fin 8, ∑ c : Fin 128, x n c a ⟨64 + k.val, by omega⟩ * x n c a ⟨64 + k.val, by omega⟩) * lit 0x3A000000#32

theorem maps2_pay (x : Vec Ideal S8x128x8x128 .f32) (n : Fin 8) (k : Fin 64) :
    k2_pay4 (F := Ideal) x (ix2 n k) = maps2 (fun n a b d => x (ix4 n a b d)) n k := by
  pointwise [k2_pay1, k2_pay4, maps2]

theorem maps2_point (c : Dev nD) (t : Fin cfg2.N) (y : S8x64.Idx) (q : Fin 64) (k : Fin 64) (hq : (q : ℕ) = t.val * 8 + (y 0 : ℕ)) (hk : (k : ℕ) = (y 1 : ℕ)) :
    k2_pay4 (F := Ideal) (iblk2 V c 0 t) y = maps2 (fun n a b d => (V c main_v4 : A S64x128x8x128) (ix4 n a b d)) q k := by
  obtain ⟨n, k', rfl⟩ : ∃ n k', y = ix2 n k' := ⟨_, _, eq_ix2 y⟩
  obtain rfl : k = k' := Fin.ext hk
  refine (maps2_pay (iblk2 V c 0 t) n k).trans ?_
  unfold maps2
  simp only [block2 V c t n q hq]

/-- What the reduction leaves in this array. -/
theorem maps2_eq (c : Dev nD) : (dat2 V c).arrAt 3 cfg2.N
    = ((fun i => maps2 (fun n a b d => (V c main_v4 : A S64x128x8x128) (ix4 n a b d)) (i 0) (i 1)) : A S64x64) := by
  refine (dat2 V c).arrAt_eq_of_covers 3 _ (by decide +kernel) fun t _ y => ?_
  blk_simp
  rw [after2_3]; frame_out
  exact maps2_point V c t y _ _ (by blk_simp [idx2 t] <;> try omega) (by blk_simp [idx2 t] <;> try omega)

end Cert.KernelIdeal.Gen
-- ==== Proof.Teacher3.lean ====
/-
  What the reduction of the fourth teacher leaves: the channels' means and the map of squares.
-/
module

public import Idealize.ShloMosaic.Lib.Pipeline.ValueKit
public import proofs.«01_k».proof.Proof.Flat
public import proofs.«01_k».proof.Proof.Gen.KernelIdeal.Frame.Region3

@[expose] public section

set_option maxRecDepth 16384

namespace Cert.KernelIdeal.Gen

open Idealize Idealize.ShloMosaic Idealize.ShloMosaic.TcCoe
open Idealize.ShloMosaic.Pipeline (Dat Cfg Window)
open Cert.Spec Cert.Reference

variable (V : (c : Dev nD) → (b : Ref sig .tc) → Buf (Elt Ideal) ((c : Thread nD τ).loc b))

/-- The blocks of the windows. -/
theorem idx3 : ∀ t : Fin cfg3.N, win3_0.index t = ![t.val, 0, 0] ∧ win3_1.index t = ![t.val, 0] ∧ win3_2.index t = ![t.val, 0] :=
  (by decide +kernel : ∀ t : Fin grid3.N, _)

/-- A block of the teacher's array is eight of its images. -/
theorem block3 (c : Dev nD) (t : Fin cfg3.N) (n : Fin 8) (q : Fin 64) (hq : (q : ℕ) = t.val * 8 + n.val) (a : Fin 2048) (b : Fin 16) :
    (iblk3 V c 0 t : Vec Ideal S8x2048x16 .f32) (ix3 n a b) = (V c main_v6 : A S64x2048x16) (ix3 q a b) := by
  blk_ext [iblk3, idx3 t]

/-- The mean over the positions. -/
noncomputable def means3 {m : ℕ} (x : Fin m → Fin 2048 → Fin 16 → EReal) (n : Fin m) (k : Fin 2048) : EReal :=
  Ideal.div (∑ a : Fin 16, x n k a) (lit 0x41800000#32)

theorem means3_pay (x : Vec Ideal S8x2048x16 .f32) (n : Fin 8) (k : Fin 2048) :
    k3_pay2 (F := Ideal) x (ix2 n k) = means3 (fun n a b => x (ix3 n a b)) n k := by
  pointwise [k3_pay1, k3_pay2, means3]

theorem means3_point (c : Dev nD) (t : Fin cfg3.N) (y : S8x2048.Idx) (q : Fin 64) (k : Fin 2048) (hq : (q : ℕ) = t.val * 8 + (y 0 : ℕ)) (hk : (k : ℕ) = (y 1 : ℕ)) :
    k3_pay2 (F := Ideal) (iblk3 V c 0 t) y = means3 (fun n a b => (V c main_v6 : A S64x2048x16) (ix3 n a b)) q k := by
  obtain ⟨n, k', rfl⟩ : ∃ n k', y = ix2 n k' := ⟨_, _, eq_ix2 y⟩
  obtain rfl : k = k' := Fin.ext hk
  refine (means3_pay (iblk3 V c 0 t) n k).trans ?_
  unfold means3
  simp only [block3 V c t n q hq]

/-- What the reduction leaves in this array. -/
theorem means3_eq (c : Dev nD) : (dat3 V c).arrAt 1 cfg3.N
    = ((fun i => means3 (fun n a b => (V c main_v6 : A S64x2048x16) (ix3 n a b)) (i 0) (i 1)) : A S64x2048) := by
  refine (dat3 V c).arrAt_eq_of_covers 1 _ (by decide +kernel) fun t _ y => ?_
  blk_simp
  rw [after3_1]; frame_out
  exact means3_point V c t y _ _ (by blk_simp [idx3 t] <;> try omega) (by blk_simp [idx3 t] <;> try omega)

/-- The mean over the channels of the squares. -/
noncomputable def maps3 {m : ℕ} (x : Fin m → Fin 2048 → Fin 16 → EReal) (n : Fin m) (k : Fin 16) : EReal :=
  Ideal.div (∑ c : Fin 2048, x n c k * x n c k) (lit 0x45000000#32)

theorem maps3_pay (x : Vec Ideal S8x2048x16 .f32) (n : Fin 8) (k : Fin 16) :
    k3_pay3 (F := Ideal) x (ix2 n k) = maps3 (fun n a b => x (ix3 n a b)) n k := by
  pointwise [k3_pay1, k3_pay3, maps3]

theorem maps3_point (c : Dev nD) (t : Fin cfg3.N) (y : S8x16.Idx) (q : Fin 64) (k : Fin 16) (hq : (q : ℕ) = t.val * 8 + (y 0 : ℕ)) (hk : (k : ℕ) = (y 1 : ℕ)) :
    k3_pay3 (F := Ideal) (iblk3 V c 0 t) y = maps3 (fun n a b => (V c main_v6 : A S64x2048x16) (ix3 n a b)) q k := by
  obtain ⟨n, k', rfl⟩ : ∃ n k', y = ix2 n k' := ⟨_, _, eq_ix2 y⟩
  obtain rfl : k = k' := Fin.ext hk
  refine (maps3_pay (iblk3 V c 0 t) n k).trans ?_
  unfold maps3
  simp only [block3 V c t n q hq]

/-- What the reduction leaves in this array. -/
theorem maps3_eq (c : Dev nD) : (dat3 V c).arrAt 2 cfg3.N
    = ((fun i => maps3 (fun n a b => (V c main_v6 : A S64x2048x16) (ix3 n a b)) (i 0) (i 1)) : A S64x16) := by
  refine (dat3 V c).arrAt_eq_of_covers 2 _ (by decide +kernel) fun t _ y => ?_
  blk_simp
  rw [after3_2]; frame_out
  exact maps3_point V c t y _ _ (by blk_simp [idx3 t] <;> try omega) (by blk_simp [idx3 t] <;> try omega)

end Cert.KernelIdeal.Gen
-- ==== Proof.TeacherMeans.lean ====
/-
  The calls' reduced data of an image laid out in rows of `128`, as means over the image itself.
-/
module

public import Idealize.ShloMosaic.Lib.Pipeline.ValueKit
public import proofs.«01_k».proof.Proof.Tiles
public import proofs.«01_k».proof.Proof.Teacher0
public import proofs.«01_k».proof.Proof.Teacher1
public import proofs.«01_k».proof.Proof.Teacher2
public import proofs.«01_k».proof.Proof.Teacher3

@[expose] public section

set_option maxRecDepth 16384

namespace Cert.KernelIdeal.Run

open Idealize Idealize.ShloMosaic Cert.KernelIdeal
open Cert.Spec Cert.Reference

/-- Teacher `0`: channel means. -/
theorem means0_math (x : A S64x512x8x128) (y : A S64x512x32x32) (h : ∀ (n : Fin 64) (k : Fin 512) (a : Fin 8) (b : Fin 128), x (ix4 n k a b) = y (ix4 n k ⟨(a.val * 128 + b.val) / 32, by omega⟩ ⟨(a.val * 128 + b.val) % 32, by omega⟩)) (n : Fin 64) (k : Fin 512) :
    Gen.means0 x (ix2 n k) = mean (lit 0x44800000#32) (fun p : Fin 1024 => y (ix4 n k ⟨p.val / 32, by omega⟩ ⟨p.val % 32, by omega⟩)) := by
  unfold Gen.means0 mean
  show (∑ a : Fin 8, ∑ b : Fin 128, x (ix4 n k a b)) * lit 0x3A800000#32 = _
  simp only [h]
  rw [sum_rows (fun p => y (ix4 n k ⟨p.val / 32, by omega⟩ ⟨p.val % 32, by omega⟩)), recip1024]

/-- Teacher `0`: map of squares. -/
theorem squares0_math (x : A S64x512x8x128) (y : A S64x512x32x32) (h : ∀ (n : Fin 64) (k : Fin 512) (a : Fin 8) (b : Fin 128), x (ix4 n k a b) = y (ix4 n k ⟨(a.val * 128 + b.val) / 32, by omega⟩ ⟨(a.val * 128 + b.val) % 32, by omega⟩)) (n : Fin 64) (p : Fin 1024) :
    Gen.maps0 x (ix3 n ⟨p.val / 128, by omega⟩ ⟨p.val % 128, by omega⟩) = mean (lit 0x44000000#32) (fun k : Fin 512 => y (ix4 n k ⟨p.val / 32, by omega⟩ ⟨p.val % 32, by omega⟩) * y (ix4 n k ⟨p.val / 32, by omega⟩ ⟨p.val % 32, by omega⟩)) := by
  unfold Gen.maps0 mean
  show (∑ k : Fin 512, x (ix4 n k ⟨p.val / 128, by omega⟩ ⟨p.val % 128, by omega⟩)
    * x (ix4 n k ⟨p.val / 128, by omega⟩ ⟨p.val % 128, by omega⟩)) * lit 0x3B000000#32 = _
  simp only [h]
  have e : p.val / 128 * 128 + p.val % 128 = p.val := by omega
  simp only [e]
  exact recip512 _

/-- Teacher `1`: channel means. -/
theorem means1_math (x : A S64x256x8x128) (y : A S64x1024x16x16) (h : ∀ (n : Fin 64) (k : Fin 256) (a : Fin 8) (b : Fin 128), x (ix4 n k a b) = y (ix4 n ⟨k.val * 4 + a.val / 2, by omega⟩ ⟨(a.val % 2 * 128 + b.val) / 16, by omega⟩ ⟨(a.val % 2 * 128 + b.val) % 16, by omega⟩)) (n : Fin 64) (q : Fin 1024) :
    Gen.means1 (fun n a b d => x (ix4 n a b d)) n ⟨q.val / 4, by omega⟩ ⟨q.val % 4, by omega⟩ = mean (lit 0x43800000#32) (fun p : Fin 256 => y (ix4 n q ⟨p.val / 16, by omega⟩ ⟨p.val % 16, by omega⟩)) := by
  unfold Gen.means1 mean
  simp only [h]
  rw [recip256, Cert.Reductions.sum_tiles 2 128 rfl (fun p : Fin 256 => y (ix4 n q ⟨p.val / 16, by omega⟩ ⟨p.val % 16, by omega⟩)) (fun _ _ => by omega)]
  congr 1
  refine Finset.sum_congr rfl fun j _ => Finset.sum_congr rfl fun b _ => ?_
  congr 2 <;> (apply Fin.ext; dsimp only; omega)

/-- Teacher `1`: map of squares. -/
theorem squares1_math (x : A S64x256x8x128) (y : A S64x1024x16x16) (h : ∀ (n : Fin 64) (k : Fin 256) (a : Fin 8) (b : Fin 128), x (ix4 n k a b) = y (ix4 n ⟨k.val * 4 + a.val / 2, by omega⟩ ⟨(a.val % 2 * 128 + b.val) / 16, by omega⟩ ⟨(a.val % 2 * 128 + b.val) % 16, by omega⟩)) (n : Fin 64) (p : Fin 256) :
    Gen.maps1 (fun n a b d => x (ix4 n a b d)) n ⟨p.val / 128, by omega⟩ ⟨p.val % 128, by omega⟩ = mean (lit 0x44800000#32) (fun k : Fin 1024 => y (ix4 n k ⟨p.val / 16, by omega⟩ ⟨p.val % 16, by omega⟩) * y (ix4 n k ⟨p.val / 16, by omega⟩ ⟨p.val % 16, by omega⟩)) := by
  unfold Gen.maps1 mean
  simp only [h]
  rw [recip1024, Cert.Reductions.sum_tiles 256 4 rfl (fun k : Fin 1024 => y (ix4 n k ⟨p.val / 16, by omega⟩ ⟨p.val % 16, by omega⟩) * y (ix4 n k ⟨p.val / 16, by omega⟩ ⟨p.val % 16, by omega⟩)) (fun _ _ => by omega), Finset.sum_comm]
  congr 1
  refine Finset.sum_congr rfl fun j _ => Finset.sum_congr rfl fun b _ => ?_
  congr 1 <;> congr 2 <;> (apply Fin.ext; dsimp only; omega)

/-- Teacher `2`: the even channels' means. -/
theorem means2_math (x : A S64x128x8x128) (y : A S64x2048x8x8) (h : ∀ (n : Fin 64) (k : Fin 128) (a : Fin 8) (b : Fin 128), x (ix4 n k a b) = y (ix4 n ⟨k.val * 16 + a.val * 2 + b.val / 64, by omega⟩ ⟨b.val % 64 / 8, by omega⟩ ⟨b.val % 8, by omega⟩)) (n : Fin 64) (q : Fin 1024) :
    Gen.means2 (fun n a b d => x (ix4 n a b d)) n ⟨q.val / 8, by omega⟩ ⟨q.val % 8, by omega⟩ = mean (lit 0x42800000#32) (fun p : Fin 64 => y (ix4 n ⟨2 * q.val, by omega⟩ ⟨p.val / 8, by omega⟩ ⟨p.val % 8, by omega⟩)) := by
  unfold Gen.means2 mean
  simp only [h]
  rw [recip64]
  congr 1
  refine Finset.sum_congr rfl fun b _ => ?_
  congr 2 <;> (apply Fin.ext; dsimp only; omega)

/-- Teacher `2`: the odd channels' means. -/
theorem odds2_math (x : A S64x128x8x128) (y : A S64x2048x8x8) (h : ∀ (n : Fin 64) (k : Fin 128) (a : Fin 8) (b : Fin 128), x (ix4 n k a b) = y (ix4 n ⟨k.val * 16 + a.val * 2 + b.val / 64, by omega⟩ ⟨b.val % 64 / 8, by omega⟩ ⟨b.val % 8, by omega⟩)) (n : Fin 64) (q : Fin 1024) :
    Gen.odds2 (fun n a b d => x (ix4 n a b d)) n ⟨q.val / 8, by omega⟩ ⟨q.val % 8, by omega⟩ = mean (lit 0x42800000#32) (fun p : Fin 64 => y (ix4 n ⟨2 * q.val + 1, by omega⟩ ⟨p.val / 8, by omega⟩ ⟨p.val % 8, by omega⟩)) := by
  unfold Gen.odds2 mean
  simp only [h]
  rw [recip64]
  congr 1
  refine Finset.sum_congr rfl fun b _ => ?_
  congr 2 <;> (apply Fin.ext; dsimp only; omega)

/-- Teacher `2`: map of squares. -/
theorem squares2_math (x : A S64x128x8x128) (y : A S64x2048x8x8) (h : ∀ (n : Fin 64) (k : Fin 128) (a : Fin 8) (b : Fin 128), x (ix4 n k a b) = y (ix4 n ⟨k.val * 16 + a.val * 2 + b.val / 64, by omega⟩ ⟨b.val % 64 / 8, by omega⟩ ⟨b.val % 8, by omega⟩)) (n : Fin 64) (p : Fin 64) :
    Gen.maps2 (fun n a b d => x (ix4 n a b d)) n p = mean (lit 0x45000000#32) (fun k : Fin 2048 => y (ix4 n k ⟨p.val / 8, by omega⟩ ⟨p.val % 8, by omega⟩) * y (ix4 n k ⟨p.val / 8, by omega⟩ ⟨p.val % 8, by omega⟩)) := by
  unfold Gen.maps2 mean
  simp only [h]
  rw [← Finset.sum_add_distrib, recip2048, Cert.Reductions.sum_tiles 1024 2 rfl (fun k : Fin 2048 => y (ix4 n k ⟨p.val / 8, by omega⟩ ⟨p.val % 8, by omega⟩) * y (ix4 n k ⟨p.val / 8, by omega⟩ ⟨p.val % 8, by omega⟩)) (fun _ _ => by omega),
    Cert.Reductions.sum_tiles 128 8 rfl _ (fun _ _ => by omega)]
  congr 1
  refine Eq.trans ?_ Finset.sum_comm
  refine Finset.sum_congr rfl fun a _ => ?_
  rw [← Finset.sum_add_distrib]
  refine Finset.sum_congr rfl fun b _ => ?_
  rw [Fin.sum_univ_two]
  congr 1 <;> congr 1 <;> congr 2 <;> (apply Fin.ext; dsimp only; omega)

/-- Teacher `3`: channel means. -/
theorem means3_math (x : A S64x2048x16) (y : A S64x2048x4x4) (h : ∀ (n : Fin 64) (k : Fin 2048) (a : Fin 16), x (ix3 n k a) = y (ix4 n k ⟨a.val / 4, by omega⟩ ⟨a.val % 4, by omega⟩)) (n : Fin 64) (k : Fin 2048) :
    Gen.means3 (fun n a b => x (ix3 n a b)) n k = mean (lit 0x41800000#32) (fun p : Fin 16 => y (ix4 n k ⟨p.val / 4, by omega⟩ ⟨p.val % 4, by omega⟩)) := by
  unfold Gen.means3 mean
  simp only [h]

/-- Teacher `3`: map of squares. -/
theorem squares3_math (x : A S64x2048x16) (y : A S64x2048x4x4) (h : ∀ (n : Fin 64) (k : Fin 2048) (a : Fin 16), x (ix3 n k a) = y (ix4 n k ⟨a.val / 4, by omega⟩ ⟨a.val % 4, by omega⟩)) (n : Fin 64) (p : Fin 16) :
    Gen.maps3 (fun n a b => x (ix3 n a b)) n p = mean (lit 0x45000000#32) (fun k : Fin 2048 => y (ix4 n k ⟨p.val / 4, by omega⟩ ⟨p.val % 4, by omega⟩) * y (ix4 n k ⟨p.val / 4, by omega⟩ ⟨p.val % 4, by omega⟩)) := by
  unfold Gen.maps3 mean
  simp only [h]

end Cert.KernelIdeal.Run
-- ==== Proof.Students.lean ====
/-
  What the students' reduction leaves: the channel descriptors and the maps of squares of the sixteen students.
-/
module

public import Idealize.ShloMosaic.Lib.Pipeline.ValueKit
public import proofs.«01_k».proof.Proof.Flat
public import proofs.«01_k».proof.Proof.Gen.KernelIdeal.Frame.Region4

@[expose] public section

set_option maxRecDepth 16384

namespace Cert.KernelIdeal.Gen

open Idealize Idealize.ShloMosaic Idealize.ShloMosaic.TcCoe
open Idealize.ShloMosaic.Pipeline (Dat Cfg Window)
open Cert.Spec Cert.Reference

variable (V : (c : Dev nD) → (b : Ref sig .tc) → Buf (Elt Ideal) ((c : Thread nD τ).loc b))

/-- The blocks of the windows. -/
theorem idx4 : ∀ t : Fin cfg4.N, win4_0.index t = ![t.val, 0, 0, 0] ∧ win4_1.index t = ![t.val, 0, 0, 0] ∧ win4_2.index t = ![t.val, 0, 0, 0] ∧ win4_3.index t = ![t.val, 0, 0, 0] ∧ win4_4.index t = ![t.val, 0, 0, 0] ∧ win4_5.index t = ![t.val, 0, 0, 0] ∧ win4_6.index t = ![t.val, 0, 0, 0] ∧ win4_7.index t = ![t.val, 0, 0, 0] ∧ win4_8.index t = ![t.val, 0, 0, 0] ∧ win4_9.index t = ![t.val, 0, 0, 0] ∧ win4_10.index t = ![t.val, 0, 0, 0] ∧ win4_11.index t = ![t.val, 0, 0, 0] ∧ win4_12.index t = ![t.val, 0, 0, 0] ∧ win4_13.index t = ![t.val, 0, 0, 0] ∧ win4_14.index t = ![t.val, 0, 0, 0] ∧ win4_15.index t = ![t.val, 0, 0, 0]
    ∧ win4_16.index t = ![t.val, 0, 0] ∧ win4_17.index t = ![t.val, 0, 0, 0] :=
  (by decide +kernel : ∀ t : Fin grid4.N, _)

/-- A channel's descriptor from a student's rows of lanes. -/
noncomputable def chan (f : Fin 8 → Fin 128 → EReal) : EReal :=
  lit 0x3F333333#32 * ((∑ a, ∑ b, f a b) * lit 0x3A800000#32) + lit 0x3E99999A#32 * ⨆ a, ⨆ b, f a b

theorem chan_at (B : Vec Ideal S8x16x8x128 .f32) (x : S8x1x16.Idx) (n : Fin 8) (c : Fin 16) (h0 : (n : ℕ) = 0 + ↑(x 0)) (h2 : (c : ℕ) = 0 + ↑(x 2)) :
    k4_pay2 (View.ld B r4_0) x = chan (fun a b => B (ix4 n c a b)) := by
  obtain rfl : n = x 0 := Fin.ext (by omega)
  obtain rfl : c = x 2 := Fin.ext (by omega)
  pointwise [k4_pay2, k4_pay1, chan, Cert.Reductions.fold_max_eq_iSup]

theorem map_at (B : Vec Ideal S8x16x8x128 .f32) (x : S8x1x8x128.Idx) (n : Fin 8) (a : Fin 8) (b : Fin 128) (h0 : (n : ℕ) = 0 + ↑(x 0)) (h2 : (a : ℕ) = 0 + ↑(x 2))
    (h3 : (b : ℕ) = 0 + ↑(x 3)) :
    k4_pay3 (View.ld B r4_0) x = (∑ k : Fin 16, B (ix4 n k a b) * B (ix4 n k a b)) * lit 0x3D800000#32 := by
  obtain rfl : n = x 0 := Fin.ext (by omega)
  obtain rfl : a = x 2 := Fin.ext (by omega)
  obtain rfl : b = x 3 := Fin.ext (by omega)
  pointwise [k4_pay3, k4_pay1]

/-- Two index values an interval of length one ties together. -/
theorem tie {a b k : ℕ} (h : a = k + b) (hb : b < 1) : a = k := by omega

theorem tie0 {a b : ℕ} (h : a = b) (hb : b < 1) : a = 0 := by omega

theorem chans_out (x : Fin 16 → Vec Ideal S8x16x8x128 .f32) (n : Fin 8) (s c : Fin 16) :
    out4_16 (x 0) (x 1) (x 2) (x 3) (x 4) (x 5) (x 6) (x 7) (x 8) (x 9) (x 10) (x 11) (x 12) (x 13) (x 14) (x 15) (ix3 n s c) = chan (fun a b => x s (ix4 n c a b)) := by
  obtain ⟨s, hs⟩ := s
  unfold_out out4_16
  canon_tiles z h
  all_goals
    first
    | obtain rfl : s = _ := tie h1 z1_lt
    | obtain rfl : s = 0 := tie0 h1 z1_lt
    exact chan_at _ z n c (h0.trans (Nat.zero_add _).symm) (h2.trans (Nat.zero_add _).symm)

theorem maps_out (x : Fin 16 → Vec Ideal S8x16x8x128 .f32) (n : Fin 8) (s : Fin 16) (a : Fin 8) (b : Fin 128) :
    out4_17 (x 0) (x 1) (x 2) (x 3) (x 4) (x 5) (x 6) (x 7) (x 8) (x 9) (x 10) (x 11) (x 12) (x 13) (x 14) (x 15) (ix4 n s a b) = (∑ k : Fin 16, x s (ix4 n k a b) * x s (ix4 n k a b)) * lit 0x3D800000#32 := by
  obtain ⟨s, hs⟩ := s
  unfold_out out4_17
  canon_tiles z h
  all_goals
    first
    | obtain rfl : s = _ := tie h1 z1_lt
    | obtain rfl : s = 0 := tie0 h1 z1_lt
    exact map_at _ z n a b (h0.trans (Nat.zero_add _).symm) (h2.trans (Nat.zero_add _).symm) (h3.trans (Nat.zero_add _).symm)

/-- The sixteen students' blocks at a point. -/
noncomputable def blks (c : Dev nD) (t : Fin cfg4.N) : Fin 16 → Vec Ideal S8x16x8x128 .f32 :=
  ![iblk4 V c 0 t, iblk4 V c 1 t, iblk4 V c 2 t, iblk4 V c 3 t, iblk4 V c 4 t, iblk4 V c 5 t, iblk4 V c 6 t, iblk4 V c 7 t, iblk4 V c 8 t, iblk4 V c 9 t, iblk4 V c 10 t, iblk4 V c 11 t, iblk4 V c 12 t, iblk4 V c 13 t, iblk4 V c 14 t, iblk4 V c 15 t]

/-- The sixteen students' arrays as the reduction finds them. -/
noncomputable def studs (c : Dev nD) : Fin 16 → A S64x16x8x128 :=
  ![V c main_v8, V c main_v9, V c main_v10, V c main_v11, V c main_v12, V c main_v13, V c main_v14, V c main_v15, V c main_v16, V c main_v17, V c main_v18, V c main_v19, V c main_v20, V c main_v21, V c main_v22, V c main_v23]

set_option maxHeartbeats 4000000 in
/-- A block of a student's array is eight of its images. -/
theorem blks_at (c : Dev nD) (t : Fin cfg4.N) (n : Fin 8) (q : Fin 64) (hq : (q : ℕ) = t.val * 8 + n.val) (s k : Fin 16) (a : Fin 8)
    (b : Fin 128) : blks V c t s (ix4 n k a b) = studs V c s (ix4 q k a b) := by
  fin_cases s
  · show (iblk4 V c 0 t : Vec Ideal S8x16x8x128 .f32) (ix4 n k a b) = (V c main_v8 : A S64x16x8x128) (ix4 q k a b)
    blk_ext [iblk4, idx4 t]
  · show (iblk4 V c 1 t : Vec Ideal S8x16x8x128 .f32) (ix4 n k a b) = (V c main_v9 : A S64x16x8x128) (ix4 q k a b)
    blk_ext [iblk4, idx4 t]
  · show (iblk4 V c 2 t : Vec Ideal S8x16x8x128 .f32) (ix4 n k a b) = (V c main_v10 : A S64x16x8x128) (ix4 q k a b)
    blk_ext [iblk4, idx4 t]
  · show (iblk4 V c 3 t : Vec Ideal S8x16x8x128 .f32) (ix4 n k a b) = (V c main_v11 : A S64x16x8x128) (ix4 q k a b)
    blk_ext [iblk4, idx4 t]
  · show (iblk4 V c 4 t : Vec Ideal S8x16x8x128 .f32) (ix4 n k a b) = (V c main_v12 : A S64x16x8x128) (ix4 q k a b)
    blk_ext [iblk4, idx4 t]
  · show (iblk4 V c 5 t : Vec Ideal S8x16x8x128 .f32) (ix4 n k a b) = (V c main_v13 : A S64x16x8x128) (ix4 q k a b)
    blk_ext [iblk4, idx4 t]
  · show (iblk4 V c 6 t : Vec Ideal S8x16x8x128 .f32) (ix4 n k a b) = (V c main_v14 : A S64x16x8x128) (ix4 q k a b)
    blk_ext [iblk4, idx4 t]
  · show (iblk4 V c 7 t : Vec Ideal S8x16x8x128 .f32) (ix4 n k a b) = (V c main_v15 : A S64x16x8x128) (ix4 q k a b)
    blk_ext [iblk4, idx4 t]
  · show (iblk4 V c 8 t : Vec Ideal S8x16x8x128 .f32) (ix4 n k a b) = (V c main_v16 : A S64x16x8x128) (ix4 q k a b)
    blk_ext [iblk4, idx4 t]
  · show (iblk4 V c 9 t : Vec Ideal S8x16x8x128 .f32) (ix4 n k a b) = (V c main_v17 : A S64x16x8x128) (ix4 q k a b)
    blk_ext [iblk4, idx4 t]
  · show (iblk4 V c 10 t : Vec Ideal S8x16x8x128 .f32) (ix4 n k a b) = (V c main_v18 : A S64x16x8x128) (ix4 q k a b)
    blk_ext [iblk4, idx4 t]
  · show (iblk4 V c 11 t : Vec Ideal S8x16x8x128 .f32) (ix4 n k a b) = (V c main_v19 : A S64x16x8x128) (ix4 q k a b)
    blk_ext [iblk4, idx4 t]
  · show (iblk4 V c 12 t : Vec Ideal S8x16x8x128 .f32) (ix4 n k a b) = (V c main_v20 : A S64x16x8x128) (ix4 q k a b)
    blk_ext [iblk4, idx4 t]
  · show (iblk4 V c 13 t : Vec Ideal S8x16x8x128 .f32) (ix4 n k a b) = (V c main_v21 : A S64x16x8x128) (ix4 q k a b)
    blk_ext [iblk4, idx4 t]
  · show (iblk4 V c 14 t : Vec Ideal S8x16x8x128 .f32) (ix4 n k a b) = (V c main_v22 : A S64x16x8x128) (ix4 q k a b)
    blk_ext [iblk4, idx4 t]
  · show (iblk4 V c 15 t : Vec Ideal S8x16x8x128 .f32) (ix4 n k a b) = (V c main_v23 : A S64x16x8x128) (ix4 q k a b)
    blk_ext [iblk4, idx4 t]

set_option maxHeartbeats 4000000 in
theorem chans_point (c : Dev nD) (t : Fin cfg4.N) (y : S8x16x16.Idx) (q : Fin 64) (s k : Fin 16) (hq : (q : ℕ) = t.val * 8 + (y 0 : ℕ))
    (hs : (s : ℕ) = (y 1 : ℕ)) (hk : (k : ℕ) = (y 2 : ℕ)) :
    out4_16 (blks V c t 0) (blks V c t 1) (blks V c t 2) (blks V c t 3) (blks V c t 4) (blks V c t 5) (blks V c t 6) (blks V c t 7) (blks V c t 8) (blks V c t 9) (blks V c t 10) (blks V c t 11) (blks V c t 12) (blks V c t 13) (blks V c t 14) (blks V c t 15) y = chan (fun a b => studs V c s (ix4 q k a b)) := by
  obtain ⟨n, s', k', rfl⟩ : ∃ n s' k', y = ix3 n s' k' := ⟨_, _, _, eq_ix3 y⟩
  obtain rfl : s = s' := Fin.ext hs
  obtain rfl : k = k' := Fin.ext hk
  refine (chans_out (blks V c t) n s k).trans ?_
  simp only [blks_at V c t n q hq]

set_option maxHeartbeats 4000000 in
/-- The channel descriptors the students' reduction leaves. -/
theorem chans_eq (c : Dev nD) : (dat4 V c).arrAt 16 cfg4.N
    = ((fun i => chan (fun a b => studs V c (i 1) (ix4 (i 0) (i 2) a b))) : A S64x16x16) := by
  refine (dat4 V c).arrAt_eq_of_covers 16 _ (by decide +kernel) fun t _ y => ?_
  blk_simp
  rw [after4_16]
  exact chans_point V c t y _ _ _ (by blk_simp [idx4 t] <;> try omega) (by blk_simp [idx4 t] <;> try omega) (by blk_simp [idx4 t] <;> try omega)

set_option maxHeartbeats 4000000 in
theorem maps_point (c : Dev nD) (t : Fin cfg4.N) (y : S8x16x8x128.Idx) (q : Fin 64) (s : Fin 16) (a : Fin 8) (b : Fin 128)
    (hq : (q : ℕ) = t.val * 8 + (y 0 : ℕ)) (hs : (s : ℕ) = (y 1 : ℕ)) (ha : (a : ℕ) = (y 2 : ℕ)) (hb : (b : ℕ) = (y 3 : ℕ)) :
    out4_17 (blks V c t 0) (blks V c t 1) (blks V c t 2) (blks V c t 3) (blks V c t 4) (blks V c t 5) (blks V c t 6) (blks V c t 7) (blks V c t 8) (blks V c t 9) (blks V c t 10) (blks V c t 11) (blks V c t 12) (blks V c t 13) (blks V c t 14) (blks V c t 15) y
      = (∑ k : Fin 16, studs V c s (ix4 q k a b) * studs V c s (ix4 q k a b)) * lit 0x3D800000#32 := by
  obtain ⟨n, s', a', b', rfl⟩ : ∃ n s' a' b', y = ix4 n s' a' b' := ⟨_, _, _, _, eq_ix4 y⟩
  obtain rfl : s = s' := Fin.ext hs
  obtain rfl : a = a' := Fin.ext ha
  obtain rfl : b = b' := Fin.ext hb
  refine (maps_out (blks V c t) n s a b).trans ?_
  simp only [blks_at V c t n q hq]

set_option maxHeartbeats 4000000 in
/-- The maps of squares the students' reduction leaves. -/
theorem maps_eq (c : Dev nD) : (dat4 V c).arrAt 17 cfg4.N
    = ((fun i => (∑ k : Fin 16, studs V c (i 1) (ix4 (i 0) k (i 2) (i 3)) * studs V c (i 1) (ix4 (i 0) k (i 2) (i 3))) * lit 0x3D800000#32)
        : A S64x16x8x128) := by
  refine (dat4 V c).arrAt_eq_of_covers 17 _ (by decide +kernel) fun t _ y => ?_
  blk_simp
  rw [after4_17]
  exact maps_point V c t y _ _ _ _ (by blk_simp [idx4 t] <;> try omega) (by blk_simp [idx4 t] <;> try omega) (by blk_simp [idx4 t] <;> try omega)
    (by blk_simp [idx4 t] <;> try omega)

end Cert.KernelIdeal.Gen
-- ==== Proof.Model.lean ====
/-
  The loss as a function of the reduced data: the students' channel descriptors and squared-feature maps, the maps' pooled
  forms, the teachers' linear queries and squared-feature maps, and the parameters.
-/
module

public import proofs.«01_k».proof.Proof.Spec

@[expose] public section

namespace Cert.Spec

open Idealize Idealize.ShloMosaic

/-- The reduced data the loss is computed from. -/
@[ext] structure Model where
  /-- channel descriptors: image, student, channel -/
  cm : Fin 64 → Fin 16 → Fin 16 → EReal
  /-- squared-feature maps, and these pooled to `16`, `8` and `4` rows and columns -/
  P : Fin 64 → Fin 16 → Fin 1024 → EReal
  P1 : Fin 64 → Fin 16 → Fin 256 → EReal
  P2 : Fin 64 → Fin 16 → Fin 64 → EReal
  P3 : Fin 64 → Fin 16 → Fin 16 → EReal
  /-- the queries' linear parts -/
  l0 : Fin 64 → Fin 128 → EReal
  l1 : Fin 64 → Fin 128 → EReal
  l2 : Fin 64 → Fin 128 → EReal
  l3 : Fin 64 → Fin 128 → EReal
  /-- the teachers' squared-feature maps -/
  t0 : Fin 64 → Fin 1024 → EReal
  t1 : Fin 64 → Fin 256 → EReal
  t2 : Fin 64 → Fin 64 → EReal
  t3 : Fin 64 → Fin 16 → EReal
  /-- the gates' scale and shift -/
  aw : Fin 4 → EReal
  ab : Fin 4 → EReal
  /-- the keys' layers -/
  kW : Fin 16 → Fin 128 → Fin 16 → EReal
  kb : Fin 16 → Fin 128 → EReal
  kg : Fin 16 → Fin 128 → EReal
  ke : Fin 16 → Fin 128 → EReal
  /-- the two hidden layers -/
  W1 : Fin 256 → Fin 128 → EReal
  b1 : Fin 256 → EReal
  g1 : Fin 256 → EReal
  e1 : Fin 256 → EReal
  W2 : Fin 512 → Fin 256 → EReal
  b2 : Fin 512 → EReal
  g2 : Fin 512 → EReal
  e2 : Fin 512 → EReal
  /-- the queries' shift and normalisation -/
  qb : Fin 4 → Fin 128 → EReal
  qg : Fin 4 → Fin 128 → EReal
  qe : Fin 4 → Fin 128 → EReal
  /-- the positional vectors, and the teachers' weights before their softmax -/
  pt : Fin 4 → Fin 128 → EReal
  ps : Fin 16 → Fin 128 → EReal
  w : Fin 4 → EReal
  /-- scale and shift of the normalisation over the students, for each teacher -/
  G0 : Fin 16 → Fin 1024 → EReal
  G1 : Fin 16 → Fin 256 → EReal
  G2 : Fin 16 → Fin 64 → EReal
  G3 : Fin 16 → Fin 16 → EReal
  B0 : Fin 16 → Fin 1024 → EReal
  B1 : Fin 16 → Fin 256 → EReal
  B2 : Fin 16 → Fin 64 → EReal
  B3 : Fin 16 → Fin 16 → EReal

namespace Model

variable (M : Model)

/-- The students' keys. -/
noncomputable def key (n : Fin 64) (s : Fin 16) (k : Fin 128) : EReal :=
  keyEntry (fun n c => M.cm n s c) (M.kW s k) (M.kb s k) (M.kg s k) (M.ke s k) n

/-- The first hidden layer, on the keys as `1024` rows. -/
noncomputable def hid1 (r : Fin 1024) (o : Fin 256) : EReal :=
  layer (lit 0x44800000#32) (fun (r : Fin 1024) k => M.key ⟨r.val / 16, by omega⟩ ⟨r.val % 16, by omega⟩ k) M.W1 M.b1 M.g1 M.e1 r o

/-- The second hidden layer. -/
noncomputable def hid (r : Fin 1024) (o : Fin 512) : EReal :=
  layer (lit 0x44800000#32) M.hid1 M.W2 M.b2 M.g2 M.e2 r o

/-- The query of one teacher from its linear part. -/
noncomputable def qry (l : Fin 64 → Fin 128 → EReal) (t : Fin 4) (n : Fin 64) (j : Fin 128) : EReal :=
  unit (fun j => nrm (lit 0x42800000#32) (fun n => l n j + M.qb t j) (M.qg t j) (M.qe t j) n) j

/-- The positional product. -/
noncomputable def pos (t : Fin 4) (s : Fin 16) : EReal := ∑ k, M.pt t k * M.ps s k

/-- The attention of one teacher from its query's linear part. -/
noncomputable def att (l : Fin 64 → Fin 128 → EReal) (t : Fin 4) (n : Fin 64) (s : Fin 16) : EReal :=
  softmax (fun s : Fin 16 => logit (fun j => M.hid ⟨n.val * 16 + s.val, by omega⟩ ⟨128 * t.val + j.val, by omega⟩)
    (M.qry l t n) (M.pos t s)) s

/-- The gate of a student for one teacher. -/
noncomputable def gat (t : Fin 4) (n : Fin 64) (s : Fin 16) : EReal := gate (M.aw t) (M.ab t) (M.P n s)

/-- The loss of a student against a teacher from its pooled maps. -/
noncomputable def los {N : ℕ} (lN : EReal) (t : Fin 4) (P : Fin 64 → Fin 16 → Fin N → EReal) (G B : Fin 16 → Fin N → EReal)
    (h : Fin 64 → Fin N → EReal) (n : Fin 64) (s : Fin 16) : EReal :=
  lossOf lN (gap (fun s p => M.gat t n s * P n s p) G B (h n) s)

/-- The entropy term of the loss. -/
noncomputable def start : EReal :=
  lit 0x3DCCCCCD#32 * Ideal.div (-(ent (M.att M.l0 0) + ent (M.att M.l1 1) + ent (M.att M.l2 2) + ent (M.att M.l3 3)))
    (lit 0x43800000#32)

/-- The whole loss. -/
noncomputable def loss : EReal :=
  M.start
    + share (M.los (lit 0x44800000#32) 0 M.P M.G0 M.B0 M.t0) (M.att M.l0 0) (softmax M.w 0)
    + share (M.los (lit 0x43800000#32) 1 M.P1 M.G1 M.B1 M.t1) (M.att M.l1 1) (softmax M.w 1)
    + share (M.los (lit 0x42800000#32) 2 M.P2 M.G2 M.B2 M.t2) (M.att M.l2 2) (softmax M.w 2)
    + share (M.los (lit 0x41800000#32) 3 M.P3 M.G3 M.B3 M.t3) (M.att M.l3 3) (softmax M.w 3)

end Model

end Cert.Spec
-- ==== Proof.ReferenceKeys.lean ====
/-
  The plain program's students: channel descriptors, keys and hidden layers, read at plain coordinates.
-/
module

public import Idealize.ShloMosaic.Lib.Pointwise
public import proofs.«01_k».proof.Proof.Spec
public import proofs.«01_k».proof.Proof.Flat
public import proofs.«01_k».proof.Proof.Gen.ReferenceIdeal.Read

@[expose] public section

set_option maxRecDepth 16384

namespace Cert.Reference

open Idealize Idealize.ShloMosaic Cert.ReferenceIdeal Cert.ReferenceIdeal.Gen Cert.ReferenceIdeal.Read Cert.Spec

variable (x0 x1 x2 x3 x4 x5 x6 x7 x8 x9 x10 x11 x12 x13 x14 x15 : A S64x16x32x32)
  (x16 : A S64x512x32x32) (x17 : A S64x1024x16x16) (x18 : A S64x2048x8x8) (x19 : A S64x2048x4x4)
  (x20 x21 : A S4) (x22 : A S16x128x16) (x23 x24 x25 : A S16x128) (x26 : A S256x128) (x27 x28 x29 : A S256)
  (x30 : A S512x256) (x31 x32 x33 : A S512) (x34 : A S128x512) (x35 : A S128x1024) (x36 x37 : A S128x2048)
  (x38 x39 x40 x41 : A S4x128) (x42 : A S16x128) (x43 : A S4) (x44 x45 : A S4x16)

/-- The sixteen students' feature maps. -/
def stu : Fin 16 → A S64x16x32x32 := ![x0, x1, x2, x3, x4, x5, x6, x7, x8, x9, x10, x11, x12, x13, x14, x15]

theorem stack (n : Fin 64) (s c : Fin 16) (y x : Fin 32) :
    val_main_v16 (F := Ideal) x0 x1 x2 x3 x4 x5 x6 x7 x8 x9 x10 x11 x12 x13 x14 x15 (ix5 n s c y x) = stu x0 x1 x2 x3 x4 x5 x6 x7 x8 x9 x10 x11 x12
      x13 x14 x15 s (ix4 n c y x) := by
  fin_cases s
  all_goals pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16]
  all_goals rfl

/-- The sum over the pixels of a channel. -/
theorem pixel_sum (n : Fin 64) (s c : Fin 16) :
    val_main_v17 (F := Ideal) x0 x1 x2 x3 x4 x5 x6 x7 x8 x9 x10 x11 x12 x13 x14 x15 (ix3 n s c) = ∑ y : Fin 32, ∑ x : Fin 32, val_main_v16 (F := Ideal) x0 x1 x2 x3 x4 x5 x6 x7 x8 x9 x10 x11 x12 x13 x14 x15 (ix5 n s c y x) := by
  pointwise [val_main_cst, val_main_v17]

/-- The maximum over the pixels of a channel. -/
theorem pixel_max (n : Fin 64) (s c : Fin 16) :
    val_main_v22 (F := Ideal) x0 x1 x2 x3 x4 x5 x6 x7 x8 x9 x10 x11 x12 x13 x14 x15 (ix3 n s c) = ⨆ k : Fin 32 × Fin 32, val_main_v16 (F := Ideal) x0 x1 x2 x3 x4 x5 x6 x7 x8 x9 x10 x11 x12 x13 x14 x15 (ix5 n s c k.1 k.2) := by
  unfold val_main_v22
  generalize val_main_v16 (F := Ideal) x0 x1 x2 x3 x4 x5 x6 x7 x8 x9 x10 x11 x12 x13 x14 x15 = u
  pointwise [val_main_cst_2, Cert.Reductions.fold_max_eq_iSup]

/-- The channel descriptors. -/
theorem descriptors (n : Fin 64) (s c : Fin 16) :
    val_main_v25 (F := Ideal) x0 x1 x2 x3 x4 x5 x6 x7 x8 x9 x10 x11 x12 x13 x14 x15 (ix3 n s c) = desc (fun p : Fin 1024 =>
      val_main_v16 (F := Ideal) x0 x1 x2 x3 x4 x5 x6 x7 x8 x9 x10 x11 x12 x13 x14 x15 (ix5 n s c ⟨p.val / 32, by omega⟩ ⟨p.val % 32, by omega⟩)) := by
  refine Eq.trans ?_ (desc_flat (fun y x => val_main_v16 (F := Ideal) x0 x1 x2 x3 x4 x5 x6 x7 x8 x9 x10 x11 x12 x13 x14 x15 (ix5 n s c y x))).symm
  rw [← pixel_sum, ← pixel_max, val_main_v25_apply, val_main_v24_apply, val_main_v21_apply, val_main_v19_apply,
    val_main_v18_apply, val_main_v20_apply, val_main_v23_apply]
  rfl

theorem key_linear (n : Fin 64) (s : Fin 16) (k : Fin 128) :
    val_main_v30 (F := Ideal) x0 x1 x2 x3 x4 x5 x6 x7 x8 x9 x10 x11 x12 x13 x14 x15 x22 x23 (ix3 n s k) = (∑ c, (val_main_v25 (F := Ideal) x0 x1 x2
      x3 x4 x5 x6 x7 x8 x9 x10 x11 x12 x13 x14 x15) (ix3 n s c) * x22 (ix3 s k c)) + x23 (ix2 s k) := by
  pointwise [val_main_v26, val_main_v27, val_main_v28, val_main_v29, val_main_v30, mul_comm]

/-- The keys. -/
theorem keys (n : Fin 64) (s : Fin 16) (k : Fin 128) :
    val_main_v53 (F := Ideal) x0 x1 x2 x3 x4 x5 x6 x7 x8 x9 x10 x11 x12 x13 x14 x15 x22 x23 x24 x25 (ix3 n s k) = keyEntry (fun n c => (val_main_v25
      (F := Ideal) x0 x1 x2 x3 x4 x5 x6 x7 x8 x9 x10 x11 x12 x13 x14 x15) (ix3 n s c)) (fun c => x22 (ix3 s k c)) (x23 (ix2 s k))
      (x24 (ix2 s k)) (x25 (ix2 s k)) n := by
  pointwise [val_main_cst_4, val_main_v31, val_main_cst_5, val_main_v32, val_main_v33, val_main_v34, val_main_v35, val_main_v36, val_main_v37,
    val_main_cst_6, val_main_v38, val_main_cst_7, val_main_v39, val_main_v40, val_main_cst_8, val_main_v41, val_main_v42, val_main_v43, val_main_v44,
      val_main_v45, val_main_v46, val_main_v47, val_main_v48, val_main_v49, val_main_v50, val_main_v51, val_main_v52, val_main_call0_cst,
        val_main_call0_v0, val_main_v53, keyEntry, nrm, mean]
  simp only [key_linear]

/-- The keys as rows. -/
theorem rows (r : Fin 1024) (k : Fin 128) :
    val_main_v54 (F := Ideal) x0 x1 x2 x3 x4 x5 x6 x7 x8 x9 x10 x11 x12 x13 x14 x15 x22 x23 x24 x25 (ix2 r k) = val_main_v53 (F := Ideal) x0 x1 x2 x3
      x4 x5 x6 x7 x8 x9 x10 x11 x12 x13 x14 x15 x22 x23 x24 x25 (ix3 ⟨r.val / 16, by omega⟩ ⟨r.val % 16, by omega⟩ k) := by
  pointwise [val_main_v54]

/-- The first hidden layer. -/
theorem hidden1 (r : Fin 1024) (o : Fin 256) :
    val_main_v82 (F := Ideal) x0 x1 x2 x3 x4 x5 x6 x7 x8 x9 x10 x11 x12 x13 x14 x15 x22 x23 x24 x25 x26 x27 x28 x29 (ix2 r o) = layer (lit
      0x44800000#32) (fun (r : Fin 1024) k => (val_main_v54 (F := Ideal) x0 x1 x2 x3 x4 x5 x6 x7 x8 x9 x10 x11 x12 x13 x14 x15 x22 x23 x24 x25) (ix2
        r k)) (fun o k => x26 (ix2 o k))
      (fun o => x27 (ix1 o)) (fun o => x28 (ix1 o)) (fun o => x29 (ix1 o)) r o := by
  pointwise [val_main_v55, val_main_v56, val_main_v57, val_main_v58, val_main_v59, val_main_cst_9, val_main_v60, val_main_cst_10, val_main_v61,
    val_main_v62, val_main_v63, val_main_v64, val_main_v65, val_main_v66, val_main_cst_11, val_main_v67, val_main_cst_12, val_main_v68, val_main_v69,
      val_main_cst_13, val_main_v70, val_main_v71, val_main_v72, val_main_v73, val_main_v74, val_main_v75, val_main_v76, val_main_v77, val_main_v78,
        val_main_v79, val_main_v80, val_main_v81, val_main_call1_cst, val_main_call1_v0, val_main_v82, layer, nrm, mean]

/-- The second hidden layer. -/
theorem hidden2 (r : Fin 1024) (o : Fin 512) :
    val_main_v110 (F := Ideal) x0 x1 x2 x3 x4 x5 x6 x7 x8 x9 x10 x11 x12 x13 x14 x15 x22 x23 x24 x25 x26 x27 x28 x29 x30 x31 x32 x33 (ix2 r o) =
      layer (lit 0x44800000#32) (fun (r : Fin 1024) k => (val_main_v82 (F := Ideal) x0 x1 x2 x3 x4 x5 x6 x7 x8 x9 x10 x11 x12 x13 x14 x15 x22 x23 x24
        x25 x26 x27 x28 x29) (ix2 r k)) (fun o k => x30 (ix2 o k))
      (fun o => x31 (ix1 o)) (fun o => x32 (ix1 o)) (fun o => x33 (ix1 o)) r o := by
  pointwise [val_main_v83, val_main_v84, val_main_v85, val_main_v86, val_main_v87, val_main_cst_14, val_main_v88, val_main_cst_15, val_main_v89,
    val_main_v90, val_main_v91, val_main_v92, val_main_v93, val_main_v94, val_main_cst_16, val_main_v95, val_main_cst_17, val_main_v96, val_main_v97,
      val_main_cst_18, val_main_v98, val_main_v99, val_main_v100, val_main_v101, val_main_v102, val_main_v103, val_main_v104, val_main_v105,
        val_main_v106, val_main_v107, val_main_v108, val_main_v109, val_main_call2_cst, val_main_call2_v0, val_main_v110, layer, nrm, mean]

/-- The hidden values by image, student and teacher. -/
theorem split (n : Fin 64) (s : Fin 16) (t : Fin 4) (j : Fin 128) :
    val_main_v111 (F := Ideal) x0 x1 x2 x3 x4 x5 x6 x7 x8 x9 x10 x11 x12 x13 x14 x15 x22 x23 x24 x25 x26 x27 x28 x29 x30 x31 x32 x33 (ix4 n s t j) =
      val_main_v110 (F := Ideal) x0 x1 x2 x3 x4 x5 x6 x7 x8 x9 x10 x11 x12 x13 x14 x15 x22 x23 x24 x25 x26 x27 x28 x29 x30 x31 x32 x33 (ix2 ⟨n.val *
        16 + s.val, by omega⟩ ⟨t.val * 128 + j.val, by omega⟩) := by
  pointwise [val_main_v111]

end Cert.Reference
-- ==== Proof.ReferenceMaps.lean ====
/-
  The plain program's squared-feature maps, gates and pooled maps, read at plain coordinates.
-/
module

public import Idealize.ShloMosaic.Lib.Pointwise
public import proofs.«01_k».proof.Proof.Spec
public import proofs.«01_k».proof.Proof.Flat
public import proofs.«01_k».proof.Proof.Gen.ReferenceIdeal.Read

@[expose] public section

set_option maxRecDepth 16384

namespace Cert.Reference

open Idealize Idealize.ShloMosaic Cert.ReferenceIdeal Cert.ReferenceIdeal.Gen Cert.ReferenceIdeal.Read Cert.Spec

variable (x0 x1 x2 x3 x4 x5 x6 x7 x8 x9 x10 x11 x12 x13 x14 x15 : A S64x16x32x32)
  (x16 : A S64x512x32x32) (x17 : A S64x1024x16x16) (x18 : A S64x2048x8x8) (x19 : A S64x2048x4x4)
  (x20 x21 : A S4) (x22 : A S16x128x16) (x23 x24 x25 : A S16x128) (x26 : A S256x128) (x27 x28 x29 : A S256)
  (x30 : A S512x256) (x31 x32 x33 : A S512) (x34 : A S128x512) (x35 : A S128x1024) (x36 x37 : A S128x2048)
  (x38 x39 x40 x41 : A S4x128) (x42 : A S16x128) (x43 : A S4) (x44 x45 : A S4x16)

/-- The students' squared-feature maps. -/
theorem squares (n : Fin 64) (s : Fin 16) (y x : Fin 32) :
    val_main_v115 (F := Ideal) x0 x1 x2 x3 x4 x5 x6 x7 x8 x9 x10 x11 x12 x13 x14 x15 (ix4 n s y x) = mean (lit 0x41800000#32) (fun c => (val_main_v16
      (F := Ideal) x0 x1 x2 x3 x4 x5 x6 x7 x8 x9 x10 x11 x12 x13 x14 x15) (ix5 n s c y x) * (val_main_v16 (F := Ideal) x0 x1 x2 x3 x4 x5 x6 x7 x8 x9
        x10 x11 x12 x13 x14 x15) (ix5 n s c y x)) := by
  pointwise [val_main_v112, val_main_cst_19, val_main_v113, val_main_cst_20, val_main_v114, val_main_v115, mean]

/-- The maps' means. -/
theorem map_mean (n : Fin 64) (s : Fin 16) :
    val_main_v118 (F := Ideal) x0 x1 x2 x3 x4 x5 x6 x7 x8 x9 x10 x11 x12 x13 x14 x15 (ix2 n s) = mean (lit 0x44800000#32) (fun p : Fin 1024 =>
      (val_main_v115 (F := Ideal) x0 x1 x2 x3 x4 x5 x6 x7 x8 x9 x10 x11 x12 x13 x14 x15) (ix4 n s ⟨p.val / 32, by omega⟩ ⟨p.val % 32, by omega⟩)) :=
        by
  unfold mean
  rw [sum_flat 32 32 rfl (fun y x => (val_main_v115 (F := Ideal) x0 x1 x2 x3 x4 x5 x6 x7 x8 x9 x10 x11 x12 x13 x14 x15) (ix4 n s y x))]
  pointwise [val_main_cst_21, val_main_v116, val_main_cst_22, val_main_v117, val_main_v118]

theorem gate0 (n : Fin 64) (s : Fin 16) :
    val_main_v132 (F := Ideal) x0 x1 x2 x3 x4 x5 x6 x7 x8 x9 x10 x11 x12 x13 x14 x15 x20 x21 (ix2 n s) = Ideal.div 1 (1 + Ideal.exp (-(x20 (ix1 0) *
      (val_main_v118 (F := Ideal) x0 x1 x2 x3 x4 x5 x6 x7 x8 x9 x10 x11 x12 x13 x14 x15) (ix2 n s) + x21 (ix1 0)))) := by
  pointwise [val_main_v119, val_main_v120, val_main_v121, val_main_v122, val_main_v123, val_main_v124, val_main_v125, val_main_v126, val_main_v127,
    val_main_v128, val_main_cst_23, val_main_v129, val_main_v130, val_main_cst_24, val_main_v131, val_main_v132]

theorem gate1 (n : Fin 64) (s : Fin 16) :
    val_main_v168 (F := Ideal) x0 x1 x2 x3 x4 x5 x6 x7 x8 x9 x10 x11 x12 x13 x14 x15 x20 x21 (ix2 n s) = Ideal.div 1 (1 + Ideal.exp (-(x20 (ix1 1) *
      (val_main_v118 (F := Ideal) x0 x1 x2 x3 x4 x5 x6 x7 x8 x9 x10 x11 x12 x13 x14 x15) (ix2 n s) + x21 (ix1 1)))) := by
  pointwise [val_main_v155, val_main_v156, val_main_v157, val_main_v158, val_main_v159, val_main_v160, val_main_v161, val_main_v162, val_main_v163,
    val_main_v164, val_main_cst_32, val_main_v165, val_main_v166, val_main_cst_33, val_main_v167, val_main_v168]

theorem gate2 (n : Fin 64) (s : Fin 16) :
    val_main_v204 (F := Ideal) x0 x1 x2 x3 x4 x5 x6 x7 x8 x9 x10 x11 x12 x13 x14 x15 x20 x21 (ix2 n s) = Ideal.div 1 (1 + Ideal.exp (-(x20 (ix1 2) *
      (val_main_v118 (F := Ideal) x0 x1 x2 x3 x4 x5 x6 x7 x8 x9 x10 x11 x12 x13 x14 x15) (ix2 n s) + x21 (ix1 2)))) := by
  pointwise [val_main_v191, val_main_v192, val_main_v193, val_main_v194, val_main_v195, val_main_v196, val_main_v197, val_main_v198, val_main_v199,
    val_main_v200, val_main_cst_41, val_main_v201, val_main_v202, val_main_cst_42, val_main_v203, val_main_v204]

theorem gate3 (n : Fin 64) (s : Fin 16) :
    val_main_v240 (F := Ideal) x0 x1 x2 x3 x4 x5 x6 x7 x8 x9 x10 x11 x12 x13 x14 x15 x20 x21 (ix2 n s) = Ideal.div 1 (1 + Ideal.exp (-(x20 (ix1 3) *
      (val_main_v118 (F := Ideal) x0 x1 x2 x3 x4 x5 x6 x7 x8 x9 x10 x11 x12 x13 x14 x15) (ix2 n s) + x21 (ix1 3)))) := by
  pointwise [val_main_v227, val_main_v228, val_main_v229, val_main_v230, val_main_v231, val_main_v232, val_main_v233, val_main_v234, val_main_v235,
    val_main_v236, val_main_cst_50, val_main_v237, val_main_v238, val_main_cst_51, val_main_v239, val_main_v240]

theorem block0 (n : Fin 64) (s : Fin 16) (i : Fin 32) (a : Fin 1) (j : Fin 32) (d : Fin 1) :
    val_main_v136 (F := Ideal) x0 x1 x2 x3 x4 x5 x6 x7 x8 x9 x10 x11 x12 x13 x14 x15 x20 x21 (ix6 n s i a j d) = val_main_v115 (F := Ideal) x0 x1 x2 x3 x4 x5 x6 x7 x8 x9 x10 x11 x12 x13 x14 x15 (ix4 n s ⟨i.val * 1 + a.val, by omega⟩ ⟨j.val * 1 + d.val, by omega⟩) * val_main_v132 (F := Ideal) x0 x1 x2 x3 x4 x5 x6 x7 x8 x9 x10 x11 x12 x13 x14 x15 x20 x21 (ix2 n s) := by
  pointwise [val_main_v133, val_main_v134, val_main_v135, val_main_v136]

theorem block_sum0 (n : Fin 64) (s : Fin 16) (i j : Fin 32) :
    val_main_v137 (F := Ideal) x0 x1 x2 x3 x4 x5 x6 x7 x8 x9 x10 x11 x12 x13 x14 x15 x20 x21 (ix4 n s i j) = ∑ a : Fin 1, ∑ d : Fin 1, (val_main_v115 (F := Ideal) x0 x1 x2 x3 x4 x5 x6 x7 x8 x9 x10 x11 x12 x13 x14 x15 (ix4 n s ⟨i.val * 1 + a.val, by omega⟩ ⟨j.val * 1 + d.val, by omega⟩) * val_main_v132 (F := Ideal) x0 x1 x2 x3 x4 x5 x6 x7 x8 x9 x10 x11 x12 x13 x14 x15 x20 x21 (ix2 n s)) := by
  refine Eq.trans (b := ∑ a : Fin 1, ∑ d : Fin 1, val_main_v136 (F := Ideal) x0 x1 x2 x3 x4 x5 x6 x7 x8 x9 x10 x11 x12 x13 x14 x15 x20 x21 (ix6 n s i a j d)) ?_ (by simp only [block0])
  unfold val_main_v137
  generalize val_main_v136 (F := Ideal) x0 x1 x2 x3 x4 x5 x6 x7 x8 x9 x10 x11 x12 x13 x14 x15 x20 x21 = u
  pointwise [val_main_cst_25]

theorem block_max0 (n : Fin 64) (s : Fin 16) (i j : Fin 32) :
    val_main_v142 (F := Ideal) x0 x1 x2 x3 x4 x5 x6 x7 x8 x9 x10 x11 x12 x13 x14 x15 x20 x21 (ix4 n s i j) = ⨆ k : Fin 1 × Fin 1, (val_main_v115 (F := Ideal) x0 x1 x2 x3 x4 x5 x6 x7 x8 x9 x10 x11 x12 x13 x14 x15 (ix4 n s ⟨i.val * 1 + k.1.val, by omega⟩ ⟨j.val * 1 + k.2.val, by omega⟩) * val_main_v132 (F := Ideal) x0 x1 x2 x3 x4 x5 x6 x7 x8 x9 x10 x11 x12 x13 x14 x15 x20 x21 (ix2 n s)) := by
  refine Eq.trans (b := ⨆ k : Fin 1 × Fin 1, val_main_v136 (F := Ideal) x0 x1 x2 x3 x4 x5 x6 x7 x8 x9 x10 x11 x12 x13 x14 x15 x20 x21 (ix6 n s i k.1 j k.2)) ?_ (by simp only [block0])
  unfold val_main_v142
  generalize val_main_v136 (F := Ideal) x0 x1 x2 x3 x4 x5 x6 x7 x8 x9 x10 x11 x12 x13 x14 x15 x20 x21 = u
  pointwise [val_main_cst_28, Cert.Reductions.fold_max_eq_iSup]

/-- The gated maps pooled to `32` rows and columns. -/
theorem pooled0 (n : Fin 64) (s : Fin 16) (i j : Fin 32) :
    val_main_v145 (F := Ideal) x0 x1 x2 x3 x4 x5 x6 x7 x8 x9 x10 x11 x12 x13 x14 x15 x20 x21 (ix4 n s i j) = Cert.Spec.pool (lit 0x3F800000#32) (fun k : Fin 1 × Fin 1 => val_main_v115 (F := Ideal) x0 x1 x2 x3 x4 x5 x6 x7 x8 x9 x10 x11 x12 x13 x14 x15 (ix4 n s ⟨i.val * 1 + k.1.val, by omega⟩ ⟨j.val * 1 + k.2.val, by omega⟩) * val_main_v132 (F := Ideal) x0 x1 x2 x3 x4 x5 x6 x7 x8 x9 x10 x11 x12 x13 x14 x15 x20 x21 (ix2 n s)) := by
  unfold Cert.Spec.pool mean
  rw [Fintype.sum_prod_type, ← block_sum0, ← block_max0, val_main_v145_apply, val_main_v144_apply, val_main_v141_apply,
    val_main_v139_apply, val_main_v138_apply, val_main_v140_apply, val_main_v143_apply]
  rfl

theorem block1 (n : Fin 64) (s : Fin 16) (i : Fin 16) (a : Fin 2) (j : Fin 16) (d : Fin 2) :
    val_main_v172 (F := Ideal) x0 x1 x2 x3 x4 x5 x6 x7 x8 x9 x10 x11 x12 x13 x14 x15 x20 x21 (ix6 n s i a j d) = val_main_v115 (F := Ideal) x0 x1 x2 x3 x4 x5 x6 x7 x8 x9 x10 x11 x12 x13 x14 x15 (ix4 n s ⟨i.val * 2 + a.val, by omega⟩ ⟨j.val * 2 + d.val, by omega⟩) * val_main_v168 (F := Ideal) x0 x1 x2 x3 x4 x5 x6 x7 x8 x9 x10 x11 x12 x13 x14 x15 x20 x21 (ix2 n s) := by
  pointwise [val_main_v169, val_main_v170, val_main_v171, val_main_v172]

theorem block_sum1 (n : Fin 64) (s : Fin 16) (i j : Fin 16) :
    val_main_v173 (F := Ideal) x0 x1 x2 x3 x4 x5 x6 x7 x8 x9 x10 x11 x12 x13 x14 x15 x20 x21 (ix4 n s i j) = ∑ a : Fin 2, ∑ d : Fin 2, (val_main_v115 (F := Ideal) x0 x1 x2 x3 x4 x5 x6 x7 x8 x9 x10 x11 x12 x13 x14 x15 (ix4 n s ⟨i.val * 2 + a.val, by omega⟩ ⟨j.val * 2 + d.val, by omega⟩) * val_main_v168 (F := Ideal) x0 x1 x2 x3 x4 x5 x6 x7 x8 x9 x10 x11 x12 x13 x14 x15 x20 x21 (ix2 n s)) := by
  refine Eq.trans (b := ∑ a : Fin 2, ∑ d : Fin 2, val_main_v172 (F := Ideal) x0 x1 x2 x3 x4 x5 x6 x7 x8 x9 x10 x11 x12 x13 x14 x15 x20 x21 (ix6 n s i a j d)) ?_ (by simp only [block1])
  unfold val_main_v173
  generalize val_main_v172 (F := Ideal) x0 x1 x2 x3 x4 x5 x6 x7 x8 x9 x10 x11 x12 x13 x14 x15 x20 x21 = u
  pointwise [val_main_cst_34]

theorem block_max1 (n : Fin 64) (s : Fin 16) (i j : Fin 16) :
    val_main_v178 (F := Ideal) x0 x1 x2 x3 x4 x5 x6 x7 x8 x9 x10 x11 x12 x13 x14 x15 x20 x21 (ix4 n s i j) = ⨆ k : Fin 2 × Fin 2, (val_main_v115 (F := Ideal) x0 x1 x2 x3 x4 x5 x6 x7 x8 x9 x10 x11 x12 x13 x14 x15 (ix4 n s ⟨i.val * 2 + k.1.val, by omega⟩ ⟨j.val * 2 + k.2.val, by omega⟩) * val_main_v168 (F := Ideal) x0 x1 x2 x3 x4 x5 x6 x7 x8 x9 x10 x11 x12 x13 x14 x15 x20 x21 (ix2 n s)) := by
  refine Eq.trans (b := ⨆ k : Fin 2 × Fin 2, val_main_v172 (F := Ideal) x0 x1 x2 x3 x4 x5 x6 x7 x8 x9 x10 x11 x12 x13 x14 x15 x20 x21 (ix6 n s i k.1 j k.2)) ?_ (by simp only [block1])
  unfold val_main_v178
  generalize val_main_v172 (F := Ideal) x0 x1 x2 x3 x4 x5 x6 x7 x8 x9 x10 x11 x12 x13 x14 x15 x20 x21 = u
  pointwise [val_main_cst_37, Cert.Reductions.fold_max_eq_iSup]

/-- The gated maps pooled to `16` rows and columns. -/
theorem pooled1 (n : Fin 64) (s : Fin 16) (i j : Fin 16) :
    val_main_v181 (F := Ideal) x0 x1 x2 x3 x4 x5 x6 x7 x8 x9 x10 x11 x12 x13 x14 x15 x20 x21 (ix4 n s i j) = Cert.Spec.pool (lit 0x40800000#32) (fun k : Fin 2 × Fin 2 => val_main_v115 (F := Ideal) x0 x1 x2 x3 x4 x5 x6 x7 x8 x9 x10 x11 x12 x13 x14 x15 (ix4 n s ⟨i.val * 2 + k.1.val, by omega⟩ ⟨j.val * 2 + k.2.val, by omega⟩) * val_main_v168 (F := Ideal) x0 x1 x2 x3 x4 x5 x6 x7 x8 x9 x10 x11 x12 x13 x14 x15 x20 x21 (ix2 n s)) := by
  unfold Cert.Spec.pool mean
  rw [Fintype.sum_prod_type, ← block_sum1, ← block_max1, val_main_v181_apply, val_main_v180_apply, val_main_v177_apply,
    val_main_v175_apply, val_main_v174_apply, val_main_v176_apply, val_main_v179_apply]
  rfl

theorem block2 (n : Fin 64) (s : Fin 16) (i : Fin 8) (a : Fin 4) (j : Fin 8) (d : Fin 4) :
    val_main_v208 (F := Ideal) x0 x1 x2 x3 x4 x5 x6 x7 x8 x9 x10 x11 x12 x13 x14 x15 x20 x21 (ix6 n s i a j d) = val_main_v115 (F := Ideal) x0 x1 x2 x3 x4 x5 x6 x7 x8 x9 x10 x11 x12 x13 x14 x15 (ix4 n s ⟨i.val * 4 + a.val, by omega⟩ ⟨j.val * 4 + d.val, by omega⟩) * val_main_v204 (F := Ideal) x0 x1 x2 x3 x4 x5 x6 x7 x8 x9 x10 x11 x12 x13 x14 x15 x20 x21 (ix2 n s) := by
  pointwise [val_main_v205, val_main_v206, val_main_v207, val_main_v208]

theorem block_sum2 (n : Fin 64) (s : Fin 16) (i j : Fin 8) :
    val_main_v209 (F := Ideal) x0 x1 x2 x3 x4 x5 x6 x7 x8 x9 x10 x11 x12 x13 x14 x15 x20 x21 (ix4 n s i j) = ∑ a : Fin 4, ∑ d : Fin 4, (val_main_v115 (F := Ideal) x0 x1 x2 x3 x4 x5 x6 x7 x8 x9 x10 x11 x12 x13 x14 x15 (ix4 n s ⟨i.val * 4 + a.val, by omega⟩ ⟨j.val * 4 + d.val, by omega⟩) * val_main_v204 (F := Ideal) x0 x1 x2 x3 x4 x5 x6 x7 x8 x9 x10 x11 x12 x13 x14 x15 x20 x21 (ix2 n s)) := by
  refine Eq.trans (b := ∑ a : Fin 4, ∑ d : Fin 4, val_main_v208 (F := Ideal) x0 x1 x2 x3 x4 x5 x6 x7 x8 x9 x10 x11 x12 x13 x14 x15 x20 x21 (ix6 n s i a j d)) ?_ (by simp only [block2])
  unfold val_main_v209
  generalize val_main_v208 (F := Ideal) x0 x1 x2 x3 x4 x5 x6 x7 x8 x9 x10 x11 x12 x13 x14 x15 x20 x21 = u
  pointwise [val_main_cst_43]

theorem block_max2 (n : Fin 64) (s : Fin 16) (i j : Fin 8) :
    val_main_v214 (F := Ideal) x0 x1 x2 x3 x4 x5 x6 x7 x8 x9 x10 x11 x12 x13 x14 x15 x20 x21 (ix4 n s i j) = ⨆ k : Fin 4 × Fin 4, (val_main_v115 (F := Ideal) x0 x1 x2 x3 x4 x5 x6 x7 x8 x9 x10 x11 x12 x13 x14 x15 (ix4 n s ⟨i.val * 4 + k.1.val, by omega⟩ ⟨j.val * 4 + k.2.val, by omega⟩) * val_main_v204 (F := Ideal) x0 x1 x2 x3 x4 x5 x6 x7 x8 x9 x10 x11 x12 x13 x14 x15 x20 x21 (ix2 n s)) := by
  refine Eq.trans (b := ⨆ k : Fin 4 × Fin 4, val_main_v208 (F := Ideal) x0 x1 x2 x3 x4 x5 x6 x7 x8 x9 x10 x11 x12 x13 x14 x15 x20 x21 (ix6 n s i k.1 j k.2)) ?_ (by simp only [block2])
  unfold val_main_v214
  generalize val_main_v208 (F := Ideal) x0 x1 x2 x3 x4 x5 x6 x7 x8 x9 x10 x11 x12 x13 x14 x15 x20 x21 = u
  pointwise [val_main_cst_46, Cert.Reductions.fold_max_eq_iSup]

/-- The gated maps pooled to `8` rows and columns. -/
theorem pooled2 (n : Fin 64) (s : Fin 16) (i j : Fin 8) :
    val_main_v217 (F := Ideal) x0 x1 x2 x3 x4 x5 x6 x7 x8 x9 x10 x11 x12 x13 x14 x15 x20 x21 (ix4 n s i j) = Cert.Spec.pool (lit 0x41800000#32) (fun k : Fin 4 × Fin 4 => val_main_v115 (F := Ideal) x0 x1 x2 x3 x4 x5 x6 x7 x8 x9 x10 x11 x12 x13 x14 x15 (ix4 n s ⟨i.val * 4 + k.1.val, by omega⟩ ⟨j.val * 4 + k.2.val, by omega⟩) * val_main_v204 (F := Ideal) x0 x1 x2 x3 x4 x5 x6 x7 x8 x9 x10 x11 x12 x13 x14 x15 x20 x21 (ix2 n s)) := by
  unfold Cert.Spec.pool mean
  rw [Fintype.sum_prod_type, ← block_sum2, ← block_max2, val_main_v217_apply, val_main_v216_apply, val_main_v213_apply,
    val_main_v211_apply, val_main_v210_apply, val_main_v212_apply, val_main_v215_apply]
  rfl

theorem block3 (n : Fin 64) (s : Fin 16) (i : Fin 4) (a : Fin 8) (j : Fin 4) (d : Fin 8) :
    val_main_v244 (F := Ideal) x0 x1 x2 x3 x4 x5 x6 x7 x8 x9 x10 x11 x12 x13 x14 x15 x20 x21 (ix6 n s i a j d) = val_main_v115 (F := Ideal) x0 x1 x2 x3 x4 x5 x6 x7 x8 x9 x10 x11 x12 x13 x14 x15 (ix4 n s ⟨i.val * 8 + a.val, by omega⟩ ⟨j.val * 8 + d.val, by omega⟩) * val_main_v240 (F := Ideal) x0 x1 x2 x3 x4 x5 x6 x7 x8 x9 x10 x11 x12 x13 x14 x15 x20 x21 (ix2 n s) := by
  pointwise [val_main_v241, val_main_v242, val_main_v243, val_main_v244]

theorem block_sum3 (n : Fin 64) (s : Fin 16) (i j : Fin 4) :
    val_main_v245 (F := Ideal) x0 x1 x2 x3 x4 x5 x6 x7 x8 x9 x10 x11 x12 x13 x14 x15 x20 x21 (ix4 n s i j) = ∑ a : Fin 8, ∑ d : Fin 8, (val_main_v115 (F := Ideal) x0 x1 x2 x3 x4 x5 x6 x7 x8 x9 x10 x11 x12 x13 x14 x15 (ix4 n s ⟨i.val * 8 + a.val, by omega⟩ ⟨j.val * 8 + d.val, by omega⟩) * val_main_v240 (F := Ideal) x0 x1 x2 x3 x4 x5 x6 x7 x8 x9 x10 x11 x12 x13 x14 x15 x20 x21 (ix2 n s)) := by
  refine Eq.trans (b := ∑ a : Fin 8, ∑ d : Fin 8, val_main_v244 (F := Ideal) x0 x1 x2 x3 x4 x5 x6 x7 x8 x9 x10 x11 x12 x13 x14 x15 x20 x21 (ix6 n s i a j d)) ?_ (by simp only [block3])
  unfold val_main_v245
  generalize val_main_v244 (F := Ideal) x0 x1 x2 x3 x4 x5 x6 x7 x8 x9 x10 x11 x12 x13 x14 x15 x20 x21 = u
  pointwise [val_main_cst_52]

theorem block_max3 (n : Fin 64) (s : Fin 16) (i j : Fin 4) :
    val_main_v250 (F := Ideal) x0 x1 x2 x3 x4 x5 x6 x7 x8 x9 x10 x11 x12 x13 x14 x15 x20 x21 (ix4 n s i j) = ⨆ k : Fin 8 × Fin 8, (val_main_v115 (F := Ideal) x0 x1 x2 x3 x4 x5 x6 x7 x8 x9 x10 x11 x12 x13 x14 x15 (ix4 n s ⟨i.val * 8 + k.1.val, by omega⟩ ⟨j.val * 8 + k.2.val, by omega⟩) * val_main_v240 (F := Ideal) x0 x1 x2 x3 x4 x5 x6 x7 x8 x9 x10 x11 x12 x13 x14 x15 x20 x21 (ix2 n s)) := by
  refine Eq.trans (b := ⨆ k : Fin 8 × Fin 8, val_main_v244 (F := Ideal) x0 x1 x2 x3 x4 x5 x6 x7 x8 x9 x10 x11 x12 x13 x14 x15 x20 x21 (ix6 n s i k.1 j k.2)) ?_ (by simp only [block3])
  unfold val_main_v250
  generalize val_main_v244 (F := Ideal) x0 x1 x2 x3 x4 x5 x6 x7 x8 x9 x10 x11 x12 x13 x14 x15 x20 x21 = u
  pointwise [val_main_cst_55, Cert.Reductions.fold_max_eq_iSup]

/-- The gated maps pooled to `4` rows and columns. -/
theorem pooled3 (n : Fin 64) (s : Fin 16) (i j : Fin 4) :
    val_main_v253 (F := Ideal) x0 x1 x2 x3 x4 x5 x6 x7 x8 x9 x10 x11 x12 x13 x14 x15 x20 x21 (ix4 n s i j) = Cert.Spec.pool (lit 0x42800000#32) (fun k : Fin 8 × Fin 8 => val_main_v115 (F := Ideal) x0 x1 x2 x3 x4 x5 x6 x7 x8 x9 x10 x11 x12 x13 x14 x15 (ix4 n s ⟨i.val * 8 + k.1.val, by omega⟩ ⟨j.val * 8 + k.2.val, by omega⟩) * val_main_v240 (F := Ideal) x0 x1 x2 x3 x4 x5 x6 x7 x8 x9 x10 x11 x12 x13 x14 x15 x20 x21 (ix2 n s)) := by
  unfold Cert.Spec.pool mean
  rw [Fintype.sum_prod_type, ← block_sum3, ← block_max3, val_main_v253_apply, val_main_v252_apply, val_main_v249_apply,
    val_main_v247_apply, val_main_v246_apply, val_main_v248_apply, val_main_v251_apply]
  rfl

theorem unit0 (n : Fin 64) (s : Fin 16) (p : Fin 1024) :
    val_main_v154 (F := Ideal) x0 x1 x2 x3 x4 x5 x6 x7 x8 x9 x10 x11 x12 x13 x14 x15 x20 x21 (ix3 n s p) = Cert.Spec.unit (fun p : Fin 1024 =>
      (val_main_v145 (F := Ideal) x0 x1 x2 x3 x4 x5 x6 x7 x8 x9 x10 x11 x12 x13 x14 x15 x20 x21) (ix4 n s ⟨p.val / 32, by omega⟩ ⟨p.val % 32, by
        omega⟩)) p := by
  pointwise [val_main_v146, val_main_v147, val_main_cst_30, val_main_v148, val_main_v149, val_main_v150, val_main_cst_31, val_main_v151,
    val_main_v152, val_main_v153, val_main_v154, Cert.Spec.unit]

theorem unit1 (n : Fin 64) (s : Fin 16) (p : Fin 256) :
    val_main_v190 (F := Ideal) x0 x1 x2 x3 x4 x5 x6 x7 x8 x9 x10 x11 x12 x13 x14 x15 x20 x21 (ix3 n s p) = Cert.Spec.unit (fun p : Fin 256 =>
      (val_main_v181 (F := Ideal) x0 x1 x2 x3 x4 x5 x6 x7 x8 x9 x10 x11 x12 x13 x14 x15 x20 x21) (ix4 n s ⟨p.val / 16, by omega⟩ ⟨p.val % 16, by
        omega⟩)) p := by
  pointwise [val_main_v182, val_main_v183, val_main_cst_39, val_main_v184, val_main_v185, val_main_v186, val_main_cst_40, val_main_v187,
    val_main_v188, val_main_v189, val_main_v190, Cert.Spec.unit]

theorem unit2 (n : Fin 64) (s : Fin 16) (p : Fin 64) :
    val_main_v226 (F := Ideal) x0 x1 x2 x3 x4 x5 x6 x7 x8 x9 x10 x11 x12 x13 x14 x15 x20 x21 (ix3 n s p) = Cert.Spec.unit (fun p : Fin 64 =>
      (val_main_v217 (F := Ideal) x0 x1 x2 x3 x4 x5 x6 x7 x8 x9 x10 x11 x12 x13 x14 x15 x20 x21) (ix4 n s ⟨p.val / 8, by omega⟩ ⟨p.val % 8, by
        omega⟩)) p := by
  pointwise [val_main_v218, val_main_v219, val_main_cst_48, val_main_v220, val_main_v221, val_main_v222, val_main_cst_49, val_main_v223,
    val_main_v224, val_main_v225, val_main_v226, Cert.Spec.unit]

theorem unit3 (n : Fin 64) (s : Fin 16) (p : Fin 16) :
    val_main_v262 (F := Ideal) x0 x1 x2 x3 x4 x5 x6 x7 x8 x9 x10 x11 x12 x13 x14 x15 x20 x21 (ix3 n s p) = Cert.Spec.unit (fun p : Fin 16 =>
      (val_main_v253 (F := Ideal) x0 x1 x2 x3 x4 x5 x6 x7 x8 x9 x10 x11 x12 x13 x14 x15 x20 x21) (ix4 n s ⟨p.val / 4, by omega⟩ ⟨p.val % 4, by
        omega⟩)) p := by
  pointwise [val_main_v254, val_main_v255, val_main_cst_57, val_main_v256, val_main_v257, val_main_v258, val_main_cst_58, val_main_v259,
    val_main_v260, val_main_v261, val_main_v262, Cert.Spec.unit]

end Cert.Reference
-- ==== Proof.ReferenceTeachers.lean ====
/-
  The plain program's teachers: queries and squared-feature maps, read at plain coordinates.
-/
module

public import Idealize.ShloMosaic.Lib.Pointwise
public import proofs.«01_k».proof.Proof.Spec
public import proofs.«01_k».proof.Proof.Flat
public import proofs.«01_k».proof.Proof.Gen.ReferenceIdeal.Read

@[expose] public section

set_option maxRecDepth 16384

namespace Cert.Reference

open Idealize Idealize.ShloMosaic Cert.ReferenceIdeal Cert.ReferenceIdeal.Gen Cert.ReferenceIdeal.Read Cert.Spec

variable (x0 x1 x2 x3 x4 x5 x6 x7 x8 x9 x10 x11 x12 x13 x14 x15 : A S64x16x32x32)
  (x16 : A S64x512x32x32) (x17 : A S64x1024x16x16) (x18 : A S64x2048x8x8) (x19 : A S64x2048x4x4)
  (x20 x21 : A S4) (x22 : A S16x128x16) (x23 x24 x25 : A S16x128) (x26 : A S256x128) (x27 x28 x29 : A S256)
  (x30 : A S512x256) (x31 x32 x33 : A S512) (x34 : A S128x512) (x35 : A S128x1024) (x36 x37 : A S128x2048)
  (x38 x39 x40 x41 : A S4x128) (x42 : A S16x128) (x43 : A S4) (x44 x45 : A S4x16)

/-- Teacher `0`: channel means, linear layer, normalisation over the batch, and the squared-feature map as a unit vector. -/
theorem means0 (n : Fin 64) (k : Fin 512) :
    val_main_v265 (F := Ideal) x16 (ix2 n k) = mean (lit 0x44800000#32) (fun p : Fin 1024 => x16 (ix4 n k ⟨p.val / 32, by omega⟩ ⟨p.val % 32, by
      omega⟩)) := by
  unfold mean
  rw [sum_flat 32 32 rfl (fun y x => x16 (ix4 n k y x))]
  pointwise [val_main_cst_59, val_main_v263, val_main_cst_60, val_main_v264, val_main_v265]

theorem linear0 (n : Fin 64) (j : Fin 128) :
    val_main_v272 (F := Ideal) x16 x34 x38 (ix2 n j) = (∑ k, (val_main_v265 (F := Ideal) x16) (ix2 n k) * x34 (ix2 j k)) + x38 (ix2 0 j) := by
  pointwise [val_main_v266, val_main_v267, val_main_v268, val_main_v269, val_main_v270, val_main_v271, val_main_v272]

theorem query0 (n : Fin 64) (j : Fin 128) :
    val_main_v298 (F := Ideal) x16 x34 x38 x39 x40 (ix2 n j) = nrm (lit 0x42800000#32) (fun n => (val_main_v272 (F := Ideal) x16 x34 x38) (ix2 n j))
      (x39 (ix2 0 j)) (x40 (ix2 0 j)) n := by
  pointwise [val_main_v273, val_main_v274, val_main_v275, val_main_v276, val_main_cst_61, val_main_v277, val_main_cst_62, val_main_v278,
    val_main_v279, val_main_v280, val_main_v281, val_main_v282, val_main_v283, val_main_cst_63, val_main_v284, val_main_cst_64, val_main_v285,
      val_main_v286, val_main_cst_65, val_main_v287, val_main_v288, val_main_v289, val_main_v290, val_main_v291, val_main_v292, val_main_v293,
        val_main_v294, val_main_v295, val_main_v296, val_main_v297, val_main_v298, nrm, mean]

theorem teacher0 (n : Fin 64) (p : Fin 1024) :
    val_main_v311 (F := Ideal) x16 (ix2 n p) = Cert.Spec.unit (fun p : Fin 1024 => mean (lit 0x44000000#32) (fun c =>
      x16 (ix4 n c ⟨p.val / 32, by omega⟩ ⟨p.val % 32, by omega⟩) * x16 (ix4 n c ⟨p.val / 32, by omega⟩ ⟨p.val % 32, by omega⟩))) p := by
  pointwise [val_main_v299, val_main_cst_66, val_main_v300, val_main_cst_67, val_main_v301, val_main_v302, val_main_v303, val_main_v304,
    val_main_cst_68, val_main_v305, val_main_v306, val_main_v307, val_main_cst_69, val_main_v308, val_main_v309, val_main_v310, val_main_v311,
      Cert.Spec.unit, mean]

/-- Teacher `1`: channel means, linear layer, normalisation over the batch, and the squared-feature map as a unit vector. -/
theorem means1 (n : Fin 64) (k : Fin 1024) :
    val_main_v314 (F := Ideal) x17 (ix2 n k) = mean (lit 0x43800000#32) (fun p : Fin 256 => x17 (ix4 n k ⟨p.val / 16, by omega⟩ ⟨p.val % 16, by
      omega⟩)) := by
  unfold mean
  rw [sum_flat 16 16 rfl (fun y x => x17 (ix4 n k y x))]
  pointwise [val_main_cst_70, val_main_v312, val_main_cst_71, val_main_v313, val_main_v314]

theorem linear1 (n : Fin 64) (j : Fin 128) :
    val_main_v321 (F := Ideal) x17 x35 x38 (ix2 n j) = (∑ k, (val_main_v314 (F := Ideal) x17) (ix2 n k) * x35 (ix2 j k)) + x38 (ix2 1 j) := by
  pointwise [val_main_v315, val_main_v316, val_main_v317, val_main_v318, val_main_v319, val_main_v320, val_main_v321]

theorem query1 (n : Fin 64) (j : Fin 128) :
    val_main_v347 (F := Ideal) x17 x35 x38 x39 x40 (ix2 n j) = nrm (lit 0x42800000#32) (fun n => (val_main_v321 (F := Ideal) x17 x35 x38) (ix2 n j))
      (x39 (ix2 1 j)) (x40 (ix2 1 j)) n := by
  pointwise [val_main_v322, val_main_v323, val_main_v324, val_main_v325, val_main_cst_72, val_main_v326, val_main_cst_73, val_main_v327,
    val_main_v328, val_main_v329, val_main_v330, val_main_v331, val_main_v332, val_main_cst_74, val_main_v333, val_main_cst_75, val_main_v334,
      val_main_v335, val_main_cst_76, val_main_v336, val_main_v337, val_main_v338, val_main_v339, val_main_v340, val_main_v341, val_main_v342,
        val_main_v343, val_main_v344, val_main_v345, val_main_v346, val_main_v347, nrm, mean]

theorem teacher1 (n : Fin 64) (p : Fin 256) :
    val_main_v360 (F := Ideal) x17 (ix2 n p) = Cert.Spec.unit (fun p : Fin 256 => mean (lit 0x44800000#32) (fun c =>
      x17 (ix4 n c ⟨p.val / 16, by omega⟩ ⟨p.val % 16, by omega⟩) * x17 (ix4 n c ⟨p.val / 16, by omega⟩ ⟨p.val % 16, by omega⟩))) p := by
  pointwise [val_main_v348, val_main_cst_77, val_main_v349, val_main_cst_78, val_main_v350, val_main_v351, val_main_v352, val_main_v353,
    val_main_cst_79, val_main_v354, val_main_v355, val_main_v356, val_main_cst_80, val_main_v357, val_main_v358, val_main_v359, val_main_v360,
      Cert.Spec.unit, mean]

/-- Teacher `2`: channel means, linear layer, normalisation over the batch, and the squared-feature map as a unit vector. -/
theorem means2 (n : Fin 64) (k : Fin 2048) :
    val_main_v363 (F := Ideal) x18 (ix2 n k) = mean (lit 0x42800000#32) (fun p : Fin 64 => x18 (ix4 n k ⟨p.val / 8, by omega⟩ ⟨p.val % 8, by omega⟩))
      := by
  unfold mean
  rw [sum_flat 8 8 rfl (fun y x => x18 (ix4 n k y x))]
  pointwise [val_main_cst_81, val_main_v361, val_main_cst_82, val_main_v362, val_main_v363]

theorem linear2 (n : Fin 64) (j : Fin 128) :
    val_main_v370 (F := Ideal) x18 x36 x38 (ix2 n j) = (∑ k, (val_main_v363 (F := Ideal) x18) (ix2 n k) * x36 (ix2 j k)) + x38 (ix2 2 j) := by
  pointwise [val_main_v364, val_main_v365, val_main_v366, val_main_v367, val_main_v368, val_main_v369, val_main_v370]

theorem query2 (n : Fin 64) (j : Fin 128) :
    val_main_v396 (F := Ideal) x18 x36 x38 x39 x40 (ix2 n j) = nrm (lit 0x42800000#32) (fun n => (val_main_v370 (F := Ideal) x18 x36 x38) (ix2 n j))
      (x39 (ix2 2 j)) (x40 (ix2 2 j)) n := by
  pointwise [val_main_v371, val_main_v372, val_main_v373, val_main_v374, val_main_cst_83, val_main_v375, val_main_cst_84, val_main_v376,
    val_main_v377, val_main_v378, val_main_v379, val_main_v380, val_main_v381, val_main_cst_85, val_main_v382, val_main_cst_86, val_main_v383,
      val_main_v384, val_main_cst_87, val_main_v385, val_main_v386, val_main_v387, val_main_v388, val_main_v389, val_main_v390, val_main_v391,
        val_main_v392, val_main_v393, val_main_v394, val_main_v395, val_main_v396, nrm, mean]

theorem teacher2 (n : Fin 64) (p : Fin 64) :
    val_main_v409 (F := Ideal) x18 (ix2 n p) = Cert.Spec.unit (fun p : Fin 64 => mean (lit 0x45000000#32) (fun c =>
      x18 (ix4 n c ⟨p.val / 8, by omega⟩ ⟨p.val % 8, by omega⟩) * x18 (ix4 n c ⟨p.val / 8, by omega⟩ ⟨p.val % 8, by omega⟩))) p := by
  pointwise [val_main_v397, val_main_cst_88, val_main_v398, val_main_cst_89, val_main_v399, val_main_v400, val_main_v401, val_main_v402,
    val_main_cst_90, val_main_v403, val_main_v404, val_main_v405, val_main_cst_91, val_main_v406, val_main_v407, val_main_v408, val_main_v409,
      Cert.Spec.unit, mean]

/-- Teacher `3`: channel means, linear layer, normalisation over the batch, and the squared-feature map as a unit vector. -/
theorem means3 (n : Fin 64) (k : Fin 2048) :
    val_main_v412 (F := Ideal) x19 (ix2 n k) = mean (lit 0x41800000#32) (fun p : Fin 16 => x19 (ix4 n k ⟨p.val / 4, by omega⟩ ⟨p.val % 4, by omega⟩))
      := by
  unfold mean
  rw [sum_flat 4 4 rfl (fun y x => x19 (ix4 n k y x))]
  pointwise [val_main_cst_92, val_main_v410, val_main_cst_93, val_main_v411, val_main_v412]

theorem linear3 (n : Fin 64) (j : Fin 128) :
    val_main_v419 (F := Ideal) x19 x37 x38 (ix2 n j) = (∑ k, (val_main_v412 (F := Ideal) x19) (ix2 n k) * x37 (ix2 j k)) + x38 (ix2 3 j) := by
  pointwise [val_main_v413, val_main_v414, val_main_v415, val_main_v416, val_main_v417, val_main_v418, val_main_v419]

theorem query3 (n : Fin 64) (j : Fin 128) :
    val_main_v445 (F := Ideal) x19 x37 x38 x39 x40 (ix2 n j) = nrm (lit 0x42800000#32) (fun n => (val_main_v419 (F := Ideal) x19 x37 x38) (ix2 n j))
      (x39 (ix2 3 j)) (x40 (ix2 3 j)) n := by
  pointwise [val_main_v420, val_main_v421, val_main_v422, val_main_v423, val_main_cst_94, val_main_v424, val_main_cst_95, val_main_v425,
    val_main_v426, val_main_v427, val_main_v428, val_main_v429, val_main_v430, val_main_cst_96, val_main_v431, val_main_cst_97, val_main_v432,
      val_main_v433, val_main_cst_98, val_main_v434, val_main_v435, val_main_v436, val_main_v437, val_main_v438, val_main_v439, val_main_v440,
        val_main_v441, val_main_v442, val_main_v443, val_main_v444, val_main_v445, nrm, mean]

theorem teacher3 (n : Fin 64) (p : Fin 16) :
    val_main_v458 (F := Ideal) x19 (ix2 n p) = Cert.Spec.unit (fun p : Fin 16 => mean (lit 0x45000000#32) (fun c =>
      x19 (ix4 n c ⟨p.val / 4, by omega⟩ ⟨p.val % 4, by omega⟩) * x19 (ix4 n c ⟨p.val / 4, by omega⟩ ⟨p.val % 4, by omega⟩))) p := by
  pointwise [val_main_v446, val_main_cst_99, val_main_v447, val_main_cst_100, val_main_v448, val_main_v449, val_main_v450, val_main_v451,
    val_main_cst_101, val_main_v452, val_main_v453, val_main_v454, val_main_cst_102, val_main_v455, val_main_v456, val_main_v457, val_main_v458,
      Cert.Spec.unit, mean]

end Cert.Reference
-- ==== Proof.ReferenceAttention.lean ====
/-
  The plain program's attention, entropy and teachers' weights, read at plain coordinates.
-/
module

public import Idealize.ShloMosaic.Lib.Pointwise
public import proofs.«01_k».proof.Proof.Spec
public import proofs.«01_k».proof.Proof.Flat
public import proofs.«01_k».proof.Proof.Gen.ReferenceIdeal.Read

@[expose] public section

set_option maxRecDepth 16384

namespace Cert.Reference

open Idealize Idealize.ShloMosaic Cert.ReferenceIdeal Cert.ReferenceIdeal.Gen Cert.ReferenceIdeal.Read Cert.Spec

variable (x0 x1 x2 x3 x4 x5 x6 x7 x8 x9 x10 x11 x12 x13 x14 x15 : A S64x16x32x32)
  (x16 : A S64x512x32x32) (x17 : A S64x1024x16x16) (x18 : A S64x2048x8x8) (x19 : A S64x2048x4x4)
  (x20 x21 : A S4) (x22 : A S16x128x16) (x23 x24 x25 : A S16x128) (x26 : A S256x128) (x27 x28 x29 : A S256)
  (x30 : A S512x256) (x31 x32 x33 : A S512) (x34 : A S128x512) (x35 : A S128x1024) (x36 x37 : A S128x2048)
  (x38 x39 x40 x41 : A S4x128) (x42 : A S16x128) (x43 : A S4) (x44 x45 : A S4x16)

/-- The four queries together. -/
theorem queries (n : Fin 64) (t : Fin 4) (j : Fin 128) :
    val_main_v463 (F := Ideal) x16 x17 x18 x19 x34 x35 x36 x37 x38 x39 x40 (ix3 n t j) = (![(val_main_v298 (F := Ideal) x16 x34 x38 x39 x40),
      (val_main_v347 (F := Ideal) x17 x35 x38 x39 x40), (val_main_v396 (F := Ideal) x18 x36 x38 x39 x40), (val_main_v445 (F := Ideal) x19 x37 x38 x39
        x40)] : Fin 4 → A S64x128) t (ix2 n j) := by
  fin_cases t
  all_goals pointwise [val_main_v459, val_main_v460, val_main_v461, val_main_v462, val_main_v463]
  all_goals rfl

/-- The attention logits. -/
theorem logits (n : Fin 64) (t : Fin 4) (s : Fin 16) :
    val_main_v487 (F := Ideal) x0 x1 x2 x3 x4 x5 x6 x7 x8 x9 x10 x11 x12 x13 x14 x15 x16 x17 x18 x19 x22 x23 x24 x25 x26 x27 x28 x29 x30 x31 x32 x33
      x34 x35 x36 x37 x38 x39 x40 x41 x42 (ix3 n t s) = Ideal.div ((∑ j, Cert.Spec.unit (fun j => (val_main_v111 (F := Ideal) x0 x1 x2 x3 x4 x5 x6 x7
        x8 x9 x10 x11 x12 x13 x14 x15 x22 x23 x24 x25 x26 x27 x28 x29 x30 x31 x32 x33) (ix4 n s t j)) j
      * Cert.Spec.unit (fun j => (val_main_v463 (F := Ideal) x16 x17 x18 x19 x34 x35 x36 x37 x38 x39 x40) (ix3 n t j)) j) + ∑ k, x41 (ix2 t k) * x42
        (ix2 s k)) (lit 0x40000000#32) := by
  pointwise [val_main_v464, val_main_cst_103, val_main_v465, val_main_v466, val_main_v467, val_main_cst_104, val_main_v468, val_main_v469,
    val_main_v470, val_main_v471, val_main_v472, val_main_cst_105, val_main_v473, val_main_v474, val_main_v475, val_main_cst_106, val_main_v476,
      val_main_v477, val_main_v478, val_main_v479, val_main_v480, val_main_v481, val_main_v482, val_main_v483, val_main_v484, val_main_v485,
        val_main_cst_107, val_main_v486, val_main_v487, Cert.Spec.unit]

/-- The attentions. -/
theorem attention (n : Fin 64) (t : Fin 4) (s : Fin 16) :
    val_main_v498 (F := Ideal) x0 x1 x2 x3 x4 x5 x6 x7 x8 x9 x10 x11 x12 x13 x14 x15 x16 x17 x18 x19 x22 x23 x24 x25 x26 x27 x28 x29 x30 x31 x32 x33
      x34 x35 x36 x37 x38 x39 x40 x41 x42 (ix3 n t s) = softmax (fun s : Fin 16 => (val_main_v487 (F := Ideal) x0 x1 x2 x3 x4 x5 x6 x7 x8 x9 x10 x11
        x12 x13 x14 x15 x16 x17 x18 x19 x22 x23 x24 x25 x26 x27 x28 x29 x30 x31 x32 x33 x34 x35 x36 x37 x38 x39 x40 x41 x42) (ix3 n t s)) s := by
  pointwise [val_main_cst_108, val_main_v488, val_main_cst_109, val_main_v489, val_main_v490, val_main_v491, val_main_v492, val_main_v493,
    val_main_v494, val_main_cst_110, val_main_v495, val_main_v496, val_main_v497, val_main_v498, softmax]
  simp only [Cert.Reductions.ofBits_neg_inf, fold_max_bot, bot_sup_eq, lit]

/-- The entropy term. -/
theorem entropy : val_main_v507 (F := Ideal) x0 x1 x2 x3 x4 x5 x6 x7 x8 x9 x10 x11 x12 x13 x14 x15 x16 x17 x18 x19 x22 x23 x24 x25 x26 x27 x28 x29
  x30 x31 x32 x33 x34 x35 x36 x37 x38 x39 x40 x41 x42 ix0 = lit 0x3DCCCCCD#32 * (-(Ideal.div (∑ n : Fin 64, ∑ t : Fin 4, ∑ s : Fin 16,
      (val_main_v498 (F := Ideal) x0 x1 x2 x3 x4 x5 x6 x7 x8 x9 x10 x11 x12 x13 x14 x15 x16 x17 x18 x19 x22 x23 x24 x25 x26 x27 x28 x29 x30 x31 x32
        x33 x34 x35 x36 x37 x38 x39 x40 x41 x42) (ix3 n t s) * Ideal.log ((val_main_v498 (F := Ideal) x0 x1 x2 x3 x4 x5 x6 x7 x8 x9 x10 x11 x12 x13
          x14 x15 x16 x17 x18 x19 x22 x23 x24 x25 x26 x27 x28 x29 x30 x31 x32 x33 x34 x35 x36 x37 x38 x39 x40 x41 x42) (ix3 n t s) + lit
            0x322BCC77#32)) (lit 0x43800000#32))) := by
  pointwise [val_main_cst_111, val_main_v499, val_main_v500, val_main_v501, val_main_v502, val_main_cst_112, val_main_v503, val_main_cst_113,
    val_main_v504, val_main_cst_114, val_main_v505, val_main_v506, val_main_cst_115, val_main_v507]

/-- The teachers' weights. -/
theorem weights (t : Fin 4) : val_main_v517 (F := Ideal) x43 (ix1 t) = softmax (fun t : Fin 4 => x43 (ix1 t)) t := by
  pointwise [val_main_cst_116, val_main_v508, val_main_cst_117, val_main_v509, val_main_v510, val_main_v511, val_main_v512, val_main_v513,
    val_main_cst_118, val_main_v514, val_main_v515, val_main_v516, val_main_v517, softmax]
  simp only [Cert.Reductions.ofBits_neg_inf, fold_max_bot, bot_sup_eq, lit]

end Cert.Reference
-- ==== Proof.ReferenceLoss.lean ====
/-
  The plain program's losses, read at plain coordinates.
-/
module

public import Idealize.ShloMosaic.Lib.Pointwise
public import proofs.«01_k».proof.Proof.Spec
public import proofs.«01_k».proof.Proof.Flat
public import proofs.«01_k».proof.Proof.Gen.ReferenceIdeal.Read

@[expose] public section

set_option maxRecDepth 16384

namespace Cert.Reference

open Idealize Idealize.ShloMosaic Cert.ReferenceIdeal Cert.ReferenceIdeal.Gen Cert.ReferenceIdeal.Read Cert.Spec

variable (x0 x1 x2 x3 x4 x5 x6 x7 x8 x9 x10 x11 x12 x13 x14 x15 : A S64x16x32x32)
  (x16 : A S64x512x32x32) (x17 : A S64x1024x16x16) (x18 : A S64x2048x8x8) (x19 : A S64x2048x4x4)
  (x20 x21 : A S4) (x22 : A S16x128x16) (x23 x24 x25 : A S16x128) (x26 : A S256x128) (x27 x28 x29 : A S256)
  (x30 : A S512x256) (x31 x32 x33 : A S512) (x34 : A S128x512) (x35 : A S128x1024) (x36 x37 : A S128x2048)
  (x38 x39 x40 x41 : A S4x128) (x42 : A S16x128) (x43 : A S4) (x44 x45 : A S4x16)

/-- Teacher `0`: the differences, each student's loss, and the sum so far. -/
theorem gap0 (n : Fin 64) (s : Fin 16) (p : Fin 1024) :
    val_main_v546 (F := Ideal) x0 x1 x2 x3 x4 x5 x6 x7 x8 x9 x10 x11 x12 x13 x14 x15 x16 x20 x21 x44 x45 (ix3 n s p) = nrm (lit 0x41800000#32) (fun s
      => (val_main_v154 (F := Ideal) x0 x1 x2 x3 x4 x5 x6 x7 x8 x9 x10 x11 x12 x13 x14 x15 x20 x21) (ix3 n s p)) (x44 (ix2 0 s)) (x45 (ix2 0 s)) s
      - val_main_v311 (F := Ideal) x16 (ix2 n p) := by
  pointwise [val_main_cst_119, val_main_v518, val_main_v519, val_main_cst_120, val_main_v520, val_main_v521, val_main_v522, val_main_v523,
    val_main_v524, val_main_cst_121, val_main_v525, val_main_v526, val_main_cst_122, val_main_v527, val_main_v528, val_main_cst_123, val_main_v529,
      val_main_v530, val_main_v531, val_main_v532, val_main_v533, val_main_v534, val_main_v535, val_main_v536, val_main_v537, val_main_v538,
        val_main_v539, val_main_v540, val_main_v541, val_main_v542, val_main_v543, val_main_v544, val_main_v545, val_main_v546, nrm, mean]

theorem loss0 (n : Fin 64) (s : Fin 16) :
    val_main_v568 (F := Ideal) x0 x1 x2 x3 x4 x5 x6 x7 x8 x9 x10 x11 x12 x13 x14 x15 x16 x20 x21 x44 x45 (ix2 n s) = lossOf (lit 0x44800000#32) (fun
      p => (val_main_v546 (F := Ideal) x0 x1 x2 x3 x4 x5 x6 x7 x8 x9 x10 x11 x12 x13 x14 x15 x16 x20 x21 x44 x45) (ix3 n s p)) := by
  pointwise [val_main_v547, val_main_cst_124, val_main_v548, val_main_v549, val_main_cst_125, val_main_v550, val_main_v551, val_main_v552,
    val_main_cst_126, val_main_v553, val_main_v554, val_main_v555, val_main_cst_127, val_main_v556, val_main_cst_128, val_main_v557, val_main_v558,
      val_main_v559, val_main_cst_129, val_main_v560, val_main_cst_130, val_main_v561, val_main_v562, val_main_cst_131, val_main_v563, val_main_v564,
        val_main_cst_132, val_main_v565, val_main_v566, val_main_v567, val_main_v568, lossOf, smooth, mean]

theorem share0 : val_main_v578 (F := Ideal) x0 x1 x2 x3 x4 x5 x6 x7 x8 x9 x10 x11 x12 x13 x14 x15 x16 x17 x18 x19 x20 x21 x22 x23 x24 x25 x26 x27 x28
  x29 x30 x31 x32 x33 x34 x35 x36 x37 x38 x39 x40 x41 x42 x43 x44 x45 ix0 = val_main_v507 (F := Ideal) x0 x1 x2 x3 x4 x5 x6 x7 x8 x9 x10 x11 x12 x13
    x14 x15 x16 x17 x18 x19 x22 x23 x24 x25 x26 x27 x28 x29 x30 x31 x32 x33 x34 x35 x36 x37 x38 x39 x40 x41 x42 ix0 + share (fun n s =>
      (val_main_v568 (F := Ideal) x0 x1 x2 x3 x4 x5 x6 x7 x8 x9 x10 x11 x12 x13 x14 x15 x16 x20 x21 x44 x45) (ix2 n s)) (fun n s => (val_main_v498 (F
        := Ideal) x0 x1 x2 x3 x4 x5 x6 x7 x8 x9 x10 x11 x12 x13 x14 x15 x16 x17 x18 x19 x22 x23 x24 x25 x26 x27 x28 x29 x30 x31 x32 x33 x34 x35 x36
          x37 x38 x39 x40 x41 x42) (ix3 n 0 s)) ((val_main_v517 (F := Ideal) x43) (ix1 0)) := by
  pointwise [val_main_v569, val_main_v570, val_main_v571, val_main_cst_133, val_main_v572, val_main_cst_134, val_main_v573, val_main_cst_135,
    val_main_v574, val_main_v575, val_main_v576, val_main_v577, val_main_v578, share]

/-- Teacher `1`: the differences, each student's loss, and the sum so far. -/
theorem gap1 (n : Fin 64) (s : Fin 16) (p : Fin 256) :
    val_main_v607 (F := Ideal) x0 x1 x2 x3 x4 x5 x6 x7 x8 x9 x10 x11 x12 x13 x14 x15 x17 x20 x21 x44 x45 (ix3 n s p) = nrm (lit 0x41800000#32) (fun s
      => (val_main_v190 (F := Ideal) x0 x1 x2 x3 x4 x5 x6 x7 x8 x9 x10 x11 x12 x13 x14 x15 x20 x21) (ix3 n s p)) (x44 (ix2 1 s)) (x45 (ix2 1 s)) s
      - val_main_v360 (F := Ideal) x17 (ix2 n p) := by
  pointwise [val_main_cst_136, val_main_v579, val_main_v580, val_main_cst_137, val_main_v581, val_main_v582, val_main_v583, val_main_v584,
    val_main_v585, val_main_cst_138, val_main_v586, val_main_v587, val_main_cst_139, val_main_v588, val_main_v589, val_main_cst_140, val_main_v590,
      val_main_v591, val_main_v592, val_main_v593, val_main_v594, val_main_v595, val_main_v596, val_main_v597, val_main_v598, val_main_v599,
        val_main_v600, val_main_v601, val_main_v602, val_main_v603, val_main_v604, val_main_v605, val_main_v606, val_main_v607, nrm, mean]

theorem loss1 (n : Fin 64) (s : Fin 16) :
    val_main_v629 (F := Ideal) x0 x1 x2 x3 x4 x5 x6 x7 x8 x9 x10 x11 x12 x13 x14 x15 x17 x20 x21 x44 x45 (ix2 n s) = lossOf (lit 0x43800000#32) (fun
      p => (val_main_v607 (F := Ideal) x0 x1 x2 x3 x4 x5 x6 x7 x8 x9 x10 x11 x12 x13 x14 x15 x17 x20 x21 x44 x45) (ix3 n s p)) := by
  pointwise [val_main_v608, val_main_cst_141, val_main_v609, val_main_v610, val_main_cst_142, val_main_v611, val_main_v612, val_main_v613,
    val_main_cst_143, val_main_v614, val_main_v615, val_main_v616, val_main_cst_144, val_main_v617, val_main_cst_145, val_main_v618, val_main_v619,
      val_main_v620, val_main_cst_146, val_main_v621, val_main_cst_147, val_main_v622, val_main_v623, val_main_cst_148, val_main_v624, val_main_v625,
        val_main_cst_149, val_main_v626, val_main_v627, val_main_v628, val_main_v629, lossOf, smooth, mean]

theorem share1 : val_main_v639 (F := Ideal) x0 x1 x2 x3 x4 x5 x6 x7 x8 x9 x10 x11 x12 x13 x14 x15 x16 x17 x18 x19 x20 x21 x22 x23 x24 x25 x26 x27 x28
  x29 x30 x31 x32 x33 x34 x35 x36 x37 x38 x39 x40 x41 x42 x43 x44 x45 ix0 = val_main_v578 (F := Ideal) x0 x1 x2 x3 x4 x5 x6 x7 x8 x9 x10 x11 x12 x13
    x14 x15 x16 x17 x18 x19 x20 x21 x22 x23 x24 x25 x26 x27 x28 x29 x30 x31 x32 x33 x34 x35 x36 x37 x38 x39 x40 x41 x42 x43 x44 x45 ix0 + share (fun
      n s => (val_main_v629 (F := Ideal) x0 x1 x2 x3 x4 x5 x6 x7 x8 x9 x10 x11 x12 x13 x14 x15 x17 x20 x21 x44 x45) (ix2 n s)) (fun n s =>
        (val_main_v498 (F := Ideal) x0 x1 x2 x3 x4 x5 x6 x7 x8 x9 x10 x11 x12 x13 x14 x15 x16 x17 x18 x19 x22 x23 x24 x25 x26 x27 x28 x29 x30 x31 x32
          x33 x34 x35 x36 x37 x38 x39 x40 x41 x42) (ix3 n 1 s)) ((val_main_v517 (F := Ideal) x43) (ix1 1)) := by
  pointwise [val_main_v630, val_main_v631, val_main_v632, val_main_cst_150, val_main_v633, val_main_cst_151, val_main_v634, val_main_cst_152,
    val_main_v635, val_main_v636, val_main_v637, val_main_v638, val_main_v639, share]

/-- Teacher `2`: the differences, each student's loss, and the sum so far. -/
theorem gap2 (n : Fin 64) (s : Fin 16) (p : Fin 64) :
    val_main_v668 (F := Ideal) x0 x1 x2 x3 x4 x5 x6 x7 x8 x9 x10 x11 x12 x13 x14 x15 x18 x20 x21 x44 x45 (ix3 n s p) = nrm (lit 0x41800000#32) (fun s
      => (val_main_v226 (F := Ideal) x0 x1 x2 x3 x4 x5 x6 x7 x8 x9 x10 x11 x12 x13 x14 x15 x20 x21) (ix3 n s p)) (x44 (ix2 2 s)) (x45 (ix2 2 s)) s
      - val_main_v409 (F := Ideal) x18 (ix2 n p) := by
  pointwise [val_main_cst_153, val_main_v640, val_main_v641, val_main_cst_154, val_main_v642, val_main_v643, val_main_v644, val_main_v645,
    val_main_v646, val_main_cst_155, val_main_v647, val_main_v648, val_main_cst_156, val_main_v649, val_main_v650, val_main_cst_157, val_main_v651,
      val_main_v652, val_main_v653, val_main_v654, val_main_v655, val_main_v656, val_main_v657, val_main_v658, val_main_v659, val_main_v660,
        val_main_v661, val_main_v662, val_main_v663, val_main_v664, val_main_v665, val_main_v666, val_main_v667, val_main_v668, nrm, mean]

theorem loss2 (n : Fin 64) (s : Fin 16) :
    val_main_v690 (F := Ideal) x0 x1 x2 x3 x4 x5 x6 x7 x8 x9 x10 x11 x12 x13 x14 x15 x18 x20 x21 x44 x45 (ix2 n s) = lossOf (lit 0x42800000#32) (fun
      p => (val_main_v668 (F := Ideal) x0 x1 x2 x3 x4 x5 x6 x7 x8 x9 x10 x11 x12 x13 x14 x15 x18 x20 x21 x44 x45) (ix3 n s p)) := by
  pointwise [val_main_v669, val_main_cst_158, val_main_v670, val_main_v671, val_main_cst_159, val_main_v672, val_main_v673, val_main_v674,
    val_main_cst_160, val_main_v675, val_main_v676, val_main_v677, val_main_cst_161, val_main_v678, val_main_cst_162, val_main_v679, val_main_v680,
      val_main_v681, val_main_cst_163, val_main_v682, val_main_cst_164, val_main_v683, val_main_v684, val_main_cst_165, val_main_v685, val_main_v686,
        val_main_cst_166, val_main_v687, val_main_v688, val_main_v689, val_main_v690, lossOf, smooth, mean]

theorem share2 : val_main_v700 (F := Ideal) x0 x1 x2 x3 x4 x5 x6 x7 x8 x9 x10 x11 x12 x13 x14 x15 x16 x17 x18 x19 x20 x21 x22 x23 x24 x25 x26 x27 x28
  x29 x30 x31 x32 x33 x34 x35 x36 x37 x38 x39 x40 x41 x42 x43 x44 x45 ix0 = val_main_v639 (F := Ideal) x0 x1 x2 x3 x4 x5 x6 x7 x8 x9 x10 x11 x12 x13
    x14 x15 x16 x17 x18 x19 x20 x21 x22 x23 x24 x25 x26 x27 x28 x29 x30 x31 x32 x33 x34 x35 x36 x37 x38 x39 x40 x41 x42 x43 x44 x45 ix0 + share (fun
      n s => (val_main_v690 (F := Ideal) x0 x1 x2 x3 x4 x5 x6 x7 x8 x9 x10 x11 x12 x13 x14 x15 x18 x20 x21 x44 x45) (ix2 n s)) (fun n s =>
        (val_main_v498 (F := Ideal) x0 x1 x2 x3 x4 x5 x6 x7 x8 x9 x10 x11 x12 x13 x14 x15 x16 x17 x18 x19 x22 x23 x24 x25 x26 x27 x28 x29 x30 x31 x32
          x33 x34 x35 x36 x37 x38 x39 x40 x41 x42) (ix3 n 2 s)) ((val_main_v517 (F := Ideal) x43) (ix1 2)) := by
  pointwise [val_main_v691, val_main_v692, val_main_v693, val_main_cst_167, val_main_v694, val_main_cst_168, val_main_v695, val_main_cst_169,
    val_main_v696, val_main_v697, val_main_v698, val_main_v699, val_main_v700, share]

/-- Teacher `3`: the differences, each student's loss, and the sum so far. -/
theorem gap3 (n : Fin 64) (s : Fin 16) (p : Fin 16) :
    val_main_v729 (F := Ideal) x0 x1 x2 x3 x4 x5 x6 x7 x8 x9 x10 x11 x12 x13 x14 x15 x19 x20 x21 x44 x45 (ix3 n s p) = nrm (lit 0x41800000#32) (fun s
      => (val_main_v262 (F := Ideal) x0 x1 x2 x3 x4 x5 x6 x7 x8 x9 x10 x11 x12 x13 x14 x15 x20 x21) (ix3 n s p)) (x44 (ix2 3 s)) (x45 (ix2 3 s)) s
      - val_main_v458 (F := Ideal) x19 (ix2 n p) := by
  pointwise [val_main_cst_170, val_main_v701, val_main_v702, val_main_cst_171, val_main_v703, val_main_v704, val_main_v705, val_main_v706,
    val_main_v707, val_main_cst_172, val_main_v708, val_main_v709, val_main_cst_173, val_main_v710, val_main_v711, val_main_cst_174, val_main_v712,
      val_main_v713, val_main_v714, val_main_v715, val_main_v716, val_main_v717, val_main_v718, val_main_v719, val_main_v720, val_main_v721,
        val_main_v722, val_main_v723, val_main_v724, val_main_v725, val_main_v726, val_main_v727, val_main_v728, val_main_v729, nrm, mean]

theorem loss3 (n : Fin 64) (s : Fin 16) :
    val_main_v751 (F := Ideal) x0 x1 x2 x3 x4 x5 x6 x7 x8 x9 x10 x11 x12 x13 x14 x15 x19 x20 x21 x44 x45 (ix2 n s) = lossOf (lit 0x41800000#32) (fun
      p => (val_main_v729 (F := Ideal) x0 x1 x2 x3 x4 x5 x6 x7 x8 x9 x10 x11 x12 x13 x14 x15 x19 x20 x21 x44 x45) (ix3 n s p)) := by
  pointwise [val_main_v730, val_main_cst_175, val_main_v731, val_main_v732, val_main_cst_176, val_main_v733, val_main_v734, val_main_v735,
    val_main_cst_177, val_main_v736, val_main_v737, val_main_v738, val_main_cst_178, val_main_v739, val_main_cst_179, val_main_v740, val_main_v741,
      val_main_v742, val_main_cst_180, val_main_v743, val_main_cst_181, val_main_v744, val_main_v745, val_main_cst_182, val_main_v746, val_main_v747,
        val_main_cst_183, val_main_v748, val_main_v749, val_main_v750, val_main_v751, lossOf, smooth, mean]

theorem share3 : val_main_v761 (F := Ideal) x0 x1 x2 x3 x4 x5 x6 x7 x8 x9 x10 x11 x12 x13 x14 x15 x16 x17 x18 x19 x20 x21 x22 x23 x24 x25 x26 x27 x28
  x29 x30 x31 x32 x33 x34 x35 x36 x37 x38 x39 x40 x41 x42 x43 x44 x45 ix0 = val_main_v700 (F := Ideal) x0 x1 x2 x3 x4 x5 x6 x7 x8 x9 x10 x11 x12 x13
    x14 x15 x16 x17 x18 x19 x20 x21 x22 x23 x24 x25 x26 x27 x28 x29 x30 x31 x32 x33 x34 x35 x36 x37 x38 x39 x40 x41 x42 x43 x44 x45 ix0 + share (fun
      n s => (val_main_v751 (F := Ideal) x0 x1 x2 x3 x4 x5 x6 x7 x8 x9 x10 x11 x12 x13 x14 x15 x19 x20 x21 x44 x45) (ix2 n s)) (fun n s =>
        (val_main_v498 (F := Ideal) x0 x1 x2 x3 x4 x5 x6 x7 x8 x9 x10 x11 x12 x13 x14 x15 x16 x17 x18 x19 x22 x23 x24 x25 x26 x27 x28 x29 x30 x31 x32
          x33 x34 x35 x36 x37 x38 x39 x40 x41 x42) (ix3 n 3 s)) ((val_main_v517 (F := Ideal) x43) (ix1 3)) := by
  pointwise [val_main_v752, val_main_v753, val_main_v754, val_main_cst_184, val_main_v755, val_main_cst_185, val_main_v756, val_main_cst_186,
    val_main_v757, val_main_v758, val_main_v759, val_main_v760, val_main_v761, share]

end Cert.Reference
-- ==== Proof.ReferenceResult.lean ====
/-
  The plain program's result as the loss of its reduced data.
-/
module

public import Idealize.ShloMosaic.Lib.Pointwise
public import proofs.«01_k».proof.Proof.Model
public import proofs.«01_k».proof.Proof.Gates
public import proofs.«01_k».proof.Proof.ReferenceKeys
public import proofs.«01_k».proof.Proof.ReferenceMaps
public import proofs.«01_k».proof.Proof.ReferenceTeachers
public import proofs.«01_k».proof.Proof.ReferenceAttention
public import proofs.«01_k».proof.Proof.ReferenceLoss

@[expose] public section

set_option maxRecDepth 16384

namespace Cert.Reference

open Idealize Idealize.ShloMosaic Cert.ReferenceIdeal Cert.ReferenceIdeal.Gen Cert.ReferenceIdeal.Read Cert.Spec

variable (x0 x1 x2 x3 x4 x5 x6 x7 x8 x9 x10 x11 x12 x13 x14 x15 : A S64x16x32x32)
  (x16 : A S64x512x32x32) (x17 : A S64x1024x16x16) (x18 : A S64x2048x8x8) (x19 : A S64x2048x4x4)
  (x20 x21 : A S4) (x22 : A S16x128x16) (x23 x24 x25 : A S16x128) (x26 : A S256x128) (x27 x28 x29 : A S256)
  (x30 : A S512x256) (x31 x32 x33 : A S512) (x34 : A S128x512) (x35 : A S128x1024) (x36 x37 : A S128x2048)
  (x38 x39 x40 x41 : A S4x128) (x42 : A S16x128) (x43 : A S4) (x44 x45 : A S4x16)

/-- The mean square of a student's channels at one position. -/
noncomputable def sq (n : Fin 64) (s : Fin 16) (y x : Fin 32) : EReal :=
  mean (lit 0x41800000#32) (fun c => stu x0 x1 x2 x3 x4 x5 x6 x7 x8 x9 x10 x11 x12 x13 x14 x15 s (ix4 n c y x) * stu x0 x1 x2 x3 x4 x5 x6 x7 x8 x9 x10 x11 x12 x13 x14 x15 s (ix4 n c y x))

/-- The reduced data of the arguments. -/
noncomputable def reduced : Model where
  cm n s c := desc (fun p : Fin 1024 => stu x0 x1 x2 x3 x4 x5 x6 x7 x8 x9 x10 x11 x12 x13 x14 x15 s (ix4 n c ⟨p.val / 32, by omega⟩ ⟨p.val % 32, by omega⟩))
  P n s p := sq x0 x1 x2 x3 x4 x5 x6 x7 x8 x9 x10 x11 x12 x13 x14 x15 n s ⟨p.val / 32, by omega⟩ ⟨p.val % 32, by omega⟩
  P1 n s p := Cert.Spec.pool (lit 0x40800000#32) (fun k : Fin 2 × Fin 2 =>
    sq x0 x1 x2 x3 x4 x5 x6 x7 x8 x9 x10 x11 x12 x13 x14 x15 n s ⟨p.val / 16 * 2 + k.1.val, by omega⟩ ⟨p.val % 16 * 2 + k.2.val, by omega⟩)
  P2 n s p := Cert.Spec.pool (lit 0x41800000#32) (fun k : Fin 4 × Fin 4 =>
    sq x0 x1 x2 x3 x4 x5 x6 x7 x8 x9 x10 x11 x12 x13 x14 x15 n s ⟨p.val / 8 * 4 + k.1.val, by omega⟩ ⟨p.val % 8 * 4 + k.2.val, by omega⟩)
  P3 n s p := Cert.Spec.pool (lit 0x42800000#32) (fun k : Fin 8 × Fin 8 =>
    sq x0 x1 x2 x3 x4 x5 x6 x7 x8 x9 x10 x11 x12 x13 x14 x15 n s ⟨p.val / 4 * 8 + k.1.val, by omega⟩ ⟨p.val % 4 * 8 + k.2.val, by omega⟩)
  l0 n j := ∑ k, mean (lit 0x44800000#32) (fun p : Fin 1024 => x16 (ix4 n k ⟨p.val / 32, by omega⟩ ⟨p.val % 32, by omega⟩)) * x34 (ix2 j k)
  l1 n j := ∑ k, mean (lit 0x43800000#32) (fun p : Fin 256 => x17 (ix4 n k ⟨p.val / 16, by omega⟩ ⟨p.val % 16, by omega⟩)) * x35 (ix2 j k)
  l2 n j := ∑ k, mean (lit 0x42800000#32) (fun p : Fin 64 => x18 (ix4 n k ⟨p.val / 8, by omega⟩ ⟨p.val % 8, by omega⟩)) * x36 (ix2 j k)
  l3 n j := ∑ k, mean (lit 0x41800000#32) (fun p : Fin 16 => x19 (ix4 n k ⟨p.val / 4, by omega⟩ ⟨p.val % 4, by omega⟩)) * x37 (ix2 j k)
  t0 n p := mean (lit 0x44000000#32) (fun c => x16 (ix4 n c ⟨p.val / 32, by omega⟩ ⟨p.val % 32, by omega⟩) * x16 (ix4 n c ⟨p.val / 32, by omega⟩ ⟨p.val % 32, by omega⟩))
  t1 n p := mean (lit 0x44800000#32) (fun c => x17 (ix4 n c ⟨p.val / 16, by omega⟩ ⟨p.val % 16, by omega⟩) * x17 (ix4 n c ⟨p.val / 16, by omega⟩ ⟨p.val % 16, by omega⟩))
  t2 n p := mean (lit 0x45000000#32) (fun c => x18 (ix4 n c ⟨p.val / 8, by omega⟩ ⟨p.val % 8, by omega⟩) * x18 (ix4 n c ⟨p.val / 8, by omega⟩ ⟨p.val % 8, by omega⟩))
  t3 n p := mean (lit 0x45000000#32) (fun c => x19 (ix4 n c ⟨p.val / 4, by omega⟩ ⟨p.val % 4, by omega⟩) * x19 (ix4 n c ⟨p.val / 4, by omega⟩ ⟨p.val % 4, by omega⟩))
  aw t := x20 (ix1 t)
  ab t := x21 (ix1 t)
  kW s k c := x22 (ix3 s k c)
  kb s k := x23 (ix2 s k)
  kg s k := x24 (ix2 s k)
  ke s k := x25 (ix2 s k)
  W1 o k := x26 (ix2 o k)
  b1 o := x27 (ix1 o)
  g1 o := x28 (ix1 o)
  e1 o := x29 (ix1 o)
  W2 o k := x30 (ix2 o k)
  b2 o := x31 (ix1 o)
  g2 o := x32 (ix1 o)
  e2 o := x33 (ix1 o)
  qb t j := x38 (ix2 t j)
  qg t j := x39 (ix2 t j)
  qe t j := x40 (ix2 t j)
  pt t j := x41 (ix2 t j)
  ps s j := x42 (ix2 s j)
  w t := x43 (ix1 t)
  G0 s _ := x44 (ix2 0 s)
  G1 s _ := x44 (ix2 1 s)
  G2 s _ := x44 (ix2 2 s)
  G3 s _ := x44 (ix2 3 s)
  B0 s _ := x45 (ix2 0 s)
  B1 s _ := x45 (ix2 1 s)
  B2 s _ := x45 (ix2 2 s)
  B3 s _ := x45 (ix2 3 s)

theorem key_eq (n : Fin 64) (s : Fin 16) (k : Fin 128) : val_main_v53 (F := Ideal) x0 x1 x2 x3 x4 x5 x6 x7 x8 x9 x10 x11 x12 x13 x14 x15 x22 x23 x24 x25 (ix3 n s k) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).key n s k := by
  rw [keys]
  simp only [descriptors, stack]
  rfl

theorem hid1_eq (r : Fin 1024) (o : Fin 256) : val_main_v82 (F := Ideal) x0 x1 x2 x3 x4 x5 x6 x7 x8 x9 x10 x11 x12 x13 x14 x15 x22 x23 x24 x25 x26 x27 x28 x29 (ix2 r o) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).hid1 r o := by
  rw [hidden1]
  simp only [rows]
  unfold Model.hid1
  simp only [← key_eq]
  rfl

theorem hid_eq (r : Fin 1024) (o : Fin 512) : val_main_v110 (F := Ideal) x0 x1 x2 x3 x4 x5 x6 x7 x8 x9 x10 x11 x12 x13 x14 x15 x22 x23 x24 x25 x26 x27 x28 x29 x30 x31 x32 x33 (ix2 r o) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).hid r o := by
  rw [hidden2]
  unfold Model.hid
  simp only [hid1_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45]
  rfl

/-- One attention, from the query's entries. -/
theorem att_eq (t : Fin 4) (l : Fin 64 → Fin 128 → EReal)
    (h : ∀ n j, Cert.Spec.unit (fun j => val_main_v463 (F := Ideal) x16 x17 x18 x19 x34 x35 x36 x37 x38 x39 x40 (ix3 n t j)) j = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).qry l t n j) (n : Fin 64) (s : Fin 16) :
    val_main_v498 (F := Ideal) x0 x1 x2 x3 x4 x5 x6 x7 x8 x9 x10 x11 x12 x13 x14 x15 x16 x17 x18 x19 x22 x23 x24 x25 x26 x27 x28 x29 x30 x31 x32 x33 x34 x35 x36 x37 x38 x39 x40 x41 x42 (ix3 n t s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).att l t n s := by
  rw [attention]
  unfold Model.att
  congr 1
  funext s
  rw [logits]
  unfold logit Model.pos
  rw [div_two]
  congr 2
  refine Finset.sum_congr rfl fun j _ => ?_
  congr 1
  · congr 1
    funext j
    rw [split, hid_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45]
    congr 1
    exact Fin.ext (by show t.val * 128 + j.val = 128 * t.val + j.val; omega)
  · exact h n j

theorem att0 (n : Fin 64) (s : Fin 16) : val_main_v498 (F := Ideal) x0 x1 x2 x3 x4 x5 x6 x7 x8 x9 x10 x11 x12 x13 x14 x15 x16 x17 x18 x19 x22 x23 x24 x25 x26 x27 x28 x29 x30 x31 x32 x33 x34 x35 x36 x37 x38 x39 x40 x41 x42 (ix3 n 0 s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).att (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).l0 0 n s :=
  att_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 0 _ (fun n j => by
    simp only [queries]
    show Cert.Spec.unit (fun j => val_main_v298 (F := Ideal) x16 x34 x38 x39 x40 (ix2 n j)) j = _
    simp only [query0, linear0, means0]
    rfl) n s

theorem att1 (n : Fin 64) (s : Fin 16) : val_main_v498 (F := Ideal) x0 x1 x2 x3 x4 x5 x6 x7 x8 x9 x10 x11 x12 x13 x14 x15 x16 x17 x18 x19 x22 x23 x24 x25 x26 x27 x28 x29 x30 x31 x32 x33 x34 x35 x36 x37 x38 x39 x40 x41 x42 (ix3 n 1 s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).att (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).l1 1 n s :=
  att_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 1 _ (fun n j => by
    simp only [queries]
    show Cert.Spec.unit (fun j => val_main_v347 (F := Ideal) x17 x35 x38 x39 x40 (ix2 n j)) j = _
    simp only [query1, linear1, means1]
    rfl) n s

theorem att2 (n : Fin 64) (s : Fin 16) : val_main_v498 (F := Ideal) x0 x1 x2 x3 x4 x5 x6 x7 x8 x9 x10 x11 x12 x13 x14 x15 x16 x17 x18 x19 x22 x23 x24 x25 x26 x27 x28 x29 x30 x31 x32 x33 x34 x35 x36 x37 x38 x39 x40 x41 x42 (ix3 n 2 s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).att (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).l2 2 n s :=
  att_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 2 _ (fun n j => by
    simp only [queries]
    show Cert.Spec.unit (fun j => val_main_v396 (F := Ideal) x18 x36 x38 x39 x40 (ix2 n j)) j = _
    simp only [query2, linear2, means2]
    rfl) n s

theorem att3 (n : Fin 64) (s : Fin 16) : val_main_v498 (F := Ideal) x0 x1 x2 x3 x4 x5 x6 x7 x8 x9 x10 x11 x12 x13 x14 x15 x16 x17 x18 x19 x22 x23 x24 x25 x26 x27 x28 x29 x30 x31 x32 x33 x34 x35 x36 x37 x38 x39 x40 x41 x42 (ix3 n 3 s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).att (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).l3 3 n s :=
  att_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 3 _ (fun n j => by
    simp only [queries]
    show Cert.Spec.unit (fun j => val_main_v445 (F := Ideal) x19 x37 x38 x39 x40 (ix2 n j)) j = _
    simp only [query3, linear3, means3]
    rfl) n s

theorem start_eq : val_main_v507 (F := Ideal) x0 x1 x2 x3 x4 x5 x6 x7 x8 x9 x10 x11 x12 x13 x14 x15 x16 x17 x18 x19 x22 x23 x24 x25 x26 x27 x28 x29 x30 x31 x32 x33 x34 x35 x36 x37 x38 x39 x40 x41 x42 ix0 = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).start := by
  rw [entropy, neg_div_lit]
  unfold Model.start ent
  congr 3
  rw [Finset.sum_comm, Fin.sum_univ_four]
  simp only [att0 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, att1 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, att2 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, att3 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45]

theorem square_eq (n : Fin 64) (s : Fin 16) (y x : Fin 32) : val_main_v115 (F := Ideal) x0 x1 x2 x3 x4 x5 x6 x7 x8 x9 x10 x11 x12 x13 x14 x15 (ix4 n s y x) = sq x0 x1 x2 x3 x4 x5 x6 x7 x8 x9 x10 x11 x12 x13 x14 x15 n s y x := by
  rw [squares]
  simp only [stack]
  rfl

theorem gate0_eq (n : Fin 64) (s : Fin 16) : val_main_v132 (F := Ideal) x0 x1 x2 x3 x4 x5 x6 x7 x8 x9 x10 x11 x12 x13 x14 x15 x20 x21 (ix2 n s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).gat 0 n s := by
  rw [gate0, map_mean]
  simp only [square_eq]
  rfl

theorem unit0_eq (n : Fin 64) (s : Fin 16) (p : Fin 1024) :
    val_main_v154 (F := Ideal) x0 x1 x2 x3 x4 x5 x6 x7 x8 x9 x10 x11 x12 x13 x14 x15 x20 x21 (ix3 n s p) = Cert.Spec.unit (fun p => (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).gat 0 n s * (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).P n s p) p := by
  rw [unit0]
  congr 1
  funext p
  rw [pooled0]
  simp only [gate0_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, square_eq]
  refine (pool_gate lit_one (by norm_num) _ (gate_nonneg _ _ _) (gate_ne_top _ _ _)).trans ?_
  rw [pool_one]
  congr 2 <;> exact Fin.ext (by simp)

theorem loss0_eq (n : Fin 64) (s : Fin 16) :
    val_main_v568 (F := Ideal) x0 x1 x2 x3 x4 x5 x6 x7 x8 x9 x10 x11 x12 x13 x14 x15 x16 x20 x21 x44 x45 (ix2 n s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).los (lit 0x44800000#32) 0 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).P (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).G0 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).B0 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).t0 n s := by
  rw [loss0]
  simp only [gap0, unit0_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, teacher0]
  rfl

theorem gate1_eq (n : Fin 64) (s : Fin 16) : val_main_v168 (F := Ideal) x0 x1 x2 x3 x4 x5 x6 x7 x8 x9 x10 x11 x12 x13 x14 x15 x20 x21 (ix2 n s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).gat 1 n s := by
  rw [gate1, map_mean]
  simp only [square_eq]
  rfl

theorem unit1_eq (n : Fin 64) (s : Fin 16) (p : Fin 256) :
    val_main_v190 (F := Ideal) x0 x1 x2 x3 x4 x5 x6 x7 x8 x9 x10 x11 x12 x13 x14 x15 x20 x21 (ix3 n s p) = Cert.Spec.unit (fun p => (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).gat 1 n s * (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).P1 n s p) p := by
  rw [unit1]
  congr 1
  funext p
  rw [pooled1]
  simp only [gate1_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, square_eq]
  refine (pool_gate lit_four (by norm_num) _ (gate_nonneg _ _ _) (gate_ne_top _ _ _)).trans ?_
  rfl

theorem loss1_eq (n : Fin 64) (s : Fin 16) :
    val_main_v629 (F := Ideal) x0 x1 x2 x3 x4 x5 x6 x7 x8 x9 x10 x11 x12 x13 x14 x15 x17 x20 x21 x44 x45 (ix2 n s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).los (lit 0x43800000#32) 1 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).P1 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).G1 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).B1 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).t1 n s := by
  rw [loss1]
  simp only [gap1, unit1_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, teacher1]
  rfl

theorem gate2_eq (n : Fin 64) (s : Fin 16) : val_main_v204 (F := Ideal) x0 x1 x2 x3 x4 x5 x6 x7 x8 x9 x10 x11 x12 x13 x14 x15 x20 x21 (ix2 n s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).gat 2 n s := by
  rw [gate2, map_mean]
  simp only [square_eq]
  rfl

theorem unit2_eq (n : Fin 64) (s : Fin 16) (p : Fin 64) :
    val_main_v226 (F := Ideal) x0 x1 x2 x3 x4 x5 x6 x7 x8 x9 x10 x11 x12 x13 x14 x15 x20 x21 (ix3 n s p) = Cert.Spec.unit (fun p => (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).gat 2 n s * (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).P2 n s p) p := by
  rw [unit2]
  congr 1
  funext p
  rw [pooled2]
  simp only [gate2_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, square_eq]
  refine (pool_gate lit_16 (by norm_num) _ (gate_nonneg _ _ _) (gate_ne_top _ _ _)).trans ?_
  rfl

theorem loss2_eq (n : Fin 64) (s : Fin 16) :
    val_main_v690 (F := Ideal) x0 x1 x2 x3 x4 x5 x6 x7 x8 x9 x10 x11 x12 x13 x14 x15 x18 x20 x21 x44 x45 (ix2 n s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).los (lit 0x42800000#32) 2 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).P2 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).G2 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).B2 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).t2 n s := by
  rw [loss2]
  simp only [gap2, unit2_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, teacher2]
  rfl

theorem gate3_eq (n : Fin 64) (s : Fin 16) : val_main_v240 (F := Ideal) x0 x1 x2 x3 x4 x5 x6 x7 x8 x9 x10 x11 x12 x13 x14 x15 x20 x21 (ix2 n s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).gat 3 n s := by
  rw [gate3, map_mean]
  simp only [square_eq]
  rfl

theorem unit3_eq (n : Fin 64) (s : Fin 16) (p : Fin 16) :
    val_main_v262 (F := Ideal) x0 x1 x2 x3 x4 x5 x6 x7 x8 x9 x10 x11 x12 x13 x14 x15 x20 x21 (ix3 n s p) = Cert.Spec.unit (fun p => (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).gat 3 n s * (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).P3 n s p) p := by
  rw [unit3]
  congr 1
  funext p
  rw [pooled3]
  simp only [gate3_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, square_eq]
  refine (pool_gate lit_64 (by norm_num) _ (gate_nonneg _ _ _) (gate_ne_top _ _ _)).trans ?_
  rfl

theorem loss3_eq (n : Fin 64) (s : Fin 16) :
    val_main_v751 (F := Ideal) x0 x1 x2 x3 x4 x5 x6 x7 x8 x9 x10 x11 x12 x13 x14 x15 x19 x20 x21 x44 x45 (ix2 n s) = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).los (lit 0x41800000#32) 3 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).P3 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).G3 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).B3 (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).t3 n s := by
  rw [loss3]
  simp only [gap3, unit3_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, teacher3]
  rfl

/-- The plain program's result is the loss of the reduced data. -/
theorem result : val_main_v761 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 ix0 = (reduced x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45).loss := by
  rw [share3, share2, share1, share0, start_eq]
  simp only [loss0_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, loss1_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, loss2_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, loss3_eq x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45,
    att0 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, att1 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, att2 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, att3 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, weights]
  rfl

end Cert.Reference
-- ==== Proof.Entry.lean ====
/-
  What the last call finds in its arrays: the reduced students and teachers, as functions of the arguments.
-/
module

public import Idealize.ShloMosaic.Lib.Pipeline.ValueKit
public import proofs.«01_k».proof.Proof.KernelIdealFold
public import proofs.«01_k».proof.Proof.Host
public import proofs.«01_k».proof.Proof.TeacherMeans
public import proofs.«01_k».proof.Proof.Students
public import proofs.«01_k».proof.Proof.ReferenceResult

@[expose] public section

set_option maxRecDepth 16384

namespace Cert.KernelIdeal.Run

open Idealize Idealize.ShloMosaic Idealize.ShloMosaic.TcCoe Cert.KernelIdeal Cert.KernelIdeal.Gen Cert.KernelIdeal.Host
open Cert.Spec Cert.Reference

/-- Pairs of lists related place by place, one more at the head. -/
theorem cons_related {α β : Type*} {P : α → β → Prop} {n : ℕ} {v : α} {vs : Fin n → α} {w : β} {ws : Fin n → β} (h : P v w)
    (hs : ∀ s, P (vs s) (ws s)) : ∀ s, P (Matrix.vecCons v vs s) (Matrix.vecCons w ws s) :=
  Fin.cases h hs

/-- An array of rows of `128`, read from the one of rows of `32`. -/
abbrev Rows (X : A S64x16x8x128) (Y : A S64x16x32x32) : Prop := ∀ (n : Fin 64) (k : Fin 16) (a : Fin 8) (b : Fin 128),
  X (ix4 n k a b) = Y (ix4 n k ⟨(a.val * 128 + b.val) / 32, by omega⟩ ⟨(a.val * 128 + b.val) % 32, by omega⟩)

/-- Sixteen arrays, each the rows of `128` of another. -/
theorem rows16 (v0 v1 v2 v3 v4 v5 v6 v7 v8 v9 v10 v11 v12 v13 v14 v15 : A S64x16x8x128) (w0 w1 w2 w3 w4 w5 w6 w7 w8 w9 w10 w11 w12 w13 w14 w15 : A S64x16x32x32)
    (h0 : Rows v0 w0) (h1 : Rows v1 w1) (h2 : Rows v2 w2) (h3 : Rows v3 w3) (h4 : Rows v4 w4) (h5 : Rows v5 w5) (h6 : Rows v6 w6) (h7 : Rows v7 w7) (h8 : Rows v8 w8) (h9 : Rows v9 w9) (h10 : Rows v10 w10) (h11 : Rows v11 w11) (h12 : Rows v12 w12) (h13 : Rows v13 w13) (h14 : Rows v14 w14) (h15 : Rows v15 w15)
    (s : Fin 16) : Rows ((![v0, v1, v2, v3, v4, v5, v6, v7, v8, v9, v10, v11, v12, v13, v14, v15] : Fin 16 → A S64x16x8x128) s) (stu w0 w1 w2 w3 w4 w5 w6 w7 w8 w9 w10 w11 w12 w13 w14 w15 s) :=
  (cons_related h0 (cons_related h1 (cons_related h2 (cons_related h3 (cons_related h4 (cons_related h5 (cons_related h6 (cons_related h7 (cons_related h8 (cons_related h9 (cons_related h10 (cons_related h11 (cons_related h12 (cons_related h13 (cons_related h14 (cons_related h15 (fun s => s.elim0)))))))))))))))) : ∀ s : Fin 16, Rows ((![v0, v1, v2, v3, v4, v5, v6, v7, v8, v9, v10, v11, v12, v13, v14, v15] : Fin 16 → A S64x16x8x128) s) ((![w0, w1, w2, w3, w4, w5, w6, w7, w8, w9, w10, w11, w12, w13, w14, w15] : Fin 16 → A S64x16x32x32) s)) s

variable (m : (ℓ : Loc nD τ sig) → Buf (Elt Ideal) ℓ) (ρ : Dev nD → PrngReg) (c : Dev nD)

/-! The arguments. -/

noncomputable abbrev a0 : A S64x16x32x32 := m ((c : Thread nD τ).loc main_arg0)
noncomputable abbrev a1 : A S64x16x32x32 := m ((c : Thread nD τ).loc main_arg1)
noncomputable abbrev a2 : A S64x16x32x32 := m ((c : Thread nD τ).loc main_arg2)
noncomputable abbrev a3 : A S64x16x32x32 := m ((c : Thread nD τ).loc main_arg3)
noncomputable abbrev a4 : A S64x16x32x32 := m ((c : Thread nD τ).loc main_arg4)
noncomputable abbrev a5 : A S64x16x32x32 := m ((c : Thread nD τ).loc main_arg5)
noncomputable abbrev a6 : A S64x16x32x32 := m ((c : Thread nD τ).loc main_arg6)
noncomputable abbrev a7 : A S64x16x32x32 := m ((c : Thread nD τ).loc main_arg7)
noncomputable abbrev a8 : A S64x16x32x32 := m ((c : Thread nD τ).loc main_arg8)
noncomputable abbrev a9 : A S64x16x32x32 := m ((c : Thread nD τ).loc main_arg9)
noncomputable abbrev a10 : A S64x16x32x32 := m ((c : Thread nD τ).loc main_arg10)
noncomputable abbrev a11 : A S64x16x32x32 := m ((c : Thread nD τ).loc main_arg11)
noncomputable abbrev a12 : A S64x16x32x32 := m ((c : Thread nD τ).loc main_arg12)
noncomputable abbrev a13 : A S64x16x32x32 := m ((c : Thread nD τ).loc main_arg13)
noncomputable abbrev a14 : A S64x16x32x32 := m ((c : Thread nD τ).loc main_arg14)
noncomputable abbrev a15 : A S64x16x32x32 := m ((c : Thread nD τ).loc main_arg15)
noncomputable abbrev a16 : A S64x512x32x32 := m ((c : Thread nD τ).loc main_arg16)
noncomputable abbrev a17 : A S64x1024x16x16 := m ((c : Thread nD τ).loc main_arg17)
noncomputable abbrev a18 : A S64x2048x8x8 := m ((c : Thread nD τ).loc main_arg18)
noncomputable abbrev a19 : A S64x2048x4x4 := m ((c : Thread nD τ).loc main_arg19)
noncomputable abbrev a20 : A S4 := m ((c : Thread nD τ).loc main_arg20)
noncomputable abbrev a21 : A S4 := m ((c : Thread nD τ).loc main_arg21)
noncomputable abbrev a22 : A S16x128x16 := m ((c : Thread nD τ).loc main_arg22)
noncomputable abbrev a23 : A S16x128 := m ((c : Thread nD τ).loc main_arg23)
noncomputable abbrev a24 : A S16x128 := m ((c : Thread nD τ).loc main_arg24)
noncomputable abbrev a25 : A S16x128 := m ((c : Thread nD τ).loc main_arg25)
noncomputable abbrev a26 : A S256x128 := m ((c : Thread nD τ).loc main_arg26)
noncomputable abbrev a27 : A S256 := m ((c : Thread nD τ).loc main_arg27)
noncomputable abbrev a28 : A S256 := m ((c : Thread nD τ).loc main_arg28)
noncomputable abbrev a29 : A S256 := m ((c : Thread nD τ).loc main_arg29)
noncomputable abbrev a30 : A S512x256 := m ((c : Thread nD τ).loc main_arg30)
noncomputable abbrev a31 : A S512 := m ((c : Thread nD τ).loc main_arg31)
noncomputable abbrev a32 : A S512 := m ((c : Thread nD τ).loc main_arg32)
noncomputable abbrev a33 : A S512 := m ((c : Thread nD τ).loc main_arg33)
noncomputable abbrev a34 : A S128x512 := m ((c : Thread nD τ).loc main_arg34)
noncomputable abbrev a35 : A S128x1024 := m ((c : Thread nD τ).loc main_arg35)
noncomputable abbrev a36 : A S128x2048 := m ((c : Thread nD τ).loc main_arg36)
noncomputable abbrev a37 : A S128x2048 := m ((c : Thread nD τ).loc main_arg37)
noncomputable abbrev a38 : A S4x128 := m ((c : Thread nD τ).loc main_arg38)
noncomputable abbrev a39 : A S4x128 := m ((c : Thread nD τ).loc main_arg39)
noncomputable abbrev a40 : A S4x128 := m ((c : Thread nD τ).loc main_arg40)
noncomputable abbrev a41 : A S4x128 := m ((c : Thread nD τ).loc main_arg41)
noncomputable abbrev a42 : A S16x128 := m ((c : Thread nD τ).loc main_arg42)
noncomputable abbrev a43 : A S4 := m ((c : Thread nD τ).loc main_arg43)
noncomputable abbrev a44 : A S4x16 := m ((c : Thread nD τ).loc main_arg44)
noncomputable abbrev a45 : A S4x16 := m ((c : Thread nD τ).loc main_arg45)

/-- The students. -/
noncomputable def students : Fin 16 → A S64x16x32x32 := stu (a0 m c) (a1 m c) (a2 m c) (a3 m c) (a4 m c) (a5 m c) (a6 m c) (a7 m c) (a8 m c) (a9 m c) (a10 m c) (a11 m c) (a12 m c) (a13 m c) (a14 m c) (a15 m c)

theorem student_at (n : Fin 64) (s k : Fin 16) (a : Fin 8) (b : Fin 128) : studs (V9 m ρ) c s (ix4 n k a b)
    = students m c s (ix4 n k ⟨(a.val * 128 + b.val) / 32, by omega⟩ ⟨(a.val * 128 + b.val) % 32, by omega⟩) :=
  rows16 (V9 m ρ c main_v8) (V9 m ρ c main_v9) (V9 m ρ c main_v10) (V9 m ρ c main_v11) (V9 m ρ c main_v12) (V9 m ρ c main_v13) (V9 m ρ c main_v14) (V9 m ρ c main_v15) (V9 m ρ c main_v16) (V9 m ρ c main_v17) (V9 m ρ c main_v18) (V9 m ρ c main_v19) (V9 m ρ c main_v20) (V9 m ρ c main_v21) (V9 m ρ c main_v22) (V9 m ρ c main_v23) (a0 m c) (a1 m c) (a2 m c) (a3 m c) (a4 m c) (a5 m c) (a6 m c) (a7 m c) (a8 m c) (a9 m c) (a10 m c) (a11 m c) (a12 m c) (a13 m c) (a14 m c) (a15 m c)
    (fun n k a b => (h8 (W8 m ρ c) n k a b).trans (congrFun (W8_args m ρ c main_arg0 (by decide +kernel)) _))
    (fun n k a b => (h9 (W8 m ρ c) n k a b).trans (congrFun (W8_args m ρ c main_arg1 (by decide +kernel)) _))
    (fun n k a b => (h10 (W8 m ρ c) n k a b).trans (congrFun (W8_args m ρ c main_arg2 (by decide +kernel)) _))
    (fun n k a b => (h11 (W8 m ρ c) n k a b).trans (congrFun (W8_args m ρ c main_arg3 (by decide +kernel)) _))
    (fun n k a b => (h12 (W8 m ρ c) n k a b).trans (congrFun (W8_args m ρ c main_arg4 (by decide +kernel)) _))
    (fun n k a b => (h13 (W8 m ρ c) n k a b).trans (congrFun (W8_args m ρ c main_arg5 (by decide +kernel)) _))
    (fun n k a b => (h14 (W8 m ρ c) n k a b).trans (congrFun (W8_args m ρ c main_arg6 (by decide +kernel)) _))
    (fun n k a b => (h15 (W8 m ρ c) n k a b).trans (congrFun (W8_args m ρ c main_arg7 (by decide +kernel)) _))
    (fun n k a b => (h16 (W8 m ρ c) n k a b).trans (congrFun (W8_args m ρ c main_arg8 (by decide +kernel)) _))
    (fun n k a b => (h17 (W8 m ρ c) n k a b).trans (congrFun (W8_args m ρ c main_arg9 (by decide +kernel)) _))
    (fun n k a b => (h18 (W8 m ρ c) n k a b).trans (congrFun (W8_args m ρ c main_arg10 (by decide +kernel)) _))
    (fun n k a b => (h19 (W8 m ρ c) n k a b).trans (congrFun (W8_args m ρ c main_arg11 (by decide +kernel)) _))
    (fun n k a b => (h20 (W8 m ρ c) n k a b).trans (congrFun (W8_args m ρ c main_arg12 (by decide +kernel)) _))
    (fun n k a b => (h21 (W8 m ρ c) n k a b).trans (congrFun (W8_args m ρ c main_arg13 (by decide +kernel)) _))
    (fun n k a b => (h22 (W8 m ρ c) n k a b).trans (congrFun (W8_args m ρ c main_arg14 (by decide +kernel)) _))
    (fun n k a b => (h23 (W8 m ρ c) n k a b).trans (congrFun (W8_args m ρ c main_arg15 (by decide +kernel)) _))
    s n k a b

/-- The channel descriptors of sixteen students in rows of `128`. -/
theorem chan_math (x : Fin 16 → A S64x16x8x128) (y : Fin 16 → A S64x16x32x32)
    (h : ∀ (n : Fin 64) (s k : Fin 16) (a : Fin 8) (b : Fin 128), x s (ix4 n k a b) = y s (ix4 n k ⟨(a.val * 128 + b.val) / 32, by omega⟩ ⟨(a.val * 128 + b.val) % 32, by omega⟩)) (n : Fin 64) (s k : Fin 16) :
    chan (fun a b => x s (ix4 n k a b)) = desc (fun p : Fin 1024 => y s (ix4 n k ⟨p.val / 32, by omega⟩ ⟨p.val % 32, by omega⟩)) := by
  unfold chan desc mean
  simp only [h]
  rw [sum_rows (fun p => y s (ix4 n k ⟨p.val / 32, by omega⟩ ⟨p.val % 32, by omega⟩)), iSup_rows (fun p => y s (ix4 n k ⟨p.val / 32, by omega⟩ ⟨p.val % 32, by omega⟩)), recip1024]

theorem descs_at (n : Fin 64) (s k : Fin 16) : (W10 m ρ c main_v24_0 : A S64x16x16) (ix3 n s k)
    = desc (fun p : Fin 1024 => students m c s (ix4 n k ⟨p.val / 32, by omega⟩ ⟨p.val % 32, by omega⟩)) :=
  (congrFun ((W10_arr m ρ c 16).trans (chans_eq (V9 m ρ) c)) (ix3 n s k)).trans
    (chan_math (studs (V9 m ρ) c) (students m c) (student_at m ρ c) n s k)

/-- Their maps of squares. -/
theorem map_math (x : Fin 16 → A S64x16x8x128) (y : Fin 16 → A S64x16x32x32)
    (h : ∀ (n : Fin 64) (s k : Fin 16) (a : Fin 8) (b : Fin 128), x s (ix4 n k a b) = y s (ix4 n k ⟨(a.val * 128 + b.val) / 32, by omega⟩ ⟨(a.val * 128 + b.val) % 32, by omega⟩)) (n : Fin 64) (s : Fin 16)
    (q : ℕ) (hq : q < 1024) :
    (∑ k : Fin 16, x s (ix4 n k ⟨q / 128, by omega⟩ ⟨q % 128, by omega⟩) * x s (ix4 n k ⟨q / 128, by omega⟩ ⟨q % 128, by omega⟩))
      * lit 0x3D800000#32
    = mean (lit 0x41800000#32) (fun k => y s (ix4 n k ⟨q / 32, by omega⟩ ⟨q % 32, by omega⟩) * y s (ix4 n k ⟨q / 32, by omega⟩ ⟨q % 32, by omega⟩)) := by
  simp only [h]
  have e : q / 128 * 128 + q % 128 = q := by omega
  simp only [e]
  exact recip16 _

theorem map_at (n : Fin 64) (s : Fin 16) (q : ℕ) (h : q < 1024) :
    (W10 m ρ c main_v24_1 : A S64x16x8x128) (ix4 n s ⟨q / 128, by omega⟩ ⟨q % 128, by omega⟩)
    = sq (a0 m c) (a1 m c) (a2 m c) (a3 m c) (a4 m c) (a5 m c) (a6 m c) (a7 m c) (a8 m c) (a9 m c) (a10 m c) (a11 m c) (a12 m c) (a13 m c) (a14 m c) (a15 m c) n s ⟨q / 32, by omega⟩ ⟨q % 32, by omega⟩ :=
  (congrFun ((W10_arr m ρ c 17).trans (maps_eq (V9 m ρ) c)) (ix4 n s ⟨q / 128, by omega⟩ ⟨q % 128, by omega⟩)).trans
    (map_math (studs (V9 m ρ) c) (students m c) (student_at m ρ c) n s q h)

theorem teacher0_at (n : Fin 64) (k : Fin 512) (a : Fin 8) (b : Fin 128) : (V1 m ρ c main_v0 : A S64x512x8x128) (ix4 n k a b) = a16 m c (ix4 n k ⟨(a.val * 128 + b.val) / 32, by omega⟩ ⟨(a.val * 128 + b.val) % 32, by omega⟩) :=
  (h0 (W0 m ρ c) n k a b).trans (congrFun (W0_args m ρ c main_arg16 (by decide +kernel)) _)

theorem teacher1_at (n : Fin 64) (k : Fin 256) (a : Fin 8) (b : Fin 128) : (V3 m ρ c main_v2 : A S64x256x8x128) (ix4 n k a b) = a17 m c (ix4 n ⟨k.val * 4 + a.val / 2, by omega⟩ ⟨(a.val % 2 * 128 + b.val) / 16, by omega⟩ ⟨(a.val % 2 * 128 + b.val) % 16, by omega⟩) :=
  (h2 (W2 m ρ c) n k a b).trans (congrFun (W2_args m ρ c main_arg17 (by decide +kernel)) _)

theorem teacher2_at (n : Fin 64) (k : Fin 128) (a : Fin 8) (b : Fin 128) : (V5 m ρ c main_v4 : A S64x128x8x128) (ix4 n k a b) = a18 m c (ix4 n ⟨k.val * 16 + a.val * 2 + b.val / 64, by omega⟩ ⟨b.val % 64 / 8, by omega⟩ ⟨b.val % 8, by omega⟩) :=
  (h4 (W4 m ρ c) n k a b).trans (congrFun (W4_args m ρ c main_arg18 (by decide +kernel)) _)

theorem teacher3_at (n : Fin 64) (k : Fin 2048) (a : Fin 16) : (V7 m ρ c main_v6 : A S64x2048x16) (ix3 n k a) = a19 m c (ix4 n k ⟨a.val / 4, by omega⟩ ⟨a.val % 4, by omega⟩) :=
  (h6 (W6 m ρ c) n k a).trans (congrFun (W6_args m ρ c main_arg19 (by decide +kernel)) _)

/-- Teacher `0`: channel means. -/
theorem means0_at (n : Fin 64) (k : Fin 512) : (W10 m ρ c main_v1_0 : A S64x512) (ix2 n k) = mean (lit 0x44800000#32) (fun p : Fin 1024 => a16 m c (ix4 n k ⟨p.val / 32, by omega⟩ ⟨p.val % 32, by omega⟩)) :=
  (congrFun (((((((((W10_of m ρ c main_v1_0 (by decide +kernel)).trans (W9_of m ρ c main_v1_0 (by decide +kernel))).trans (W8_of m ρ c main_v1_0 (by decide +kernel))).trans (W7_of m ρ c main_v1_0 (by decide +kernel))).trans (W6_of m ρ c main_v1_0 (by decide +kernel))).trans (W5_of m ρ c main_v1_0 (by decide +kernel))).trans (W4_of m ρ c main_v1_0 (by decide +kernel))).trans (W3_of m ρ c main_v1_0 (by decide +kernel))).trans ((W2_arr m ρ c 1).trans (means0_eq (V1 m ρ) c))) (ix2 n k)).trans
    (means0_math (V1 m ρ c main_v0) (a16 m c) (teacher0_at m ρ c) n k)

/-- Teacher `0`: map of squares. -/
theorem squares0_at (n : Fin 64) (p : Fin 1024) : (W10 m ρ c main_v1_1 : A S64x8x128) (ix3 n ⟨p.val / 128, by omega⟩ ⟨p.val % 128, by omega⟩) = mean (lit 0x44000000#32) (fun k : Fin 512 => a16 m c (ix4 n k ⟨p.val / 32, by omega⟩ ⟨p.val % 32, by omega⟩) * a16 m c (ix4 n k ⟨p.val / 32, by omega⟩ ⟨p.val % 32, by omega⟩)) :=
  (congrFun (((((((((W10_of m ρ c main_v1_1 (by decide +kernel)).trans (W9_of m ρ c main_v1_1 (by decide +kernel))).trans (W8_of m ρ c main_v1_1 (by decide +kernel))).trans (W7_of m ρ c main_v1_1 (by decide +kernel))).trans (W6_of m ρ c main_v1_1 (by decide +kernel))).trans (W5_of m ρ c main_v1_1 (by decide +kernel))).trans (W4_of m ρ c main_v1_1 (by decide +kernel))).trans (W3_of m ρ c main_v1_1 (by decide +kernel))).trans ((W2_arr m ρ c 2).trans (maps0_eq (V1 m ρ) c))) (ix3 n ⟨p.val / 128, by omega⟩ ⟨p.val % 128, by omega⟩)).trans
    (squares0_math (V1 m ρ c main_v0) (a16 m c) (teacher0_at m ρ c) n p)

/-- Teacher `1`: channel means. -/
theorem means1_at (n : Fin 64) (q : Fin 1024) : (W10 m ρ c main_v3_0 : A S64x256x4) (ix3 n ⟨q.val / 4, by omega⟩ ⟨q.val % 4, by omega⟩) = mean (lit 0x43800000#32) (fun p : Fin 256 => a17 m c (ix4 n q ⟨p.val / 16, by omega⟩ ⟨p.val % 16, by omega⟩)) :=
  (congrFun (((((((W10_of m ρ c main_v3_0 (by decide +kernel)).trans (W9_of m ρ c main_v3_0 (by decide +kernel))).trans (W8_of m ρ c main_v3_0 (by decide +kernel))).trans (W7_of m ρ c main_v3_0 (by decide +kernel))).trans (W6_of m ρ c main_v3_0 (by decide +kernel))).trans (W5_of m ρ c main_v3_0 (by decide +kernel))).trans ((W4_arr m ρ c 1).trans (means1_eq (V3 m ρ) c))) (ix3 n ⟨q.val / 4, by omega⟩ ⟨q.val % 4, by omega⟩)).trans
    (means1_math (V3 m ρ c main_v2) (a17 m c) (teacher1_at m ρ c) n q)

/-- Teacher `1`: map of squares. -/
theorem squares1_at (n : Fin 64) (p : Fin 256) : (W10 m ρ c main_v3_1 : A S64x2x128) (ix3 n ⟨p.val / 128, by omega⟩ ⟨p.val % 128, by omega⟩) = mean (lit 0x44800000#32) (fun k : Fin 1024 => a17 m c (ix4 n k ⟨p.val / 16, by omega⟩ ⟨p.val % 16, by omega⟩) * a17 m c (ix4 n k ⟨p.val / 16, by omega⟩ ⟨p.val % 16, by omega⟩)) :=
  (congrFun (((((((W10_of m ρ c main_v3_1 (by decide +kernel)).trans (W9_of m ρ c main_v3_1 (by decide +kernel))).trans (W8_of m ρ c main_v3_1 (by decide +kernel))).trans (W7_of m ρ c main_v3_1 (by decide +kernel))).trans (W6_of m ρ c main_v3_1 (by decide +kernel))).trans (W5_of m ρ c main_v3_1 (by decide +kernel))).trans ((W4_arr m ρ c 2).trans (maps1_eq (V3 m ρ) c))) (ix3 n ⟨p.val / 128, by omega⟩ ⟨p.val % 128, by omega⟩)).trans
    (squares1_math (V3 m ρ c main_v2) (a17 m c) (teacher1_at m ρ c) n p)

/-- Teacher `2`: the even channels' means. -/
theorem means2_at (n : Fin 64) (q : Fin 1024) : (W10 m ρ c main_v5_0 : A S64x128x8) (ix3 n ⟨q.val / 8, by omega⟩ ⟨q.val % 8, by omega⟩) = mean (lit 0x42800000#32) (fun p : Fin 64 => a18 m c (ix4 n ⟨2 * q.val, by omega⟩ ⟨p.val / 8, by omega⟩ ⟨p.val % 8, by omega⟩)) :=
  (congrFun (((((W10_of m ρ c main_v5_0 (by decide +kernel)).trans (W9_of m ρ c main_v5_0 (by decide +kernel))).trans (W8_of m ρ c main_v5_0 (by decide +kernel))).trans (W7_of m ρ c main_v5_0 (by decide +kernel))).trans ((W6_arr m ρ c 1).trans (means2_eq (V5 m ρ) c))) (ix3 n ⟨q.val / 8, by omega⟩ ⟨q.val % 8, by omega⟩)).trans
    (means2_math (V5 m ρ c main_v4) (a18 m c) (teacher2_at m ρ c) n q)

/-- Teacher `2`: the odd channels' means. -/
theorem odds2_at (n : Fin 64) (q : Fin 1024) : (W10 m ρ c main_v5_1 : A S64x128x8) (ix3 n ⟨q.val / 8, by omega⟩ ⟨q.val % 8, by omega⟩) = mean (lit 0x42800000#32) (fun p : Fin 64 => a18 m c (ix4 n ⟨2 * q.val + 1, by omega⟩ ⟨p.val / 8, by omega⟩ ⟨p.val % 8, by omega⟩)) :=
  (congrFun (((((W10_of m ρ c main_v5_1 (by decide +kernel)).trans (W9_of m ρ c main_v5_1 (by decide +kernel))).trans (W8_of m ρ c main_v5_1 (by decide +kernel))).trans (W7_of m ρ c main_v5_1 (by decide +kernel))).trans ((W6_arr m ρ c 2).trans (odds2_eq (V5 m ρ) c))) (ix3 n ⟨q.val / 8, by omega⟩ ⟨q.val % 8, by omega⟩)).trans
    (odds2_math (V5 m ρ c main_v4) (a18 m c) (teacher2_at m ρ c) n q)

/-- Teacher `2`: map of squares. -/
theorem squares2_at (n : Fin 64) (p : Fin 64) : (W10 m ρ c main_v5_2 : A S64x64) (ix2 n p) = mean (lit 0x45000000#32) (fun k : Fin 2048 => a18 m c (ix4 n k ⟨p.val / 8, by omega⟩ ⟨p.val % 8, by omega⟩) * a18 m c (ix4 n k ⟨p.val / 8, by omega⟩ ⟨p.val % 8, by omega⟩)) :=
  (congrFun (((((W10_of m ρ c main_v5_2 (by decide +kernel)).trans (W9_of m ρ c main_v5_2 (by decide +kernel))).trans (W8_of m ρ c main_v5_2 (by decide +kernel))).trans (W7_of m ρ c main_v5_2 (by decide +kernel))).trans ((W6_arr m ρ c 3).trans (maps2_eq (V5 m ρ) c))) (ix2 n p)).trans
    (squares2_math (V5 m ρ c main_v4) (a18 m c) (teacher2_at m ρ c) n p)

/-- Teacher `3`: channel means. -/
theorem means3_at (n : Fin 64) (k : Fin 2048) : (W10 m ρ c main_v7_0 : A S64x2048) (ix2 n k) = mean (lit 0x41800000#32) (fun p : Fin 16 => a19 m c (ix4 n k ⟨p.val / 4, by omega⟩ ⟨p.val % 4, by omega⟩)) :=
  (congrFun (((W10_of m ρ c main_v7_0 (by decide +kernel)).trans (W9_of m ρ c main_v7_0 (by decide +kernel))).trans ((W8_arr m ρ c 1).trans (means3_eq (V7 m ρ) c))) (ix2 n k)).trans
    (means3_math (V7 m ρ c main_v6) (a19 m c) (teacher3_at m ρ c) n k)

/-- Teacher `3`: map of squares. -/
theorem squares3_at (n : Fin 64) (p : Fin 16) : (W10 m ρ c main_v7_1 : A S64x16) (ix2 n p) = mean (lit 0x45000000#32) (fun k : Fin 2048 => a19 m c (ix4 n k ⟨p.val / 4, by omega⟩ ⟨p.val % 4, by omega⟩) * a19 m c (ix4 n k ⟨p.val / 4, by omega⟩ ⟨p.val % 4, by omega⟩)) :=
  (congrFun (((W10_of m ρ c main_v7_1 (by decide +kernel)).trans (W9_of m ρ c main_v7_1 (by decide +kernel))).trans ((W8_arr m ρ c 2).trans (maps3_eq (V7 m ρ) c))) (ix2 n p)).trans
    (squares3_math (V7 m ρ c main_v6) (a19 m c) (teacher3_at m ρ c) n p)

end Cert.KernelIdeal.Run
-- ==== Proof.Arrays.lean ====
/-
  The last call has one grid point, so its blocks are whole arrays.
-/
module

public import Idealize.ShloMosaic.Lib.Pipeline.ValueKit
public import proofs.«01_k».proof.Proof.Flat
public import proofs.«01_k».proof.Proof.KernelIdealRegion

@[expose] public section

set_option maxRecDepth 16384

namespace Cert.KernelIdeal.Epi

open Idealize Idealize.ShloMosaic Idealize.ShloMosaic.TcCoe Cert.KernelIdeal Cert.KernelIdeal.Gen Cert.Reference

variable (V : (c : Dev nD) → (b : Ref sig .tc) → Buf (Elt Ideal) ((c : Thread nD τ).loc b)) (c : Dev nD) (t : Fin cfg5.N)

/-- The blocks of the last call as whole arrays. -/
noncomputable def arrays : Blocks Ideal where
  x0 := (V c main_v24_0 : A S64x16x16)
  x1 := (V c main_v25 : A S64x16x1024)
  x2 := (V c main_v28 : A S4x1024x256)
  x3 := (V c main_v31 : A S16x1024x64)
  x4 := (V c main_v34 : A S1024x16x64)
  x5 := (V c main_v1_0 : A S64x512)
  x6 := (V c main_v35 : A S64x1024)
  x7 := (V c main_v36 : A S64x1024)
  x8 := (V c main_v37 : A S64x1024)
  x9 := (V c main_v7_0 : A S64x2048)
  x10 := (V c main_v38 : A S64x1024)
  x11 := (V c main_v39 : A S64x256)
  x12 := (V c main_v5_2 : A S64x64)
  x13 := (V c main_v7_1 : A S64x16)
  x14 := (V c main_v40 : A S1x4)
  x15 := (V c main_v41 : A S1x4)
  x16 := (V c main_arg22 : A S16x128x16)
  x17 := (V c main_arg23 : A S16x128)
  x18 := (V c main_arg24 : A S16x128)
  x19 := (V c main_arg25 : A S16x128)
  x20 := (V c main_arg26 : A S256x128)
  x21 := (V c main_v42 : A S1x256)
  x22 := (V c main_v43 : A S1x256)
  x23 := (V c main_v44 : A S1x256)
  x24 := (V c main_arg30 : A S512x256)
  x25 := (V c main_v45 : A S1x512)
  x26 := (V c main_v46 : A S1x512)
  x27 := (V c main_v47 : A S1x512)
  x28 := (V c main_arg34 : A S128x512)
  x29 := (V c main_arg35 : A S128x1024)
  x30 := (V c main_v48 : A S128x1024)
  x31 := (V c main_v49 : A S128x1024)
  x32 := (V c main_arg37 : A S128x2048)
  x33 := (V c main_arg38 : A S4x128)
  x34 := (V c main_arg39 : A S4x128)
  x35 := (V c main_arg40 : A S4x128)
  x36 := (V c main_arg41 : A S4x128)
  x37 := (V c main_arg42 : A S16x128)
  x38 := (V c main_v50 : A S1x4)
  x39 := (V c main_v54 : A S16x1024)
  x40 := (V c main_v58 : A S16x256)
  x41 := (V c main_v62 : A S16x64)
  x42 := (V c main_v66 : A S16x16)
  x43 := (V c main_v70 : A S16x1024)
  x44 := (V c main_v74 : A S16x256)
  x45 := (V c main_v78 : A S16x64)
  x46 := (V c main_v82 : A S16x16)

end Cert.KernelIdeal.Epi
-- ==== Proof.Held.lean ====
/-
  The last call's reduced data are those of the arguments, piece by piece.
-/
module

public import Idealize.ShloMosaic.Lib.Pipeline.ValueKit
public import proofs.«01_k».proof.Proof.Entry
public import proofs.«01_k».proof.Proof.Arrays
public import proofs.«01_k».proof.Proof.Tiles

@[expose] public section

set_option maxRecDepth 16384

namespace Cert.KernelIdeal.Run

open Idealize Idealize.ShloMosaic Idealize.ShloMosaic.TcCoe Cert.KernelIdeal Cert.KernelIdeal.Gen Cert.KernelIdeal.Host
open Cert.KernelIdeal.Epi Cert.Spec Cert.Reference

variable (m : (ℓ : Loc nD τ sig) → Buf (Elt Ideal) ℓ) (ρ : Dev nD → PrngReg) (c : Dev nD)

theorem pooled2_at (n : Fin 64) (s : Fin 16) (p : Fin 256) (k : Fin 4) :
    (W11 m ρ c main_v28 : A S4x1024x256) (ix3 k ⟨n.val * 16 + s.val, by omega⟩ p)
      = sq (a0 m c) (a1 m c) (a2 m c) (a3 m c) (a4 m c) (a5 m c) (a6 m c) (a7 m c) (a8 m c) (a9 m c) (a10 m c) (a11 m c) (a12 m c) (a13 m c) (a14 m c) (a15 m c) n s ⟨p.val / 16 * 2 + k.val / 2, by omega⟩ ⟨p.val % 16 * 2 + k.val % 2, by omega⟩ :=
  (h28 (W10 m ρ c) k n s p).trans ((map_at m ρ c n s _ (by omega)).trans (by
    congr 1 <;> (apply Fin.ext; dsimp only; omega)))

theorem pooled4_at (n : Fin 64) (s : Fin 16) (p : Fin 64) (k : Fin 16) :
    (W11 m ρ c main_v31 : A S16x1024x64) (ix3 k ⟨n.val * 16 + s.val, by omega⟩ p)
      = sq (a0 m c) (a1 m c) (a2 m c) (a3 m c) (a4 m c) (a5 m c) (a6 m c) (a7 m c) (a8 m c) (a9 m c) (a10 m c) (a11 m c) (a12 m c) (a13 m c) (a14 m c) (a15 m c) n s ⟨p.val / 8 * 4 + k.val / 4, by omega⟩ ⟨p.val % 8 * 4 + k.val % 4, by omega⟩ :=
  (h31 (W10 m ρ c) k n s p).trans ((map_at m ρ c n s _ (by omega)).trans (by
    congr 1 <;> (apply Fin.ext; dsimp only; omega)))

theorem pooled8_at (n : Fin 64) (s : Fin 16) (p : Fin 16) (k : Fin 64) :
    (W11 m ρ c main_v34 : A S1024x16x64) (ix3 ⟨n.val * 16 + s.val, by omega⟩ p k)
      = sq (a0 m c) (a1 m c) (a2 m c) (a3 m c) (a4 m c) (a5 m c) (a6 m c) (a7 m c) (a8 m c) (a9 m c) (a10 m c) (a11 m c) (a12 m c) (a13 m c) (a14 m c) (a15 m c) n s ⟨p.val / 4 * 8 + k.val / 8, by omega⟩ ⟨p.val % 4 * 8 + k.val % 8, by omega⟩ :=
  (h34 (W10 m ρ c) n s p k).trans ((map_at m ρ c n s _ (by omega)).trans (by
    congr 1 <;> (apply Fin.ext; dsimp only; omega)))

theorem window0 : ∀ (n : Fin 64) (s k : Fin 16), (W11 m ρ c main_v24_0 : A S64x16x16) (ix3 n s k) = desc (fun p : Fin 1024 => stu (a0 m c) (a1 m c) (a2 m c) (a3 m c) (a4 m c) (a5 m c) (a6 m c) (a7 m c) (a8 m c) (a9 m c) (a10 m c) (a11 m c) (a12 m c) (a13 m c) (a14 m c) (a15 m c) s (ix4 n k ⟨p.val / 32, by omega⟩ ⟨p.val % 32, by omega⟩)) :=
  fun n s k =>
  (congrFun (W11_of m ρ c main_v24_0 (by decide +kernel)) _).trans (descs_at m ρ c n s k)

theorem window1 : ∀ (n : Fin 64) (s : Fin 16) (p : Fin 1024), (W11 m ρ c main_v25 : A S64x16x1024) (ix3 n s p) = sq (a0 m c) (a1 m c) (a2 m c) (a3 m c) (a4 m c) (a5 m c) (a6 m c) (a7 m c) (a8 m c) (a9 m c) (a10 m c) (a11 m c) (a12 m c) (a13 m c) (a14 m c) (a15 m c) n s ⟨p.val / 32, by omega⟩ ⟨p.val % 32, by omega⟩ :=
  fun n s p =>
  (h25 (W10 m ρ c) n s p).trans (map_at m ρ c n s p.val p.isLt)

theorem window2 : ∀ (n : Fin 64) (s : Fin 16) (p : Fin 256) (k : Fin 4), (W11 m ρ c main_v28 : A S4x1024x256) (ix3 k ⟨n.val * 16 + s.val, by omega⟩ p) = sq (a0 m c) (a1 m c) (a2 m c) (a3 m c) (a4 m c) (a5 m c) (a6 m c) (a7 m c) (a8 m c) (a9 m c) (a10 m c) (a11 m c) (a12 m c) (a13 m c) (a14 m c) (a15 m c) n s ⟨p.val / 16 * 2 + k.val / 2, by omega⟩ ⟨p.val % 16 * 2 + k.val % 2, by omega⟩ :=
  fun n s p k =>
  pooled2_at m ρ c n s p k

theorem window3 : ∀ (n : Fin 64) (s : Fin 16) (p : Fin 64) (k : Fin 16), (W11 m ρ c main_v31 : A S16x1024x64) (ix3 k ⟨n.val * 16 + s.val, by omega⟩ p) = sq (a0 m c) (a1 m c) (a2 m c) (a3 m c) (a4 m c) (a5 m c) (a6 m c) (a7 m c) (a8 m c) (a9 m c) (a10 m c) (a11 m c) (a12 m c) (a13 m c) (a14 m c) (a15 m c) n s ⟨p.val / 8 * 4 + k.val / 4, by omega⟩ ⟨p.val % 8 * 4 + k.val % 4, by omega⟩ :=
  fun n s p k =>
  pooled4_at m ρ c n s p k

theorem window4 : ∀ (n : Fin 64) (s : Fin 16) (p : Fin 16) (k : Fin 64), (W11 m ρ c main_v34 : A S1024x16x64) (ix3 ⟨n.val * 16 + s.val, by omega⟩ p k) = sq (a0 m c) (a1 m c) (a2 m c) (a3 m c) (a4 m c) (a5 m c) (a6 m c) (a7 m c) (a8 m c) (a9 m c) (a10 m c) (a11 m c) (a12 m c) (a13 m c) (a14 m c) (a15 m c) n s ⟨p.val / 4 * 8 + k.val / 8, by omega⟩ ⟨p.val % 4 * 8 + k.val % 8, by omega⟩ :=
  fun n s p k =>
  pooled8_at m ρ c n s p k

theorem window5 : ∀ (n : Fin 64) (k : Fin 512), (W11 m ρ c main_v1_0 : A S64x512) (ix2 n k) = mean (lit 0x44800000#32) (fun p : Fin 1024 => a16 m c (ix4 n k ⟨p.val / 32, by omega⟩ ⟨p.val % 32, by omega⟩)) :=
  fun n k =>
  (congrFun (W11_of m ρ c main_v1_0 (by decide +kernel)) _).trans (means0_at m ρ c n k)

theorem window6 : ∀ (n : Fin 64) (k : Fin 1024), (W11 m ρ c main_v35 : A S64x1024) (ix2 n k) = mean (lit 0x43800000#32) (fun p : Fin 256 => a17 m c (ix4 n k ⟨p.val / 16, by omega⟩ ⟨p.val % 16, by omega⟩)) :=
  fun n k =>
  (h35 (W10 m ρ c) n k).trans (means1_at m ρ c n k)

theorem window7 : ∀ (n : Fin 64) (k : Fin 1024), (W11 m ρ c main_v36 : A S64x1024) (ix2 n k) = mean (lit 0x42800000#32) (fun p : Fin 64 => a18 m c (ix4 n ⟨2 * k.val, by omega⟩ ⟨p.val / 8, by omega⟩ ⟨p.val % 8, by omega⟩)) :=
  fun n k =>
  (h36 (W10 m ρ c) n k).trans (means2_at m ρ c n k)

theorem window8 : ∀ (n : Fin 64) (k : Fin 1024), (W11 m ρ c main_v37 : A S64x1024) (ix2 n k) = mean (lit 0x42800000#32) (fun p : Fin 64 => a18 m c (ix4 n ⟨2 * k.val + 1, by omega⟩ ⟨p.val / 8, by omega⟩ ⟨p.val % 8, by omega⟩)) :=
  fun n k =>
  (h37 (W10 m ρ c) n k).trans (odds2_at m ρ c n k)

theorem window9 : ∀ (n : Fin 64) (k : Fin 2048), (W11 m ρ c main_v7_0 : A S64x2048) (ix2 n k) = mean (lit 0x41800000#32) (fun p : Fin 16 => a19 m c (ix4 n k ⟨p.val / 4, by omega⟩ ⟨p.val % 4, by omega⟩)) :=
  fun n k =>
  (congrFun (W11_of m ρ c main_v7_0 (by decide +kernel)) _).trans (means3_at m ρ c n k)

theorem window10 : ∀ (n : Fin 64) (p : Fin 1024), (W11 m ρ c main_v38 : A S64x1024) (ix2 n p) = mean (lit 0x44000000#32) (fun k : Fin 512 => a16 m c (ix4 n k ⟨p.val / 32, by omega⟩ ⟨p.val % 32, by omega⟩) * a16 m c (ix4 n k ⟨p.val / 32, by omega⟩ ⟨p.val % 32, by omega⟩)) :=
  fun n p =>
  (h38 (W10 m ρ c) n p).trans (squares0_at m ρ c n p)

theorem window11 : ∀ (n : Fin 64) (p : Fin 256), (W11 m ρ c main_v39 : A S64x256) (ix2 n p) = mean (lit 0x44800000#32) (fun k : Fin 1024 => a17 m c (ix4 n k ⟨p.val / 16, by omega⟩ ⟨p.val % 16, by omega⟩) * a17 m c (ix4 n k ⟨p.val / 16, by omega⟩ ⟨p.val % 16, by omega⟩)) :=
  fun n p =>
  (h39 (W10 m ρ c) n p).trans (squares1_at m ρ c n p)

theorem window12 : ∀ (n : Fin 64) (p : Fin 64), (W11 m ρ c main_v5_2 : A S64x64) (ix2 n p) = mean (lit 0x45000000#32) (fun k : Fin 2048 => a18 m c (ix4 n k ⟨p.val / 8, by omega⟩ ⟨p.val % 8, by omega⟩) * a18 m c (ix4 n k ⟨p.val / 8, by omega⟩ ⟨p.val % 8, by omega⟩)) :=
  fun n p =>
  (congrFun (W11_of m ρ c main_v5_2 (by decide +kernel)) _).trans (squares2_at m ρ c n p)

theorem window13 : ∀ (n : Fin 64) (p : Fin 16), (W11 m ρ c main_v7_1 : A S64x16) (ix2 n p) = mean (lit 0x45000000#32) (fun k : Fin 2048 => a19 m c (ix4 n k ⟨p.val / 4, by omega⟩ ⟨p.val % 4, by omega⟩) * a19 m c (ix4 n k ⟨p.val / 4, by omega⟩ ⟨p.val % 4, by omega⟩)) :=
  fun n p =>
  (congrFun (W11_of m ρ c main_v7_1 (by decide +kernel)) _).trans (squares3_at m ρ c n p)

theorem window14 : ∀ (t : Fin 4), (W11 m ρ c main_v40 : A S1x4) (ix2 0 t) = a20 m c (ix1 t) :=
  fun t =>
  (h40 (W10 m ρ c) t).trans (congrFun (W10_args m ρ c main_arg20 (by decide +kernel)) _)

theorem window15 : ∀ (t : Fin 4), (W11 m ρ c main_v41 : A S1x4) (ix2 0 t) = a21 m c (ix1 t) :=
  fun t =>
  (h41 (W10 m ρ c) t).trans (congrFun (W10_args m ρ c main_arg21 (by decide +kernel)) _)

theorem window16 : (W11 m ρ c main_arg22 : A S16x128x16) = a22 m c :=
  W11_args m ρ c main_arg22 (by decide +kernel)

theorem window17 : (W11 m ρ c main_arg23 : A S16x128) = a23 m c :=
  W11_args m ρ c main_arg23 (by decide +kernel)

theorem window18 : (W11 m ρ c main_arg24 : A S16x128) = a24 m c :=
  W11_args m ρ c main_arg24 (by decide +kernel)

theorem window19 : (W11 m ρ c main_arg25 : A S16x128) = a25 m c :=
  W11_args m ρ c main_arg25 (by decide +kernel)

theorem window20 : (W11 m ρ c main_arg26 : A S256x128) = a26 m c :=
  W11_args m ρ c main_arg26 (by decide +kernel)

theorem window21 : ∀ (o : Fin 256), (W11 m ρ c main_v42 : A S1x256) (ix2 0 o) = a27 m c (ix1 o) :=
  fun o =>
  (h42 (W10 m ρ c) o).trans (congrFun (W10_args m ρ c main_arg27 (by decide +kernel)) _)

theorem window22 : ∀ (o : Fin 256), (W11 m ρ c main_v43 : A S1x256) (ix2 0 o) = a28 m c (ix1 o) :=
  fun o =>
  (h43 (W10 m ρ c) o).trans (congrFun (W10_args m ρ c main_arg28 (by decide +kernel)) _)

theorem window23 : ∀ (o : Fin 256), (W11 m ρ c main_v44 : A S1x256) (ix2 0 o) = a29 m c (ix1 o) :=
  fun o =>
  (h44 (W10 m ρ c) o).trans (congrFun (W10_args m ρ c main_arg29 (by decide +kernel)) _)

theorem window24 : (W11 m ρ c main_arg30 : A S512x256) = a30 m c :=
  W11_args m ρ c main_arg30 (by decide +kernel)

theorem window25 : ∀ (o : Fin 512), (W11 m ρ c main_v45 : A S1x512) (ix2 0 o) = a31 m c (ix1 o) :=
  fun o =>
  (h45 (W10 m ρ c) o).trans (congrFun (W10_args m ρ c main_arg31 (by decide +kernel)) _)

theorem window26 : ∀ (o : Fin 512), (W11 m ρ c main_v46 : A S1x512) (ix2 0 o) = a32 m c (ix1 o) :=
  fun o =>
  (h46 (W10 m ρ c) o).trans (congrFun (W10_args m ρ c main_arg32 (by decide +kernel)) _)

theorem window27 : ∀ (o : Fin 512), (W11 m ρ c main_v47 : A S1x512) (ix2 0 o) = a33 m c (ix1 o) :=
  fun o =>
  (h47 (W10 m ρ c) o).trans (congrFun (W10_args m ρ c main_arg33 (by decide +kernel)) _)

theorem window28 : (W11 m ρ c main_arg34 : A S128x512) = a34 m c :=
  W11_args m ρ c main_arg34 (by decide +kernel)

theorem window29 : (W11 m ρ c main_arg35 : A S128x1024) = a35 m c :=
  W11_args m ρ c main_arg35 (by decide +kernel)

theorem window30 : ∀ (j : Fin 128) (k : Fin 1024), (W11 m ρ c main_v48 : A S128x1024) (ix2 j k) = a36 m c (ix2 j ⟨2 * k.val, by omega⟩) :=
  fun j k =>
  (h48 (W10 m ρ c) j k).trans (congrFun (W10_args m ρ c main_arg36 (by decide +kernel)) _)

theorem window31 : ∀ (j : Fin 128) (k : Fin 1024), (W11 m ρ c main_v49 : A S128x1024) (ix2 j k) = a36 m c (ix2 j ⟨2 * k.val + 1, by omega⟩) :=
  fun j k =>
  (h49 (W10 m ρ c) j k).trans (congrFun (W10_args m ρ c main_arg36 (by decide +kernel)) _)

theorem window32 : (W11 m ρ c main_arg37 : A S128x2048) = a37 m c :=
  W11_args m ρ c main_arg37 (by decide +kernel)

theorem window33 : (W11 m ρ c main_arg38 : A S4x128) = a38 m c :=
  W11_args m ρ c main_arg38 (by decide +kernel)

theorem window34 : (W11 m ρ c main_arg39 : A S4x128) = a39 m c :=
  W11_args m ρ c main_arg39 (by decide +kernel)

theorem window35 : (W11 m ρ c main_arg40 : A S4x128) = a40 m c :=
  W11_args m ρ c main_arg40 (by decide +kernel)

theorem window36 : (W11 m ρ c main_arg41 : A S4x128) = a41 m c :=
  W11_args m ρ c main_arg41 (by decide +kernel)

theorem window37 : (W11 m ρ c main_arg42 : A S16x128) = a42 m c :=
  W11_args m ρ c main_arg42 (by decide +kernel)

theorem window38 : ∀ (t : Fin 4), (W11 m ρ c main_v50 : A S1x4) (ix2 0 t) = a43 m c (ix1 t) :=
  fun t =>
  (h50 (W10 m ρ c) t).trans (congrFun (W10_args m ρ c main_arg43 (by decide +kernel)) _)

theorem window39 : ∀ (s : Fin 16) (p : Fin 1024), (W11 m ρ c main_v54 : A S16x1024) (ix2 s p) = a44 m c (ix2 0 s) :=
  fun s p =>
  (h54 (W10 m ρ c) s p).trans (congrFun (W10_args m ρ c main_arg44 (by decide +kernel)) _)

theorem window40 : ∀ (s : Fin 16) (p : Fin 256), (W11 m ρ c main_v58 : A S16x256) (ix2 s p) = a44 m c (ix2 1 s) :=
  fun s p =>
  (h58 (W10 m ρ c) s p).trans (congrFun (W10_args m ρ c main_arg44 (by decide +kernel)) _)

theorem window41 : ∀ (s : Fin 16) (p : Fin 64), (W11 m ρ c main_v62 : A S16x64) (ix2 s p) = a44 m c (ix2 2 s) :=
  fun s p =>
  (h62 (W10 m ρ c) s p).trans (congrFun (W10_args m ρ c main_arg44 (by decide +kernel)) _)

theorem window42 : ∀ (s : Fin 16) (p : Fin 16), (W11 m ρ c main_v66 : A S16x16) (ix2 s p) = a44 m c (ix2 3 s) :=
  fun s p =>
  (h66 (W10 m ρ c) s p).trans (congrFun (W10_args m ρ c main_arg44 (by decide +kernel)) _)

theorem window43 : ∀ (s : Fin 16) (p : Fin 1024), (W11 m ρ c main_v70 : A S16x1024) (ix2 s p) = a45 m c (ix2 0 s) :=
  fun s p =>
  (h70 (W10 m ρ c) s p).trans (congrFun (W10_args m ρ c main_arg45 (by decide +kernel)) _)

theorem window44 : ∀ (s : Fin 16) (p : Fin 256), (W11 m ρ c main_v74 : A S16x256) (ix2 s p) = a45 m c (ix2 1 s) :=
  fun s p =>
  (h74 (W10 m ρ c) s p).trans (congrFun (W10_args m ρ c main_arg45 (by decide +kernel)) _)

theorem window45 : ∀ (s : Fin 16) (p : Fin 64), (W11 m ρ c main_v78 : A S16x64) (ix2 s p) = a45 m c (ix2 2 s) :=
  fun s p =>
  (h78 (W10 m ρ c) s p).trans (congrFun (W10_args m ρ c main_arg45 (by decide +kernel)) _)

theorem window46 : ∀ (s : Fin 16) (p : Fin 16), (W11 m ρ c main_v82 : A S16x16) (ix2 s p) = a45 m c (ix2 3 s) :=
  fun s p =>
  (h82 (W10 m ρ c) s p).trans (congrFun (W10_args m ρ c main_arg45 (by decide +kernel)) _)

end Cert.KernelIdeal.Run
-- ==== Proof.EpilogueKeys.lean ====
/-
  The last call's keys, queries and attention: each value it computes on the way, read at plain coordinates.
-/
module

public import Idealize.ShloMosaic.Lib.Pipeline.ValueKit
public import proofs.«01_k».proof.Proof.Spec
public import proofs.«01_k».proof.Proof.Gen.KernelIdeal.Skeleton

@[expose] public section

set_option maxRecDepth 16384

namespace Cert.Epilogue

open Idealize Idealize.ShloMosaic Cert.KernelIdeal Cert.KernelIdeal.Gen Cert.Spec

/-- An array of extended reals of a printed shape. -/
abbrev V (s : Shape) := Vec Ideal s .f32

/-- The first linear layer, before its normalisation, on the sixteen students' keys laid out as `1024` rows. -/
theorem first_layer (key : Fin 64 → Fin 16 → Fin 128 → EReal)
    (v40 v79 v118 v157 v196 v235 v274 v313 v352 v391 v430 v469 v508 v547 v586 : V S64x1x128)
    (v591 : V S64x128) (v592 v597 v599 : V S1x128) (v628 : V S256x128) (v630 : V S1x256)
    (h0 : ∀ n k, v40 (ix3 n 0 k) = key n 0 k) (h1 : ∀ n k, v79 (ix3 n 0 k) = key n 1 k)
    (h2 : ∀ n k, v118 (ix3 n 0 k) = key n 2 k) (h3 : ∀ n k, v157 (ix3 n 0 k) = key n 3 k)
    (h4 : ∀ n k, v196 (ix3 n 0 k) = key n 4 k) (h5 : ∀ n k, v235 (ix3 n 0 k) = key n 5 k)
    (h6 : ∀ n k, v274 (ix3 n 0 k) = key n 6 k) (h7 : ∀ n k, v313 (ix3 n 0 k) = key n 7 k)
    (h8 : ∀ n k, v352 (ix3 n 0 k) = key n 8 k) (h9 : ∀ n k, v391 (ix3 n 0 k) = key n 9 k)
    (h10 : ∀ n k, v430 (ix3 n 0 k) = key n 10 k) (h11 : ∀ n k, v469 (ix3 n 0 k) = key n 11 k)
    (h12 : ∀ n k, v508 (ix3 n 0 k) = key n 12 k) (h13 : ∀ n k, v547 (ix3 n 0 k) = key n 13 k)
    (h14 : ∀ n k, v586 (ix3 n 0 k) = key n 14 k)
    (h15 : ∀ n k, max (nrm (lit 0x42800000#32) (fun n => v591 (ix2 n k) + v592 (ix2 0 k)) (v597 (ix2 0 k)) (v599 (ix2 0 k)) n) 0
      = key n 15 k)
    (r : Fin 1024) (o : Fin 256) :
    k5_pay46 (F := Ideal) v40 v79 v118 v157 v196 v235 v274 v313 v352 v391 v430 v469 v508 v547 v586 v591 v592 v597 v599
        v628 v630 (ix2 r o)
      = (∑ k, key ⟨r.val / 16, by omega⟩ ⟨r.val % 16, by omega⟩ k * v628 (ix2 o k)) + v630 (ix2 0 o) := by
  unfold k5_pay46
  generalize hL : shapeCast S64x1x128 (maximumf (F := Ideal) (φ := .f32) (addf _ _) _) _ = L
  have last : ∀ n k, L (ix3 n 0 k) = key n 15 k := by
    intro n k
    rw [← hL, ← h15]
    pointwise [nrm, mean]
  clear hL
  generalize hC : concatenate S64x16x128 1 _ _ = C
  have key_of : ∀ n s k, C (ix3 n s k) = key n s k := by
    intro n s k
    rw [← hC]
    fin_cases s
    all_goals pointwise [h0, h1, h2, h3, h4, h5, h6, h7, h8, h9, h10, h11, h12, h13, h14, last]
    all_goals rfl
  clear hC
  pointwise [key_of]

/-- The second linear layer with both normalisations. -/
theorem hidden (v633 : V S1024x256) (v634 v636 : V S1x256) (v660 : V S512x256) (v662 v666 v668 : V S1x512)
    (r : Fin 1024) (o : Fin 512) :
    k5_pay51 (F := Ideal) (k5_pay47 v633 v634 v636 v660 v662) (k5_pay48 v666) (k5_pay49 v668)
        (k5_pay50 v633 v634 v636 v660 v662) (ix2 r o)
      = layer (lit 0x44800000#32)
          (fun r k => max (nrm (lit 0x44800000#32) (fun r => v633 (ix2 r k)) (v634 (ix2 0 k)) (v636 (ix2 0 k)) r) 0)
          (fun o k => v660 (ix2 o k)) (fun o => v662 (ix2 0 o)) (fun o => v666 (ix2 0 o)) (fun o => v668 (ix2 0 o)) r o := by
  pointwise [k5_pay47, k5_pay48, k5_pay49, k5_pay50, k5_pay51, layer, nrm, mean]

/-- A query from its linear part: normalised over the batch, then a unit vector. -/
noncomputable def queryOf (d : Fin 64 → Fin 128 → EReal) (b g e : Fin 128 → EReal) (n : Fin 64) (j : Fin 128) : EReal :=
  unit (fun j => nrm (lit 0x42800000#32) (fun n => d n j + b j) (g j) (e j) n) j

theorem query0 (d : V S64x128) (b g e : V S1x128) (n : Fin 64) (j : Fin 128) :
    k5_pay58 (F := Ideal) (k5_pay56 d b g e) (k5_pay57 d b g e) (ix2 n j)
      = queryOf (fun n j => d (ix2 n j)) (fun j => b (ix2 0 j)) (fun j => g (ix2 0 j)) (fun j => e (ix2 0 j)) n j := by
  pointwise [k5_pay56, k5_pay57, k5_pay58, queryOf, Cert.Spec.unit, nrm, mean]

theorem query1 (d : V S64x128) (b g e : V S1x128) (n : Fin 64) (j : Fin 128) :
    k5_pay59 (F := Ideal) d b g e (ix2 n j)
      = queryOf (fun n j => d (ix2 n j)) (fun j => b (ix2 0 j)) (fun j => g (ix2 0 j)) (fun j => e (ix2 0 j)) n j := by
  pointwise [k5_pay59, queryOf, Cert.Spec.unit, nrm, mean]

theorem query2 (d : V S64x128) (b g e : V S1x128) (n : Fin 64) (j : Fin 128) :
    k5_pay61 (F := Ideal) (k5_pay60 d b) g e (ix2 n j)
      = queryOf (fun n j => d (ix2 n j)) (fun j => b (ix2 0 j)) (fun j => g (ix2 0 j)) (fun j => e (ix2 0 j)) n j := by
  pointwise [k5_pay60, k5_pay61, queryOf, Cert.Spec.unit, nrm, mean]

theorem query3 (d : V S64x128) (b g e : V S1x128) (n : Fin 64) (j : Fin 128) :
    k5_pay65 (F := Ideal) (k5_pay62 d b) (k5_pay63 g) (k5_pay64 e) (ix2 n j)
      = queryOf (fun n j => d (ix2 n j)) (fun j => b (ix2 0 j)) (fun j => g (ix2 0 j)) (fun j => e (ix2 0 j)) n j := by
  pointwise [k5_pay62, k5_pay63, k5_pay64, k5_pay65, queryOf, Cert.Spec.unit, nrm, mean]

/-- The queries' linear parts. -/
theorem linear0 (x : V S64x512) (w : V S128x512) (n : Fin 64) (j : Fin 128) :
    k5_pay53 (F := Ideal) x w (ix2 n j) = ∑ k, x (ix2 n k) * w (ix2 j k) := by pointwise [k5_pay53]

theorem linear1 (x : V S64x1024) (w : V S128x1024) (n : Fin 64) (j : Fin 128) :
    k5_pay54 (F := Ideal) x w (ix2 n j) = ∑ k, x (ix2 n k) * w (ix2 j k) := by pointwise [k5_pay54]

theorem linear2 (x : V S64x1024) (w : V S128x1024) (y : V S64x1024) (u : V S128x1024) (n : Fin 64) (j : Fin 128) :
    k5_pay52 (F := Ideal) x w y u (ix2 n j)
      = (∑ k, x (ix2 n k) * w (ix2 j k)) + ∑ k, y (ix2 n k) * u (ix2 j k) := by pointwise [k5_pay52]

theorem linear3 (x : V S64x2048) (w : V S128x2048) (n : Fin 64) (j : Fin 128) :
    k5_pay55 (F := Ideal) x w (ix2 n j) = ∑ k, x (ix2 n k) * w (ix2 j k) := by pointwise [k5_pay55]

/-- The positional products. -/
theorem positional (x : V S4x128) (w : V S16x128) (t : Fin 4) (s : Fin 16) :
    k5_pay66 (F := Ideal) x w (ix2 t s) = ∑ k, x (ix2 t k) * w (ix2 s k) := by pointwise [k5_pay66]

theorem zero_start : k5_pay67 (F := Ideal) (ix2 0 0) = 0 := by pointwise [k5_pay67]

/-- The attention of teacher `t` from the hidden values, the teacher's query and the positional products. -/
noncomputable def attOf (h : V S1024x512) (q : V S64x128) (pp : V S4x16) (t : Fin 4) (n : Fin 64) (s : Fin 16) : EReal :=
  softmax (fun s : Fin 16 => logit (fun j => h (ix2 ⟨n.val * 16 + s.val, by omega⟩ ⟨128 * t.val + j.val, by omega⟩))
    (fun j => q (ix2 n j)) (pp (ix2 t s))) s

theorem att0 (h : V S1024x512) (q : V S64x128) (pp : V S4x16) (n : Fin 64) (s : Fin 16) :
    k5_pay70 (F := Ideal) pp (k5_pay68 h) (k5_pay69 q) (ix2 n s) = attOf h q pp 0 n s := by
  pointwise [k5_pay68, k5_pay69, k5_pay70, attOf, softmax, logit, Cert.Spec.unit, Cert.Reductions.fold_max_eq_iSup]

theorem att1 (h : V S1024x512) (q : V S64x128) (pp : V S4x16) (n : Fin 64) (s : Fin 16) :
    k5_pay73 (F := Ideal) (k5_pay72 h q pp) (ix2 n s) = attOf h q pp 1 n s := by
  pointwise [k5_pay72, k5_pay73, attOf, softmax, logit, Cert.Spec.unit, Cert.Reductions.fold_max_eq_iSup]

theorem att2 (h : V S1024x512) (q : V S64x128) (pp : V S4x16) (n : Fin 64) (s : Fin 16) :
    k5_pay75 (F := Ideal) h q pp (ix2 n s) = attOf h q pp 2 n s := by
  pointwise [k5_pay75, attOf, softmax, logit, Cert.Spec.unit, Cert.Reductions.fold_max_eq_iSup]

theorem att3 (h : V S1024x512) (q : V S64x128) (pp : V S4x16) (n : Fin 64) (s : Fin 16) :
    k5_pay76 (F := Ideal) h q pp (ix2 n s) = attOf h q pp 3 n s := by
  pointwise [k5_pay76, attOf, softmax, logit, Cert.Spec.unit, Cert.Reductions.fold_max_eq_iSup]

/-- The entropy term the total starts from. -/
theorem entropy (a0 a1 a2 a3 : Fin 64 → Fin 16 → EReal) (h : V S1024x512) (q1 q3 : V S64x128) (pp : V S4x16)
    (v884 : V S64x16x128) (v885 : V S64x1x128) (v935 : V S64x16) (v984 : V S64x16)
    (h0 : ∀ n s, k5_pay70 (F := Ideal) pp v884 v885 (ix2 n s) = a0 n s)
    (h1 : ∀ n s, k5_pay73 (F := Ideal) v935 (ix2 n s) = a1 n s)
    (h2 : ∀ n s, v984 (ix2 n s) = a2 n s)
    (h3 : ∀ n s, k5_pay76 (F := Ideal) h q3 pp (ix2 n s) = a3 n s) :
    k5_pay78 (F := Ideal) (k5_pay77 h q3 pp (k5_pay74 (k5_pay71 pp k5_pay67 v884 v885) v935) v984
        (Scalar.ofBits .f32 0x322BCC77#32)) (Scalar.ofBits .f32 0x00000000#32) (ix2 0 0)
      = lit 0x3DCCCCCD#32 * Ideal.div (-(ent a0 + ent a1 + ent a2 + ent a3)) (lit 0x43800000#32) := by
  pointwise [k5_pay67, k5_pay71, k5_pay74, k5_pay77, k5_pay78, h0, h1, h2, h3, ent, zero_sub]

/-- The four teachers' weights. -/
theorem weights (w : V S1x4) (t : Fin 4) :
    k5_pay79 (F := Ideal) w (ix2 0 t) = softmax (fun t => w (ix2 0 t)) t := by
  pointwise [k5_pay79, softmax, Cert.Reductions.fold_max_eq_iSup]

end Cert.Epilogue
-- ==== Proof.EpilogueLoss.lean ====
/-
  The last call's gates, pooled maps and the four teachers' losses: each value it computes on the way, read at plain
  coordinates.
-/
module

public import Idealize.ShloMosaic.Lib.Pipeline.ValueKit
public import proofs.«01_k».proof.Proof.Spec
public import proofs.«01_k».proof.Proof.Gen.KernelIdeal.Skeleton

@[expose] public section

set_option maxRecDepth 16384

namespace Cert.Epilogue

open Idealize Idealize.ShloMosaic Cert.KernelIdeal Cert.KernelIdeal.Gen Cert.Spec

/-- An array of extended reals of a printed shape. -/
abbrev A (s : Shape) := Vec Ideal s .f32

/-! ## The gates -/

theorem gate0 (P : A S64x16x1024) (w b : EReal) (n : Fin 64) (s : Fin 16) :
    k5_pay82 (F := Ideal) P w b (ix3 n s 0) = gate w b (fun p => P (ix3 n s p)) := by
  pointwise [k5_pay80, k5_pay81, k5_pay82, gate, mean, zero_sub]

theorem gate1 (P : A S64x16x1024) (w b : EReal) (n : Fin 64) (s : Fin 16) :
    k5_pay84 (F := Ideal) (k5_pay83 P w) b (ix3 n s 0) = gate w b (fun p => P (ix3 n s p)) := by
  pointwise [k5_pay80, k5_pay81, k5_pay83, k5_pay84, gate, mean, zero_sub]

theorem gate2 (P : A S64x16x1024) (w b : EReal) (n : Fin 64) (s : Fin 16) :
    k5_pay85 (F := Ideal) (k5_pay81 P) w b (ix3 n s 0) = gate w b (fun p => P (ix3 n s p)) := by
  pointwise [k5_pay80, k5_pay81, k5_pay85, gate, mean, zero_sub]

theorem gate3 (P : A S64x16x1024) (w b : EReal) (n : Fin 64) (s : Fin 16) :
    k5_pay86 (F := Ideal) (k5_pay81 P) w b (ix3 n s 0) = gate w b (fun p => P (ix3 n s p)) := by
  pointwise [k5_pay80, k5_pay81, k5_pay86, gate, mean, zero_sub]

/-! ## The pooled maps -/

theorem pooled0 (P : A S64x16x1024) (a : A S64x16x1) (n : Fin 64) (s : Fin 16) (p : Fin 1024) :
    k5_pay114 (F := Ideal) (k5_pay80 P) a (ix3 n s p) = a (ix3 n s 0) * P (ix3 n s p) := by
  pointwise [k5_pay80, k5_pay114]

theorem pooled1 (x : Fin 4 → A S1x1024x256) (a : A S64x16x1) (n : Fin 64) (s : Fin 16) (p : Fin 256) :
    k5_pay116 (F := Ideal) a (k5_pay115 (k5_pay88 (k5_pay87 (x 0)) (x 1) (x 2) (x 3))
        (k5_pay89 (x 0) (x 1) (x 2) (x 3))) (ix3 n s p)
      = a (ix3 n s 0) * (lit 0x3F333333#32 * (lit 0x3E800000#32 * ∑ k, x k (ix3 0 ⟨n.val * 16 + s.val, by omega⟩ p))
          + lit 0x3E99999A#32 * ⨆ k, x k (ix3 0 ⟨n.val * 16 + s.val, by omega⟩ p)) := by
  have hs : ∀ f : Fin 4 → EReal, max (max (f 0) (f 1)) (max (f 2) (f 3)) = ⨆ k, f k := by
    intro f
    apply le_antisymm
    · simp [le_iSup]
    · refine iSup_le fun k => ?_
      fin_cases k <;> simp
  rw [← hs]
  pointwise [k5_pay87, k5_pay88, k5_pay89, k5_pay115, k5_pay116, Fin.sum_univ_four]

theorem pooled2 (x : Fin 16 → A S1x1024x64) (a : A S64x16x1) (n : Fin 64) (s : Fin 16) (p : Fin 64) :
    k5_pay117 (F := Ideal) a
        (k5_pay109 (k5_pay101 (k5_pay91 (x 0) (x 1)) (x 2) (x 3) (x 4) (x 5) (x 6) (x 7) (x 8) (x 9))
          (x 10) (x 11) (x 12) (x 13) (x 14) (x 15))
        (k5_pay110 (k5_pay102 (k5_pay92 (x 0) (x 1)) (x 2) (x 3) (x 4) (x 5) (x 6) (x 7) (x 8) (x 9))
          (x 10) (x 11) (x 12) (x 13) (x 14) (x 15)) (ix3 n s p)
      = a (ix3 n s 0) * (lit 0x3D333333#32 * (∑ k, x k (ix3 0 ⟨n.val * 16 + s.val, by omega⟩ p))
          + lit 0x3E99999A#32 * ⨆ k, x k (ix3 0 ⟨n.val * 16 + s.val, by omega⟩ p)) := by
  have hs : ∀ f : Fin 16 → EReal, ⨆ k, f k = max (max (max (max (max (max (max (max (max (max (max (max (max (max (max
      (f 0) (f 1)) (f 2)) (f 3)) (f 4)) (f 5)) (f 6)) (f 7)) (f 8)) (f 9)) (f 10)) (f 11)) (f 12)) (f 13)) (f 14)) (f 15) := by
    intro f
    apply le_antisymm
    · refine iSup_le fun k => ?_
      fin_cases k <;> simp
    · simp [le_iSup]
  have ha : ∀ f : Fin 16 → EReal, ∑ k, f k = f 0 + f 1 + f 2 + f 3 + f 4 + f 5 + f 6 + f 7 + f 8 + f 9 + f 10 + f 11
      + f 12 + f 13 + f 14 + f 15 := by
    intro f
    simp only [Fin.sum_univ_succ, Fin.sum_univ_zero, add_zero, ← add_assoc]
    rfl
  rw [hs, ha]
  pointwise [k5_pay90, k5_pay91, k5_pay92, k5_pay93, k5_pay94, k5_pay95, k5_pay96, k5_pay97, k5_pay98, k5_pay99,
    k5_pay100, k5_pay101, k5_pay102, k5_pay103, k5_pay104, k5_pay105, k5_pay106, k5_pay107, k5_pay108, k5_pay109,
    k5_pay110, k5_pay117]

theorem pooled3 (x : A S1024x16x64) (a : A S64x16x1) (n : Fin 64) (s : Fin 16) (p : Fin 16) :
    k5_pay118 (F := Ideal) a (k5_pay112 x) (k5_pay113 x) (ix3 n s p)
      = a (ix3 n s 0) * pool (lit 0x42800000#32) (fun k => x (ix3 ⟨n.val * 16 + s.val, by omega⟩ p k)) := by
  pointwise [k5_pay111, k5_pay112, k5_pay113, k5_pay118, Cert.Spec.pool, mean, Cert.Reductions.fold_max_eq_iSup]

/-! ## The losses -/

theorem share0 (f : A S64x16x1024) (g e : A S16x1024) (t : A S64x1024) (a : A S64x16) (w : A S1x4) (acc : A S1x1) :
    k5_pay121 (F := Ideal) acc w (k5_pay120 a (k5_pay119 f g) e t) (ix2 0 0)
      = acc (ix2 0 0) + share (fun n s => lossOf (lit 0x44800000#32) (gap (fun s p => f (ix3 n s p)) (fun s p => g (ix2 s p))
          (fun s p => e (ix2 s p)) (fun p => t (ix2 n p)) s)) (fun n s => a (ix2 n s)) (w (ix2 0 0)) := by
  pointwise [k5_pay119, k5_pay120, k5_pay121, share, lossOf, smooth, gap, nrm, mean, Cert.Spec.unit]

theorem share1 (f : A S64x16x256) (g e : A S16x256) (t : A S64x256) (a : A S64x16) (w : A S1x4) (acc : A S1x1) :
    k5_pay125 (F := Ideal) a w acc (k5_pay122 f g e) (k5_pay123 t) (k5_pay124 t) (ix2 0 0)
      = acc (ix2 0 0) + share (fun n s => lossOf (lit 0x43800000#32) (gap (fun s p => f (ix3 n s p)) (fun s p => g (ix2 s p))
          (fun s p => e (ix2 s p)) (fun p => t (ix2 n p)) s)) (fun n s => a (ix2 n s)) (w (ix2 0 1)) := by
  pointwise [k5_pay122, k5_pay123, k5_pay124, k5_pay125, share, lossOf, smooth, gap, nrm, mean, Cert.Spec.unit]

theorem gap2 (f : A S64x16x64) (g e : A S16x64) (t : A S64x64) (n : Fin 64) (s : Fin 16) (p : Fin 64) :
    k5_pay127 (F := Ideal) f (k5_pay126 f) (Scalar.ofBits .f32 0x2B8CBCCC#32) g e t (ix3 n s p)
      = gap (fun s p => f (ix3 n s p)) (fun s p => g (ix2 s p)) (fun s p => e (ix2 s p)) (fun p => t (ix2 n p)) s p := by
  pointwise [k5_pay126, k5_pay127, gap, nrm, mean, Cert.Spec.unit]

theorem share2 (f : A S64x16x64) (g e : A S16x64) (t : A S64x64) (a : A S64x16) (w : A S1x4) (acc : A S1x1) :
    k5_pay130 (F := Ideal) a w acc (k5_pay127 f (k5_pay126 f) (Scalar.ofBits .f32 0x2B8CBCCC#32) g e t)
        (k5_pay128 f (k5_pay126 f) (Scalar.ofBits .f32 0x2B8CBCCC#32) g e t)
        (k5_pay129 f (k5_pay126 f) (Scalar.ofBits .f32 0x2B8CBCCC#32) g e t) (ix2 0 0)
      = acc (ix2 0 0) + share (fun n s => lossOf (lit 0x42800000#32) (gap (fun s p => f (ix3 n s p)) (fun s p => g (ix2 s p))
          (fun s p => e (ix2 s p)) (fun p => t (ix2 n p)) s)) (fun n s => a (ix2 n s)) (w (ix2 0 2)) := by
  unfold k5_pay129 k5_pay128
  have h := gap2 f g e t
  generalize k5_pay127 (F := Ideal) f (k5_pay126 f) (Scalar.ofBits .f32 0x2B8CBCCC#32) g e t = d at h ⊢
  pointwise [k5_pay130, share, lossOf, smooth, mean]
  simp only [h, lit]

theorem gap3 (f : A S64x16x16) (g e : A S16x16) (t : A S64x16) (n : Fin 64) (s : Fin 16) (p : Fin 16) :
    k5_pay133 (F := Ideal) (k5_pay131 f) (k5_pay132 f) g e t (ix3 n s p)
      = gap (fun s p => f (ix3 n s p)) (fun s p => g (ix2 s p)) (fun s p => e (ix2 s p)) (fun p => t (ix2 n p)) s p := by
  pointwise [k5_pay131, k5_pay132, k5_pay133, gap, nrm, mean, Cert.Spec.unit]

theorem share3 (f : A S64x16x16) (g e : A S16x16) (t : A S64x16) (a : A S64x16) (w : A S1x4) (acc : A S1x1) :
    k5_pay1 (F := Ideal) acc (k5_pay136 a (k5_pay134 (k5_pay131 f) (k5_pay132 f) g e t)
        (k5_pay135 (k5_pay131 f) (k5_pay132 f) g e t)) (k5_pay137 w) (ix2 0 0)
      = acc (ix2 0 0) + share (fun n s => lossOf (lit 0x41800000#32) (gap (fun s p => f (ix3 n s p)) (fun s p => g (ix2 s p))
          (fun s p => e (ix2 s p)) (fun p => t (ix2 n p)) s)) (fun n s => a (ix2 n s)) (w (ix2 0 3)) := by
  unfold k5_pay134 k5_pay135
  have h := gap3 f g e t
  generalize k5_pay133 (F := Ideal) (k5_pay131 f) (k5_pay132 f) g e t = d at h ⊢
  pointwise [k5_pay1, k5_pay136, k5_pay137, share, lossOf, smooth, mean]
  simp only [h, lit]

end Cert.Epilogue
-- ==== Proof.EpilogueOut.lean ====
/-
  What the last call stores: the loss of the reduced data its blocks hold.
-/
module

public import Idealize.ShloMosaic.Lib.Pipeline.ValueKit
public import proofs.«01_k».proof.Proof.Model
public import proofs.«01_k».proof.Proof.KernelIdealValues
public import proofs.«01_k».proof.Proof.EpilogueKeys
public import proofs.«01_k».proof.Proof.EpilogueLoss

@[expose] public section

set_option maxRecDepth 16384

namespace Cert.KernelIdeal.Epi

open Idealize Idealize.ShloMosaic Cert.KernelIdeal Cert.KernelIdeal.Gen Cert.Spec

/-- The reduced data the blocks of the last call hold. -/
noncomputable def model (X : Blocks Ideal) : Model where
  cm n s c := X.x0 (ix3 n s c)
  P n s p := X.x1 (ix3 n s p)
  P1 n s p := lit 0x3F333333#32 * (lit 0x3E800000#32 * ∑ k : Fin 4, X.x2 (ix3 k ⟨n.val * 16 + s.val, by omega⟩ p))
    + lit 0x3E99999A#32 * ⨆ k : Fin 4, X.x2 (ix3 k ⟨n.val * 16 + s.val, by omega⟩ p)
  P2 n s p := lit 0x3D333333#32 * (∑ k : Fin 16, X.x3 (ix3 k ⟨n.val * 16 + s.val, by omega⟩ p))
    + lit 0x3E99999A#32 * ⨆ k : Fin 16, X.x3 (ix3 k ⟨n.val * 16 + s.val, by omega⟩ p)
  P3 n s p := pool (lit 0x42800000#32) (fun k : Fin 64 => X.x4 (ix3 ⟨n.val * 16 + s.val, by omega⟩ p k))
  l0 n j := ∑ k, X.x5 (ix2 n k) * X.x28 (ix2 j k)
  l1 n j := ∑ k, X.x6 (ix2 n k) * X.x29 (ix2 j k)
  l2 n j := (∑ k, X.x7 (ix2 n k) * X.x30 (ix2 j k)) + ∑ k, X.x8 (ix2 n k) * X.x31 (ix2 j k)
  l3 n j := ∑ k, X.x9 (ix2 n k) * X.x32 (ix2 j k)
  t0 n p := X.x10 (ix2 n p)
  t1 n p := X.x11 (ix2 n p)
  t2 n p := X.x12 (ix2 n p)
  t3 n p := X.x13 (ix2 n p)
  aw t := X.x14 (ix2 0 t)
  ab t := X.x15 (ix2 0 t)
  kW s k c := X.x16 (ix3 s k c)
  kb s k := X.x17 (ix2 s k)
  kg s k := X.x18 (ix2 s k)
  ke s k := X.x19 (ix2 s k)
  W1 o k := X.x20 (ix2 o k)
  b1 o := X.x21 (ix2 0 o)
  g1 o := X.x22 (ix2 0 o)
  e1 o := X.x23 (ix2 0 o)
  W2 o k := X.x24 (ix2 o k)
  b2 o := X.x25 (ix2 0 o)
  g2 o := X.x26 (ix2 0 o)
  e2 o := X.x27 (ix2 0 o)
  qb t j := X.x33 (ix2 t j)
  qg t j := X.x34 (ix2 t j)
  qe t j := X.x35 (ix2 t j)
  pt t j := X.x36 (ix2 t j)
  ps s j := X.x37 (ix2 s j)
  w t := X.x38 (ix2 0 t)
  G0 s p := X.x39 (ix2 s p)
  G1 s p := X.x40 (ix2 s p)
  G2 s p := X.x41 (ix2 s p)
  G3 s p := X.x42 (ix2 s p)
  B0 s p := X.x43 (ix2 s p)
  B1 s p := X.x44 (ix2 s p)
  B2 s p := X.x45 (ix2 s p)
  B3 s p := X.x46 (ix2 s p)

variable (X : Blocks Ideal)

/-- The keys of students `0` to `14`, each from the call's own order of operations. -/
theorem keys (n : Fin 64) (k : Fin 128) :
    X.v40 (ix3 n 0 k) = (model X).key n 0 k ∧ X.v79 (ix3 n 0 k) = (model X).key n 1 k
    ∧ X.v118 (ix3 n 0 k) = (model X).key n 2 k ∧ X.v157 (ix3 n 0 k) = (model X).key n 3 k
    ∧ X.v196 (ix3 n 0 k) = (model X).key n 4 k ∧ X.v235 (ix3 n 0 k) = (model X).key n 5 k
    ∧ X.v274 (ix3 n 0 k) = (model X).key n 6 k ∧ X.v313 (ix3 n 0 k) = (model X).key n 7 k
    ∧ X.v352 (ix3 n 0 k) = (model X).key n 8 k ∧ X.v391 (ix3 n 0 k) = (model X).key n 9 k
    ∧ X.v430 (ix3 n 0 k) = (model X).key n 10 k ∧ X.v469 (ix3 n 0 k) = (model X).key n 11 k
    ∧ X.v508 (ix3 n 0 k) = (model X).key n 12 k ∧ X.v547 (ix3 n 0 k) = (model X).key n 13 k
    ∧ X.v586 (ix3 n 0 k) = (model X).key n 14 k
    ∧ max (nrm (lit 0x42800000#32) (fun n => X.v591 (ix2 n k) + X.x17 (ix2 15 k)) (X.x18 (ix2 15 k)) (X.x19 (ix2 15 k)) n) 0
      = (model X).key n 15 k := by
  refine ⟨?_, ?_, ?_, ?_, ?_, ?_, ?_, ?_, ?_, ?_, ?_, ?_, ?_, ?_, ?_, ?_⟩ <;>
  pointwise [Model.key, model, keyEntry, nrm, mean, Blocks.v1, k5_pay2, Blocks.v40, k5_pay3, Blocks.v79, k5_pay4,
    Blocks.v118, Blocks.v81, k5_pay5, k5_pay6, Blocks.v157, Blocks.v123, k5_pay7, k5_pay8,
    Blocks.v196, Blocks.v162, Blocks.v166, k5_pay9, k5_pay10, k5_pay11,
    Blocks.v235, Blocks.v206, Blocks.v208, k5_pay12, k5_pay13, k5_pay14,
    Blocks.v274, Blocks.v245, Blocks.v247, Blocks.v249, k5_pay15, k5_pay16, k5_pay17, k5_pay18,
    Blocks.v313, Blocks.v284, Blocks.v286, Blocks.v288, Blocks.v292, k5_pay19, k5_pay20, k5_pay21, k5_pay22, k5_pay23,
    Blocks.v352, Blocks.v325, Blocks.v327, Blocks.v333, Blocks.v335, k5_pay24, k5_pay25, k5_pay26, k5_pay27, k5_pay28,
    Blocks.v391, Blocks.v364, Blocks.v366, Blocks.v372, Blocks.v377, Blocks.cst_150, k5_pay29, k5_pay30, k5_pay31, k5_pay32, k5_pay33,
    Blocks.v430, Blocks.v403, Blocks.v405, Blocks.v421, k5_pay34, k5_pay35, k5_pay36, k5_pay37,
    Blocks.v469, Blocks.v463, Blocks.v465, k5_pay38, k5_pay39, k5_pay40,
    Blocks.v508, k5_pay41, Blocks.v547, k5_pay42, Blocks.v586, Blocks.v549, k5_pay43, k5_pay44, Blocks.v591, k5_pay45]

/-- The first hidden layer before its normalisation. -/
theorem first (r : Fin 1024) (o : Fin 256) :
    X.v633 (ix2 r o) = (∑ k, (model X).key ⟨r.val / 16, by omega⟩ ⟨r.val % 16, by omega⟩ k * X.x20 (ix2 o k)) + X.x21 (ix2 0 o) := by
  have hk := keys X
  unfold Blocks.v633
  rw [Epilogue.first_layer (model X).key (h0 := fun n k => (hk n k).1) (h1 := fun n k => (hk n k).2.1)
    (h2 := fun n k => (hk n k).2.2.1) (h3 := fun n k => (hk n k).2.2.2.1) (h4 := fun n k => (hk n k).2.2.2.2.1)
    (h5 := fun n k => (hk n k).2.2.2.2.2.1) (h6 := fun n k => (hk n k).2.2.2.2.2.2.1)
    (h7 := fun n k => (hk n k).2.2.2.2.2.2.2.1) (h8 := fun n k => (hk n k).2.2.2.2.2.2.2.2.1)
    (h9 := fun n k => (hk n k).2.2.2.2.2.2.2.2.2.1) (h10 := fun n k => (hk n k).2.2.2.2.2.2.2.2.2.2.1)
    (h11 := fun n k => (hk n k).2.2.2.2.2.2.2.2.2.2.2.1) (h12 := fun n k => (hk n k).2.2.2.2.2.2.2.2.2.2.2.2.1)
    (h13 := fun n k => (hk n k).2.2.2.2.2.2.2.2.2.2.2.2.2.1) (h14 := fun n k => (hk n k).2.2.2.2.2.2.2.2.2.2.2.2.2.2.1)
    (h15 := fun n k => by
      refine Eq.trans ?_ (hk n k).2.2.2.2.2.2.2.2.2.2.2.2.2.2.2
      pointwise [nrm, mean])]
  pointwise []

/-- The second hidden layer. -/
theorem second (r : Fin 1024) (o : Fin 512) : X.v691 (ix2 r o) = (model X).hid r o := by
  unfold Blocks.v691 Blocks.v665 Blocks.v667 Blocks.v669 Blocks.v674
  rw [Epilogue.hidden]
  rw [View.ld_unit_lit _ X.x22 (by decide), View.ld_unit_lit _ X.x23 (by decide), View.ld_unit_lit _ X.x24 (by decide)]
  rw [View.ld_unit_lit _ X.x25 (by decide), View.ld_unit_lit _ X.x26 (by decide), View.ld_unit_lit _ X.x27 (by decide)]
  simp only [first]
  rfl

/-- The queries. -/
theorem queries (n : Fin 64) (j : Fin 128) :
    X.v753 (ix2 n j) = (model X).qry (model X).l0 0 n j ∧ X.v792 (ix2 n j) = (model X).qry (model X).l1 1 n j
    ∧ X.v831 (ix2 n j) = (model X).qry (model X).l2 2 n j ∧ X.v870 (ix2 n j) = (model X).qry (model X).l3 3 n j := by
  refine ⟨?_, ?_, ?_, ?_⟩
  · unfold Blocks.v753 Blocks.v745 Blocks.v752 Blocks.v706
    rw [Epilogue.query0, View.ld_unit_lit _ X.x5 (by decide), View.ld_unit_lit _ X.x28 (by decide)]
    simp only [Epilogue.linear0]
    pointwise [Epilogue.queryOf, Model.qry, model, Cert.Spec.unit, nrm, mean]
  · unfold Blocks.v792 Blocks.v710
    rw [Epilogue.query1, View.ld_unit_lit _ X.x6 (by decide), View.ld_unit_lit _ X.x29 (by decide)]
    simp only [Epilogue.linear1]
    pointwise [Epilogue.queryOf, Model.qry, model, Cert.Spec.unit, nrm, mean]
  · unfold Blocks.v831 Blocks.v797 Blocks.v702
    rw [Epilogue.query2, View.ld_unit_lit _ X.x7 (by decide), View.ld_unit_lit _ X.x30 (by decide),
      View.ld_unit_lit _ X.x8 (by decide), View.ld_unit_lit _ X.x31 (by decide)]
    simp only [Epilogue.linear2]
    pointwise [Epilogue.queryOf, Model.qry, model, Cert.Spec.unit, nrm, mean]
  · unfold Blocks.v870 Blocks.v836 Blocks.v838 Blocks.v840 Blocks.v714
    rw [Epilogue.query3, View.ld_unit_lit _ X.x9 (by decide), View.ld_unit_lit _ X.x32 (by decide)]
    simp only [Epilogue.linear3]
    pointwise [Epilogue.queryOf, Model.qry, model, Cert.Spec.unit, nrm, mean]

/-- The positional products. -/
theorem positions (t : Fin 4) (s : Fin 16) : X.v873 (ix2 t s) = (model X).pos t s := by
  unfold Blocks.v873
  rw [Epilogue.positional]
  rw [View.ld_unit_lit _ X.x36 (by decide), View.ld_unit_lit _ X.x37 (by decide)]
  rfl

/-- The attentions. -/
theorem attentions (n : Fin 64) (s : Fin 16) :
    X.v904 (ix2 n s) = (model X).att (model X).l0 0 n s ∧ X.v944 (ix2 n s) = (model X).att (model X).l1 1 n s
    ∧ X.v984 (ix2 n s) = (model X).att (model X).l2 2 n s ∧ X.v1024 (ix2 n s) = (model X).att (model X).l3 3 n s := by
  have hq := queries X
  refine ⟨?_, ?_, ?_, ?_⟩
  · unfold Blocks.v904 Blocks.v884 Blocks.v885
    rw [Epilogue.att0]
    simp only [Epilogue.attOf, Model.att, second, positions, (hq _ _).1]
  · unfold Blocks.v944 Blocks.v935
    rw [Epilogue.att1]
    simp only [Epilogue.attOf, Model.att, second, positions, (hq _ _).2.1]
  · unfold Blocks.v984
    rw [Epilogue.att2]
    simp only [Epilogue.attOf, Model.att, second, positions, (hq _ _).2.2.1]
  · unfold Blocks.v1024
    rw [Epilogue.att3]
    simp only [Epilogue.attOf, Model.att, second, positions, (hq _ _).2.2.2]

/-- The entropy term. -/
theorem entropy : X.v1040 (ix2 0 0) = (model X).start := by
  have ha := attentions X
  exact Epilogue.entropy _ _ _ _ X.v691 X.v792 X.v870 X.v873 X.v884 X.v885 X.v935 X.v984
    (fun n s => (ha n s).1) (fun n s => (ha n s).2.1) (fun n s => (ha n s).2.2.1) (fun n s => (ha n s).2.2.2)

/-- The teachers' weights. -/
theorem weights (t : Fin 4) : X.v1051 (ix2 0 t) = softmax (model X).w t := by
  unfold Blocks.v1051
  rw [Epilogue.weights]
  rw [View.ld_unit_lit _ X.x38 (by decide)]
  rfl

/-- A word of the scale or shift of the gates. -/
theorem word (x : Vec Ideal S1x4 .f32) (t : ℕ) (ht : t < 4) (h) (h') :
    X.word x (Rect.unit (s := S1x4) ![0, t] S1x1.size h) h' = x (ix2 0 ⟨t, ht⟩) := by
  refine View.ld_unit_apply_of x _ _ h _ _ fun i => ?_
  fin_cases i <;> simp [Shape.Idx.first]

/-- The gates. -/
theorem gates (n : Fin 64) (s : Fin 16) :
    X.v1070 (ix3 n s 0) = (model X).gat 0 n s ∧ X.v1083 (ix3 n s 0) = (model X).gat 1 n s
    ∧ X.v1096 (ix3 n s 0) = (model X).gat 2 n s ∧ X.v1109 (ix3 n s 0) = (model X).gat 3 n s := by
  refine ⟨?_, ?_, ?_, ?_⟩
  · unfold Blocks.v1070
    rw [Epilogue.gate0]
    rw [View.ld_unit_lit _ X.x1 (by decide), word X X.x14 0 (by decide), word X X.x15 0 (by decide)]
    rfl
  · unfold Blocks.v1083 Blocks.v1073
    rw [Epilogue.gate1]
    rw [View.ld_unit_lit _ X.x1 (by decide), word X X.x14 1 (by decide), word X X.x15 1 (by decide)]
    rfl
  · unfold Blocks.v1096 Blocks.v1057
    rw [Epilogue.gate2]
    rw [View.ld_unit_lit _ X.x1 (by decide), word X X.x14 2 (by decide), word X X.x15 2 (by decide)]
    rfl
  · unfold Blocks.v1109 Blocks.v1057
    rw [Epilogue.gate3]
    rw [View.ld_unit_lit _ X.x1 (by decide), word X X.x14 3 (by decide), word X X.x15 3 (by decide)]
    rfl

/-- The gated maps. -/
theorem maps0 (n : Fin 64) (s : Fin 16) (p : Fin 1024) :
    X.v1205 (ix3 n s p) = (model X).gat 0 n s * (model X).P n s p := by
  unfold Blocks.v1205 Blocks.v1053
  rw [Epilogue.pooled0, (gates X n s).1]
  rw [View.ld_unit_lit _ X.x1 (by decide)]
  rfl

theorem maps1 (n : Fin 64) (s : Fin 16) (p : Fin 256) :
    X.v1213 (ix3 n s p) = (model X).gat 1 n s * (model X).P1 n s p := by
  let x : Fin 4 → Vec Ideal S1x1024x256 .f32 := fun k => View.ld X.x2 (Rect.unit (s := S4x1024x256) ![k.val, 0, 0] S1x1024x256.size
    (by intro a; fin_cases k <;> fin_cases a <;> simp))
  refine (Epilogue.pooled1 x X.v1083 n s p).trans ?_
  have hx : ∀ k r, x k (ix3 0 r p) = X.x2 (ix3 k r p) := by
    intro k r
    refine View.ld_unit_apply_of X.x2 _ _ _ _ _ fun i => ?_
    fin_cases i <;> simp
  simp only [hx, (gates X n s).2.1]
  rfl

theorem maps2 (n : Fin 64) (s : Fin 16) (p : Fin 64) :
    X.v1221 (ix3 n s p) = (model X).gat 2 n s * (model X).P2 n s p := by
  let x : Fin 16 → Vec Ideal S1x1024x64 .f32 := fun k => View.ld X.x3 (Rect.unit (s := S16x1024x64) ![k.val, 0, 0] S1x1024x64.size
    (by intro a; fin_cases k <;> fin_cases a <;> simp))
  refine (Epilogue.pooled2 x X.v1096 n s p).trans ?_
  have hx : ∀ k r, x k (ix3 0 r p) = X.x3 (ix3 k r p) := by
    intro k r
    refine View.ld_unit_apply_of X.x3 _ _ _ _ _ fun i => ?_
    fin_cases i <;> simp
  simp only [hx, (gates X n s).2.2.1]
  rfl

theorem maps3 (n : Fin 64) (s : Fin 16) (p : Fin 16) :
    X.v1229 (ix3 n s p) = (model X).gat 3 n s * (model X).P3 n s p := by
  unfold Blocks.v1229 Blocks.v1202 Blocks.v1203
  rw [Epilogue.pooled3, (gates X n s).2.2.2]
  rw [View.ld_unit_lit _ X.x4 (by decide)]
  rfl

/-- What each teacher adds to the loss. -/
theorem add0 : X.v1309 (ix2 0 0) = X.v1040 (ix2 0 0)
    + share (fun n s => (model X).los (lit 0x44800000#32) 0 (model X).P (model X).G0 (model X).B0 (model X).t0 n s)
      ((model X).att (model X).l0 0) (softmax (model X).w 0) := by
  have ha := attentions X
  refine (Epilogue.share0 X.v1205 (View.ld X.x39 (Rect.unit (s := S16x1024) ![0, 0] S16x1024.size inb_S16x1024_S16x1024_0_0))
    (View.ld X.x43 (Rect.unit (s := S16x1024) ![0, 0] S16x1024.size inb_S16x1024_S16x1024_0_0))
    (View.ld X.x10 (Rect.unit (s := S64x1024) ![0, 0] S64x1024.size inb_S64x1024_S64x1024_0_0)) X.v904 X.v1051 X.v1040).trans ?_
  rw [View.ld_unit_lit _ X.x39 (by decide), View.ld_unit_lit _ X.x43 (by decide), View.ld_unit_lit _ X.x10 (by decide)]
  simp only [weights, maps0, (ha _ _).1]
  rfl

theorem add1 : X.v1389 (ix2 0 0) = X.v1309 (ix2 0 0)
    + share (fun n s => (model X).los (lit 0x43800000#32) 1 (model X).P1 (model X).G1 (model X).B1 (model X).t1 n s)
      ((model X).att (model X).l1 1) (softmax (model X).w 1) := by
  have ha := attentions X
  refine (Epilogue.share1 X.v1213 (View.ld X.x40 (Rect.unit (s := S16x256) ![0, 0] S16x256.size inb_S16x256_S16x256_0_0))
    (View.ld X.x44 (Rect.unit (s := S16x256) ![0, 0] S16x256.size inb_S16x256_S16x256_0_0))
    (View.ld X.x11 (Rect.unit (s := S64x256) ![0, 0] S64x256.size inb_S64x256_S64x256_0_0)) X.v944 X.v1051 X.v1309).trans ?_
  rw [View.ld_unit_lit _ X.x40 (by decide), View.ld_unit_lit _ X.x44 (by decide), View.ld_unit_lit _ X.x11 (by decide)]
  simp only [weights, maps1, (ha _ _).2.1]
  rfl

theorem add2 : X.v1469 (ix2 0 0) = X.v1389 (ix2 0 0)
    + share (fun n s => (model X).los (lit 0x42800000#32) 2 (model X).P2 (model X).G2 (model X).B2 (model X).t2 n s)
      ((model X).att (model X).l2 2) (softmax (model X).w 2) := by
  have ha := attentions X
  refine (Epilogue.share2 X.v1221 (View.ld X.x41 (Rect.unit (s := S16x64) ![0, 0] S16x64.size inb_S16x64_S16x64_0_0))
    (View.ld X.x45 (Rect.unit (s := S16x64) ![0, 0] S16x64.size inb_S16x64_S16x64_0_0))
    (View.ld X.x12 (Rect.unit (s := S64x64) ![0, 0] S64x64.size inb_S64x64_S64x64_0_0)) X.v984 X.v1051 X.v1389).trans ?_
  rw [View.ld_unit_lit _ X.x41 (by decide), View.ld_unit_lit _ X.x45 (by decide), View.ld_unit_lit _ X.x12 (by decide)]
  simp only [weights, maps2, (ha _ _).2.2.1]
  rfl

theorem add3 : X.out (ix2 0 0) = X.v1469 (ix2 0 0)
    + share (fun n s => (model X).los (lit 0x41800000#32) 3 (model X).P3 (model X).G3 (model X).B3 (model X).t3 n s)
      ((model X).att (model X).l3 3) (softmax (model X).w 3) := by
  have ha := attentions X
  refine (Epilogue.share3 X.v1229 (View.ld X.x42 (Rect.unit (s := S16x16) ![0, 0] S16x16.size inb_S16x16_S16x16_0_0))
    (View.ld X.x46 (Rect.unit (s := S16x16) ![0, 0] S16x16.size inb_S16x16_S16x16_0_0))
    (View.ld X.x13 (Rect.unit (s := S64x16) ![0, 0] S64x16.size inb_S64x16_S64x16_0_0)) X.v1024 X.v1051 X.v1469).trans ?_
  rw [View.ld_unit_lit _ X.x42 (by decide), View.ld_unit_lit _ X.x46 (by decide), View.ld_unit_lit _ X.x13 (by decide)]
  simp only [weights, maps3, (ha _ _).2.2.2]
  rfl

/-- The loss the call stores. -/
theorem out_eq : X.out (ix2 0 0) = (model X).loss := by
  rw [add3, add2, add1, add0, entropy]
  rfl

end Cert.KernelIdeal.Epi
-- ==== Proof.Combine.lean ====
/-
  The last call's reduced data, when its arrays hold the reduced students and teachers and the parameters.
-/
module

public import Idealize.ShloMosaic.Lib.Pipeline.ValueKit
public import proofs.«01_k».proof.Proof.Tiles
public import proofs.«01_k».proof.Proof.ReferenceResult
public import proofs.«01_k».proof.Proof.Arrays
public import proofs.«01_k».proof.Proof.EpilogueOut

@[expose] public section

set_option maxRecDepth 16384

namespace Cert.KernelIdeal.Epi

open Idealize Idealize.ShloMosaic Idealize.ShloMosaic.TcCoe Cert.KernelIdeal Cert.KernelIdeal.Gen
open Cert.Spec Cert.Reference

/-- The pool of four as the call computes it, over the rows and columns of a block. -/
theorem pool_of4 (f : Fin 4 → EReal) (g : Fin 2 → Fin 2 → EReal) (e : ∀ k : Fin 4, f k = g ⟨k.val / 2, by omega⟩ ⟨k.val % 2, by omega⟩) :
    lit 0x3F333333#32 * (lit 0x3E800000#32 * ∑ k, f k) + lit 0x3E99999A#32 * ⨆ k, f k
      = Cert.Spec.pool (lit 0x40800000#32) (fun k : Fin 2 × Fin 2 => g k.1 k.2) := by
  obtain rfl : f = fun k => g ⟨k.val / 2, by omega⟩ ⟨k.val % 2, by omega⟩ := funext e
  rw [pool4]
  exact pool_flat 2 rfl _ g (fun k => by omega) (fun k => by omega)

theorem pool_of16 (f : Fin 16 → EReal) (g : Fin 4 → Fin 4 → EReal) (e : ∀ k : Fin 16, f k = g ⟨k.val / 4, by omega⟩ ⟨k.val % 4, by omega⟩) :
    lit 0x3D333333#32 * (∑ k, f k) + lit 0x3E99999A#32 * ⨆ k, f k
      = Cert.Spec.pool (lit 0x41800000#32) (fun k : Fin 4 × Fin 4 => g k.1 k.2) := by
  obtain rfl : f = fun k => g ⟨k.val / 4, by omega⟩ ⟨k.val % 4, by omega⟩ := funext e
  rw [pool16]
  exact pool_flat 4 rfl _ g (fun k => by omega) (fun k => by omega)

theorem pool_of64 (f : Fin 64 → EReal) (g : Fin 8 → Fin 8 → EReal) (e : ∀ k : Fin 64, f k = g ⟨k.val / 8, by omega⟩ ⟨k.val % 8, by omega⟩) :
    Cert.Spec.pool (lit 0x42800000#32) f = Cert.Spec.pool (lit 0x42800000#32) (fun k : Fin 8 × Fin 8 => g k.1 k.2) := by
  obtain rfl : f = fun k => g ⟨k.val / 8, by omega⟩ ⟨k.val % 8, by omega⟩ := funext e
  exact pool_flat 8 rfl _ g (fun k => by omega) (fun k => by omega)

/-- A sum over the even and the odd places. -/
theorem sum_even_odd (f : Fin 2048 → EReal) :
    (∑ q : Fin 1024, f ⟨2 * q.val, by omega⟩) + ∑ q : Fin 1024, f ⟨2 * q.val + 1, by omega⟩ = ∑ k, f k := by
  rw [Cert.Reductions.sum_tiles 1024 2 rfl f (fun _ _ => by omega), ← Finset.sum_add_distrib]
  refine Finset.sum_congr rfl fun q _ => ?_
  rw [Fin.sum_univ_two]
  congr 2 <;> (apply Fin.ext; dsimp only; first | omega | (simp; omega))

variable (V : (c : Dev nD) → (b : Ref sig .tc) → Buf (Elt Ideal) ((c : Thread nD τ).loc b)) (c : Dev nD)

/-! Each piece of the reduced data from what the array holds. -/

theorem cm_of (x0 : A S64x16x32x32) (x1 : A S64x16x32x32) (x2 : A S64x16x32x32) (x3 : A S64x16x32x32) (x4 : A S64x16x32x32) (x5 : A S64x16x32x32) (x6 : A S64x16x32x32) (x7 : A S64x16x32x32) (x8 : A S64x16x32x32) (x9 : A S64x16x32x32) (x10 : A S64x16x32x32) (x11 : A S64x16x32x32) (x12 : A S64x16x32x32) (x13 : A S64x16x32x32) (x14 : A S64x16x32x32) (x15 : A S64x16x32x32)
    (h0 : ∀ (n : Fin 64) (s k : Fin 16), (V c main_v24_0 : A S64x16x16) (ix3 n s k) = desc (fun p : Fin 1024 => stu x0 x1 x2 x3 x4 x5 x6 x7 x8 x9 x10 x11 x12 x13 x14 x15 s (ix4 n k ⟨p.val / 32, by omega⟩ ⟨p.val % 32, by omega⟩))) :
    (model (arrays V c)).cm = fun n s c => desc (fun p : Fin 1024 => stu x0 x1 x2 x3 x4 x5 x6 x7 x8 x9 x10 x11 x12 x13 x14 x15 s (ix4 n c ⟨p.val / 32, by omega⟩ ⟨p.val % 32, by omega⟩)) :=
  funext fun n => funext fun s => funext fun k => h0 n s k

theorem P_of (x0 : A S64x16x32x32) (x1 : A S64x16x32x32) (x2 : A S64x16x32x32) (x3 : A S64x16x32x32) (x4 : A S64x16x32x32) (x5 : A S64x16x32x32) (x6 : A S64x16x32x32) (x7 : A S64x16x32x32) (x8 : A S64x16x32x32) (x9 : A S64x16x32x32) (x10 : A S64x16x32x32) (x11 : A S64x16x32x32) (x12 : A S64x16x32x32) (x13 : A S64x16x32x32) (x14 : A S64x16x32x32) (x15 : A S64x16x32x32)
    (h1 : ∀ (n : Fin 64) (s : Fin 16) (p : Fin 1024), (V c main_v25 : A S64x16x1024) (ix3 n s p) = sq x0 x1 x2 x3 x4 x5 x6 x7 x8 x9 x10 x11 x12 x13 x14 x15 n s ⟨p.val / 32, by omega⟩ ⟨p.val % 32, by omega⟩) :
    (model (arrays V c)).P = fun n s p => sq x0 x1 x2 x3 x4 x5 x6 x7 x8 x9 x10 x11 x12 x13 x14 x15 n s ⟨p.val / 32, by omega⟩ ⟨p.val % 32, by omega⟩ :=
  funext fun n => funext fun s => funext fun p => h1 n s p

theorem P1_of (x0 : A S64x16x32x32) (x1 : A S64x16x32x32) (x2 : A S64x16x32x32) (x3 : A S64x16x32x32) (x4 : A S64x16x32x32) (x5 : A S64x16x32x32) (x6 : A S64x16x32x32) (x7 : A S64x16x32x32) (x8 : A S64x16x32x32) (x9 : A S64x16x32x32) (x10 : A S64x16x32x32) (x11 : A S64x16x32x32) (x12 : A S64x16x32x32) (x13 : A S64x16x32x32) (x14 : A S64x16x32x32) (x15 : A S64x16x32x32)
    (h2 : ∀ (n : Fin 64) (s : Fin 16) (p : Fin 256) (k : Fin 4), (V c main_v28 : A S4x1024x256) (ix3 k ⟨n.val * 16 + s.val, by omega⟩ p) = sq x0 x1 x2 x3 x4 x5 x6 x7 x8 x9 x10 x11 x12 x13 x14 x15 n s ⟨p.val / 16 * 2 + k.val / 2, by omega⟩ ⟨p.val % 16 * 2 + k.val % 2, by omega⟩) :
    (model (arrays V c)).P1 = fun n s p => Cert.Spec.pool (lit 0x40800000#32) (fun k : Fin 2 × Fin 2 =>
    sq x0 x1 x2 x3 x4 x5 x6 x7 x8 x9 x10 x11 x12 x13 x14 x15 n s ⟨p.val / 16 * 2 + k.1.val, by omega⟩ ⟨p.val % 16 * 2 + k.2.val, by omega⟩) :=
  funext fun n => funext fun s => funext fun p =>
    pool_of4 (fun k => (arrays V c).x2 (ix3 k ⟨n.val * 16 + s.val, by omega⟩ p)) (fun i j => sq x0 x1 x2 x3 x4 x5 x6 x7 x8 x9 x10 x11 x12 x13 x14 x15 n s ⟨p.val / 16 * 2 + i.val, by omega⟩ ⟨p.val % 16 * 2 + j.val, by omega⟩) (h2 n s p)

theorem P2_of (x0 : A S64x16x32x32) (x1 : A S64x16x32x32) (x2 : A S64x16x32x32) (x3 : A S64x16x32x32) (x4 : A S64x16x32x32) (x5 : A S64x16x32x32) (x6 : A S64x16x32x32) (x7 : A S64x16x32x32) (x8 : A S64x16x32x32) (x9 : A S64x16x32x32) (x10 : A S64x16x32x32) (x11 : A S64x16x32x32) (x12 : A S64x16x32x32) (x13 : A S64x16x32x32) (x14 : A S64x16x32x32) (x15 : A S64x16x32x32)
    (h3 : ∀ (n : Fin 64) (s : Fin 16) (p : Fin 64) (k : Fin 16), (V c main_v31 : A S16x1024x64) (ix3 k ⟨n.val * 16 + s.val, by omega⟩ p) = sq x0 x1 x2 x3 x4 x5 x6 x7 x8 x9 x10 x11 x12 x13 x14 x15 n s ⟨p.val / 8 * 4 + k.val / 4, by omega⟩ ⟨p.val % 8 * 4 + k.val % 4, by omega⟩) :
    (model (arrays V c)).P2 = fun n s p => Cert.Spec.pool (lit 0x41800000#32) (fun k : Fin 4 × Fin 4 =>
    sq x0 x1 x2 x3 x4 x5 x6 x7 x8 x9 x10 x11 x12 x13 x14 x15 n s ⟨p.val / 8 * 4 + k.1.val, by omega⟩ ⟨p.val % 8 * 4 + k.2.val, by omega⟩) :=
  funext fun n => funext fun s => funext fun p =>
    pool_of16 (fun k => (arrays V c).x3 (ix3 k ⟨n.val * 16 + s.val, by omega⟩ p)) (fun i j => sq x0 x1 x2 x3 x4 x5 x6 x7 x8 x9 x10 x11 x12 x13 x14 x15 n s ⟨p.val / 8 * 4 + i.val, by omega⟩ ⟨p.val % 8 * 4 + j.val, by omega⟩) (h3 n s p)

theorem P3_of (x0 : A S64x16x32x32) (x1 : A S64x16x32x32) (x2 : A S64x16x32x32) (x3 : A S64x16x32x32) (x4 : A S64x16x32x32) (x5 : A S64x16x32x32) (x6 : A S64x16x32x32) (x7 : A S64x16x32x32) (x8 : A S64x16x32x32) (x9 : A S64x16x32x32) (x10 : A S64x16x32x32) (x11 : A S64x16x32x32) (x12 : A S64x16x32x32) (x13 : A S64x16x32x32) (x14 : A S64x16x32x32) (x15 : A S64x16x32x32)
    (h4 : ∀ (n : Fin 64) (s : Fin 16) (p : Fin 16) (k : Fin 64), (V c main_v34 : A S1024x16x64) (ix3 ⟨n.val * 16 + s.val, by omega⟩ p k) = sq x0 x1 x2 x3 x4 x5 x6 x7 x8 x9 x10 x11 x12 x13 x14 x15 n s ⟨p.val / 4 * 8 + k.val / 8, by omega⟩ ⟨p.val % 4 * 8 + k.val % 8, by omega⟩) :
    (model (arrays V c)).P3 = fun n s p => Cert.Spec.pool (lit 0x42800000#32) (fun k : Fin 8 × Fin 8 =>
    sq x0 x1 x2 x3 x4 x5 x6 x7 x8 x9 x10 x11 x12 x13 x14 x15 n s ⟨p.val / 4 * 8 + k.1.val, by omega⟩ ⟨p.val % 4 * 8 + k.2.val, by omega⟩) :=
  funext fun n => funext fun s => funext fun p =>
    pool_of64 (fun k => (arrays V c).x4 (ix3 ⟨n.val * 16 + s.val, by omega⟩ p k)) (fun i j => sq x0 x1 x2 x3 x4 x5 x6 x7 x8 x9 x10 x11 x12 x13 x14 x15 n s ⟨p.val / 4 * 8 + i.val, by omega⟩ ⟨p.val % 4 * 8 + j.val, by omega⟩) (h4 n s p)

theorem l0_of (x16 : A S64x512x32x32) (x34 : A S128x512)
    (h5 : ∀ (n : Fin 64) (k : Fin 512), (V c main_v1_0 : A S64x512) (ix2 n k) = mean (lit 0x44800000#32) (fun p : Fin 1024 => x16 (ix4 n k ⟨p.val / 32, by omega⟩ ⟨p.val % 32, by omega⟩)))
    (h28 : (V c main_arg34 : A S128x512) = x34) :
    (model (arrays V c)).l0 = fun n j => ∑ k, mean (lit 0x44800000#32) (fun p : Fin 1024 => x16 (ix4 n k ⟨p.val / 32, by omega⟩ ⟨p.val % 32, by omega⟩)) * x34 (ix2 j k) :=
  funext fun n => funext fun j => by
    show ∑ k, (arrays V c).x5 (ix2 n k) * (arrays V c).x28 (ix2 j k) = _
    exact Finset.sum_congr rfl fun k _ => congrArg₂ (fun x y : EReal => x * y) (h5 n k) (congrFun h28 (ix2 j k))

theorem l1_of (x17 : A S64x1024x16x16) (x35 : A S128x1024)
    (h6 : ∀ (n : Fin 64) (k : Fin 1024), (V c main_v35 : A S64x1024) (ix2 n k) = mean (lit 0x43800000#32) (fun p : Fin 256 => x17 (ix4 n k ⟨p.val / 16, by omega⟩ ⟨p.val % 16, by omega⟩)))
    (h29 : (V c main_arg35 : A S128x1024) = x35) :
    (model (arrays V c)).l1 = fun n j => ∑ k, mean (lit 0x43800000#32) (fun p : Fin 256 => x17 (ix4 n k ⟨p.val / 16, by omega⟩ ⟨p.val % 16, by omega⟩)) * x35 (ix2 j k) :=
  funext fun n => funext fun j => by
    show ∑ k, (arrays V c).x6 (ix2 n k) * (arrays V c).x29 (ix2 j k) = _
    exact Finset.sum_congr rfl fun k _ => congrArg₂ (fun x y : EReal => x * y) (h6 n k) (congrFun h29 (ix2 j k))

theorem l2_of (x18 : A S64x2048x8x8) (x36 : A S128x2048)
    (h7 : ∀ (n : Fin 64) (k : Fin 1024), (V c main_v36 : A S64x1024) (ix2 n k) = mean (lit 0x42800000#32) (fun p : Fin 64 => x18 (ix4 n ⟨2 * k.val, by omega⟩ ⟨p.val / 8, by omega⟩ ⟨p.val % 8, by omega⟩)))
    (h8 : ∀ (n : Fin 64) (k : Fin 1024), (V c main_v37 : A S64x1024) (ix2 n k) = mean (lit 0x42800000#32) (fun p : Fin 64 => x18 (ix4 n ⟨2 * k.val + 1, by omega⟩ ⟨p.val / 8, by omega⟩ ⟨p.val % 8, by omega⟩)))
    (h30 : ∀ (j : Fin 128) (k : Fin 1024), (V c main_v48 : A S128x1024) (ix2 j k) = x36 (ix2 j ⟨2 * k.val, by omega⟩))
    (h31 : ∀ (j : Fin 128) (k : Fin 1024), (V c main_v49 : A S128x1024) (ix2 j k) = x36 (ix2 j ⟨2 * k.val + 1, by omega⟩)) :
    (model (arrays V c)).l2 = fun n j => ∑ k, mean (lit 0x42800000#32) (fun p : Fin 64 => x18 (ix4 n k ⟨p.val / 8, by omega⟩ ⟨p.val % 8, by omega⟩)) * x36 (ix2 j k) :=
  funext fun n => funext fun j =>
    (congrArg₂ (fun x y : EReal => x + y) (Finset.sum_congr rfl fun k _ => congrArg₂ (fun x y : EReal => x * y) (h7 n k) (h30 j k))
      (Finset.sum_congr rfl fun k _ => congrArg₂ (fun x y : EReal => x * y) (h8 n k) (h31 j k))).trans
    (sum_even_odd (fun k => mean (lit 0x42800000#32) (fun p : Fin 64 => x18 (ix4 n k ⟨p.val / 8, by omega⟩ ⟨p.val % 8, by omega⟩)) * x36 (ix2 j k)))

theorem l3_of (x19 : A S64x2048x4x4) (x37 : A S128x2048)
    (h9 : ∀ (n : Fin 64) (k : Fin 2048), (V c main_v7_0 : A S64x2048) (ix2 n k) = mean (lit 0x41800000#32) (fun p : Fin 16 => x19 (ix4 n k ⟨p.val / 4, by omega⟩ ⟨p.val % 4, by omega⟩)))
    (h32 : (V c main_arg37 : A S128x2048) = x37) :
    (model (arrays V c)).l3 = fun n j => ∑ k, mean (lit 0x41800000#32) (fun p : Fin 16 => x19 (ix4 n k ⟨p.val / 4, by omega⟩ ⟨p.val % 4, by omega⟩)) * x37 (ix2 j k) :=
  funext fun n => funext fun j => by
    show ∑ k, (arrays V c).x9 (ix2 n k) * (arrays V c).x32 (ix2 j k) = _
    exact Finset.sum_congr rfl fun k _ => congrArg₂ (fun x y : EReal => x * y) (h9 n k) (congrFun h32 (ix2 j k))

theorem t0_of (x16 : A S64x512x32x32)
    (h10 : ∀ (n : Fin 64) (p : Fin 1024), (V c main_v38 : A S64x1024) (ix2 n p) = mean (lit 0x44000000#32) (fun k : Fin 512 => x16 (ix4 n k ⟨p.val / 32, by omega⟩ ⟨p.val % 32, by omega⟩) * x16 (ix4 n k ⟨p.val / 32, by omega⟩ ⟨p.val % 32, by omega⟩))) :
    (model (arrays V c)).t0 = fun n p => mean (lit 0x44000000#32) (fun c => x16 (ix4 n c ⟨p.val / 32, by omega⟩ ⟨p.val % 32, by omega⟩) * x16 (ix4 n c ⟨p.val / 32, by omega⟩ ⟨p.val % 32, by omega⟩)) :=
  funext fun n => funext fun p => h10 n p

theorem t1_of (x17 : A S64x1024x16x16)
    (h11 : ∀ (n : Fin 64) (p : Fin 256), (V c main_v39 : A S64x256) (ix2 n p) = mean (lit 0x44800000#32) (fun k : Fin 1024 => x17 (ix4 n k ⟨p.val / 16, by omega⟩ ⟨p.val % 16, by omega⟩) * x17 (ix4 n k ⟨p.val / 16, by omega⟩ ⟨p.val % 16, by omega⟩))) :
    (model (arrays V c)).t1 = fun n p => mean (lit 0x44800000#32) (fun c => x17 (ix4 n c ⟨p.val / 16, by omega⟩ ⟨p.val % 16, by omega⟩) * x17 (ix4 n c ⟨p.val / 16, by omega⟩ ⟨p.val % 16, by omega⟩)) :=
  funext fun n => funext fun p => h11 n p

theorem t2_of (x18 : A S64x2048x8x8)
    (h12 : ∀ (n : Fin 64) (p : Fin 64), (V c main_v5_2 : A S64x64) (ix2 n p) = mean (lit 0x45000000#32) (fun k : Fin 2048 => x18 (ix4 n k ⟨p.val / 8, by omega⟩ ⟨p.val % 8, by omega⟩) * x18 (ix4 n k ⟨p.val / 8, by omega⟩ ⟨p.val % 8, by omega⟩))) :
    (model (arrays V c)).t2 = fun n p => mean (lit 0x45000000#32) (fun c => x18 (ix4 n c ⟨p.val / 8, by omega⟩ ⟨p.val % 8, by omega⟩) * x18 (ix4 n c ⟨p.val / 8, by omega⟩ ⟨p.val % 8, by omega⟩)) :=
  funext fun n => funext fun p => h12 n p

theorem t3_of (x19 : A S64x2048x4x4)
    (h13 : ∀ (n : Fin 64) (p : Fin 16), (V c main_v7_1 : A S64x16) (ix2 n p) = mean (lit 0x45000000#32) (fun k : Fin 2048 => x19 (ix4 n k ⟨p.val / 4, by omega⟩ ⟨p.val % 4, by omega⟩) * x19 (ix4 n k ⟨p.val / 4, by omega⟩ ⟨p.val % 4, by omega⟩))) :
    (model (arrays V c)).t3 = fun n p => mean (lit 0x45000000#32) (fun c => x19 (ix4 n c ⟨p.val / 4, by omega⟩ ⟨p.val % 4, by omega⟩) * x19 (ix4 n c ⟨p.val / 4, by omega⟩ ⟨p.val % 4, by omega⟩)) :=
  funext fun n => funext fun p => h13 n p

theorem aw_of (x20 : A S4)
    (h14 : ∀ (t : Fin 4), (V c main_v40 : A S1x4) (ix2 0 t) = x20 (ix1 t)) :
    (model (arrays V c)).aw = fun t => x20 (ix1 t) :=
  funext fun t => h14 t

theorem ab_of (x21 : A S4)
    (h15 : ∀ (t : Fin 4), (V c main_v41 : A S1x4) (ix2 0 t) = x21 (ix1 t)) :
    (model (arrays V c)).ab = fun t => x21 (ix1 t) :=
  funext fun t => h15 t

theorem kW_of (x22 : A S16x128x16)
    (h16 : (V c main_arg22 : A S16x128x16) = x22) :
    (model (arrays V c)).kW = fun s k c => x22 (ix3 s k c) :=
  funext fun s => funext fun k => funext fun c => congrFun h16 (ix3 s k c)

theorem kb_of (x23 : A S16x128)
    (h17 : (V c main_arg23 : A S16x128) = x23) :
    (model (arrays V c)).kb = fun s k => x23 (ix2 s k) :=
  funext fun s => funext fun k => congrFun h17 (ix2 s k)

theorem kg_of (x24 : A S16x128)
    (h18 : (V c main_arg24 : A S16x128) = x24) :
    (model (arrays V c)).kg = fun s k => x24 (ix2 s k) :=
  funext fun s => funext fun k => congrFun h18 (ix2 s k)

theorem ke_of (x25 : A S16x128)
    (h19 : (V c main_arg25 : A S16x128) = x25) :
    (model (arrays V c)).ke = fun s k => x25 (ix2 s k) :=
  funext fun s => funext fun k => congrFun h19 (ix2 s k)

theorem W1_of (x26 : A S256x128)
    (h20 : (V c main_arg26 : A S256x128) = x26) :
    (model (arrays V c)).W1 = fun o k => x26 (ix2 o k) :=
  funext fun o => funext fun k => congrFun h20 (ix2 o k)

theorem b1_of (x27 : A S256)
    (h21 : ∀ (o : Fin 256), (V c main_v42 : A S1x256) (ix2 0 o) = x27 (ix1 o)) :
    (model (arrays V c)).b1 = fun o => x27 (ix1 o) :=
  funext fun o => h21 o

theorem g1_of (x28 : A S256)
    (h22 : ∀ (o : Fin 256), (V c main_v43 : A S1x256) (ix2 0 o) = x28 (ix1 o)) :
    (model (arrays V c)).g1 = fun o => x28 (ix1 o) :=
  funext fun o => h22 o

theorem e1_of (x29 : A S256)
    (h23 : ∀ (o : Fin 256), (V c main_v44 : A S1x256) (ix2 0 o) = x29 (ix1 o)) :
    (model (arrays V c)).e1 = fun o => x29 (ix1 o) :=
  funext fun o => h23 o

theorem W2_of (x30 : A S512x256)
    (h24 : (V c main_arg30 : A S512x256) = x30) :
    (model (arrays V c)).W2 = fun o k => x30 (ix2 o k) :=
  funext fun o => funext fun k => congrFun h24 (ix2 o k)

theorem b2_of (x31 : A S512)
    (h25 : ∀ (o : Fin 512), (V c main_v45 : A S1x512) (ix2 0 o) = x31 (ix1 o)) :
    (model (arrays V c)).b2 = fun o => x31 (ix1 o) :=
  funext fun o => h25 o

theorem g2_of (x32 : A S512)
    (h26 : ∀ (o : Fin 512), (V c main_v46 : A S1x512) (ix2 0 o) = x32 (ix1 o)) :
    (model (arrays V c)).g2 = fun o => x32 (ix1 o) :=
  funext fun o => h26 o

theorem e2_of (x33 : A S512)
    (h27 : ∀ (o : Fin 512), (V c main_v47 : A S1x512) (ix2 0 o) = x33 (ix1 o)) :
    (model (arrays V c)).e2 = fun o => x33 (ix1 o) :=
  funext fun o => h27 o

theorem qb_of (x38 : A S4x128)
    (h33 : (V c main_arg38 : A S4x128) = x38) :
    (model (arrays V c)).qb = fun t j => x38 (ix2 t j) :=
  funext fun t => funext fun j => congrFun h33 (ix2 t j)

theorem qg_of (x39 : A S4x128)
    (h34 : (V c main_arg39 : A S4x128) = x39) :
    (model (arrays V c)).qg = fun t j => x39 (ix2 t j) :=
  funext fun t => funext fun j => congrFun h34 (ix2 t j)

theorem qe_of (x40 : A S4x128)
    (h35 : (V c main_arg40 : A S4x128) = x40) :
    (model (arrays V c)).qe = fun t j => x40 (ix2 t j) :=
  funext fun t => funext fun j => congrFun h35 (ix2 t j)

theorem pt_of (x41 : A S4x128)
    (h36 : (V c main_arg41 : A S4x128) = x41) :
    (model (arrays V c)).pt = fun t j => x41 (ix2 t j) :=
  funext fun t => funext fun j => congrFun h36 (ix2 t j)

theorem ps_of (x42 : A S16x128)
    (h37 : (V c main_arg42 : A S16x128) = x42) :
    (model (arrays V c)).ps = fun s j => x42 (ix2 s j) :=
  funext fun s => funext fun j => congrFun h37 (ix2 s j)

theorem w_of (x43 : A S4)
    (h38 : ∀ (t : Fin 4), (V c main_v50 : A S1x4) (ix2 0 t) = x43 (ix1 t)) :
    (model (arrays V c)).w = fun t => x43 (ix1 t) :=
  funext fun t => h38 t

theorem G0_of (x44 : A S4x16)
    (h39 : ∀ (s : Fin 16) (p : Fin 1024), (V c main_v54 : A S16x1024) (ix2 s p) = x44 (ix2 0 s)) :
    (model (arrays V c)).G0 = fun s _ => x44 (ix2 0 s) :=
  funext fun s => funext fun p => h39 s p

theorem G1_of (x44 : A S4x16)
    (h40 : ∀ (s : Fin 16) (p : Fin 256), (V c main_v58 : A S16x256) (ix2 s p) = x44 (ix2 1 s)) :
    (model (arrays V c)).G1 = fun s _ => x44 (ix2 1 s) :=
  funext fun s => funext fun p => h40 s p

theorem G2_of (x44 : A S4x16)
    (h41 : ∀ (s : Fin 16) (p : Fin 64), (V c main_v62 : A S16x64) (ix2 s p) = x44 (ix2 2 s)) :
    (model (arrays V c)).G2 = fun s _ => x44 (ix2 2 s) :=
  funext fun s => funext fun p => h41 s p

theorem G3_of (x44 : A S4x16)
    (h42 : ∀ (s : Fin 16) (p : Fin 16), (V c main_v66 : A S16x16) (ix2 s p) = x44 (ix2 3 s)) :
    (model (arrays V c)).G3 = fun s _ => x44 (ix2 3 s) :=
  funext fun s => funext fun p => h42 s p

theorem B0_of (x45 : A S4x16)
    (h43 : ∀ (s : Fin 16) (p : Fin 1024), (V c main_v70 : A S16x1024) (ix2 s p) = x45 (ix2 0 s)) :
    (model (arrays V c)).B0 = fun s _ => x45 (ix2 0 s) :=
  funext fun s => funext fun p => h43 s p

theorem B1_of (x45 : A S4x16)
    (h44 : ∀ (s : Fin 16) (p : Fin 256), (V c main_v74 : A S16x256) (ix2 s p) = x45 (ix2 1 s)) :
    (model (arrays V c)).B1 = fun s _ => x45 (ix2 1 s) :=
  funext fun s => funext fun p => h44 s p

theorem B2_of (x45 : A S4x16)
    (h45 : ∀ (s : Fin 16) (p : Fin 64), (V c main_v78 : A S16x64) (ix2 s p) = x45 (ix2 2 s)) :
    (model (arrays V c)).B2 = fun s _ => x45 (ix2 2 s) :=
  funext fun s => funext fun p => h45 s p

theorem B3_of (x45 : A S4x16)
    (h46 : ∀ (s : Fin 16) (p : Fin 16), (V c main_v82 : A S16x16) (ix2 s p) = x45 (ix2 3 s)) :
    (model (arrays V c)).B3 = fun s _ => x45 (ix2 3 s) :=
  funext fun s => funext fun p => h46 s p

end Cert.KernelIdeal.Epi
-- ==== Proof.Pieces.lean ====
/-
  The last call's reduced data are those of the arguments, all together.
-/
module

public import Idealize.ShloMosaic.Lib.Pipeline.ValueKit
public import proofs.«01_k».proof.Proof.Held
public import proofs.«01_k».proof.Proof.Arrays
public import proofs.«01_k».proof.Proof.Combine

@[expose] public section

set_option maxRecDepth 16384

namespace Cert.KernelIdeal.Run

open Idealize Idealize.ShloMosaic Idealize.ShloMosaic.TcCoe Cert.KernelIdeal Cert.KernelIdeal.Gen Cert.KernelIdeal.Host
open Cert.KernelIdeal.Epi Cert.Spec Cert.Reference

variable (m : (ℓ : Loc nD τ sig) → Buf (Elt Ideal) ℓ) (ρ : Dev nD → PrngReg) (c : Dev nD)

/-- The reduced data of the arguments of core `c`. -/
noncomputable def data : Model := reduced (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a34 m c) (a35 m c) (a36 m c) (a37 m c) (a38 m c) (a39 m c) (a40 m c) (a41 m c) (a42 m c) (a43 m c) (a44 m c) (a45 m c)

theorem cm_eq : (model (arrays (V11 m ρ) c)).cm = (data m c).cm :=
  Epi.cm_of (V11 m ρ) c (a0 m c) (a1 m c) (a2 m c) (a3 m c) (a4 m c) (a5 m c) (a6 m c) (a7 m c) (a8 m c) (a9 m c) (a10 m c) (a11 m c) (a12 m c) (a13 m c) (a14 m c) (a15 m c) (window0 m ρ c)

theorem P_eq : (model (arrays (V11 m ρ) c)).P = (data m c).P :=
  Epi.P_of (V11 m ρ) c (a0 m c) (a1 m c) (a2 m c) (a3 m c) (a4 m c) (a5 m c) (a6 m c) (a7 m c) (a8 m c) (a9 m c) (a10 m c) (a11 m c) (a12 m c) (a13 m c) (a14 m c) (a15 m c) (window1 m ρ c)

theorem P1_eq : (model (arrays (V11 m ρ) c)).P1 = (data m c).P1 :=
  Epi.P1_of (V11 m ρ) c (a0 m c) (a1 m c) (a2 m c) (a3 m c) (a4 m c) (a5 m c) (a6 m c) (a7 m c) (a8 m c) (a9 m c) (a10 m c) (a11 m c) (a12 m c) (a13 m c) (a14 m c) (a15 m c) (window2 m ρ c)

theorem P2_eq : (model (arrays (V11 m ρ) c)).P2 = (data m c).P2 :=
  Epi.P2_of (V11 m ρ) c (a0 m c) (a1 m c) (a2 m c) (a3 m c) (a4 m c) (a5 m c) (a6 m c) (a7 m c) (a8 m c) (a9 m c) (a10 m c) (a11 m c) (a12 m c) (a13 m c) (a14 m c) (a15 m c) (window3 m ρ c)

theorem P3_eq : (model (arrays (V11 m ρ) c)).P3 = (data m c).P3 :=
  Epi.P3_of (V11 m ρ) c (a0 m c) (a1 m c) (a2 m c) (a3 m c) (a4 m c) (a5 m c) (a6 m c) (a7 m c) (a8 m c) (a9 m c) (a10 m c) (a11 m c) (a12 m c) (a13 m c) (a14 m c) (a15 m c) (window4 m ρ c)

theorem l0_eq : (model (arrays (V11 m ρ) c)).l0 = (data m c).l0 :=
  Epi.l0_of (V11 m ρ) c (a16 m c) (a34 m c) (window5 m ρ c) (window28 m ρ c)

theorem l1_eq : (model (arrays (V11 m ρ) c)).l1 = (data m c).l1 :=
  Epi.l1_of (V11 m ρ) c (a17 m c) (a35 m c) (window6 m ρ c) (window29 m ρ c)

theorem l2_eq : (model (arrays (V11 m ρ) c)).l2 = (data m c).l2 :=
  Epi.l2_of (V11 m ρ) c (a18 m c) (a36 m c) (window7 m ρ c) (window8 m ρ c) (window30 m ρ c) (window31 m ρ c)

theorem l3_eq : (model (arrays (V11 m ρ) c)).l3 = (data m c).l3 :=
  Epi.l3_of (V11 m ρ) c (a19 m c) (a37 m c) (window9 m ρ c) (window32 m ρ c)

theorem t0_eq : (model (arrays (V11 m ρ) c)).t0 = (data m c).t0 :=
  Epi.t0_of (V11 m ρ) c (a16 m c) (window10 m ρ c)

theorem t1_eq : (model (arrays (V11 m ρ) c)).t1 = (data m c).t1 :=
  Epi.t1_of (V11 m ρ) c (a17 m c) (window11 m ρ c)

theorem t2_eq : (model (arrays (V11 m ρ) c)).t2 = (data m c).t2 :=
  Epi.t2_of (V11 m ρ) c (a18 m c) (window12 m ρ c)

theorem t3_eq : (model (arrays (V11 m ρ) c)).t3 = (data m c).t3 :=
  Epi.t3_of (V11 m ρ) c (a19 m c) (window13 m ρ c)

theorem aw_eq : (model (arrays (V11 m ρ) c)).aw = (data m c).aw :=
  Epi.aw_of (V11 m ρ) c (a20 m c) (window14 m ρ c)

theorem ab_eq : (model (arrays (V11 m ρ) c)).ab = (data m c).ab :=
  Epi.ab_of (V11 m ρ) c (a21 m c) (window15 m ρ c)

theorem kW_eq : (model (arrays (V11 m ρ) c)).kW = (data m c).kW :=
  Epi.kW_of (V11 m ρ) c (a22 m c) (window16 m ρ c)

theorem kb_eq : (model (arrays (V11 m ρ) c)).kb = (data m c).kb :=
  Epi.kb_of (V11 m ρ) c (a23 m c) (window17 m ρ c)

theorem kg_eq : (model (arrays (V11 m ρ) c)).kg = (data m c).kg :=
  Epi.kg_of (V11 m ρ) c (a24 m c) (window18 m ρ c)

theorem ke_eq : (model (arrays (V11 m ρ) c)).ke = (data m c).ke :=
  Epi.ke_of (V11 m ρ) c (a25 m c) (window19 m ρ c)

theorem W1_eq : (model (arrays (V11 m ρ) c)).W1 = (data m c).W1 :=
  Epi.W1_of (V11 m ρ) c (a26 m c) (window20 m ρ c)

theorem b1_eq : (model (arrays (V11 m ρ) c)).b1 = (data m c).b1 :=
  Epi.b1_of (V11 m ρ) c (a27 m c) (window21 m ρ c)

theorem g1_eq : (model (arrays (V11 m ρ) c)).g1 = (data m c).g1 :=
  Epi.g1_of (V11 m ρ) c (a28 m c) (window22 m ρ c)

theorem e1_eq : (model (arrays (V11 m ρ) c)).e1 = (data m c).e1 :=
  Epi.e1_of (V11 m ρ) c (a29 m c) (window23 m ρ c)

theorem W2_eq : (model (arrays (V11 m ρ) c)).W2 = (data m c).W2 :=
  Epi.W2_of (V11 m ρ) c (a30 m c) (window24 m ρ c)

theorem b2_eq : (model (arrays (V11 m ρ) c)).b2 = (data m c).b2 :=
  Epi.b2_of (V11 m ρ) c (a31 m c) (window25 m ρ c)

theorem g2_eq : (model (arrays (V11 m ρ) c)).g2 = (data m c).g2 :=
  Epi.g2_of (V11 m ρ) c (a32 m c) (window26 m ρ c)

theorem e2_eq : (model (arrays (V11 m ρ) c)).e2 = (data m c).e2 :=
  Epi.e2_of (V11 m ρ) c (a33 m c) (window27 m ρ c)

theorem qb_eq : (model (arrays (V11 m ρ) c)).qb = (data m c).qb :=
  Epi.qb_of (V11 m ρ) c (a38 m c) (window33 m ρ c)

theorem qg_eq : (model (arrays (V11 m ρ) c)).qg = (data m c).qg :=
  Epi.qg_of (V11 m ρ) c (a39 m c) (window34 m ρ c)

theorem qe_eq : (model (arrays (V11 m ρ) c)).qe = (data m c).qe :=
  Epi.qe_of (V11 m ρ) c (a40 m c) (window35 m ρ c)

theorem pt_eq : (model (arrays (V11 m ρ) c)).pt = (data m c).pt :=
  Epi.pt_of (V11 m ρ) c (a41 m c) (window36 m ρ c)

theorem ps_eq : (model (arrays (V11 m ρ) c)).ps = (data m c).ps :=
  Epi.ps_of (V11 m ρ) c (a42 m c) (window37 m ρ c)

theorem w_eq : (model (arrays (V11 m ρ) c)).w = (data m c).w :=
  Epi.w_of (V11 m ρ) c (a43 m c) (window38 m ρ c)

theorem G0_eq : (model (arrays (V11 m ρ) c)).G0 = (data m c).G0 :=
  Epi.G0_of (V11 m ρ) c (a44 m c) (window39 m ρ c)

theorem G1_eq : (model (arrays (V11 m ρ) c)).G1 = (data m c).G1 :=
  Epi.G1_of (V11 m ρ) c (a44 m c) (window40 m ρ c)

theorem G2_eq : (model (arrays (V11 m ρ) c)).G2 = (data m c).G2 :=
  Epi.G2_of (V11 m ρ) c (a44 m c) (window41 m ρ c)

theorem G3_eq : (model (arrays (V11 m ρ) c)).G3 = (data m c).G3 :=
  Epi.G3_of (V11 m ρ) c (a44 m c) (window42 m ρ c)

theorem B0_eq : (model (arrays (V11 m ρ) c)).B0 = (data m c).B0 :=
  Epi.B0_of (V11 m ρ) c (a45 m c) (window43 m ρ c)

theorem B1_eq : (model (arrays (V11 m ρ) c)).B1 = (data m c).B1 :=
  Epi.B1_of (V11 m ρ) c (a45 m c) (window44 m ρ c)

theorem B2_eq : (model (arrays (V11 m ρ) c)).B2 = (data m c).B2 :=
  Epi.B2_of (V11 m ρ) c (a45 m c) (window45 m ρ c)

theorem B3_eq : (model (arrays (V11 m ρ) c)).B3 = (data m c).B3 :=
  Epi.B3_of (V11 m ρ) c (a45 m c) (window46 m ρ c)

/-- The last call's data. -/
theorem model_eq : model (arrays (V11 m ρ) c) = data m c :=
  Model.ext (cm_eq m ρ c) (P_eq m ρ c) (P1_eq m ρ c) (P2_eq m ρ c) (P3_eq m ρ c) (l0_eq m ρ c) (l1_eq m ρ c) (l2_eq m ρ c) (l3_eq m ρ c) (t0_eq m ρ c) (t1_eq m ρ c) (t2_eq m ρ c) (t3_eq m ρ c) (aw_eq m ρ c) (ab_eq m ρ c) (kW_eq m ρ c) (kb_eq m ρ c) (kg_eq m ρ c) (ke_eq m ρ c) (W1_eq m ρ c) (b1_eq m ρ c) (g1_eq m ρ c) (e1_eq m ρ c) (W2_eq m ρ c) (b2_eq m ρ c) (g2_eq m ρ c) (e2_eq m ρ c) (qb_eq m ρ c) (qg_eq m ρ c) (qe_eq m ρ c) (pt_eq m ρ c) (ps_eq m ρ c) (w_eq m ρ c) (G0_eq m ρ c) (G1_eq m ρ c) (G2_eq m ρ c) (G3_eq m ρ c) (B0_eq m ρ c) (B1_eq m ρ c) (B2_eq m ρ c) (B3_eq m ρ c)

end Cert.KernelIdeal.Run
-- ==== Proof.Windows0.lean ====
/-
  The last call has one grid point, so its blocks are whole arrays: windows 0 to 11.
-/
module

public import Idealize.ShloMosaic.Lib.Pipeline.ValueKit
public import proofs.«01_k».proof.Proof.Flat
public import proofs.«01_k».proof.Proof.Arrays

@[expose] public section

set_option maxRecDepth 16384

namespace Cert.KernelIdeal.Epi

open Idealize Idealize.ShloMosaic Idealize.ShloMosaic.TcCoe Cert.KernelIdeal Cert.KernelIdeal.Gen Cert.Reference

variable (V : (c : Dev nD) → (b : Ref sig .tc) → Buf (Elt Ideal) ((c : Thread nD τ).loc b)) (c : Dev nD) (t : Fin cfg5.N)

theorem index0 : win5_0.index t 0 = 0 ∧ win5_0.index t 1 = 0 ∧ win5_0.index t 2 = 0 := by
  rw [fin_N5 t]
  decide +kernel

theorem block0 : (blocks V c t).x0 = (arrays V c).x0 := by
  show (iblk5 V c 0 t : A S64x16x16) = V c main_v24_0
  funext j
  blk_ext [iblk5, index0 t]

theorem index1 : win5_1.index t 0 = 0 ∧ win5_1.index t 1 = 0 ∧ win5_1.index t 2 = 0 := by
  rw [fin_N5 t]
  decide +kernel

theorem block1 : (blocks V c t).x1 = (arrays V c).x1 := by
  show (iblk5 V c 1 t : A S64x16x1024) = V c main_v25
  funext j
  blk_ext [iblk5, index1 t]

theorem index2 : win5_2.index t 0 = 0 ∧ win5_2.index t 1 = 0 ∧ win5_2.index t 2 = 0 := by
  rw [fin_N5 t]
  decide +kernel

theorem block2 : (blocks V c t).x2 = (arrays V c).x2 := by
  show (iblk5 V c 2 t : A S4x1024x256) = V c main_v28
  funext j
  blk_ext [iblk5, index2 t]

theorem index3 : win5_3.index t 0 = 0 ∧ win5_3.index t 1 = 0 ∧ win5_3.index t 2 = 0 := by
  rw [fin_N5 t]
  decide +kernel

theorem block3 : (blocks V c t).x3 = (arrays V c).x3 := by
  show (iblk5 V c 3 t : A S16x1024x64) = V c main_v31
  funext j
  blk_ext [iblk5, index3 t]

theorem index4 : win5_4.index t 0 = 0 ∧ win5_4.index t 1 = 0 ∧ win5_4.index t 2 = 0 := by
  rw [fin_N5 t]
  decide +kernel

theorem block4 : (blocks V c t).x4 = (arrays V c).x4 := by
  show (iblk5 V c 4 t : A S1024x16x64) = V c main_v34
  funext j
  blk_ext [iblk5, index4 t]

theorem index5 : win5_5.index t 0 = 0 ∧ win5_5.index t 1 = 0 := by
  rw [fin_N5 t]
  decide +kernel

theorem block5 : (blocks V c t).x5 = (arrays V c).x5 := by
  show (iblk5 V c 5 t : A S64x512) = V c main_v1_0
  funext j
  blk_ext [iblk5, index5 t]

theorem index6 : win5_6.index t 0 = 0 ∧ win5_6.index t 1 = 0 := by
  rw [fin_N5 t]
  decide +kernel

theorem block6 : (blocks V c t).x6 = (arrays V c).x6 := by
  show (iblk5 V c 6 t : A S64x1024) = V c main_v35
  funext j
  blk_ext [iblk5, index6 t]

theorem index7 : win5_7.index t 0 = 0 ∧ win5_7.index t 1 = 0 := by
  rw [fin_N5 t]
  decide +kernel

theorem block7 : (blocks V c t).x7 = (arrays V c).x7 := by
  show (iblk5 V c 7 t : A S64x1024) = V c main_v36
  funext j
  blk_ext [iblk5, index7 t]

theorem index8 : win5_8.index t 0 = 0 ∧ win5_8.index t 1 = 0 := by
  rw [fin_N5 t]
  decide +kernel

theorem block8 : (blocks V c t).x8 = (arrays V c).x8 := by
  show (iblk5 V c 8 t : A S64x1024) = V c main_v37
  funext j
  blk_ext [iblk5, index8 t]

theorem index9 : win5_9.index t 0 = 0 ∧ win5_9.index t 1 = 0 := by
  rw [fin_N5 t]
  decide +kernel

theorem block9 : (blocks V c t).x9 = (arrays V c).x9 := by
  show (iblk5 V c 9 t : A S64x2048) = V c main_v7_0
  funext j
  blk_ext [iblk5, index9 t]

theorem index10 : win5_10.index t 0 = 0 ∧ win5_10.index t 1 = 0 := by
  rw [fin_N5 t]
  decide +kernel

theorem block10 : (blocks V c t).x10 = (arrays V c).x10 := by
  show (iblk5 V c 10 t : A S64x1024) = V c main_v38
  funext j
  blk_ext [iblk5, index10 t]

theorem index11 : win5_11.index t 0 = 0 ∧ win5_11.index t 1 = 0 := by
  rw [fin_N5 t]
  decide +kernel

theorem block11 : (blocks V c t).x11 = (arrays V c).x11 := by
  show (iblk5 V c 11 t : A S64x256) = V c main_v39
  funext j
  blk_ext [iblk5, index11 t]

end Cert.KernelIdeal.Epi
-- ==== Proof.Windows1.lean ====
/-
  The last call has one grid point, so its blocks are whole arrays: windows 12 to 23.
-/
module

public import Idealize.ShloMosaic.Lib.Pipeline.ValueKit
public import proofs.«01_k».proof.Proof.Flat
public import proofs.«01_k».proof.Proof.Arrays

@[expose] public section

set_option maxRecDepth 16384

namespace Cert.KernelIdeal.Epi

open Idealize Idealize.ShloMosaic Idealize.ShloMosaic.TcCoe Cert.KernelIdeal Cert.KernelIdeal.Gen Cert.Reference

variable (V : (c : Dev nD) → (b : Ref sig .tc) → Buf (Elt Ideal) ((c : Thread nD τ).loc b)) (c : Dev nD) (t : Fin cfg5.N)

theorem index12 : win5_12.index t 0 = 0 ∧ win5_12.index t 1 = 0 := by
  rw [fin_N5 t]
  decide +kernel

theorem block12 : (blocks V c t).x12 = (arrays V c).x12 := by
  show (iblk5 V c 12 t : A S64x64) = V c main_v5_2
  funext j
  blk_ext [iblk5, index12 t]

theorem index13 : win5_13.index t 0 = 0 ∧ win5_13.index t 1 = 0 := by
  rw [fin_N5 t]
  decide +kernel

theorem block13 : (blocks V c t).x13 = (arrays V c).x13 := by
  show (iblk5 V c 13 t : A S64x16) = V c main_v7_1
  funext j
  blk_ext [iblk5, index13 t]

theorem index14 : win5_14.index t 0 = 0 ∧ win5_14.index t 1 = 0 := by
  rw [fin_N5 t]
  decide +kernel

theorem block14 : (blocks V c t).x14 = (arrays V c).x14 := by
  show (iblk5 V c 14 t : A S1x4) = V c main_v40
  funext j
  blk_ext [iblk5, index14 t]

theorem index15 : win5_15.index t 0 = 0 ∧ win5_15.index t 1 = 0 := by
  rw [fin_N5 t]
  decide +kernel

theorem block15 : (blocks V c t).x15 = (arrays V c).x15 := by
  show (iblk5 V c 15 t : A S1x4) = V c main_v41
  funext j
  blk_ext [iblk5, index15 t]

theorem index16 : win5_16.index t 0 = 0 ∧ win5_16.index t 1 = 0 ∧ win5_16.index t 2 = 0 := by
  rw [fin_N5 t]
  decide +kernel

theorem block16 : (blocks V c t).x16 = (arrays V c).x16 := by
  show (iblk5 V c 16 t : A S16x128x16) = V c main_arg22
  funext j
  blk_ext [iblk5, index16 t]

theorem index17 : win5_17.index t 0 = 0 ∧ win5_17.index t 1 = 0 := by
  rw [fin_N5 t]
  decide +kernel

theorem block17 : (blocks V c t).x17 = (arrays V c).x17 := by
  show (iblk5 V c 17 t : A S16x128) = V c main_arg23
  funext j
  blk_ext [iblk5, index17 t]

theorem index18 : win5_18.index t 0 = 0 ∧ win5_18.index t 1 = 0 := by
  rw [fin_N5 t]
  decide +kernel

theorem block18 : (blocks V c t).x18 = (arrays V c).x18 := by
  show (iblk5 V c 18 t : A S16x128) = V c main_arg24
  funext j
  blk_ext [iblk5, index18 t]

theorem index19 : win5_19.index t 0 = 0 ∧ win5_19.index t 1 = 0 := by
  rw [fin_N5 t]
  decide +kernel

theorem block19 : (blocks V c t).x19 = (arrays V c).x19 := by
  show (iblk5 V c 19 t : A S16x128) = V c main_arg25
  funext j
  blk_ext [iblk5, index19 t]

theorem index20 : win5_20.index t 0 = 0 ∧ win5_20.index t 1 = 0 := by
  rw [fin_N5 t]
  decide +kernel

theorem block20 : (blocks V c t).x20 = (arrays V c).x20 := by
  show (iblk5 V c 20 t : A S256x128) = V c main_arg26
  funext j
  blk_ext [iblk5, index20 t]

theorem index21 : win5_21.index t 0 = 0 ∧ win5_21.index t 1 = 0 := by
  rw [fin_N5 t]
  decide +kernel

theorem block21 : (blocks V c t).x21 = (arrays V c).x21 := by
  show (iblk5 V c 21 t : A S1x256) = V c main_v42
  funext j
  blk_ext [iblk5, index21 t]

theorem index22 : win5_22.index t 0 = 0 ∧ win5_22.index t 1 = 0 := by
  rw [fin_N5 t]
  decide +kernel

theorem block22 : (blocks V c t).x22 = (arrays V c).x22 := by
  show (iblk5 V c 22 t : A S1x256) = V c main_v43
  funext j
  blk_ext [iblk5, index22 t]

theorem index23 : win5_23.index t 0 = 0 ∧ win5_23.index t 1 = 0 := by
  rw [fin_N5 t]
  decide +kernel

theorem block23 : (blocks V c t).x23 = (arrays V c).x23 := by
  show (iblk5 V c 23 t : A S1x256) = V c main_v44
  funext j
  blk_ext [iblk5, index23 t]

end Cert.KernelIdeal.Epi
-- ==== Proof.Windows2.lean ====
/-
  The last call has one grid point, so its blocks are whole arrays: windows 24 to 35.
-/
module

public import Idealize.ShloMosaic.Lib.Pipeline.ValueKit
public import proofs.«01_k».proof.Proof.Flat
public import proofs.«01_k».proof.Proof.Arrays

@[expose] public section

set_option maxRecDepth 16384

namespace Cert.KernelIdeal.Epi

open Idealize Idealize.ShloMosaic Idealize.ShloMosaic.TcCoe Cert.KernelIdeal Cert.KernelIdeal.Gen Cert.Reference

variable (V : (c : Dev nD) → (b : Ref sig .tc) → Buf (Elt Ideal) ((c : Thread nD τ).loc b)) (c : Dev nD) (t : Fin cfg5.N)

theorem index24 : win5_24.index t 0 = 0 ∧ win5_24.index t 1 = 0 := by
  rw [fin_N5 t]
  decide +kernel

theorem block24 : (blocks V c t).x24 = (arrays V c).x24 := by
  show (iblk5 V c 24 t : A S512x256) = V c main_arg30
  funext j
  blk_ext [iblk5, index24 t]

theorem index25 : win5_25.index t 0 = 0 ∧ win5_25.index t 1 = 0 := by
  rw [fin_N5 t]
  decide +kernel

theorem block25 : (blocks V c t).x25 = (arrays V c).x25 := by
  show (iblk5 V c 25 t : A S1x512) = V c main_v45
  funext j
  blk_ext [iblk5, index25 t]

theorem index26 : win5_26.index t 0 = 0 ∧ win5_26.index t 1 = 0 := by
  rw [fin_N5 t]
  decide +kernel

theorem block26 : (blocks V c t).x26 = (arrays V c).x26 := by
  show (iblk5 V c 26 t : A S1x512) = V c main_v46
  funext j
  blk_ext [iblk5, index26 t]

theorem index27 : win5_27.index t 0 = 0 ∧ win5_27.index t 1 = 0 := by
  rw [fin_N5 t]
  decide +kernel

theorem block27 : (blocks V c t).x27 = (arrays V c).x27 := by
  show (iblk5 V c 27 t : A S1x512) = V c main_v47
  funext j
  blk_ext [iblk5, index27 t]

theorem index28 : win5_28.index t 0 = 0 ∧ win5_28.index t 1 = 0 := by
  rw [fin_N5 t]
  decide +kernel

theorem block28 : (blocks V c t).x28 = (arrays V c).x28 := by
  show (iblk5 V c 28 t : A S128x512) = V c main_arg34
  funext j
  blk_ext [iblk5, index28 t]

theorem index29 : win5_29.index t 0 = 0 ∧ win5_29.index t 1 = 0 := by
  rw [fin_N5 t]
  decide +kernel

theorem block29 : (blocks V c t).x29 = (arrays V c).x29 := by
  show (iblk5 V c 29 t : A S128x1024) = V c main_arg35
  funext j
  blk_ext [iblk5, index29 t]

theorem index30 : win5_30.index t 0 = 0 ∧ win5_30.index t 1 = 0 := by
  rw [fin_N5 t]
  decide +kernel

theorem block30 : (blocks V c t).x30 = (arrays V c).x30 := by
  show (iblk5 V c 30 t : A S128x1024) = V c main_v48
  funext j
  blk_ext [iblk5, index30 t]

theorem index31 : win5_31.index t 0 = 0 ∧ win5_31.index t 1 = 0 := by
  rw [fin_N5 t]
  decide +kernel

theorem block31 : (blocks V c t).x31 = (arrays V c).x31 := by
  show (iblk5 V c 31 t : A S128x1024) = V c main_v49
  funext j
  blk_ext [iblk5, index31 t]

theorem index32 : win5_32.index t 0 = 0 ∧ win5_32.index t 1 = 0 := by
  rw [fin_N5 t]
  decide +kernel

theorem block32 : (blocks V c t).x32 = (arrays V c).x32 := by
  show (iblk5 V c 32 t : A S128x2048) = V c main_arg37
  funext j
  blk_ext [iblk5, index32 t]

theorem index33 : win5_33.index t 0 = 0 ∧ win5_33.index t 1 = 0 := by
  rw [fin_N5 t]
  decide +kernel

theorem block33 : (blocks V c t).x33 = (arrays V c).x33 := by
  show (iblk5 V c 33 t : A S4x128) = V c main_arg38
  funext j
  blk_ext [iblk5, index33 t]

theorem index34 : win5_34.index t 0 = 0 ∧ win5_34.index t 1 = 0 := by
  rw [fin_N5 t]
  decide +kernel

theorem block34 : (blocks V c t).x34 = (arrays V c).x34 := by
  show (iblk5 V c 34 t : A S4x128) = V c main_arg39
  funext j
  blk_ext [iblk5, index34 t]

theorem index35 : win5_35.index t 0 = 0 ∧ win5_35.index t 1 = 0 := by
  rw [fin_N5 t]
  decide +kernel

theorem block35 : (blocks V c t).x35 = (arrays V c).x35 := by
  show (iblk5 V c 35 t : A S4x128) = V c main_arg40
  funext j
  blk_ext [iblk5, index35 t]

end Cert.KernelIdeal.Epi
-- ==== Proof.Windows3.lean ====
/-
  The last call has one grid point, so its blocks are whole arrays: windows 36 to 46.
-/
module

public import Idealize.ShloMosaic.Lib.Pipeline.ValueKit
public import proofs.«01_k».proof.Proof.Flat
public import proofs.«01_k».proof.Proof.Arrays

@[expose] public section

set_option maxRecDepth 16384

namespace Cert.KernelIdeal.Epi

open Idealize Idealize.ShloMosaic Idealize.ShloMosaic.TcCoe Cert.KernelIdeal Cert.KernelIdeal.Gen Cert.Reference

variable (V : (c : Dev nD) → (b : Ref sig .tc) → Buf (Elt Ideal) ((c : Thread nD τ).loc b)) (c : Dev nD) (t : Fin cfg5.N)

theorem index36 : win5_36.index t 0 = 0 ∧ win5_36.index t 1 = 0 := by
  rw [fin_N5 t]
  decide +kernel

theorem block36 : (blocks V c t).x36 = (arrays V c).x36 := by
  show (iblk5 V c 36 t : A S4x128) = V c main_arg41
  funext j
  blk_ext [iblk5, index36 t]

theorem index37 : win5_37.index t 0 = 0 ∧ win5_37.index t 1 = 0 := by
  rw [fin_N5 t]
  decide +kernel

theorem block37 : (blocks V c t).x37 = (arrays V c).x37 := by
  show (iblk5 V c 37 t : A S16x128) = V c main_arg42
  funext j
  blk_ext [iblk5, index37 t]

theorem index38 : win5_38.index t 0 = 0 ∧ win5_38.index t 1 = 0 := by
  rw [fin_N5 t]
  decide +kernel

theorem block38 : (blocks V c t).x38 = (arrays V c).x38 := by
  show (iblk5 V c 38 t : A S1x4) = V c main_v50
  funext j
  blk_ext [iblk5, index38 t]

theorem index39 : win5_39.index t 0 = 0 ∧ win5_39.index t 1 = 0 := by
  rw [fin_N5 t]
  decide +kernel

theorem block39 : (blocks V c t).x39 = (arrays V c).x39 := by
  show (iblk5 V c 39 t : A S16x1024) = V c main_v54
  funext j
  blk_ext [iblk5, index39 t]

theorem index40 : win5_40.index t 0 = 0 ∧ win5_40.index t 1 = 0 := by
  rw [fin_N5 t]
  decide +kernel

theorem block40 : (blocks V c t).x40 = (arrays V c).x40 := by
  show (iblk5 V c 40 t : A S16x256) = V c main_v58
  funext j
  blk_ext [iblk5, index40 t]

theorem index41 : win5_41.index t 0 = 0 ∧ win5_41.index t 1 = 0 := by
  rw [fin_N5 t]
  decide +kernel

theorem block41 : (blocks V c t).x41 = (arrays V c).x41 := by
  show (iblk5 V c 41 t : A S16x64) = V c main_v62
  funext j
  blk_ext [iblk5, index41 t]

theorem index42 : win5_42.index t 0 = 0 ∧ win5_42.index t 1 = 0 := by
  rw [fin_N5 t]
  decide +kernel

theorem block42 : (blocks V c t).x42 = (arrays V c).x42 := by
  show (iblk5 V c 42 t : A S16x16) = V c main_v66
  funext j
  blk_ext [iblk5, index42 t]

theorem index43 : win5_43.index t 0 = 0 ∧ win5_43.index t 1 = 0 := by
  rw [fin_N5 t]
  decide +kernel

theorem block43 : (blocks V c t).x43 = (arrays V c).x43 := by
  show (iblk5 V c 43 t : A S16x1024) = V c main_v70
  funext j
  blk_ext [iblk5, index43 t]

theorem index44 : win5_44.index t 0 = 0 ∧ win5_44.index t 1 = 0 := by
  rw [fin_N5 t]
  decide +kernel

theorem block44 : (blocks V c t).x44 = (arrays V c).x44 := by
  show (iblk5 V c 44 t : A S16x256) = V c main_v74
  funext j
  blk_ext [iblk5, index44 t]

theorem index45 : win5_45.index t 0 = 0 ∧ win5_45.index t 1 = 0 := by
  rw [fin_N5 t]
  decide +kernel

theorem block45 : (blocks V c t).x45 = (arrays V c).x45 := by
  show (iblk5 V c 45 t : A S16x64) = V c main_v78
  funext j
  blk_ext [iblk5, index45 t]

theorem index46 : win5_46.index t 0 = 0 ∧ win5_46.index t 1 = 0 := by
  rw [fin_N5 t]
  decide +kernel

theorem block46 : (blocks V c t).x46 = (arrays V c).x46 := by
  show (iblk5 V c 46 t : A S16x16) = V c main_v82
  funext j
  blk_ext [iblk5, index46 t]

end Cert.KernelIdeal.Epi
-- ==== Proof.Windows.lean ====
/-
  The last call has one grid point, so its blocks are whole arrays.
-/
module

public import Idealize.ShloMosaic.Lib.Pipeline.ValueKit
public import proofs.«01_k».proof.Proof.Flat
public import proofs.«01_k».proof.Proof.Windows0
public import proofs.«01_k».proof.Proof.Windows1
public import proofs.«01_k».proof.Proof.Windows2
public import proofs.«01_k».proof.Proof.Windows3

@[expose] public section

set_option maxRecDepth 16384

namespace Cert.KernelIdeal.Epi

open Idealize Idealize.ShloMosaic Idealize.ShloMosaic.TcCoe Cert.KernelIdeal Cert.KernelIdeal.Gen Cert.Reference

variable (V : (c : Dev nD) → (b : Ref sig .tc) → Buf (Elt Ideal) ((c : Thread nD τ).loc b)) (c : Dev nD) (t : Fin cfg5.N)

theorem blocks_eq : blocks V c t = arrays V c := by
  have e : ∀ X Y : Blocks Ideal, X.x0 = Y.x0 → X.x1 = Y.x1 → X.x2 = Y.x2 → X.x3 = Y.x3 → X.x4 = Y.x4 → X.x5 = Y.x5 → X.x6 = Y.x6 → X.x7 = Y.x7 → X.x8 = Y.x8 → X.x9 = Y.x9 → X.x10 = Y.x10 → X.x11 = Y.x11 → X.x12 = Y.x12 → X.x13 = Y.x13 → X.x14 = Y.x14 → X.x15 = Y.x15 → X.x16 = Y.x16 → X.x17 = Y.x17 → X.x18 = Y.x18 → X.x19 = Y.x19 → X.x20 = Y.x20 → X.x21 = Y.x21 → X.x22 = Y.x22 → X.x23 = Y.x23 → X.x24 = Y.x24 → X.x25 = Y.x25 → X.x26 = Y.x26 → X.x27 = Y.x27 → X.x28 = Y.x28 → X.x29 = Y.x29 → X.x30 = Y.x30 → X.x31 = Y.x31 → X.x32 = Y.x32 → X.x33 = Y.x33 → X.x34 = Y.x34 → X.x35 = Y.x35 → X.x36 = Y.x36 → X.x37 = Y.x37 → X.x38 = Y.x38 → X.x39 = Y.x39 → X.x40 = Y.x40 → X.x41 = Y.x41 → X.x42 = Y.x42 → X.x43 = Y.x43 → X.x44 = Y.x44 → X.x45 = Y.x45 → X.x46 = Y.x46 → X = Y := by
    rintro ⟨⟩ ⟨⟩
    intros
    simp_all
  exact e _ _ (block0 V c t) (block1 V c t) (block2 V c t) (block3 V c t) (block4 V c t) (block5 V c t) (block6 V c t) (block7 V c t) (block8 V c t) (block9 V c t) (block10 V c t) (block11 V c t) (block12 V c t) (block13 V c t) (block14 V c t) (block15 V c t) (block16 V c t) (block17 V c t) (block18 V c t) (block19 V c t) (block20 V c t) (block21 V c t) (block22 V c t) (block23 V c t) (block24 V c t) (block25 V c t) (block26 V c t) (block27 V c t) (block28 V c t) (block29 V c t) (block30 V c t) (block31 V c t) (block32 V c t) (block33 V c t) (block34 V c t) (block35 V c t) (block36 V c t) (block37 V c t) (block38 V c t) (block39 V c t) (block40 V c t) (block41 V c t) (block42 V c t) (block43 V c t) (block44 V c t) (block45 V c t) (block46 V c t)

end Cert.KernelIdeal.Epi
-- ==== Proof.Final.lean ====
/-
  The kernel's result is the plain program's.
-/
module

public import Idealize.ShloMosaic.Lib.Pipeline.ValueKit
public import Idealize.ShloMosaic.Lib.StableHlo.RunRead
public import proofs.«01_k».proof.Proof.Pieces
public import proofs.«01_k».proof.Proof.Windows

@[expose] public section

set_option maxRecDepth 16384

namespace Cert.KernelIdeal.Run

open Idealize Idealize.ShloMosaic Idealize.ShloMosaic.TcCoe Cert.KernelIdeal Cert.KernelIdeal.Gen Cert.KernelIdeal.Host
open Cert.KernelIdeal.Epi Cert.Spec Cert.Reference

variable (m : (ℓ : Loc nD τ sig) → Buf (Elt Ideal) ℓ) (ρ : Dev nD → PrngReg) (c : Dev nD)

/-- The one grid point's output is the array. -/
theorem out_array (V : (c : Dev nD) → (b : Ref sig .tc) → Buf (Elt Ideal) ((c : Thread nD τ).loc b)) (c : Dev nD) :
    ((dat5 V c).arrAt 47 cfg5.N : A S1x1) (ix2 0 0) = (blocks V c t5_0).out (ix2 0 0) := by
  refine congrFun ((dat5 V c).arrAt_eq_of_after_last 47 t5_0 (by decide +kernel) ((blocks V c t5_0).out : A S1x1) fun j => ?_) (ix2 0 0)
  blk_simp
  rw [after5_47]
  blk_ext

/-- What the last layout operation leaves in the result. -/
theorem h84 (W : Valuation τ sig (Elt Ideal)) : (StableHlo.after (hostOps6 (F := Ideal)) W (Proc.devRef .tc main_v84) : A S_) ix0
    = (W (Proc.devRef .tc main_v83) : A S1x1) (ix2 0 0) := by
  after_reads_simp
  generalize W (Proc.devRef .tc main_v83) = x
  pointwise []

/-- The kernel's result is the plain program's. -/
theorem value : (W13 m ρ c main_v84 : A S_) = Cert.ReferenceIdeal.Read.val_main_v761 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a34 m c) (a35 m c) (a36 m c) (a37 m c) (a38 m c) (a39 m c) (a40 m c) (a41 m c) (a42 m c) (a43 m c) (a44 m c) (a45 m c) := by
  funext i
  obtain rfl : i = ix0 := funext fun k => k.elim0
  rw [Cert.Reference.result]
  refine (h84 (W12 m ρ c)).trans ?_
  refine (congrFun (W12_arr m ρ c 47) (ix2 0 0)).trans ?_
  refine (out_array (V11 m ρ) c).trans ?_
  rw [blocks_eq, out_eq, model_eq]
  rfl

end Cert.KernelIdeal.Run
-- ==== Proof.Congr.lean ====
/-
  The plain program's result from equal arguments.
-/
module

public import proofs.«01_k».proof.Proof.Flat
public import proofs.«01_k».proof.Proof.Gen.ReferenceIdeal.Read

@[expose] public section

namespace Cert.Reference

open Idealize Idealize.ShloMosaic Cert.ReferenceIdeal

/-- Equal arguments give equal results. -/
theorem result_congr {x0 y0 : A S64x16x32x32} {x1 y1 : A S64x16x32x32} {x2 y2 : A S64x16x32x32} {x3 y3 : A S64x16x32x32} {x4 y4 : A S64x16x32x32} {x5 y5 : A S64x16x32x32} {x6 y6 : A S64x16x32x32} {x7 y7 : A S64x16x32x32} {x8 y8 : A S64x16x32x32} {x9 y9 : A S64x16x32x32} {x10 y10 : A S64x16x32x32} {x11 y11 : A S64x16x32x32} {x12 y12 : A S64x16x32x32} {x13 y13 : A S64x16x32x32} {x14 y14 : A S64x16x32x32} {x15 y15 : A S64x16x32x32} {x16 y16 : A S64x512x32x32} {x17 y17 : A S64x1024x16x16} {x18 y18 : A S64x2048x8x8} {x19 y19 : A S64x2048x4x4} {x20 y20 : A S4} {x21 y21 : A S4} {x22 y22 : A S16x128x16} {x23 y23 : A S16x128} {x24 y24 : A S16x128} {x25 y25 : A S16x128} {x26 y26 : A S256x128} {x27 y27 : A S256} {x28 y28 : A S256} {x29 y29 : A S256} {x30 y30 : A S512x256} {x31 y31 : A S512} {x32 y32 : A S512} {x33 y33 : A S512} {x34 y34 : A S128x512} {x35 y35 : A S128x1024} {x36 y36 : A S128x2048} {x37 y37 : A S128x2048} {x38 y38 : A S4x128} {x39 y39 : A S4x128} {x40 y40 : A S4x128} {x41 y41 : A S4x128} {x42 y42 : A S16x128} {x43 y43 : A S4} {x44 y44 : A S4x16} {x45 y45 : A S4x16}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) (h29 : x29 = y29) (h30 : x30 = y30) (h31 : x31 = y31) (h32 : x32 = y32) (h33 : x33 = y33) (h34 : x34 = y34) (h35 : x35 = y35) (h36 : x36 = y36) (h37 : x37 = y37) (h38 : x38 = y38) (h39 : x39 = y39) (h40 : x40 = y40) (h41 : x41 = y41) (h42 : x42 = y42) (h43 : x43 = y43) (h44 : x44 = y44) (h45 : x45 = y45) :
    Cert.ReferenceIdeal.Read.val_main_v761 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45
      = Cert.ReferenceIdeal.Read.val_main_v761 (F := Ideal) y0 y1 y2 y3 y4 y5 y6 y7 y8 y9 y10 y11 y12 y13 y14 y15 y16 y17 y18 y19 y20 y21 y22 y23 y24 y25 y26 y27 y28 y29 y30 y31 y32 y33 y34 y35 y36 y37 y38 y39 y40 y41 y42 y43 y44 y45 := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45
  rfl

end Cert.Reference
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdealFrame
public import proofs.«01_k».proof.Proof.Final
public import proofs.«01_k».proof.Proof.Congr
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The arguments being equal, the plain program's result is the kernel's. -/
theorem results : Cert.algebraic_KernelIdeal_ReferenceIdeal
      (hKernelIdeal := Cert.KernelIdeal.Gen.facts) (hReferenceIdeal := Cert.ReferenceIdeal.Gen.facts) := by
  intro m g m' g' _ hargs
  refine ⟨fun c => Cert.KernelIdeal.Run.W13 m g c (Proc.devRef .tc Cert.KernelIdeal.main_v84), ?_, ?_⟩
  · exact (θ_run _ _ _).mono (fun r h c => ⟨h.1 c _ (Cert.KernelIdeal.Run.mem_uc Cert.KernelIdeal.main_v84 (by decide)),
      Cert.KernelIdeal.Run.args_kept m g c (h.1 c)⟩) (Cert.KernelIdeal.Run.run m g)
  · refine (θ_run _ _ _).mono (fun r hr c => ⟨(hr c).1.trans ?_, (hr c).2⟩) (Cert.ReferenceIdeal.Value.run m' g')
    have h := hargs c
    exact (Cert.ReferenceIdeal.Read.val_main_v761_eq (StableHlo.launchContents m' c)).trans
      ((Cert.Reference.result_congr (h.1) (h.2.1) (h.2.2.1) (h.2.2.2.1) (h.2.2.2.2.1) (h.2.2.2.2.2.1) (h.2.2.2.2.2.2.1) (h.2.2.2.2.2.2.2.1) (h.2.2.2.2.2.2.2.2.1) (h.2.2.2.2.2.2.2.2.2.1) (h.2.2.2.2.2.2.2.2.2.2.1) (h.2.2.2.2.2.2.2.2.2.2.2.1) (h.2.2.2.2.2.2.2.2.2.2.2.2.1) (h.2.2.2.2.2.2.2.2.2.2.2.2.2.1) (h.2.2.2.2.2.2.2.2.2.2.2.2.2.2.1) (h.2.2.2.2.2.2.2.2.2.2.2.2.2.2.2.1) (h.2.2.2.2.2.2.2.2.2.2.2.2.2.2.2.2.1) (h.2.2.2.2.2.2.2.2.2.2.2.2.2.2.2.2.2.1) (h.2.2.2.2.2.2.2.2.2.2.2.2.2.2.2.2.2.2.1) (h.2.2.2.2.2.2.2.2.2.2.2.2.2.2.2.2.2.2.2.1) (h.2.2.2.2.2.2.2.2.2.2.2.2.2.2.2.2.2.2.2.2.1) (h.2.2.2.2.2.2.2.2.2.2.2.2.2.2.2.2.2.2.2.2.2.1) (h.2.2.2.2.2.2.2.2.2.2.2.2.2.2.2.2.2.2.2.2.2.2.1) (h.2.2.2.2.2.2.2.2.2.2.2.2.2.2.2.2.2.2.2.2.2.2.2.1) (h.2.2.2.2.2.2.2.2.2.2.2.2.2.2.2.2.2.2.2.2.2.2.2.2.1) (h.2.2.2.2.2.2.2.2.2.2.2.2.2.2.2.2.2.2.2.2.2.2.2.2.2.1) (h.2.2.2.2.2.2.2.2.2.2.2.2.2.2.2.2.2.2.2.2.2.2.2.2.2.2.1) (h.2.2.2.2.2.2.2.2.2.2.2.2.2.2.2.2.2.2.2.2.2.2.2.2.2.2.2.1) (h.2.2.2.2.2.2.2.2.2.2.2.2.2.2.2.2.2.2.2.2.2.2.2.2.2.2.2.2.1) (h.2.2.2.2.2.2.2.2.2.2.2.2.2.2.2.2.2.2.2.2.2.2.2.2.2.2.2.2.2.1) (h.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.2.2.2.2.2.2.2.2.1) (h.2.2.2.2.2.2.2.2.2.2.2.2.2.2.2.2.2.2.2.2.2.2.2.2.2.2.2.2.2.2.2.2.2.2.2.2.2.2.2.2.2.2.2.2.2)).trans
        (Cert.KernelIdeal.Run.value m g c).symm)

theorem claim : Cert.Claim := ⟨Cert.Kernel.Gen.facts, Cert.KernelIdeal.Gen.facts, Cert.ReferenceIdeal.Gen.facts,
  fun m ρ _ => Cert.Kernel.Run.frame m ρ,
  fun m ρ _ => Cert.KernelIdeal.Run.frame m ρ,
  fun m ρ _ => (θ_run _ _ _).mono (fun r h => ⟨fun c => (h c).2, sem_eq_zero_of_no_sems (by decide) r.2⟩)
    (Cert.ReferenceIdeal.Value.run m ρ), trivial, results⟩

end Cert.Proof

end
